-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2.2 = (fun _ => 1#1)

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_DownF (m : (ℓ : Loc Cert.DownF.nD Cert.DownF.τ Cert.DownF.sig) → Buf (Elt Bits) ℓ) : Prop :=
  True

def Pre_DownFIdeal (m : (ℓ : Loc Cert.DownFIdeal.nD Cert.DownFIdeal.τ Cert.DownFIdeal.sig) → Buf (Elt Ideal) ℓ) : Prop :=
  True

def Pre_DownFRefIdeal (m : (ℓ : Loc Cert.DownFRefIdeal.nD Cert.DownFRefIdeal.τ Cert.DownFRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1)
      ∧ r.2.mem ((c.tc : Thread Cert.DownW.nD Cert.DownW.τ).loc Cert.DownW.main_arg2) = m ((c.tc : Thread Cert.DownW.nD Cert.DownW.τ).loc Cert.DownW.main_arg2))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
      ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1)
      ∧ r.2.mem ((c.tc : Thread Cert.DownWRefIdeal.nD Cert.DownWRefIdeal.τ).loc Cert.DownWRefIdeal.main_arg2) = m ((c.tc : Thread Cert.DownWRefIdeal.nD Cert.DownWRefIdeal.τ).loc Cert.DownWRefIdeal.main_arg2))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1)
      ∧ r.2.mem ((c.tc : Thread Cert.DownX.nD Cert.DownX.τ).loc Cert.DownX.main_arg2) = m ((c.tc : Thread Cert.DownX.nD Cert.DownX.τ).loc Cert.DownX.main_arg2))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
      ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1)
      ∧ r.2.mem ((c.tc : Thread Cert.DownXRefIdeal.nD Cert.DownXRefIdeal.τ).loc Cert.DownXRefIdeal.main_arg2) = m ((c.tc : Thread Cert.DownXRefIdeal.nD Cert.DownXRefIdeal.τ).loc Cert.DownXRefIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1)
      ∧ r.2.mem ((c.tc : Thread Cert.OutX.nD Cert.OutX.τ).loc Cert.OutX.main_arg2) = m ((c.tc : Thread Cert.OutX.nD Cert.OutX.τ).loc Cert.OutX.main_arg2))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
      ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1)
      ∧ r.2.mem ((c.tc : Thread Cert.OutXRefIdeal.nD Cert.OutXRefIdeal.τ).loc Cert.OutXRefIdeal.main_arg2) = m ((c.tc : Thread Cert.OutXRefIdeal.nD Cert.OutXRefIdeal.τ).loc Cert.OutXRefIdeal.main_arg2))
      ∧ r.2.sem = fun _ => 0)

def quiescent_DownF [hDownF : Cert.DownF.Facts] : Prop :=
  ∀ (m : (ℓ : Loc Cert.DownF.nD Cert.DownF.τ Cert.DownF.sig) → Buf (Elt Bits) ℓ) (g : Dev Cert.DownF.nD → PrngReg), Pre_DownF m →
    θ_run (Cert.DownF.defs (F := Bits)) (onTc (τ := Cert.DownF.τ) (Cert.DownF.main (F := Bits))) ⟨m, fun _ => 0, g⟩ (fun r => (∀ c : Dev Cert.DownF.nD,
      r.2.mem ((c.tc : Thread Cert.DownF.nD Cert.DownF.τ).loc Cert.DownF.main_arg0) = m ((c.tc : Thread Cert.DownF.nD Cert.DownF.τ).loc Cert.DownF.main_arg0)
      ∧ r.2.mem ((c.tc : Thread Cert.DownF.nD Cert.DownF.τ).loc Cert.DownF.main_arg1) = m ((c.tc : Thread Cert.DownF.nD Cert.DownF.τ).loc Cert.DownF.main_arg1))
      ∧ r.2.sem = fun _ => 0)

def quiescent_DownFIdeal [hDownFIdeal : Cert.DownFIdeal.Facts] : Prop :=
  ∀ (m : (ℓ : Loc Cert.DownFIdeal.nD Cert.DownFIdeal.τ Cert.DownFIdeal.sig) → Buf (Elt Ideal) ℓ) (g : Dev Cert.DownFIdeal.nD → PrngReg), Pre_DownFIdeal m →
    θ_run (Cert.DownFIdeal.defs (F := Ideal)) (onTc (τ := Cert.DownFIdeal.τ) (Cert.DownFIdeal.main (F := Ideal))) ⟨m, fun _ => 0, g⟩ (fun r => (∀ c : Dev Cert.DownFIdeal.nD,
      r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
      ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1))
      ∧ r.2.sem = fun _ => 0)

def quiescent_DownFRefIdeal [hDownFRefIdeal : Cert.DownFRefIdeal.Facts] : Prop :=
  ∀ (m : (ℓ : Loc Cert.DownFRefIdeal.nD Cert.DownFRefIdeal.τ Cert.DownFRefIdeal.sig) → Buf (Elt Ideal) ℓ) (g : Dev Cert.DownFRefIdeal.nD → PrngReg), Pre_DownFRefIdeal m →
    θ_run (Cert.DownFRefIdeal.defs (F := Ideal)) (onTc (τ := Cert.DownFRefIdeal.τ) (Cert.DownFRefIdeal.main (F := Ideal))) ⟨m, fun _ => 0, g⟩ (fun r => (∀ c : Dev Cert.DownFRefIdeal.nD,
      r.2.mem ((c.tc : Thread Cert.DownFRefIdeal.nD Cert.DownFRefIdeal.τ).loc Cert.DownFRefIdeal.main_arg0) = m ((c.tc : Thread Cert.DownFRefIdeal.nD Cert.DownFRefIdeal.τ).loc Cert.DownFRefIdeal.main_arg0)
      ∧ r.2.mem ((c.tc : Thread Cert.DownFRefIdeal.nD Cert.DownFRefIdeal.τ).loc Cert.DownFRefIdeal.main_arg1) = m ((c.tc : Thread Cert.DownFRefIdeal.nD Cert.DownFRefIdeal.τ).loc Cert.DownFRefIdeal.main_arg1))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1))
      ∧ r.2.sem = fun _ => 0)

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v34_0)) (v1 : (c : Dev Cert.ConvIdeal.nD) → Buf (Elt Ideal) ((c.tc : Thread Cert.ConvIdeal.nD Cert.ConvIdeal.τ).loc Cert.ConvIdeal.main_v34_1)) (v2 : (c : Dev Cert.ConvIdeal.nD) → Buf (Elt Ideal) ((c.tc : Thread Cert.ConvIdeal.nD Cert.ConvIdeal.τ).loc Cert.ConvIdeal.main_v34_2)) (v3 : (c : Dev Cert.ConvIdeal.nD) → Buf (Elt Ideal) ((c.tc : Thread Cert.ConvIdeal.nD Cert.ConvIdeal.τ).loc Cert.ConvIdeal.main_v34_3)) (v4 : (c : Dev Cert.ConvIdeal.nD) → Buf (Elt Ideal) ((c.tc : Thread Cert.ConvIdeal.nD Cert.ConvIdeal.τ).loc Cert.ConvIdeal.main_v34_4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v34_0) = v0 c
          ∧ r.2.mem ((c.tc : Thread Cert.ConvIdeal.nD Cert.ConvIdeal.τ).loc Cert.ConvIdeal.main_v34_1) = v1 c
          ∧ r.2.mem ((c.tc : Thread Cert.ConvIdeal.nD Cert.ConvIdeal.τ).loc Cert.ConvIdeal.main_v34_2) = v2 c
          ∧ r.2.mem ((c.tc : Thread Cert.ConvIdeal.nD Cert.ConvIdeal.τ).loc Cert.ConvIdeal.main_v34_3) = v3 c
          ∧ r.2.mem ((c.tc : Thread Cert.ConvIdeal.nD Cert.ConvIdeal.τ).loc Cert.ConvIdeal.main_v34_4) = v4 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v79) = v0 c
          ∧ r.2.mem ((c.tc : Thread Cert.ConvRefIdeal.nD Cert.ConvRefIdeal.τ).loc Cert.ConvRefIdeal.main_v80) = v1 c
          ∧ r.2.mem ((c.tc : Thread Cert.ConvRefIdeal.nD Cert.ConvRefIdeal.τ).loc Cert.ConvRefIdeal.main_v81) = v2 c
          ∧ r.2.mem ((c.tc : Thread Cert.ConvRefIdeal.nD Cert.ConvRefIdeal.τ).loc Cert.ConvRefIdeal.main_v83) = v3 c
          ∧ r.2.mem ((c.tc : Thread Cert.ConvRefIdeal.nD Cert.ConvRefIdeal.τ).loc Cert.ConvRefIdeal.main_v85) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v97_0)) (v1 : (c : Dev Cert.AttnIdeal.nD) → Buf (Elt Ideal) ((c.tc : Thread Cert.AttnIdeal.nD Cert.AttnIdeal.τ).loc Cert.AttnIdeal.main_v97_1)) (v2 : (c : Dev Cert.AttnIdeal.nD) → Buf (Elt Ideal) ((c.tc : Thread Cert.AttnIdeal.nD Cert.AttnIdeal.τ).loc Cert.AttnIdeal.main_v97_2)) (v3 : (c : Dev Cert.AttnIdeal.nD) → Buf (Elt Ideal) ((c.tc : Thread Cert.AttnIdeal.nD Cert.AttnIdeal.τ).loc Cert.AttnIdeal.main_v97_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v97_0) = v0 c
          ∧ r.2.mem ((c.tc : Thread Cert.AttnIdeal.nD Cert.AttnIdeal.τ).loc Cert.AttnIdeal.main_v97_1) = v1 c
          ∧ r.2.mem ((c.tc : Thread Cert.AttnIdeal.nD Cert.AttnIdeal.τ).loc Cert.AttnIdeal.main_v97_2) = v2 c
          ∧ r.2.mem ((c.tc : Thread Cert.AttnIdeal.nD Cert.AttnIdeal.τ).loc Cert.AttnIdeal.main_v97_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v130) = v0 c
          ∧ r.2.mem ((c.tc : Thread Cert.AttnRefIdeal.nD Cert.AttnRefIdeal.τ).loc Cert.AttnRefIdeal.main_v131) = v1 c
          ∧ r.2.mem ((c.tc : Thread Cert.AttnRefIdeal.nD Cert.AttnRefIdeal.τ).loc Cert.AttnRefIdeal.main_v132) = v2 c
          ∧ r.2.mem ((c.tc : Thread Cert.AttnRefIdeal.nD Cert.AttnRefIdeal.τ).loc Cert.AttnRefIdeal.main_v134) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)
      ∧ m' ((c.tc : Thread Cert.DownWRefIdeal.nD Cert.DownWRefIdeal.τ).loc Cert.DownWRefIdeal.main_arg2) = m ((c.tc : Thread Cert.DownWIdeal.nD Cert.DownWIdeal.τ).loc Cert.DownWIdeal.main_arg2)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
          ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v7) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1)
          ∧ r.2.mem ((c.tc : Thread Cert.DownWRefIdeal.nD Cert.DownWRefIdeal.τ).loc Cert.DownWRefIdeal.main_arg2) = m' ((c.tc : Thread Cert.DownWRefIdeal.nD Cert.DownWRefIdeal.τ).loc Cert.DownWRefIdeal.main_arg2))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)
      ∧ m' ((c.tc : Thread Cert.DownXRefIdeal.nD Cert.DownXRefIdeal.τ).loc Cert.DownXRefIdeal.main_arg2) = m ((c.tc : Thread Cert.DownXIdeal.nD Cert.DownXIdeal.τ).loc Cert.DownXIdeal.main_arg2)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
          ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v7) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1)
          ∧ r.2.mem ((c.tc : Thread Cert.DownXRefIdeal.nD Cert.DownXRefIdeal.τ).loc Cert.DownXRefIdeal.main_arg2) = m' ((c.tc : Thread Cert.DownXRefIdeal.nD Cert.DownXRefIdeal.τ).loc Cert.DownXRefIdeal.main_arg2))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v5)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v5) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v9) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)
      ∧ m' ((c.tc : Thread Cert.UpXRefIdeal.nD Cert.UpXRefIdeal.τ).loc Cert.UpXRefIdeal.main_arg2) = m ((c.tc : Thread Cert.UpXIdeal.nD Cert.UpXIdeal.τ).loc Cert.UpXIdeal.main_arg2)) →
    ∃ (v0 : (c : Dev Cert.UpXIdeal.nD) → Buf (Elt Ideal) ((c.tc : Thread Cert.UpXIdeal.nD Cert.UpXIdeal.τ).loc Cert.UpXIdeal.main_v8)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v8) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v7) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1)
          ∧ r.2.mem ((c.tc : Thread Cert.UpXRefIdeal.nD Cert.UpXRefIdeal.τ).loc Cert.UpXRefIdeal.main_arg2) = m' ((c.tc : Thread Cert.UpXRefIdeal.nD Cert.UpXRefIdeal.τ).loc Cert.UpXRefIdeal.main_arg2))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)) →
    ∃ (v0 : (c : Dev Cert.InWIdeal.nD) → Buf (Elt Ideal) ((c.tc : Thread Cert.InWIdeal.nD Cert.InWIdeal.τ).loc Cert.InWIdeal.main_v5)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v5) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v13) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)) →
    ∃ (v0 : (c : Dev Cert.InXIdeal.nD) → Buf (Elt Ideal) ((c.tc : Thread Cert.InXIdeal.nD Cert.InXIdeal.τ).loc Cert.InXIdeal.main_v11)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v11) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v7) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v7) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)
      ∧ m' ((c.tc : Thread Cert.OutXRefIdeal.nD Cert.OutXRefIdeal.τ).loc Cert.OutXRefIdeal.main_arg2) = m ((c.tc : Thread Cert.OutXIdeal.nD Cert.OutXIdeal.τ).loc Cert.OutXIdeal.main_arg2)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
          ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v7) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1)
          ∧ r.2.mem ((c.tc : Thread Cert.OutXRefIdeal.nD Cert.OutXRefIdeal.τ).loc Cert.OutXRefIdeal.main_arg2) = m' ((c.tc : Thread Cert.OutXRefIdeal.nD Cert.OutXRefIdeal.τ).loc Cert.OutXRefIdeal.main_arg2))

def preserves_DownF_DownFIdeal : Prop :=
  True

def algebraic_DownFIdeal_DownFRefIdeal [hDownFIdeal : Cert.DownFIdeal.Facts] [hDownFRefIdeal : Cert.DownFRefIdeal.Facts] : Prop :=
  ∀ (m : (ℓ : Loc Cert.DownFIdeal.nD Cert.DownFIdeal.τ Cert.DownFIdeal.sig) → Buf (Elt Ideal) ℓ) (g : Dev Cert.DownFIdeal.nD → PrngReg)
    (m' : (ℓ : Loc Cert.DownFRefIdeal.nD Cert.DownFRefIdeal.τ Cert.DownFRefIdeal.sig) → Buf (Elt Ideal) ℓ) (g' : Dev Cert.DownFRefIdeal.nD → PrngReg), Pre_DownFIdeal m →
    (∀ c : Dev Cert.DownFIdeal.nD,
      m' ((c.tc : Thread Cert.DownFRefIdeal.nD Cert.DownFRefIdeal.τ).loc Cert.DownFRefIdeal.main_arg0) = m ((c.tc : Thread Cert.DownFIdeal.nD Cert.DownFIdeal.τ).loc Cert.DownFIdeal.main_arg0)
      ∧ m' ((c.tc : Thread Cert.DownFRefIdeal.nD Cert.DownFRefIdeal.τ).loc Cert.DownFRefIdeal.main_arg1) = m ((c.tc : Thread Cert.DownFIdeal.nD Cert.DownFIdeal.τ).loc Cert.DownFIdeal.main_arg1)) →
    ∃ (v0 : (c : Dev Cert.DownFIdeal.nD) → Buf (Elt Ideal) ((c.tc : Thread Cert.DownFIdeal.nD Cert.DownFIdeal.τ).loc Cert.DownFIdeal.main_v0)),
      θ_run (Cert.DownFIdeal.defs (F := Ideal)) (onTc (τ := Cert.DownFIdeal.τ) (Cert.DownFIdeal.main (F := Ideal))) ⟨m, fun _ => 0, g⟩ (fun r => ∀ c : Dev Cert.DownFIdeal.nD,
          r.2.mem ((c.tc : Thread Cert.DownFIdeal.nD Cert.DownFIdeal.τ).loc Cert.DownFIdeal.main_v0) = v0 c
          ∧ r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
          ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1))
      ∧ θ_run (Cert.DownFRefIdeal.defs (F := Ideal)) (onTc (τ := Cert.DownFRefIdeal.τ) (Cert.DownFRefIdeal.main (F := Ideal))) ⟨m', fun _ => 0, g'⟩ (fun r => ∀ c : Dev Cert.DownFRefIdeal.nD,
          r.2.mem ((c.tc : Thread Cert.DownFRefIdeal.nD Cert.DownFRefIdeal.τ).loc Cert.DownFRefIdeal.main_v3) = v0 c
          ∧ r.2.mem ((c.tc : Thread Cert.DownFRefIdeal.nD Cert.DownFRefIdeal.τ).loc Cert.DownFRefIdeal.main_arg0) = m' ((c.tc : Thread Cert.DownFRefIdeal.nD Cert.DownFRefIdeal.τ).loc Cert.DownFRefIdeal.main_arg0)
          ∧ r.2.mem ((c.tc : Thread Cert.DownFRefIdeal.nD Cert.DownFRefIdeal.τ).loc Cert.DownFRefIdeal.main_arg1) = m' ((c.tc : Thread Cert.DownFRefIdeal.nD Cert.DownFRefIdeal.τ).loc Cert.DownFRefIdeal.main_arg1))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)) →
    ∃ (v0 : (c : Dev Cert.UpFIdeal.nD) → Buf (Elt Ideal) ((c.tc : Thread Cert.UpFIdeal.nD Cert.UpFIdeal.τ).loc Cert.UpFIdeal.main_v2)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v2) = v0 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v3) = v0 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)) →
    ∃ (v0 : (c : Dev Cert.InFIdeal.nD) → Buf (Elt Ideal) ((c.tc : Thread Cert.InFIdeal.nD Cert.InFIdeal.τ).loc Cert.InFIdeal.main_v6)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v6) = v0 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v8) = v0 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)) →
    ∃ (v0 : (c : Dev Cert.OutFIdeal.nD) → Buf (Elt Ideal) ((c.tc : Thread Cert.OutFIdeal.nD Cert.OutFIdeal.τ).loc Cert.OutFIdeal.main_v0)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v0) = v0 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v3) = v0 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1))

def Claim : Prop :=
  ∃ (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hDownW : Cert.DownW.Facts) (hDownWIdeal : Cert.DownWIdeal.Facts) (hDownWRefIdeal : Cert.DownWRefIdeal.Facts) (hDownX : Cert.DownX.Facts) (hDownXIdeal : Cert.DownXIdeal.Facts) (hDownXRefIdeal : Cert.DownXRefIdeal.Facts) (hUpW : Cert.UpW.Facts) (hUpWIdeal : Cert.UpWIdeal.Facts) (hUpWRefIdeal : Cert.UpWRefIdeal.Facts) (hUpX : Cert.UpX.Facts) (hUpXIdeal : Cert.UpXIdeal.Facts) (hUpXRefIdeal : Cert.UpXRefIdeal.Facts) (hInW : Cert.InW.Facts) (hInWIdeal : Cert.InWIdeal.Facts) (hInWRefIdeal : Cert.InWRefIdeal.Facts) (hInX : Cert.InX.Facts) (hInXIdeal : Cert.InXIdeal.Facts) (hInXRefIdeal : Cert.InXRefIdeal.Facts) (hOutW : Cert.OutW.Facts) (hOutWIdeal : Cert.OutWIdeal.Facts) (hOutWRefIdeal : Cert.OutWRefIdeal.Facts) (hOutX : Cert.OutX.Facts) (hOutXIdeal : Cert.OutXIdeal.Facts) (hOutXRefIdeal : Cert.OutXRefIdeal.Facts) (hDownF : Cert.DownF.Facts) (hDownFIdeal : Cert.DownFIdeal.Facts) (hDownFRefIdeal : Cert.DownFRefIdeal.Facts) (hUpF : Cert.UpF.Facts) (hUpFIdeal : Cert.UpFIdeal.Facts) (hUpFRefIdeal : Cert.UpFRefIdeal.Facts) (hInF : Cert.InF.Facts) (hInFIdeal : Cert.InFIdeal.Facts) (hInFRefIdeal : Cert.InFRefIdeal.Facts) (hOutF : Cert.OutF.Facts) (hOutFIdeal : Cert.OutFIdeal.Facts) (hOutFRefIdeal : Cert.OutFRefIdeal.Facts) (hPre_conv_finite : Cert.Pre_conv_finite.Facts) (hPre_attn_finite : Cert.Pre_attn_finite.Facts),
    quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_DownW (hDownW := hDownW)
    ∧ quiescent_DownWIdeal (hDownWIdeal := hDownWIdeal)
    ∧ quiescent_DownWRefIdeal (hDownWRefIdeal := hDownWRefIdeal)
    ∧ quiescent_DownX (hDownX := hDownX)
    ∧ quiescent_DownXIdeal (hDownXIdeal := hDownXIdeal)
    ∧ quiescent_DownXRefIdeal (hDownXRefIdeal := hDownXRefIdeal)
    ∧ quiescent_UpW (hUpW := hUpW)
    ∧ quiescent_UpWIdeal (hUpWIdeal := hUpWIdeal)
    ∧ quiescent_UpWRefIdeal (hUpWRefIdeal := hUpWRefIdeal)
    ∧ quiescent_UpX (hUpX := hUpX)
    ∧ quiescent_UpXIdeal (hUpXIdeal := hUpXIdeal)
    ∧ quiescent_UpXRefIdeal (hUpXRefIdeal := hUpXRefIdeal)
    ∧ quiescent_InW (hInW := hInW)
    ∧ quiescent_InWIdeal (hInWIdeal := hInWIdeal)
    ∧ quiescent_InWRefIdeal (hInWRefIdeal := hInWRefIdeal)
    ∧ quiescent_InX (hInX := hInX)
    ∧ quiescent_InXIdeal (hInXIdeal := hInXIdeal)
    ∧ quiescent_InXRefIdeal (hInXRefIdeal := hInXRefIdeal)
    ∧ quiescent_OutW (hOutW := hOutW)
    ∧ quiescent_OutWIdeal (hOutWIdeal := hOutWIdeal)
    ∧ quiescent_OutWRefIdeal (hOutWRefIdeal := hOutWRefIdeal)
    ∧ quiescent_OutX (hOutX := hOutX)
    ∧ quiescent_OutXIdeal (hOutXIdeal := hOutXIdeal)
    ∧ quiescent_OutXRefIdeal (hOutXRefIdeal := hOutXRefIdeal)
    ∧ quiescent_DownF (hDownF := hDownF)
    ∧ quiescent_DownFIdeal (hDownFIdeal := hDownFIdeal)
    ∧ quiescent_DownFRefIdeal (hDownFRefIdeal := hDownFRefIdeal)
    ∧ quiescent_UpF (hUpF := hUpF)
    ∧ quiescent_UpFIdeal (hUpFIdeal := hUpFIdeal)
    ∧ quiescent_UpFRefIdeal (hUpFRefIdeal := hUpFRefIdeal)
    ∧ quiescent_InF (hInF := hInF)
    ∧ quiescent_InFIdeal (hInFIdeal := hInFIdeal)
    ∧ quiescent_InFRefIdeal (hInFRefIdeal := hInFRefIdeal)
    ∧ quiescent_OutF (hOutF := hOutF)
    ∧ quiescent_OutFIdeal (hOutFIdeal := hOutFIdeal)
    ∧ quiescent_OutFRefIdeal (hOutFRefIdeal := hOutFRefIdeal)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_DownW_DownWIdeal
    ∧ algebraic_DownWIdeal_DownWRefIdeal (hDownWIdeal := hDownWIdeal) (hDownWRefIdeal := hDownWRefIdeal)
    ∧ preserves_DownX_DownXIdeal
    ∧ algebraic_DownXIdeal_DownXRefIdeal (hDownXIdeal := hDownXIdeal) (hDownXRefIdeal := hDownXRefIdeal)
    ∧ preserves_UpW_UpWIdeal
    ∧ algebraic_UpWIdeal_UpWRefIdeal (hUpWIdeal := hUpWIdeal) (hUpWRefIdeal := hUpWRefIdeal)
    ∧ preserves_UpX_UpXIdeal
    ∧ algebraic_UpXIdeal_UpXRefIdeal (hUpXIdeal := hUpXIdeal) (hUpXRefIdeal := hUpXRefIdeal)
    ∧ preserves_InW_InWIdeal
    ∧ algebraic_InWIdeal_InWRefIdeal (hInWIdeal := hInWIdeal) (hInWRefIdeal := hInWRefIdeal)
    ∧ preserves_InX_InXIdeal
    ∧ algebraic_InXIdeal_InXRefIdeal (hInXIdeal := hInXIdeal) (hInXRefIdeal := hInXRefIdeal)
    ∧ preserves_OutW_OutWIdeal
    ∧ algebraic_OutWIdeal_OutWRefIdeal (hOutWIdeal := hOutWIdeal) (hOutWRefIdeal := hOutWRefIdeal)
    ∧ preserves_OutX_OutXIdeal
    ∧ algebraic_OutXIdeal_OutXRefIdeal (hOutXIdeal := hOutXIdeal) (hOutXRefIdeal := hOutXRefIdeal)
    ∧ preserves_DownF_DownFIdeal
    ∧ algebraic_DownFIdeal_DownFRefIdeal (hDownFIdeal := hDownFIdeal) (hDownFRefIdeal := hDownFRefIdeal)
    ∧ preserves_UpF_UpFIdeal
    ∧ algebraic_UpFIdeal_UpFRefIdeal (hUpFIdeal := hUpFIdeal) (hUpFRefIdeal := hUpFRefIdeal)
    ∧ preserves_InF_InFIdeal
    ∧ algebraic_InFIdeal_InFRefIdeal (hInFIdeal := hInFIdeal) (hInFRefIdeal := hInFRefIdeal)
    ∧ preserves_OutF_OutFIdeal
    ∧ algebraic_OutFIdeal_OutFRefIdeal (hOutFIdeal := hOutFIdeal) (hOutFRefIdeal := hOutFRefIdeal)
-- ==== Pre_attn_finite.lean ====
abbrev S2048x2048 : Shape := ⟨2, ![2048, 2048]⟩
abbrev S2048x1024 : Shape := ⟨2, ![2048, 1024]⟩
abbrev S2048x4096 : Shape := ⟨2, ![2048, 4096]⟩
abbrev S2048x64 : Shape := ⟨2, ![2048, 64]⟩
abbrev S2048x32 : Shape := ⟨2, ![2048, 32]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S2048x1024 : S_.BroadcastsInDim S2048x1024 (![] : Fin 0 → Fin S2048x1024.rank)
  bcast_S_S2048x4096 : S_.BroadcastsInDim S2048x4096 (![] : Fin 0 → Fin S2048x4096.rank)
  bcast_S_S2048x64 : S_.BroadcastsInDim S2048x64 (![] : Fin 0 → Fin S2048x64.rank)
  bcast_S_S2048x32 : S_.BroadcastsInDim S2048x32 (![] : Fin 0 → Fin S2048x32.rank)

variable [Facts]

def fn_part1 {F : FTy → Type} [FloatOps F] (main_arg5 : FVec F S2048x32 .f32) (main_v4 : FVec F S2048x2048 .f32) (main_v7 : IVec S2048x2048 1) (main_v10 : IVec S2048x1024 1) (main_v13 : IVec S2048x4096 1) (main_v16 : IVec S2048x64 1) (main_v17 : FVec F S2048x32 .f32) (main_v18 : FVec F S2048x32 .f32) : IVec S2048x2048 1 × IVec S2048x1024 1 × IVec S2048x4096 1 × IVec S2048x64 1 × IVec S2048x32 1 × IVec S2048x32 1 × IVec S2048x2048 1 :=
  let main_v19 : IVec S2048x32 1 := cmpf .oeq main_v17 main_v18
  let main_v20 : FVec F S2048x32 .f32 := subf main_arg5 main_arg5
  let main_cst_4 : FVec F S_ .f32 := constant S_ .f32 0x00000000#32
  let main_v21 : FVec F S2048x32 .f32 := broadcastInDim S2048x32 ![] bcast_S_S2048x32 main_cst_4
  let main_v22 : IVec S2048x32 1 := cmpf .oeq main_v20 main_v21
  let main_v23 : FVec F S2048x2048 .f32 := subf main_v4 main_v4
  let main_cst_5 : FVec F S_ .f32 := constant S_ .f32 0x00000000#32
  let main_v24 : FVec F S2048x2048 .f32 := broadcastInDim S2048x2048 ![] bcast_S_S2048x2048 main_cst_5
  let main_v25 : IVec S2048x2048 1 := cmpf .oeq main_v23 main_v24
  (main_v7, main_v10, main_v13, main_v16, main_v19, main_v22, main_v25)

def fn {F : FTy → Type} [FloatOps F] (main_arg0 : FVec F S2048x2048 .bf16) (main_arg1 : FVec F S2048x1024 .bf16) (main_arg2 : FVec F S2048x4096 .bf16) (main_arg3 : FVec F S2048x64 .bf16) (main_arg4 : FVec F S2048x32 .f32) (main_arg5 : FVec F S2048x32 .f32) (main_arg6 : FVec F S2048x2048 .bf16) : IVec S2048x2048 1 × IVec S2048x1024 1 × IVec S2048x4096 1 × IVec S2048x64 1 × IVec S2048x32 1 × IVec S2048x32 1 × IVec S2048x2048 1 :=
  let main_v0 : FVec F S2048x2048 .f32 := (extf .f32 · bitsLt_bf16_f32) main_arg0
  let main_v1 : FVec F S2048x1024 .f32 := (extf .f32 · bitsLt_bf16_f32) main_arg1
  let main_v2 : FVec F S2048x4096 .f32 := (extf .f32 · bitsLt_bf16_f32) main_arg2
  let main_v3 : FVec F S2048x64 .f32 := (extf .f32 · bitsLt_bf16_f32) main_arg3
  let main_v4 : FVec F S2048x2048 .f32 := (extf .f32 · bitsLt_bf16_f32) main_arg6
  let main_v5 : FVec F S2048x2048 .f32 := subf main_v0 main_v0
  let main_cst : FVec F S_ .f32 := constant S_ .f32 0x00000000#32
  let main_v6 : FVec F S2048x2048 .f32 := broadcastInDim S2048x2048 ![] bcast_S_S2048x2048 main_cst
  let main_v7 : IVec S2048x2048 1 := cmpf .oeq main_v5 main_v6
  let main_v8 : FVec F S2048x1024 .f32 := subf main_v1 main_v1
  let main_cst_0 : FVec F S_ .f32 := constant S_ .f32 0x00000000#32
  let main_v9 : FVec F S2048x1024 .f32 := broadcastInDim S2048x1024 ![] bcast_S_S2048x1024 main_cst_0
  let main_v10 : IVec S2048x1024 1 := cmpf .oeq main_v8 main_v9
  let main_v11 : FVec F S2048x4096 .f32 := subf main_v2 main_v2
  let main_cst_1 : FVec F S_ .f32 := constant S_ .f32 0x00000000#32
  let main_v12 : FVec F S2048x4096 .f32 := broadcastInDim S2048x4096 ![] bcast_S_S2048x4096 main_cst_1
  let main_v13 : IVec S2048x4096 1 := cmpf .oeq main_v11 main_v12
  let main_v14 : FVec F S2048x64 .f32 := subf main_v3 main_v3
  let main_cst_2 : FVec F S_ .f32 := constant S_ .f32 0x00000000#32
  let main_v15 : FVec F S2048x64 .f32 := broadcastInDim S2048x64 ![] bcast_S_S2048x64 main_cst_2
  let main_v16 : IVec S2048x64 1 := cmpf .oeq main_v14 main_v15
  let main_v17 : FVec F S2048x32 .f32 := subf main_arg4 main_arg4
  let main_cst_3 : FVec F S_ .f32 := constant S_ .f32 0x00000000#32
  let main_v18 : FVec F S2048x32 .f32 := broadcastInDim S2048x32 ![] bcast_S_S2048x32 main_cst_3
  fn_part1 (F := F) main_arg5 main_v4 main_v7 main_v10 main_v13 main_v16 main_v17 main_v18
-- ==== Pre_conv_finite.lean ====
abbrev S2048x11264 : Shape := ⟨2, ![2048, 11264]⟩
abbrev S3x11264 : Shape := ⟨2, ![3, 11264]⟩
abbrev S11264 : Shape := ⟨1, ![11264]⟩
abbrev S2048x5632 : Shape := ⟨2, ![2048, 5632]⟩
abbrev S_ : Shape := ⟨0, ![]⟩

class Facts : Prop where
  bitsLt_bf16_f32 : FTy.bits .bf16 < FTy.bits .f32
  bcast_S_S2048x11264 : S_.BroadcastsInDim S2048x11264 (![] : Fin 0 → Fin S2048x11264.rank)
  bcast_S_S3x11264 : S_.BroadcastsInDim S3x11264 (![] : Fin 0 → Fin S3x11264.rank)
  bcast_S_S11264 : S_.BroadcastsInDim S11264 (![] : Fin 0 → Fin S11264.rank)
  bcast_S_S2048x5632 : S_.BroadcastsInDim S2048x5632 (![] : Fin 0 → Fin S2048x5632.rank)

variable [Facts]

def fn {F : FTy → Type} [FloatOps F] (main_arg0 : FVec F S2048x11264 .bf16) (main_arg1 : FVec F S3x11264 .f32) (main_arg2 : FVec F S11264 .f32) (main_arg3 : FVec F S2048x5632 .bf16) : IVec S2048x11264 1 × IVec S3x11264 1 × IVec S11264 1 × IVec S2048x5632 1 :=
  let main_v0 : FVec F S2048x11264 .f32 := (extf .f32 · bitsLt_bf16_f32) main_arg0
  let main_v1 : FVec F S2048x5632 .f32 := (extf .f32 · bitsLt_bf16_f32) main_arg3
  let main_v2 : FVec F S2048x11264 .f32 := subf main_v0 main_v0
  let main_cst : FVec F S_ .f32 := constant S_ .f32 0x00000000#32
  let main_v3 : FVec F S2048x11264 .f32 := broadcastInDim S2048x11264 ![] bcast_S_S2048x11264 main_cst
  let main_v4 : IVec S2048x11264 1 := cmpf .oeq main_v2 main_v3
  let main_v5 : FVec F S3x11264 .f32 := subf main_arg1 main_arg1
  let main_cst_0 : FVec F S_ .f32 := constant S_ .f32 0x00000000#32
  let main_v6 : FVec F S3x11264 .f32 := broadcastInDim S3x11264 ![] bcast_S_S3x11264 main_cst_0
  let main_v7 : IVec S3x11264 1 := cmpf .oeq main_v5 main_v6
  let main_v8 : FVec F S11264 .f32 := subf main_arg2 main_arg2
  let main_cst_1 : FVec F S_ .f32 := constant S_ .f32 0x00000000#32
  let main_v9 : FVec F S11264 .f32 := broadcastInDim S11264 ![] bcast_S_S11264 main_cst_1
  let main_v10 : IVec S11264 1 := cmpf .oeq main_v8 main_v9
  let main_v11 : FVec F S2048x5632 .f32 := subf main_v1 main_v1
  let main_cst_2 : FVec F S_ .f32 := constant S_ .f32 0x00000000#32
  let main_v12 : FVec F S2048x5632 .f32 := broadcastInDim S2048x5632 ![] bcast_S_S2048x5632 main_cst_2
  let main_v13 : IVec S2048x5632 1 := cmpf .oeq main_v11 main_v12
  (main_v4, main_v7, main_v10, main_v13)
-- ==== Conv.lean ====
abbrev S2048x11264 : Shape := ⟨2, ![2048, 11264]⟩
abbrev S3x11264 : Shape := ⟨2, ![3, 11264]⟩
abbrev S11264 : Shape := ⟨1, ![11264]⟩
abbrev S2048x5632 : Shape := ⟨2, ![2048, 5632]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S1x2048x5632 : Shape := ⟨3, ![1, 2048, 5632]⟩
abbrev S2x2048x5632 : Shape := ⟨3, ![2, 2048, 5632]⟩
abbrev S3x5632 : Shape := ⟨2, ![3, 5632]⟩
abbrev S1x5632 : Shape := ⟨2, ![1, 5632]⟩
abbrev S2048x256 : Shape := ⟨2, ![2048, 256]⟩
abbrev S3x256 : Shape := ⟨2, ![3, 256]⟩
abbrev S2x2048x256 : Shape := ⟨3, ![2, 2048, 256]⟩
abbrev S1x256 : Shape := ⟨2, ![1, 256]⟩
abbrev S1x2048x256 : Shape := ⟨3, ![1, 2048, 256]⟩
abbrev S256 : Shape := ⟨1, ![256]⟩

abbrev nBuf : Space → Nat
  | .hbm => 45
  | .vmem => 22
  | .smem => 0
  | _ => 0

abbrev bufTy : (tb : Table) → Fin (tcTables nBuf tb) → BufTy
  | .hbm, ⟨0, _⟩ => ⟨S2048x11264, .bf16⟩
  | .hbm, ⟨1, _⟩ => ⟨S3x11264, .f32⟩
  | .hbm, ⟨2, _⟩ => ⟨S11264, .f32⟩
  | .hbm, ⟨3, _⟩ => ⟨S2048x5632, .bf16⟩
  | .hbm, ⟨4, _⟩ => ⟨S2048x11264, .f32⟩
  | .hbm, ⟨5, _⟩ => ⟨S_, .f32⟩
  | .hbm, ⟨6, _⟩ => ⟨S2x11264, .f32⟩
  | .hbm, ⟨7, _⟩ => ⟨S2050x11264, .f32⟩
  | .hbm, ⟨8, _⟩ => ⟨S1x11264, .f32⟩
  | .hbm, ⟨9, _⟩ => ⟨S11264, .f32⟩
  | .hbm, ⟨10, _⟩ => ⟨S2048x11264, .f32⟩
  | .hbm, ⟨11, _⟩ => ⟨S1x11264, .f32⟩
  | .hbm, ⟨12, _⟩ => ⟨S2048x11264, .f32⟩
  | .hbm, ⟨13, _⟩ => ⟨S2048x11264, .f32⟩
  | .hbm, ⟨14, _⟩ => ⟨S_, .f32⟩
  | .hbm, ⟨15, _⟩ => ⟨S2048x11264, .f32⟩
  | .hbm, ⟨16, _⟩ => ⟨S2048x11264, .f32⟩
  | .hbm, ⟨17, _⟩ => ⟨S1x11264, .f32⟩
  | .hbm, ⟨18, _⟩ => ⟨S11264, .f32⟩
  | .hbm, ⟨19, _⟩ => ⟨S2048x11264, .f32⟩
  | .hbm, ⟨20, _⟩ => ⟨S1x11264, .f32⟩
  | .hbm, ⟨21, _⟩ => ⟨S2048x11264, .f32⟩
  | .hbm, ⟨22, _⟩ => ⟨S2048x11264, .f32⟩
  | .hbm, ⟨23, _⟩ => ⟨S2048x11264, .f32⟩
  | .hbm, ⟨24, _⟩ => ⟨S1x11264, .f32⟩
  | .hbm, ⟨25, _⟩ => ⟨S11264, .f32⟩
  | .hbm, ⟨26, _⟩ => ⟨S2048x11264, .f32⟩
  | .hbm, ⟨27, _⟩ => ⟨S1x11264, .f32⟩
  | .hbm, ⟨28, _⟩ => ⟨S2048x11264, .f32⟩
  | .hbm, ⟨29, _⟩ => ⟨S2048x11264, .f32⟩
  | .hbm, ⟨30, _⟩ => ⟨S2048x11264, .f32⟩
  | .hbm, ⟨31, _⟩ => ⟨S1x11264, .f32⟩
  | .hbm, ⟨32, _⟩ => ⟨S2048x11264, .f32⟩
  | .hbm, ⟨33, _⟩ => ⟨S2048x11264, .f32⟩
  | .hbm, ⟨34, _⟩ => ⟨S2048x5632, .f32⟩
  | .hbm, ⟨35, _⟩ => ⟨S2048x5632, .f32⟩
  | .hbm, ⟨36, _⟩ => ⟨S1x2048x5632, .f32⟩
  | .hbm, ⟨37, _⟩ => ⟨S1x2048x5632, .f32⟩
  | .hbm, ⟨38, _⟩ => ⟨S2x2048x5632, .f32⟩
  | .hbm, ⟨39, _⟩ => ⟨S2x2048x5632, .bf16⟩
  | .hbm, ⟨40, _⟩ => ⟨S2x2048x5632, .bf16⟩
  | .hbm, ⟨41, _⟩ => ⟨S3x5632, .f32⟩
  | .hbm, ⟨42, _⟩ => ⟨S3x5632, .f32⟩
  | .hbm, ⟨43, _⟩ => ⟨S1x5632, .f32⟩
  | .hbm, ⟨44, _⟩ => ⟨S1x5632, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S2x2048x256, .bf16⟩
  | .local _ .vmem, ⟨9, _⟩ => ⟨S2x2048x256, .bf16⟩
  | .local _ .vmem, ⟨10, _⟩ => ⟨S2048x256, .bf16⟩
  | .local _ .vmem, ⟨11, _⟩ => ⟨S2048x256, .bf16⟩
  | .local _ .vmem, ⟨12, _⟩ => ⟨S2x2048x256, .bf16⟩
  | .local _ .vmem, ⟨13, _⟩ => ⟨S2x2048x256, .bf16⟩
  | .local _ .vmem, ⟨14, _⟩ => ⟨S3x256, .f32⟩
  | .local _ .vmem, ⟨15, _⟩ => ⟨S3x256, .f32⟩
  | .local _ .vmem, ⟨16, _⟩ => ⟨S3x256, .f32⟩
  | .local _ .vmem, ⟨17, _⟩ => ⟨S3x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34_0 : Ref sig .tc := ⟨.hbm, 40, rfl⟩
abbrev main_v34_1 : Ref sig .tc := ⟨.hbm, 41, rfl⟩
abbrev main_v34_2 : Ref sig .tc := ⟨.hbm, 42, rfl⟩
abbrev main_v34_3 : Ref sig .tc := ⟨.hbm, 43, rfl⟩
abbrev main_v34_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S2048x11264 : Shape := ⟨2, ![2048, 11264]⟩
abbrev S3x11264 : Shape := ⟨2, ![3, 11264]⟩
abbrev S11264 : Shape := ⟨1, ![11264]⟩
abbrev S2048x5632 : Shape := ⟨2, ![2048, 5632]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S1x2048x5632 : Shape := ⟨3, ![1, 2048, 5632]⟩
abbrev S2x2048x5632 : Shape := ⟨3, ![2, 2048, 5632]⟩
abbrev S3x5632 : Shape := ⟨2, ![3, 5632]⟩
abbrev S5632 : Shape := ⟨1, ![5632]⟩
abbrev S1x5632 : Shape := ⟨2, ![1, 5632]⟩

abbrev nBuf : Space → Nat
  | .hbm => 122
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S3x11264, .f32⟩
  | .hbm, ⟨2, _⟩ => ⟨S11264, .f32⟩
  | .hbm, ⟨3, _⟩ => ⟨S2048x5632, .bf16⟩
  | .hbm, ⟨4, _⟩ => ⟨S2048x11264, .f32⟩
  | .hbm, ⟨5, _⟩ => ⟨S_, .f32⟩
  | .hbm, ⟨6, _⟩ => ⟨S2x11264, .f32⟩
  | .hbm, ⟨7, _⟩ => ⟨S2050x11264, .f32⟩
  | .hbm, ⟨8, _⟩ => ⟨S_, .f32⟩
  | .hbm, ⟨9, _⟩ => ⟨S2x11264, .f32⟩
  | .hbm, ⟨10, _⟩ => ⟨S1x11264, .f32⟩
  | .hbm, ⟨11, _⟩ => ⟨S11264, .f32⟩
  | .hbm, ⟨12, _⟩ => ⟨S2048x11264, .f32⟩
  | .hbm, ⟨13, _⟩ => ⟨S1x11264, .f32⟩
  | .hbm, ⟨14, _⟩ => ⟨S2048x11264, .f32⟩
  | .hbm, ⟨15, _⟩ => ⟨S2048x11264, .f32⟩
  | .hbm, ⟨16, _⟩ => ⟨S_, .f32⟩
  | .hbm, ⟨17, _⟩ => ⟨S2048x11264, .f32⟩
  | .hbm, ⟨18, _⟩ => ⟨S2048x11264, .f32⟩
  | .hbm, ⟨19, _⟩ => ⟨S1x11264, .f32⟩
  | .hbm, ⟨20, _⟩ => ⟨S11264, .f32⟩
  | .hbm, ⟨21, _⟩ => ⟨S2048x11264, .f32⟩
  | .hbm, ⟨22, _⟩ => ⟨S1x11264, .f32⟩
  | .hbm, ⟨23, _⟩ => ⟨S2048x11264, .f32⟩
  | .hbm, ⟨24, _⟩ => ⟨S2048x11264, .f32⟩
  | .hbm, ⟨25, _⟩ => ⟨S2048x11264, .f32⟩
  | .hbm, ⟨26, _⟩ => ⟨S1x11264, .f32⟩
  | .hbm, ⟨27, _⟩ => ⟨S11264, .f32⟩
  | .hbm, ⟨28, _⟩ => ⟨S2048x11264, .f32⟩
  | .hbm, ⟨29, _⟩ => ⟨S1x11264, .f32⟩
  | .hbm, ⟨30, _⟩ => ⟨S2048x11264, .f32⟩
  | .hbm, ⟨31, _⟩ => ⟨S2048x11264, .f32⟩
  | .hbm, ⟨32, _⟩ => ⟨S2048x11264, .f32⟩
  | .hbm, ⟨33, _⟩ => ⟨S1x11264, .f32⟩
  | .hbm, ⟨34, _⟩ => ⟨S2048x11264, .f32⟩
  | .hbm, ⟨35, _⟩ => ⟨S2048x11264, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S2048x5632, .f32⟩
  | .hbm, ⟨40, _⟩ => ⟨S_, .f32⟩
  | .hbm, ⟨41, _⟩ => ⟨S2048x5632, .f32⟩
  | .hbm, ⟨42, _⟩ => ⟨S2048x5632, .f32⟩
  | .hbm, ⟨43, _⟩ => ⟨S_, .f32⟩
  | .hbm, ⟨44, _⟩ => ⟨S2048x5632, .f32⟩
  | .hbm, ⟨45, _⟩ => ⟨S2048x5632, .f32⟩
  | .hbm, ⟨46, _⟩ => ⟨S_, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S2048x5632, .f32⟩
  | .hbm, ⟨58, _⟩ => ⟨S2048x5632, .f32⟩
  | .hbm, ⟨59, _⟩ => ⟨S2048x11264, .f32⟩
  | .hbm, ⟨60, _⟩ => ⟨S_, .f32⟩
  | .hbm, ⟨61, _⟩ => ⟨S11264, .f32⟩
  | .hbm, ⟨62, _⟩ => ⟨S1x11264, .f32⟩
  | .hbm, ⟨63, _⟩ => ⟨S_, .f32⟩
  | .hbm, ⟨64, _⟩ => ⟨S11264, .f32⟩
  | .hbm, ⟨65, _⟩ => ⟨S2048x11264, .f32⟩
  | .hbm, ⟨66, _⟩ => ⟨S2048x11264, .f32⟩
  | .hbm, ⟨67, _⟩ => ⟨S2048x11264, .f32⟩
  | .hbm, ⟨68, _⟩ => ⟨S_, .f32⟩
  | .hbm, ⟨69, _⟩ => ⟨S11264, .f32⟩
  | .hbm, ⟨70, _⟩ => ⟨S1x11264, .f32⟩
  | .hbm, ⟨71, _⟩ => ⟨S_, .f32⟩
  | .hbm, ⟨72, _⟩ => ⟨S11264, .f32⟩
  | .hbm, ⟨73, _⟩ => ⟨S_, .f32⟩
  | .hbm, ⟨74, _⟩ => ⟨S2050x11264, .f32⟩
  | .hbm, ⟨75, _⟩ => ⟨S1x11264, .f32⟩
  | .hbm, ⟨76, _⟩ => ⟨S_, .f32⟩
  | .hbm, ⟨77, _⟩ => ⟨S3x11264, .f32⟩
  | .hbm, ⟨78, _⟩ => ⟨S2048x11264, .f32⟩
  | .hbm, ⟨79, _⟩ => ⟨S2048x11264, .f32⟩
  | .hbm, ⟨80, _⟩ => ⟨S2048x11264, .f32⟩
  | .hbm, ⟨81, _⟩ => ⟨S_, .f32⟩
  | .hbm, ⟨82, _⟩ => ⟨S11264, .f32⟩
  | .hbm, ⟨83, _⟩ => ⟨S1x11264, .f32⟩
  | .hbm, ⟨84, _⟩ => ⟨S_, .f32⟩
  | .hbm, ⟨85, _⟩ => ⟨S11264, .f32⟩
  | .hbm, ⟨86, _⟩ => ⟨S_, .f32⟩
  | .hbm, ⟨87, _⟩ => ⟨S2050x11264, .f32⟩
  | .hbm, ⟨88, _⟩ => ⟨S2050x11264, .f32⟩
  | .hbm, ⟨89, _⟩ => ⟨S1x11264, .f32⟩
  | .hbm, ⟨90, _⟩ => ⟨S_, .f32⟩
  | .hbm, ⟨91, _⟩ => ⟨S3x11264, .f32⟩
  | .hbm, ⟨92, _⟩ => ⟨S3x11264, .f32⟩
  | .hbm, ⟨93, _⟩ => ⟨S2048x11264, .f32⟩
  | .hbm, ⟨94, _⟩ => ⟨S2048x11264, .f32⟩
  | .hbm, ⟨95, _⟩ => ⟨S2048x11264, .f32⟩
  | .hbm, ⟨96, _⟩ => ⟨S_, .f32⟩
  | .hbm, ⟨97, _⟩ => ⟨S11264, .f32⟩
  | .hbm, ⟨98, _⟩ => ⟨S1x11264, .f32⟩
  | .hbm, ⟨99, _⟩ => ⟨S_, .f32⟩
  | .hbm, ⟨100, _⟩ => ⟨S11264, .f32⟩
  | .hbm, ⟨101, _⟩ => ⟨S_, .f32⟩
  | .hbm, ⟨102, _⟩ => ⟨S2050x11264, .f32⟩
  | .hbm, ⟨103, _⟩ => ⟨S2050x11264, .f32⟩
  | .hbm, ⟨104, _⟩ => ⟨S1x11264, .f32⟩
  | .hbm, ⟨105, _⟩ => ⟨S_, .f32⟩
  | .hbm, ⟨106, _⟩ => ⟨S3x11264, .f32⟩
  | .hbm, ⟨107, _⟩ => ⟨S3x11264, .f32⟩
  | .hbm, ⟨108, _⟩ => ⟨S2x11264, .f32⟩
  | .hbm, ⟨109, _⟩ => ⟨S2048x11264, .f32⟩
  | .hbm, ⟨110, _⟩ => ⟨S2048x5632, .f32⟩
  | .hbm, ⟨111, _⟩ => ⟨S2048x5632, .f32⟩
  | .hbm, ⟨112, _⟩ => ⟨S1x2048x5632, .f32⟩
  | .hbm, ⟨113, _⟩ => ⟨S1x2048x5632, .f32⟩
  | .hbm, ⟨114, _⟩ => ⟨S2x2048x5632, .f32⟩
  | .hbm, ⟨115, _⟩ => ⟨S2x2048x5632, .bf16⟩
  | .hbm, ⟨116, _⟩ => ⟨S3x5632, .f32⟩
  | .hbm, ⟨117, _⟩ => ⟨S3x5632, .f32⟩
  | .hbm, ⟨118, _⟩ => ⟨S5632, .f32⟩
  | .hbm, ⟨119, _⟩ => ⟨S1x5632, .f32⟩
  | .hbm, ⟨120, _⟩ => ⟨S5632, .f32⟩
  | .hbm, ⟨121, _⟩ => ⟨S1x5632, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]
-- ==== Attn.lean ====
abbrev S2048x2048 : Shape := ⟨2, ![2048, 2048]⟩
abbrev S2048x1024 : Shape := ⟨2, ![2048, 1024]⟩
abbrev S2048x4096 : Shape := ⟨2, ![2048, 4096]⟩
abbrev S2048x64 : Shape := ⟨2, ![2048, 64]⟩
abbrev S2048x32 : Shape := ⟨2, ![2048, 32]⟩
abbrev S2048x16x64 : Shape := ⟨3, ![2048, 16, 64]⟩
abbrev S2048x1x32 : Shape := ⟨3, ![2048, 1, 32]⟩
abbrev S2048x16x32 : Shape := ⟨3, ![2048, 16, 32]⟩
abbrev S2048x1x64 : Shape := ⟨3, ![2048, 1, 64]⟩
abbrev S2048x16x128 : Shape := ⟨3, ![2048, 16, 128]⟩
abbrev S2048x16x192 : Shape := ⟨3, ![2048, 16, 192]⟩
abbrev S2048x16x256 : Shape := ⟨3, ![2048, 16, 256]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x2048x2048 : Shape := ⟨3, ![1, 2048, 2048]⟩
abbrev S16x2048 : Shape := ⟨2, ![16, 2048]⟩
abbrev S16x2048x1 : Shape := ⟨3, ![16, 2048, 1]⟩
abbrev S16x128x2048 : Shape := ⟨3, ![16, 128, 2048]⟩
abbrev S8x2x2048 : Shape := ⟨3, ![8, 2, 2048]⟩
abbrev S8x2048x2 : Shape := ⟨3, ![8, 2048, 2]⟩
abbrev S2048x128 : Shape := ⟨2, ![2048, 128]⟩
abbrev S1x2048x1x32 : Shape := ⟨4, ![1, 2048, 1, 32]⟩
abbrev S1x2048x4x32 : Shape := ⟨4, ![1, 2048, 4, 32]⟩
abbrev S1x2048x1x64 : Shape := ⟨4, ![1, 2048, 1, 64]⟩
abbrev S1x2048x2x64 : Shape := ⟨4, ![1, 2048, 2, 64]⟩
abbrev S8x2048x128 : Shape := ⟨3, ![8, 2048, 128]⟩
abbrev S2048x256 : Shape := ⟨2, ![2048, 256]⟩
abbrev S2048x512 : Shape := ⟨2, ![2048, 512]⟩
abbrev S1x2048x2 : Shape := ⟨3, ![1, 2048, 2]⟩
abbrev S512x512 : Shape := ⟨2, ![512, 512]⟩
abbrev S1x512x128 : Shape := ⟨3, ![1, 512, 128]⟩
abbrev S2x2048x256 : Shape := ⟨3, ![2, 2048, 256]⟩
abbrev S2x2048x1 : Shape := ⟨3, ![2, 2048, 1]⟩
abbrev S1x2048x256 : Shape := ⟨3, ![1, 2048, 256]⟩
abbrev S1x2048x1 : Shape := ⟨3, ![1, 2048, 1]⟩
abbrev S512x128 : Shape := ⟨2, ![512, 128]⟩
abbrev S512x256 : Shape := ⟨2, ![512, 256]⟩
abbrev S1x512x256 : Shape := ⟨3, ![1, 512, 256]⟩
abbrev S1x512x1 : Shape := ⟨3, ![1, 512, 1]⟩
abbrev S512x1 : Shape := ⟨2, ![512, 1]⟩
abbrev S1x2048x128 : Shape := ⟨3, ![1, 2048, 128]⟩

abbrev nBuf : Space → Nat
  | .hbm => 118
  | .vmem => 26
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x4096, .bf16⟩
  | .hbm, ⟨3, _⟩ => ⟨S2048x64, .bf16⟩
  | .hbm, ⟨4, _⟩ => ⟨S2048x32, .f32⟩
  | .hbm, ⟨5, _⟩ => ⟨S2048x32, .f32⟩
  | .hbm, ⟨6, _⟩ => ⟨S2048x2048, .bf16⟩
  | .hbm, ⟨7, _⟩ => ⟨S2048x1024, .f32⟩
  | .hbm, ⟨8, _⟩ => ⟨S2048x16x64, .f32⟩
  | .hbm, ⟨9, _⟩ => ⟨S2048x1x32, .f32⟩
  | .hbm, ⟨10, _⟩ => ⟨S2048x1x32, .f32⟩
  | .hbm, ⟨11, _⟩ => ⟨S2048x16x32, .f32⟩
  | .hbm, ⟨12, _⟩ => ⟨S2048x16x32, .f32⟩
  | .hbm, ⟨13, _⟩ => ⟨S2048x16x32, .f32⟩
  | .hbm, ⟨14, _⟩ => ⟨S2048x16x32, .f32⟩
  | .hbm, ⟨15, _⟩ => ⟨S2048x16x32, .f32⟩
  | .hbm, ⟨16, _⟩ => ⟨S2048x16x32, .f32⟩
  | .hbm, ⟨17, _⟩ => ⟨S2048x16x32, .f32⟩
  | .hbm, ⟨18, _⟩ => ⟨S2048x16x32, .f32⟩
  | .hbm, ⟨19, _⟩ => ⟨S2048x16x32, .f32⟩
  | .hbm, ⟨20, _⟩ => ⟨S2048x16x32, .f32⟩
  | .hbm, ⟨21, _⟩ => ⟨S2048x16x32, .f32⟩
  | .hbm, ⟨22, _⟩ => ⟨S2048x16x32, .f32⟩
  | .hbm, ⟨23, _⟩ => ⟨S2048x16x64, .f32⟩
  | .hbm, ⟨24, _⟩ => ⟨S2048x64, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x64, .f32⟩
  | .hbm, ⟨34, _⟩ => ⟨S2048x2048, .f32⟩
  | .hbm, ⟨35, _⟩ => ⟨S2048x4096, .f32⟩
  | .hbm, ⟨36, _⟩ => ⟨S2048x64, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x64, .f32⟩
  | .hbm, ⟨46, _⟩ => ⟨S2048x1x64, .f32⟩
  | .hbm, ⟨47, _⟩ => ⟨S2048x16x64, .f32⟩
  | .hbm, ⟨48, _⟩ => ⟨S2048x16x128, .f32⟩
  | .hbm, ⟨49, _⟩ => ⟨S2048x16x192, .f32⟩
  | .hbm, ⟨50, _⟩ => ⟨S2048x16x256, .f32⟩
  | .hbm, ⟨51, _⟩ => ⟨S2048x16x128, .f32⟩
  | .hbm, ⟨52, _⟩ => ⟨S2048x16x192, .f32⟩
  | .hbm, ⟨53, _⟩ => ⟨S16x2048x2048, .f32⟩
  | .hbm, ⟨54, _⟩ => ⟨S_, .f32⟩
  | .hbm, ⟨55, _⟩ => ⟨S16x2048x2048, .f32⟩
  | .hbm, ⟨56, _⟩ => ⟨S16x2048x2048, .f32⟩
  | .hbm, ⟨57, _⟩ => ⟨S2048, .i32⟩
  | .hbm, ⟨58, _⟩ => ⟨S1x2048, .i32⟩
  | .hbm, ⟨59, _⟩ => ⟨S2048x1, .i32⟩
  | .hbm, ⟨60, _⟩ => ⟨S2048x2048, .i32⟩
  | .hbm, ⟨61, _⟩ => ⟨S2048x2048, .i32⟩
  | .hbm, ⟨62, _⟩ => ⟨S2048x2048, .i1⟩
  | .hbm, ⟨63, _⟩ => ⟨S1x2048x2048, .i1⟩
  | .hbm, ⟨64, _⟩ => ⟨S_, .f32⟩
  | .hbm, ⟨65, _⟩ => ⟨S_, .f32⟩
  | .hbm, ⟨66, _⟩ => ⟨S16x2048x2048, .i1⟩
  | .hbm, ⟨67, _⟩ => ⟨S16x2048x2048, .f32⟩
  | .hbm, ⟨68, _⟩ => ⟨S16x2048x2048, .f32⟩
  | .hbm, ⟨69, _⟩ => ⟨S2048x4096, .f32⟩
  | .hbm, ⟨70, _⟩ => ⟨S2048x16x256, .f32⟩
  | .hbm, ⟨71, _⟩ => ⟨S2048x16x128, .f32⟩
  | .hbm, ⟨72, _⟩ => ⟨S_, .f32⟩
  | .hbm, ⟨73, _⟩ => ⟨S16x2048, .f32⟩
  | .hbm, ⟨74, _⟩ => ⟨S_, .f32⟩
  | .hbm, ⟨75, _⟩ => ⟨S16x2048, .f32⟩
  | .hbm, ⟨76, _⟩ => ⟨S16x2048, .f32⟩
  | .hbm, ⟨77, _⟩ => ⟨S16x2048x1, .f32⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S_, .f32⟩
  | .hbm, ⟨82, _⟩ => ⟨S16x2048, .f32⟩
  | .hbm, ⟨83, _⟩ => ⟨S16x2048x1, .f32⟩
  | .hbm, ⟨84, _⟩ => ⟨S16x2048x2048, .f32⟩
  | .hbm, ⟨85, _⟩ => ⟨S16x2048x2048, .f32⟩
  | .hbm, ⟨86, _⟩ => ⟨S16x128x2048, .f32⟩
  | .hbm, ⟨87, _⟩ => ⟨S2048x16x128, .f32⟩
  | .hbm, ⟨88, _⟩ => ⟨S2048x2048, .f32⟩
  | .hbm, ⟨89, _⟩ => ⟨S2048x2048, .bf16⟩
  | .hbm, ⟨90, _⟩ => ⟨S_, .f32⟩
  | .hbm, ⟨91, _⟩ => ⟨S16x2048, .f32⟩
  | .hbm, ⟨92, _⟩ => ⟨S16x2048x1, .f32⟩
  | .hbm, ⟨93, _⟩ => ⟨S16x2048x2048, .f32⟩
  | .hbm, ⟨94, _⟩ => ⟨S16x2048x2048, .f32⟩
  | .hbm, ⟨95, _⟩ => ⟨S16x2048x2048, .f32⟩
  | .hbm, ⟨96, _⟩ => ⟨S_, .f32⟩
  | .hbm, ⟨97, _⟩ => ⟨S16x2048, .f32⟩
  | .hbm, ⟨98, _⟩ => ⟨S16x2048, .f32⟩
  | .hbm, ⟨99, _⟩ => ⟨S16x2048, .f32⟩
  | .hbm, ⟨100, _⟩ => ⟨S8x2x2048, .f32⟩
  | .hbm, ⟨101, _⟩ => ⟨S8x2048x2, .f32⟩
  | .hbm, ⟨102, _⟩ => ⟨S2048x128, .f32⟩
  | .hbm, ⟨103, _⟩ => ⟨S2048x128, .bf16⟩
  | .hbm, ⟨104, _⟩ => ⟨S1x2048x1x32, .f32⟩
  | .hbm, ⟨105, _⟩ => ⟨S1x2048x4x32, .f32⟩
  | .hbm, ⟨106, _⟩ => ⟨S2048x128, .f32⟩
  | .hbm, ⟨107, _⟩ => ⟨S2048x32, .f32⟩
  | .hbm, ⟨108, _⟩ => ⟨S2048x64, .f32⟩
  | .hbm, ⟨109, _⟩ => ⟨S1x2048x1x64, .f32⟩
  | .hbm, ⟨110, _⟩ => ⟨S1x2048x2x64, .f32⟩
  | .hbm, ⟨111, _⟩ => ⟨S2048x128, .f32⟩
  | .hbm, ⟨112, _⟩ => ⟨S2048x1024, .f32⟩
  | .hbm, ⟨113, _⟩ => ⟨S2048x1024, .bf16⟩
  | .hbm, ⟨114, _⟩ => ⟨S2048x2048, .bf16⟩
  | .hbm, ⟨115, _⟩ => ⟨S2048x1024, .bf16⟩
  | .hbm, ⟨116, _⟩ => ⟨S2048x4096, .bf16⟩
  | .hbm, ⟨117, _⟩ => ⟨S8x2048x128, .f32⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S2048x512, .bf16⟩
  | .local _ .vmem, ⟨5, _⟩ => ⟨S2048x512, .bf16⟩
  | .local _ .vmem, ⟨6, _⟩ => ⟨S2048x128, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S1x2048x2, .f32⟩
  | .local _ .vmem, ⟨12, _⟩ => ⟨S1x2048x2, .f32⟩
  | .local _ .vmem, ⟨13, _⟩ => ⟨S2048x128, .f32⟩
  | .local _ .vmem, ⟨14, _⟩ => ⟨S2048x128, .f32⟩
  | .local _ .vmem, ⟨15, _⟩ => ⟨S2048x256, .bf16⟩
  | .local _ .vmem, ⟨16, _⟩ => ⟨S2048x256, .bf16⟩
  | .local _ .vmem, ⟨17, _⟩ => ⟨S2048x128, .bf16⟩
  | .local _ .vmem, ⟨18, _⟩ => ⟨S2048x128, .bf16⟩
  | .local _ .vmem, ⟨19, _⟩ => ⟨S512x512, .bf16⟩
  | .local _ .vmem, ⟨20, _⟩ => ⟨S512x512, .bf16⟩
  | .local _ .vmem, ⟨21, _⟩ => ⟨S1x512x128, .f32⟩
  | .local _ .vmem, ⟨22, _⟩ => ⟨S1x512x128, .f32⟩
  | .local _ .vmem, ⟨23, _⟩ => ⟨S2x2048x256, .bf16⟩
  | .local _ .vmem, ⟨24, _⟩ => ⟨S2x2048x256, .f32⟩
  | .local _ .vmem, ⟨25, _⟩ => ⟨S2x2048x1, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_0 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_1 : Ref sig .tc := ⟨.hbm, 72, rfl⟩
abbrev main_v60 : Ref sig .tc := ⟨.hbm, 73, rfl⟩
abbrev main_cst_2 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_3 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_4 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_5 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97_0 : Ref sig .tc := ⟨.hbm, 114, rfl⟩
abbrev main_v97_1 : Ref sig .tc := ⟨.hbm, 115, rfl⟩
abbrev main_v97_2 : Ref sig .tc := ⟨.hbm, 116, rfl⟩
abbrev main_v97_3 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_off2 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v7 : Index := Scalar.indexCast v4
  let c0_1 : Index := 0#32
  ![v7.toNat, 0]
def k0_off3 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v11 : Index := Scalar.indexCast v4
  let c256 : Index := 256#32
  ![v11.toNat, 256]
def k0_off4 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v17 : Index := Scalar.indexCast v4
  let c128 : Index := 128#32
  ![v17.toNat, 128]
def k0_off5 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v19 : Index := Scalar.indexCast v4
  let c384 : Index := 384#32
  ![v19.toNat, 384]
def k0_mult2 (i : grid0.Coords) : BitVec 32 :=
  let arg1 : BitVec 32 := BitVec.ofNat 32 (i 1).val
  let c512_i32_4 : BitVec 32 := 512#32
  let v23 : BitVec 32 := Scalar.muli arg1 c512_i32_4
  v23
def k0_off6 (i : grid0.Coords) : Fin 3 → Nat :=
  let c0_5 : Index := 0#32
  let arg1 : BitVec 32 := BitVec.ofNat 32 (i 1).val
  let c512_i32_4 : BitVec 32 := 512#32
  let v23 : BitVec 32 := Scalar.muli arg1 c512_i32_4
  let v24 : BitVec 32 := v23
  let v25 : Index := Scalar.indexCast v24
  let c0_6 : Index := 0#32
  ![0, v25.toNat, 0]
def k0_off7 (i : grid0.Coords) : Fin 2 → Nat :=
  let arg1 : BitVec 32 := BitVec.ofNat 32 (i 1).val
  let c512_i32_4 : BitVec 32 := 512#32
  let v23 : BitVec 32 := Scalar.muli arg1 c512_i32_4
  let v24 : BitVec 32 := v23
  let v28 : Index := Scalar.indexCast v24
  let c0_7 : Index := 0#32
  ![v28.toNat, 0]
def k0_off8 (i : grid0.Coords) : Fin 3 → Nat :=
  let c0_11 : Index := 0#32
  let arg1 : BitVec 32 := BitVec.ofNat 32 (i 1).val
  let c512_i32_4 : BitVec 32 := 512#32
  let v23 : BitVec 32 := Scalar.muli arg1 c512_i32_4
  let v24 : BitVec 32 := v23
  let v38 : Index := Scalar.indexCast v24
  let c0_12 : Index := 0#32
  ![0, v38.toNat, 0]
def k0_off9 (i : grid0.Coords) : Fin 3 → Nat :=
  let c0_14 : Index := 0#32
  let arg1 : BitVec 32 := BitVec.ofNat 32 (i 1).val
  let c512_i32_4 : BitVec 32 := 512#32
  let v23 : BitVec 32 := Scalar.muli arg1 c512_i32_4
  let v24 : BitVec 32 := v23
  let v45 : Index := Scalar.indexCast v24
  let c0_15 : Index := 0#32
  ![0, v45.toNat, 0]
def k0_off10 (i : grid0.Coords) : Fin 3 → Nat :=
  let c1 : Index := 1#32
  let arg1 : BitVec 32 := BitVec.ofNat 32 (i 1).val
  let c512_i32_4 : BitVec 32 := 512#32
  let v23 : BitVec 32 := Scalar.muli arg1 c512_i32_4
  let v24 : BitVec 32 := v23
  let v68 : Index := Scalar.indexCast v24
  let c0_24 : Index := 0#32
  ![1, v68.toNat, 0]
def k0_off11 (i : grid0.Coords) : Fin 2 → Nat :=
  let arg1 : BitVec 32 := BitVec.ofNat 32 (i 1).val
  let c512_i32_4 : BitVec 32 := 512#32
  let v23 : BitVec 32 := Scalar.muli arg1 c512_i32_4
  let v24 : BitVec 32 := v23
  let v71 : Index := Scalar.indexCast v24
  let c128_25 : Index := 128#32
  ![v71.toNat, 128]
def k0_off12 (i : grid0.Coords) : Fin 3 → Nat :=
  let c0_29 : Index := 0#32
  let arg1 : BitVec 32 := BitVec.ofNat 32 (i 1).val
  let c512_i32_4 : BitVec 32 := 512#32
  let v23 : BitVec 32 := Scalar.muli arg1 c512_i32_4
  let v24 : BitVec 32 := v23
  let v81 : Index := Scalar.indexCast v24
  let c1_30 : Index := 1#32
  ![0, v81.toNat, 1]
def k0_off13 (i : grid0.Coords) : Fin 3 → Nat :=
  let c1_32 : Index := 1#32
  let arg1 : BitVec 32 := BitVec.ofNat 32 (i 1).val
  let c512_i32_4 : BitVec 32 := 512#32
  let v23 : BitVec 32 := Scalar.muli arg1 c512_i32_4
  let v24 : BitVec 32 := v23
  let v88 : Index := Scalar.indexCast v24
  let c0_33 : Index := 0#32
  ![1, v88.toNat, 0]
@[reducible] def k0_t1_loop (i : grid0.Coords) : Scf.Loop 32 :=
  let arg1 : BitVec 32 := BitVec.ofNat 32 (i 1).val
  let c1_i32 : BitVec 32 := 1#32
  let v111 : BitVec 32 := Scalar.addi arg1 c1_i32
  let c4_i32 : BitVec 32 := 4#32
  let v112 : BitVec 32 := Scalar.subi c4_i32 v111
  let c1_i32_42 : BitVec 32 := 1#32
  let v114 : BitVec 32 := Scalar.divsi v112 c1_i32_42
  let v115 : BitVec 32 := Scalar.muli v114 c1_i32_42
  let v116 : BitVec 32 := Scalar.addi v111 v115
  let c1_i32_43 : BitVec 32 := 1#32
  ⟨v111, v116, c1_i32_43⟩
def k0_mult3 (i : grid0.Coords) (k0_t1 : Fin (k0_t1_loop i).trips) : BitVec 32 :=
  let arg1 : BitVec 32 := BitVec.ofNat 32 (i 1).val
  let c1_i32 : BitVec 32 := 1#32
  let v111 : BitVec 32 := Scalar.addi arg1 c1_i32
  let c1_i32_43 : BitVec 32 := 1#32
  let arg18 : BitVec 32 := Scf.iv v111 c1_i32_43 k0_t1
  let c512_i32_58 : BitVec 32 := 512#32
  let v140 : BitVec 32 := Scalar.muli arg18 c512_i32_58
  v140
def k0_off14 (i : grid0.Coords) (k0_t1 : Fin (k0_t1_loop i).trips) : Fin 3 → Nat :=
  let c0_59 : Index := 0#32
  let arg1 : BitVec 32 := BitVec.ofNat 32 (i 1).val
  let c1_i32 : BitVec 32 := 1#32
  let v111 : BitVec 32 := Scalar.addi arg1 c1_i32
  let c1_i32_43 : BitVec 32 := 1#32
  let arg18 : BitVec 32 := Scf.iv v111 c1_i32_43 k0_t1
  let c512_i32_58 : BitVec 32 := 512#32
  let v140 : BitVec 32 := Scalar.muli arg18 c512_i32_58
  let v141 : BitVec 32 := v140
  let v142 : Index := Scalar.indexCast v141
  let c0_60 : Index := 0#32
  ![0, v142.toNat, 0]
def k0_off15 (i : grid0.Coords) (k0_t1 : Fin (k0_t1_loop i).trips) : Fin 2 → Nat :=
  let arg1 : BitVec 32 := BitVec.ofNat 32 (i 1).val
  let c1_i32 : BitVec 32 := 1#32
  let v111 : BitVec 32 := Scalar.addi arg1 c1_i32
  let c1_i32_43 : BitVec 32 := 1#32
  let arg18 : BitVec 32 := Scf.iv v111 c1_i32_43 k0_t1
  let c512_i32_58 : BitVec 32 := 512#32
  let v140 : BitVec 32 := Scalar.muli arg18 c512_i32_58
  let v141 : BitVec 32 := v140
  let v145 : Index := Scalar.indexCast v141
  let c0_61 : Index := 0#32
  ![v145.toNat, 0]
def k0_off16 (i : grid0.Coords) (k0_t1 : Fin (k0_t1_loop i).trips) : Fin 3 → Nat :=
  let c0_64 : Index := 0#32
  let arg1 : BitVec 32 := BitVec.ofNat 32 (i 1).val
  let c1_i32 : BitVec 32 := 1#32
  let v111 : BitVec 32 := Scalar.addi arg1 c1_i32
  let c1_i32_43 : BitVec 32 := 1#32
  let arg18 : BitVec 32 := Scf.iv v111 c1_i32_43 k0_t1
  let c512_i32_58 : BitVec 32 := 512#32
  let v140 : BitVec 32 := Scalar.muli arg18 c512_i32_58
  let v141 : BitVec 32 := v140
  let v150 : Index := Scalar.indexCast v141
  let c0_65 : Index := 0#32
  ![0, v150.toNat, 0]
def k0_off17 (i : grid0.Coords) (k0_t1 : Fin (k0_t1_loop i).trips) : Fin 3 → Nat :=
  let c0_67 : Index := 0#32
  let arg1 : BitVec 32 := BitVec.ofNat 32 (i 1).val
  let c1_i32 : BitVec 32 := 1#32
  let v111 : BitVec 32 := Scalar.addi arg1 c1_i32
  let c1_i32_43 : BitVec 32 := 1#32
  let arg18 : BitVec 32 := Scf.iv v111 c1_i32_43 k0_t1
  let c512_i32_58 : BitVec 32 := 512#32
  let v140 : BitVec 32 := Scalar.muli arg18 c512_i32_58
  let v141 : BitVec 32 := v140
  let v157 : Index := Scalar.indexCast v141
  let c0_68 : Index := 0#32
  ![0, v157.toNat, 0]
def k0_off18 (i : grid0.Coords) (k0_t1 : Fin (k0_t1_loop i).trips) : Fin 3 → Nat :=
  let c1_77 : Index := 1#32
  let arg1 : BitVec 32 := BitVec.ofNat 32 (i 1).val
  let c1_i32 : BitVec 32 := 1#32
  let v111 : BitVec 32 := Scalar.addi arg1 c1_i32
  let c1_i32_43 : BitVec 32 := 1#32
  let arg18 : BitVec 32 := Scf.iv v111 c1_i32_43 k0_t1
  let c512_i32_58 : BitVec 32 := 512#32
  let v140 : BitVec 32 := Scalar.muli arg18 c512_i32_58
  let v141 : BitVec 32 := v140
  let v180 : Index := Scalar.indexCast v141
  let c0_78 : Index := 0#32
  ![1, v180.toNat, 0]
def k0_off19 (i : grid0.Coords) (k0_t1 : Fin (k0_t1_loop i).trips) : Fin 2 → Nat :=
  let arg1 : BitVec 32 := BitVec.ofNat 32 (i 1).val
  let c1_i32 : BitVec 32 := 1#32
  let v111 : BitVec 32 := Scalar.addi arg1 c1_i32
  let c1_i32_43 : BitVec 32 := 1#32
  let arg18 : BitVec 32 := Scf.iv v111 c1_i32_43 k0_t1
  let c512_i32_58 : BitVec 32 := 512#32
  let v140 : BitVec 32 := Scalar.muli arg18 c512_i32_58
  let v141 : BitVec 32 := v140
  let v183 : Index := Scalar.indexCast v141
  let c128_79 : Index := 128#32
  ![v183.toNat, 128]
def k0_off20 (i : grid0.Coords) (k0_t1 : Fin (k0_t1_loop i).trips) : Fin 3 → Nat :=
  let c0_82 : Index := 0#32
  let arg1 : BitVec 32 := BitVec.ofNat 32 (i 1).val
  let c1_i32 : BitVec 32 := 1#32
  let v111 : BitVec 32 := Scalar.addi arg1 c1_i32
  let c1_i32_43 : BitVec 32 := 1#32
  let arg18 : BitVec 32 := Scf.iv v111 c1_i32_43 k0_t1
  let c512_i32_58 : BitVec 32 := 512#32
  let v140 : BitVec 32 := Scalar.muli arg18 c512_i32_58
  let v141 : BitVec 32 := v140
  let v188 : Index := Scalar.indexCast v141
  let c1_83 : Index := 1#32
  ![0, v188.toNat, 1]
def k0_off21 (i : grid0.Coords) (k0_t1 : Fin (k0_t1_loop i).trips) : Fin 3 → Nat :=
  let c1_85 : Index := 1#32
  let arg1 : BitVec 32 := BitVec.ofNat 32 (i 1).val
  let c1_i32 : BitVec 32 := 1#32
  let v111 : BitVec 32 := Scalar.addi arg1 c1_i32
  let c1_i32_43 : BitVec 32 := 1#32
  let arg18 : BitVec 32 := Scf.iv v111 c1_i32_43 k0_t1
  let c512_i32_58 : BitVec 32 := 512#32
  let v140 : BitVec 32 := Scalar.muli arg18 c512_i32_58
  let v141 : BitVec 32 := v140
  let v195 : Index := Scalar.indexCast v141
  let c0_86 : Index := 0#32
  ![1, v195.toNat, 0]
@[reducible] def k0_t2_loop (i : grid0.Coords) : Scf.Loop 32 :=
  let arg1 : BitVec 32 := BitVec.ofNat 32 (i 1).val
  let c1_i32 : BitVec 32 := 1#32
  let v111 : BitVec 32 := Scalar.addi arg1 c1_i32
  let c4_i32 : BitVec 32 := 4#32
  let v112 : BitVec 32 := Scalar.subi c4_i32 v111
  let c1_i32_42 : BitVec 32 := 1#32
  let v114 : BitVec 32 := Scalar.divsi v112 c1_i32_42
  let v115 : BitVec 32 := Scalar.muli v114 c1_i32_42
  let v116 : BitVec 32 := Scalar.addi v111 v115
  let v113 : BitVec 32 := Scalar.addi v111 v112
  let c1_i32_44 : BitVec 32 := 1#32
  ⟨v116, v113, c1_i32_44⟩
def k0_mult4 (i : grid0.Coords) (k0_t2 : Fin (k0_t2_loop i).trips) : BitVec 32 :=
  let arg1 : BitVec 32 := BitVec.ofNat 32 (i 1).val
  let c1_i32 : BitVec 32 := 1#32
  let v111 : BitVec 32 := Scalar.addi arg1 c1_i32
  let c4_i32 : BitVec 32 := 4#32
  let v112 : BitVec 32 := Scalar.subi c4_i32 v111
  let c1_i32_42 : BitVec 32 := 1#32
  let v114 : BitVec 32 := Scalar.divsi v112 c1_i32_42
  let v115 : BitVec 32 := Scalar.muli v114 c1_i32_42
  let v116 : BitVec 32 := Scalar.addi v111 v115
  let c1_i32_44 : BitVec 32 := 1#32
  let arg18 : BitVec 32 := Scf.iv v116 c1_i32_44 k0_t2
  let c512_i32_58 : BitVec 32 := 512#32
  let v140 : BitVec 32 := Scalar.muli arg18 c512_i32_58
  v140
def k0_off22 (i : grid0.Coords) (k0_t2 : Fin (k0_t2_loop i).trips) : Fin 3 → Nat :=
  let c0_59 : Index := 0#32
  let arg1 : BitVec 32 := BitVec.ofNat 32 (i 1).val
  let c1_i32 : BitVec 32 := 1#32
  let v111 : BitVec 32 := Scalar.addi arg1 c1_i32
  let c4_i32 : BitVec 32 := 4#32
  let v112 : BitVec 32 := Scalar.subi c4_i32 v111
  let c1_i32_42 : BitVec 32 := 1#32
  let v114 : BitVec 32 := Scalar.divsi v112 c1_i32_42
  let v115 : BitVec 32 := Scalar.muli v114 c1_i32_42
  let v116 : BitVec 32 := Scalar.addi v111 v115
  let c1_i32_44 : BitVec 32 := 1#32
  let arg18 : BitVec 32 := Scf.iv v116 c1_i32_44 k0_t2
  let c512_i32_58 : BitVec 32 := 512#32
  let v140 : BitVec 32 := Scalar.muli arg18 c512_i32_58
  let v141 : BitVec 32 := v140
  let v142 : Index := Scalar.indexCast v141
  let c0_60 : Index := 0#32
  ![0, v142.toNat, 0]
def k0_off23 (i : grid0.Coords) (k0_t2 : Fin (k0_t2_loop i).trips) : Fin 2 → Nat :=
  let arg1 : BitVec 32 := BitVec.ofNat 32 (i 1).val
  let c1_i32 : BitVec 32 := 1#32
  let v111 : BitVec 32 := Scalar.addi arg1 c1_i32
  let c4_i32 : BitVec 32 := 4#32
  let v112 : BitVec 32 := Scalar.subi c4_i32 v111
  let c1_i32_42 : BitVec 32 := 1#32
  let v114 : BitVec 32 := Scalar.divsi v112 c1_i32_42
  let v115 : BitVec 32 := Scalar.muli v114 c1_i32_42
  let v116 : BitVec 32 := Scalar.addi v111 v115
  let c1_i32_44 : BitVec 32 := 1#32
  let arg18 : BitVec 32 := Scf.iv v116 c1_i32_44 k0_t2
  let c512_i32_58 : BitVec 32 := 512#32
  let v140 : BitVec 32 := Scalar.muli arg18 c512_i32_58
  let v141 : BitVec 32 := v140
  let v145 : Index := Scalar.indexCast v141
  let c0_61 : Index := 0#32
  ![v145.toNat, 0]
def k0_off24 (i : grid0.Coords) (k0_t2 : Fin (k0_t2_loop i).trips) : Fin 3 → Nat :=
  let c0_64 : Index := 0#32
  let arg1 : BitVec 32 := BitVec.ofNat 32 (i 1).val
  let c1_i32 : BitVec 32 := 1#32
  let v111 : BitVec 32 := Scalar.addi arg1 c1_i32
  let c4_i32 : BitVec 32 := 4#32
  let v112 : BitVec 32 := Scalar.subi c4_i32 v111
  let c1_i32_42 : BitVec 32 := 1#32
  let v114 : BitVec 32 := Scalar.divsi v112 c1_i32_42
  let v115 : BitVec 32 := Scalar.muli v114 c1_i32_42
  let v116 : BitVec 32 := Scalar.addi v111 v115
  let c1_i32_44 : BitVec 32 := 1#32
  let arg18 : BitVec 32 := Scf.iv v116 c1_i32_44 k0_t2
  let c512_i32_58 : BitVec 32 := 512#32
  let v140 : BitVec 32 := Scalar.muli arg18 c512_i32_58
  let v141 : BitVec 32 := v140
  let v150 : Index := Scalar.indexCast v141
  let c0_65 : Index := 0#32
  ![0, v150.toNat, 0]
def k0_off25 (i : grid0.Coords) (k0_t2 : Fin (k0_t2_loop i).trips) : Fin 3 → Nat :=
  let c0_67 : Index := 0#32
  let arg1 : BitVec 32 := BitVec.ofNat 32 (i 1).val
  let c1_i32 : BitVec 32 := 1#32
  let v111 : BitVec 32 := Scalar.addi arg1 c1_i32
  let c4_i32 : BitVec 32 := 4#32
  let v112 : BitVec 32 := Scalar.subi c4_i32 v111
  let c1_i32_42 : BitVec 32 := 1#32
  let v114 : BitVec 32 := Scalar.divsi v112 c1_i32_42
  let v115 : BitVec 32 := Scalar.muli v114 c1_i32_42
  let v116 : BitVec 32 := Scalar.addi v111 v115
  let c1_i32_44 : BitVec 32 := 1#32
  let arg18 : BitVec 32 := Scf.iv v116 c1_i32_44 k0_t2
  let c512_i32_58 : BitVec 32 := 512#32
  let v140 : BitVec 32 := Scalar.muli arg18 c512_i32_58
  let v141 : BitVec 32 := v140
  let v157 : Index := Scalar.indexCast v141
  let c0_68 : Index := 0#32
  ![0, v157.toNat, 0]
def k0_off26 (i : grid0.Coords) (k0_t2 : Fin (k0_t2_loop i).trips) : Fin 3 → Nat :=
  let c1_77 : Index := 1#32
  let arg1 : BitVec 32 := BitVec.ofNat 32 (i 1).val
  let c1_i32 : BitVec 32 := 1#32
  let v111 : BitVec 32 := Scalar.addi arg1 c1_i32
  let c4_i32 : BitVec 32 := 4#32
  let v112 : BitVec 32 := Scalar.subi c4_i32 v111
  let c1_i32_42 : BitVec 32 := 1#32
  let v114 : BitVec 32 := Scalar.divsi v112 c1_i32_42
  let v115 : BitVec 32 := Scalar.muli v114 c1_i32_42
  let v116 : BitVec 32 := Scalar.addi v111 v115
  let c1_i32_44 : BitVec 32 := 1#32
  let arg18 : BitVec 32 := Scf.iv v116 c1_i32_44 k0_t2
  let c512_i32_58 : BitVec 32 := 512#32
  let v140 : BitVec 32 := Scalar.muli arg18 c512_i32_58
  let v141 : BitVec 32 := v140
  let v180 : Index := Scalar.indexCast v141
  let c0_78 : Index := 0#32
  ![1, v180.toNat, 0]
def k0_off27 (i : grid0.Coords) (k0_t2 : Fin (k0_t2_loop i).trips) : Fin 2 → Nat :=
  let arg1 : BitVec 32 := BitVec.ofNat 32 (i 1).val
  let c1_i32 : BitVec 32 := 1#32
  let v111 : BitVec 32 := Scalar.addi arg1 c1_i32
  let c4_i32 : BitVec 32 := 4#32
  let v112 : BitVec 32 := Scalar.subi c4_i32 v111
  let c1_i32_42 : BitVec 32 := 1#32
  let v114 : BitVec 32 := Scalar.divsi v112 c1_i32_42
  let v115 : BitVec 32 := Scalar.muli v114 c1_i32_42
  let v116 : BitVec 32 := Scalar.addi v111 v115
  let c1_i32_44 : BitVec 32 := 1#32
  let arg18 : BitVec 32 := Scf.iv v116 c1_i32_44 k0_t2
  let c512_i32_58 : BitVec 32 := 512#32
  let v140 : BitVec 32 := Scalar.muli arg18 c512_i32_58
  let v141 : BitVec 32 := v140
  let v183 : Index := Scalar.indexCast v141
  let c128_79 : Index := 128#32
  ![v183.toNat, 128]
def k0_off28 (i : grid0.Coords) (k0_t2 : Fin (k0_t2_loop i).trips) : Fin 3 → Nat :=
  let c0_82 : Index := 0#32
  let arg1 : BitVec 32 := BitVec.ofNat 32 (i 1).val
  let c1_i32 : BitVec 32 := 1#32
  let v111 : BitVec 32 := Scalar.addi arg1 c1_i32
  let c4_i32 : BitVec 32 := 4#32
  let v112 : BitVec 32 := Scalar.subi c4_i32 v111
  let c1_i32_42 : BitVec 32 := 1#32
  let v114 : BitVec 32 := Scalar.divsi v112 c1_i32_42
  let v115 : BitVec 32 := Scalar.muli v114 c1_i32_42
  let v116 : BitVec 32 := Scalar.addi v111 v115
  let c1_i32_44 : BitVec 32 := 1#32
  let arg18 : BitVec 32 := Scf.iv v116 c1_i32_44 k0_t2
  let c512_i32_58 : BitVec 32 := 512#32
  let v140 : BitVec 32 := Scalar.muli arg18 c512_i32_58
  let v141 : BitVec 32 := v140
  let v188 : Index := Scalar.indexCast v141
  let c1_83 : Index := 1#32
  ![0, v188.toNat, 1]
def k0_off29 (i : grid0.Coords) (k0_t2 : Fin (k0_t2_loop i).trips) : Fin 3 → Nat :=
  let c1_85 : Index := 1#32
  let arg1 : BitVec 32 := BitVec.ofNat 32 (i 1).val
  let c1_i32 : BitVec 32 := 1#32
  let v111 : BitVec 32 := Scalar.addi arg1 c1_i32
  let c4_i32 : BitVec 32 := 4#32
  let v112 : BitVec 32 := Scalar.subi c4_i32 v111
  let c1_i32_42 : BitVec 32 := 1#32
  let v114 : BitVec 32 := Scalar.divsi v112 c1_i32_42
  let v115 : BitVec 32 := Scalar.muli v114 c1_i32_42
  let v116 : BitVec 32 := Scalar.addi v111 v115
  let c1_i32_44 : BitVec 32 := 1#32
  let arg18 : BitVec 32 := Scf.iv v116 c1_i32_44 k0_t2
  let c512_i32_58 : BitVec 32 := 512#32
  let v140 : BitVec 32 := Scalar.muli arg18 c512_i32_58
  let v141 : BitVec 32 := v140
  let v195 : Index := Scalar.indexCast v141
  let c0_86 : Index := 0#32
  ![1, v195.toNat, 0]
def k0_cond2 (i : grid0.Coords) : BitVec 1 :=
  let arg1 : BitVec 32 := BitVec.ofNat 32 (i 1).val
  let c3_i32 : BitVec 32 := 3#32
  let v137 : BitVec 1 := Scalar.cmpi .eq arg1 c3_i32
  let v138 : BitVec 32 := Scalar.extui v137
  let c0_i32_57 : BitVec 32 := 0#32
  let v139 : BitVec 1 := Scalar.cmpi .ne v138 c0_i32_57
  v139

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S2048x2048 : Shape := ⟨2, ![2048, 2048]⟩
abbrev S2048x1024 : Shape := ⟨2, ![2048, 1024]⟩
abbrev S2048x4096 : Shape := ⟨2, ![2048, 4096]⟩
abbrev S2048x64 : Shape := ⟨2, ![2048, 64]⟩
abbrev S2048x32 : Shape := ⟨2, ![2048, 32]⟩
abbrev S2048x1x64 : Shape := ⟨3, ![2048, 1, 64]⟩
abbrev S2048x16x64 : Shape := ⟨3, ![2048, 16, 64]⟩
abbrev S2048x1x32 : Shape := ⟨3, ![2048, 1, 32]⟩
abbrev S2048x16x32 : Shape := ⟨3, ![2048, 16, 32]⟩
abbrev S2048x16x128 : Shape := ⟨3, ![2048, 16, 128]⟩
abbrev S2048x16x192 : Shape := ⟨3, ![2048, 16, 192]⟩
abbrev S2048x16x256 : Shape := ⟨3, ![2048, 16, 256]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x2048x2048 : Shape := ⟨3, ![1, 2048, 2048]⟩
abbrev S16x2048 : Shape := ⟨2, ![16, 2048]⟩
abbrev S16x2048x1 : Shape := ⟨3, ![16, 2048, 1]⟩
abbrev S16x128x2048 : Shape := ⟨3, ![16, 128, 2048]⟩
abbrev S16x2048x192 : Shape := ⟨3, ![16, 2048, 192]⟩
abbrev S2048x8x128 : Shape := ⟨3, ![2048, 8, 128]⟩
abbrev S8x2048x128 : Shape := ⟨3, ![8, 2048, 128]⟩

abbrev nBuf : Space → Nat
  | .hbm => 166
  | .vmem => 0
  | .smem => 0
  | _ => 0

abbrev hbmTy0_0 (i : Nat) : BufTy := match i % 128 with
  | 0 => ⟨S2048x2048, .bf16⟩
  | 1 => ⟨S2048x1024, .bf16⟩
  | 2 => ⟨S2048x4096, .bf16⟩
  | 3 => ⟨S2048x64, .bf16⟩
  | 4 => ⟨S2048x32, .f32⟩
  | 5 => ⟨S2048x32, .f32⟩
  | 6 => ⟨S2048x2048, .bf16⟩
  | 7 => ⟨S2048x64, .f32⟩
  | 8 => ⟨S2048x32, .f32⟩
  | 9 => ⟨S2048x32, .f32⟩
  | 10 => ⟨S2048x32, .f32⟩
  | 11 => ⟨S2048x32, .f32⟩
  | 12 => ⟨S2048x32, .f32⟩
  | 13 => ⟨S2048x32, .f32⟩
  | 14 => ⟨S2048x32, .f32⟩
  | 15 => ⟨S2048x32, .f32⟩
  | 16 => ⟨S2048x64, .f32⟩
  | 17 => ⟨S2048x1x64, .f32⟩
  | 18 => ⟨S2048x16x64, .f32⟩
  | 19 => ⟨S2048x2048, .f32⟩
  | 20 => ⟨S2048x1024, .f32⟩
  | 21 => ⟨S2048x4096, .f32⟩
  | 22 => ⟨S2048x16x64, .f32⟩
  | 23 => ⟨S2048x1x32, .f32⟩
  | 24 => ⟨S2048x1x32, .f32⟩
  | 25 => ⟨S2048x16x32, .f32⟩
  | 26 => ⟨S2048x16x32, .f32⟩
  | 27 => ⟨S2048x16x32, .f32⟩
  | 28 => ⟨S2048x16x32, .f32⟩
  | 29 => ⟨S2048x16x32, .f32⟩
  | 30 => ⟨S2048x16x32, .f32⟩
  | 31 => ⟨S2048x16x32, .f32⟩
  | 32 => ⟨S2048x16x32, .f32⟩
  | 33 => ⟨S2048x16x32, .f32⟩
  | 34 => ⟨S2048x16x32, .f32⟩
  | 35 => ⟨S2048x16x32, .f32⟩
  | 36 => ⟨S2048x16x32, .f32⟩
  | 37 => ⟨S2048x16x64, .f32⟩
  | 38 => ⟨S2048x16x128, .f32⟩
  | 39 => ⟨S2048x16x192, .f32⟩
  | 40 => ⟨S2048x16x256, .f32⟩
  | 41 => ⟨S2048x16x128, .f32⟩
  | 42 => ⟨S2048x16x192, .f32⟩
  | 43 => ⟨S16x2048x2048, .f32⟩
  | 44 => ⟨S_, .f32⟩
  | 45 => ⟨S16x2048x2048, .f32⟩
  | 46 => ⟨S16x2048x2048, .f32⟩
  | 47 => ⟨S2048, .i32⟩
  | 48 => ⟨S1x2048, .i32⟩
  | 49 => ⟨S2048x1, .i32⟩
  | 50 => ⟨S2048x2048, .i32⟩
  | 51 => ⟨S2048x2048, .i32⟩
  | 52 => ⟨S2048x2048, .i1⟩
  | 53 => ⟨S1x2048x2048, .i1⟩
  | 54 => ⟨S_, .f32⟩
  | 55 => ⟨S_, .f32⟩
  | 56 => ⟨S16x2048x2048, .i1⟩
  | 57 => ⟨S16x2048x2048, .f32⟩
  | 58 => ⟨S16x2048x2048, .f32⟩
  | 59 => ⟨S_, .f32⟩
  | 60 => ⟨S16x2048x2048, .f32⟩
  | 61 => ⟨S2048x16x256, .f32⟩
  | 62 => ⟨S2048x16x128, .f32⟩
  | 63 => ⟨S_, .f32⟩
  | 64 => ⟨S16x2048, .f32⟩
  | 65 => ⟨S16x2048x1, .f32⟩
  | 66 => ⟨S16x2048x2048, .f32⟩
  | 67 => ⟨S16x2048x2048, .i1⟩
  | 68 => ⟨S16x2048x2048, .f32⟩
  | 69 => ⟨S_, .f32⟩
  | 70 => ⟨S16x2048, .f32⟩
  | 71 => ⟨S_, .f32⟩
  | 72 => ⟨S16x2048, .f32⟩
  | 73 => ⟨S16x2048, .f32⟩
  | 74 => ⟨S_, .f32⟩
  | 75 => ⟨S16x2048, .f32⟩
  | 76 => ⟨S16x2048, .i1⟩
  | 77 => ⟨S_, .f32⟩
  | 78 => ⟨S16x2048, .f32⟩
  | 79 => ⟨S16x2048, .i1⟩
  | 80 => ⟨S_, .f32⟩
  | 81 => ⟨S16x2048, .f32⟩
  | 82 => ⟨S_, .f32⟩
  | 83 => ⟨S16x2048, .f32⟩
  | 84 => ⟨S_, .f32⟩
  | 85 => ⟨S16x2048, .f32⟩
  | 86 => ⟨S16x2048, .f32⟩
  | 87 => ⟨S16x2048, .f32⟩
  | 88 => ⟨S16x2048x1, .f32⟩
  | 89 => ⟨S16x2048x2048, .f32⟩
  | 90 => ⟨S16x2048x2048, .f32⟩
  | 91 => ⟨S16x2048x2048, .f32⟩
  | 92 => ⟨S_, .f32⟩
  | 93 => ⟨S16x2048, .f32⟩
  | 94 => ⟨S16x2048x1, .f32⟩
  | 95 => ⟨S16x2048x2048, .f32⟩
  | 96 => ⟨S16x2048x2048, .f32⟩
  | 97 => ⟨S16x2048x1, .f32⟩
  | 98 => ⟨S_, .f32⟩
  | 99 => ⟨S16x2048x1, .f32⟩
  | 100 => ⟨S16x2048x1, .f32⟩
  | 101 => ⟨S16x128x2048, .f32⟩
  | 102 => ⟨S2048x16x128, .f32⟩
  | 103 => ⟨S2048x2048, .f32⟩
  | 104 => ⟨S2048x2048, .f32⟩
  | 105 => ⟨S2048x16x128, .f32⟩
  | 106 => ⟨S16x128x2048, .f32⟩
  | 107 => ⟨S16x2048x2048, .f32⟩
  | 108 => ⟨S16x128x2048, .f32⟩
  | 109 => ⟨S2048x16x128, .f32⟩
  | 110 => ⟨S16x2048x2048, .f32⟩
  | 111 => ⟨S16x2048x2048, .f32⟩
  | 112 => ⟨S16x2048x2048, .f32⟩
  | 113 => ⟨S_, .f32⟩
  | 114 => ⟨S16x2048, .f32⟩
  | 115 => ⟨S16x2048x1, .f32⟩
  | 116 => ⟨S16x2048x1, .f32⟩
  | 117 => ⟨S16x2048x2048, .f32⟩
  | 118 => ⟨S16x2048x2048, .f32⟩
  | 119 => ⟨S_, .f32⟩
  | 120 => ⟨S16x2048, .f32⟩
  | 121 => ⟨S16x2048x2048, .f32⟩
  | 122 => ⟨S16x2048x2048, .f32⟩
  | 123 => ⟨S16x2048x2048, .f32⟩
  | 124 => ⟨S_, .f32⟩
  | 125 => ⟨S2048x16x256, .f32⟩
  | 126 => ⟨S2048x4096, .f32⟩
  | 127 => ⟨S_, .f32⟩
  | _ => ⟨S2048x2048, .bf16⟩

abbrev hbmTy0_1 (i : Nat) : BufTy := match i % 128 with
  | 0 => ⟨S16x2048x2048, .f32⟩
  | 1 => ⟨S16x2048x2048, .f32⟩
  | 2 => ⟨S_, .f32⟩
  | 3 => ⟨S16x2048x2048, .f32⟩
  | 4 => ⟨S16x2048x2048, .f32⟩
  | 5 => ⟨S16x2048x192, .f32⟩
  | 6 => ⟨S2048x16x192, .f32⟩
  | 7 => ⟨S16x2048x192, .f32⟩
  | 8 => ⟨S2048x16x192, .f32⟩
  | 9 => ⟨S2048x16x128, .f32⟩
  | 10 => ⟨S2048x16x64, .f32⟩
  | 11 => ⟨S_, .f32⟩
  | 12 => ⟨S2048x16x256, .f32⟩
  | 13 => ⟨S2048x4096, .f32⟩
  | 14 => ⟨S2048x4096, .f32⟩
  | 15 => ⟨S2048x16x128, .f32⟩
  | 16 => ⟨S2048x16x64, .f32⟩
  | 17 => ⟨S2048x2048, .f32⟩
  | 18 => ⟨S2048x16x32, .f32⟩
  | 19 => ⟨S2048x16x32, .f32⟩
  | 20 => ⟨S2048x16x32, .f32⟩
  | 21 => ⟨S2048x16x32, .f32⟩
  | 22 => ⟨S2048x16x32, .f32⟩
  | 23 => ⟨S2048x16x32, .f32⟩
  | 24 => ⟨S2048x16x32, .f32⟩
  | 25 => ⟨S2048x16x32, .f32⟩
  | 26 => ⟨S2048x16x32, .f32⟩
  | 27 => ⟨S2048x16x32, .f32⟩
  | 28 => ⟨S2048x16x32, .f32⟩
  | 29 => ⟨S2048x16x32, .f32⟩
  | 30 => ⟨S2048x16x32, .f32⟩
  | 31 => ⟨S2048x16x64, .f32⟩
  | 32 => ⟨S2048x1024, .f32⟩
  | 33 => ⟨S2048x2048, .bf16⟩
  | 34 => ⟨S2048x1024, .bf16⟩
  | 35 => ⟨S2048x4096, .bf16⟩
  | 36 => ⟨S2048x8x128, .f32⟩
  | 37 => ⟨S8x2048x128, .f32⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_0 : Ref sig .tc := ⟨.hbm, 54, rfl⟩
abbrev main_call0_v0 : Ref sig .tc := ⟨.hbm, 55, rfl⟩
abbrev main_v46_1 : Ref sig .tc := ⟨.hbm, 56, rfl⟩
abbrev main_call0_v2 : Ref sig .tc := ⟨.hbm, 57, rfl⟩
abbrev main_v46_0 : Ref sig .tc := ⟨.hbm, 58, rfl⟩
abbrev main_call0_cst : Ref sig .tc := ⟨.hbm, 59, rfl⟩
abbrev main_v46_2 : Ref sig .tc := ⟨.hbm, 60, rfl⟩
abbrev main_v47 : Ref sig .tc := ⟨.hbm, 61, rfl⟩
abbrev main_v48 : Ref sig .tc := ⟨.hbm, 62, rfl⟩
abbrev main_cst_1 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_2 : Ref sig .tc := ⟨.hbm, 69, rfl⟩
abbrev main_v54 : Ref sig .tc := ⟨.hbm, 70, rfl⟩
abbrev main_cst_3 : Ref sig .tc := ⟨.hbm, 71, rfl⟩
abbrev main_v55 : Ref sig .tc := ⟨.hbm, 72, rfl⟩
abbrev main_v56 : Ref sig .tc := ⟨.hbm, 73, rfl⟩
abbrev main_cst_4 : Ref sig .tc := ⟨.hbm, 74, rfl⟩
abbrev main_v57 : Ref sig .tc := ⟨.hbm, 75, rfl⟩
abbrev main_v58 : Ref sig .tc := ⟨.hbm, 76, rfl⟩
abbrev main_cst_5 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_10 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_11 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_12 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_13 : Ref sig .tc := ⟨.hbm, 124, rfl⟩
abbrev main_v98 : Ref sig .tc := ⟨.hbm, 125, rfl⟩
abbrev main_v99 : Ref sig .tc := ⟨.hbm, 126, rfl⟩
abbrev main_call1_cst : Ref sig .tc := ⟨.hbm, 127, rfl⟩
abbrev main_call1_v0 : Ref sig .tc := ⟨.hbm, 128, rfl⟩
abbrev main_v100 : Ref sig .tc := ⟨.hbm, 129, rfl⟩
abbrev main_cst_14 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_15 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩

abbrev nD : Nat := 1
abbrev τ : Topo := Topo.v7x

variable {F : FTy → Type} [FloatOps F]
-- ==== DownW.lean ====
abbrev S2048x5632 : Shape := ⟨2, ![2048, 5632]⟩
abbrev S5632x2048 : Shape := ⟨2, ![5632, 2048]⟩
abbrev S2048x2048 : Shape := ⟨2, ![2048, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .bf16⟩
  | .hbm, ⟨3, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .bf16⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownX.lean ====
abbrev S2048x5632 : Shape := ⟨2, ![2048, 5632]⟩
abbrev S5632x2048 : Shape := ⟨2, ![5632, 2048]⟩
abbrev S2048x2048 : Shape := ⟨2, ![2048, 2048]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .bf16⟩
  | .hbm, ⟨3, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .bf16⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S2048x5632, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpW.lean ====
abbrev S2048x2048 : Shape := ⟨2, ![2048, 2048]⟩
abbrev S2048x11264 : Shape := ⟨2, ![2048, 11264]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 9
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .hbm, ⟨3, _⟩ => ⟨S2048x5632, .bf16⟩
  | .hbm, ⟨4, _⟩ => ⟨S2048x5632, .bf16⟩
  | .hbm, ⟨5, _⟩ => ⟨S1x2048x5632, .bf16⟩
  | .hbm, ⟨6, _⟩ => ⟨S1x2048x5632, .bf16⟩
  | .hbm, ⟨7, _⟩ => ⟨S2x2048x5632, .bf16⟩
  | .hbm, ⟨8, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S2048x2048 : Shape := ⟨2, ![2048, 2048]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x2048, .f32⟩
  | .hbm, ⟨10, _⟩ => ⟨S2048x8x1408, .f32⟩
  | .hbm, ⟨11, _⟩ => ⟨S8x2048x1408, .f32⟩
  | .hbm, ⟨12, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== UpX.lean ====
abbrev S2048x2048 : Shape := ⟨2, ![2048, 2048]⟩
abbrev S2048x11264 : Shape := ⟨2, ![2048, 11264]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S2048x8x1408 : Shape := ⟨3, ![2048, 8, 1408]⟩
abbrev S8x2048x1408 : Shape := ⟨3, ![8, 2048, 1408]⟩
abbrev S4x2x2048x1408 : Shape := ⟨4, ![4, 2, 2048, 1408]⟩
abbrev S1x1024x2816 : Shape := ⟨3, ![1, 1024, 2816]⟩
abbrev S1x2x1024x1408 : Shape := ⟨4, ![1, 2, 1024, 1408]⟩
abbrev S1024x1024 : Shape := ⟨2, ![1024, 1024]⟩
abbrev S1x1024x1408 : Shape := ⟨3, ![1, 1024, 1408]⟩
abbrev S1024x1408 : Shape := ⟨2, ![1024, 1408]⟩
abbrev S1x1x1024x1408 : Shape := ⟨4, ![1, 1, 1024, 1408]⟩

abbrev nBuf : Space → Nat
  | .hbm => 12
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .hbm, ⟨3, _⟩ => ⟨S2048x5632, .bf16⟩
  | .hbm, ⟨4, _⟩ => ⟨S2048x5632, .bf16⟩
  | .hbm, ⟨5, _⟩ => ⟨S1x2048x5632, .bf16⟩
  | .hbm, ⟨6, _⟩ => ⟨S1x2048x5632, .bf16⟩
  | .hbm, ⟨7, _⟩ => ⟨S2x2048x5632, .bf16⟩
  | .hbm, ⟨8, _⟩ => ⟨S2048x8x1408, .bf16⟩
  | .hbm, ⟨9, _⟩ => ⟨S8x2048x1408, .bf16⟩
  | .hbm, ⟨10, _⟩ => ⟨S4x2x2048x1408, .bf16⟩
  | .hbm, ⟨11, _⟩ => ⟨S2048x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1x2x1024x1408, .bf16⟩
  | .local _ .vmem, ⟨3, _⟩ => ⟨S1x2x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_18 : BitVec 32 := 0#32
  let v23 : BitVec 1 := Scalar.cmpi .ne v22 c0_i32_18
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpXRefIdeal.lean ====
abbrev S2048x2048 : Shape := ⟨2, ![2048, 2048]⟩
abbrev S2048x11264 : Shape := ⟨2, ![2048, 11264]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InW.lean ====
abbrev S2048x2048 : Shape := ⟨2, ![2048, 2048]⟩
abbrev S2048x9024 : Shape := ⟨2, ![2048, 9024]⟩
abbrev S_ : Shape := ⟨0, ![]⟩
abbrev S2048x192 : Shape := ⟨2, ![2048, 192]⟩
abbrev S2048x4864 : Shape := ⟨2, ![2048, 4864]⟩
abbrev S2048x4096 : Shape := ⟨2, ![2048, 4096]⟩
abbrev S2048x64 : Shape := ⟨2, ![2048, 64]⟩
abbrev S2048x9216 : Shape := ⟨2, ![2048, 9216]⟩
abbrev S9216x2048 : Shape := ⟨2, ![9216, 2048]⟩
abbrev S2048x1024 : Shape := ⟨2, ![2048, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x9024, .bf16⟩
  | .hbm, ⟨2, _⟩ => ⟨S2048x9024, .bf16⟩
  | .hbm, ⟨3, _⟩ => ⟨S_, .bf16⟩
  | .hbm, ⟨4, _⟩ => ⟨S2048x192, .bf16⟩
  | .hbm, ⟨5, _⟩ => ⟨S2048x4864, .bf16⟩
  | .hbm, ⟨6, _⟩ => ⟨S2048x4096, .bf16⟩
  | .hbm, ⟨7, _⟩ => ⟨S2048x64, .bf16⟩
  | .hbm, ⟨8, _⟩ => ⟨S2048x9216, .bf16⟩
  | .hbm, ⟨9, _⟩ => ⟨S9216x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S2048x2048 : Shape := ⟨2, ![2048, 2048]⟩
abbrev S2048x9024 : Shape := ⟨2, ![2048, 9024]⟩
abbrev S9024x2048 : Shape := ⟨2, ![9024, 2048]⟩
abbrev S2048x4864 : Shape := ⟨2, ![2048, 4864]⟩
abbrev S2048x64 : Shape := ⟨2, ![2048, 64]⟩
abbrev S2048x4096 : Shape := ⟨2, ![2048, 4096]⟩
abbrev S_ : Shape := ⟨0, ![]⟩
abbrev S2048x192 : Shape := ⟨2, ![2048, 192]⟩
abbrev S2048x9216 : Shape := ⟨2, ![2048, 9216]⟩
abbrev S9216x2048 : Shape := ⟨2, ![9216, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x9024, .bf16⟩
  | .hbm, ⟨2, _⟩ => ⟨S2048x9024, .bf16⟩
  | .hbm, ⟨3, _⟩ => ⟨S2048x2048, .f32⟩
  | .hbm, ⟨4, _⟩ => ⟨S2048x9024, .f32⟩
  | .hbm, ⟨5, _⟩ => ⟨S2048x9024, .f32⟩
  | .hbm, ⟨6, _⟩ => ⟨S2048x9024, .f32⟩
  | .hbm, ⟨7, _⟩ => ⟨S9024x2048, .f32⟩
  | .hbm, ⟨8, _⟩ => ⟨S2048x9024, .f32⟩
  | .hbm, ⟨9, _⟩ => ⟨S2048x2048, .f32⟩
  | .hbm, ⟨10, _⟩ => ⟨S2048x4864, .f32⟩
  | .hbm, ⟨11, _⟩ => ⟨S2048x64, .f32⟩
  | .hbm, ⟨12, _⟩ => ⟨S2048x4096, .f32⟩
  | .hbm, ⟨13, _⟩ => ⟨S_, .f32⟩
  | .hbm, ⟨14, _⟩ => ⟨S2048x192, .f32⟩
  | .hbm, ⟨15, _⟩ => ⟨S2048x9216, .f32⟩
  | .hbm, ⟨16, _⟩ => ⟨S9216x2048, .f32⟩
  | .hbm, ⟨17, _⟩ => ⟨S9216x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== InX.lean ====
abbrev S2048x2048 : Shape := ⟨2, ![2048, 2048]⟩
abbrev S2048x9024 : Shape := ⟨2, ![2048, 9024]⟩
abbrev S_ : Shape := ⟨0, ![]⟩
abbrev S2048x192 : Shape := ⟨2, ![2048, 192]⟩
abbrev S2048x4864 : Shape := ⟨2, ![2048, 4864]⟩
abbrev S2048x4096 : Shape := ⟨2, ![2048, 4096]⟩
abbrev S2048x64 : Shape := ⟨2, ![2048, 64]⟩
abbrev S2048x9216 : Shape := ⟨2, ![2048, 9216]⟩
abbrev S9216x2048 : Shape := ⟨2, ![9216, 2048]⟩
abbrev S1024x2304 : Shape := ⟨2, ![1024, 2304]⟩
abbrev S2304x1024 : Shape := ⟨2, ![2304, 1024]⟩
abbrev S1024x1024 : Shape := ⟨2, ![1024, 1024]⟩

abbrev nBuf : Space → Nat
  | .hbm => 17
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x9024, .bf16⟩
  | .hbm, ⟨2, _⟩ => ⟨S2048x9024, .bf16⟩
  | .hbm, ⟨3, _⟩ => ⟨S_, .bf16⟩
  | .hbm, ⟨4, _⟩ => ⟨S2048x192, .bf16⟩
  | .hbm, ⟨5, _⟩ => ⟨S2048x4864, .bf16⟩
  | .hbm, ⟨6, _⟩ => ⟨S2048x4096, .bf16⟩
  | .hbm, ⟨7, _⟩ => ⟨S2048x64, .bf16⟩
  | .hbm, ⟨8, _⟩ => ⟨S2048x9216, .bf16⟩
  | .hbm, ⟨9, _⟩ => ⟨S_, .bf16⟩
  | .hbm, ⟨10, _⟩ => ⟨S2048x192, .bf16⟩
  | .hbm, ⟨11, _⟩ => ⟨S2048x4864, .bf16⟩
  | .hbm, ⟨12, _⟩ => ⟨S2048x4096, .bf16⟩
  | .hbm, ⟨13, _⟩ => ⟨S2048x64, .bf16⟩
  | .hbm, ⟨14, _⟩ => ⟨S2048x9216, .bf16⟩
  | .hbm, ⟨15, _⟩ => ⟨S9216x2048, .bf16⟩
  | .hbm, ⟨16, _⟩ => ⟨S2048x2048, .bf16⟩
  | .local _ .vmem, ⟨0, _⟩ => ⟨S1024x2304, .bf16⟩
  | .local _ .vmem, ⟨1, _⟩ => ⟨S1024x2304, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXRefIdeal.lean ====
abbrev S2048x2048 : Shape := ⟨2, ![2048, 2048]⟩
abbrev S2048x9024 : Shape := ⟨2, ![2048, 9024]⟩
abbrev S9024x2048 : Shape := ⟨2, ![9024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x9024, .bf16⟩
  | .hbm, ⟨2, _⟩ => ⟨S2048x9024, .bf16⟩
  | .hbm, ⟨3, _⟩ => ⟨S2048x2048, .f32⟩
  | .hbm, ⟨4, _⟩ => ⟨S2048x9024, .f32⟩
  | .hbm, ⟨5, _⟩ => ⟨S2048x9024, .f32⟩
  | .hbm, ⟨6, _⟩ => ⟨S2048x9024, .f32⟩
  | .hbm, ⟨7, _⟩ => ⟨S9024x2048, .f32⟩
  | .hbm, ⟨8, _⟩ => ⟨S2048x9024, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutW.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutX.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownF.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpF.lean ====
abbrev S2048x2048 : Shape := ⟨2, ![2048, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x8x1408, .bf16⟩
  | .hbm, ⟨3, _⟩ => ⟨S8x2048x1408, .bf16⟩
  | .hbm, ⟨4, _⟩ => ⟨S2048x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFRefIdeal.lean ====
abbrev S2048x2048 : Shape := ⟨2, ![2048, 2048]⟩
abbrev S2048x11264 : Shape := ⟨2, ![2048, 11264]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .f32⟩
  | .hbm, ⟨3, _⟩ => ⟨S2048x11264, .f32⟩
  | .hbm, ⟨4, _⟩ => ⟨S2048x11264, .f32⟩
  | .hbm, ⟨5, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InF.lean ====
abbrev S2048x2048 : Shape := ⟨2, ![2048, 2048]⟩
abbrev S2048x9024 : Shape := ⟨2, ![2048, 9024]⟩
abbrev S_ : Shape := ⟨0, ![]⟩
abbrev S2048x192 : Shape := ⟨2, ![2048, 192]⟩
abbrev S2048x4864 : Shape := ⟨2, ![2048, 4864]⟩
abbrev S2048x4096 : Shape := ⟨2, ![2048, 4096]⟩
abbrev S2048x64 : Shape := ⟨2, ![2048, 64]⟩
abbrev S2048x9216 : Shape := ⟨2, ![2048, 9216]⟩
abbrev S9216x2048 : Shape := ⟨2, ![9216, 2048]⟩
abbrev S1024x2048 : Shape := ⟨2, ![1024, 2048]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x9024, .bf16⟩
  | .hbm, ⟨2, _⟩ => ⟨S_, .bf16⟩
  | .hbm, ⟨3, _⟩ => ⟨S2048x192, .bf16⟩
  | .hbm, ⟨4, _⟩ => ⟨S2048x4864, .bf16⟩
  | .hbm, ⟨5, _⟩ => ⟨S2048x4096, .bf16⟩
  | .hbm, ⟨6, _⟩ => ⟨S2048x64, .bf16⟩
  | .hbm, ⟨7, _⟩ => ⟨S2048x9216, .bf16⟩
  | .hbm, ⟨8, _⟩ => ⟨S9216x2048, .bf16⟩
  | .hbm, ⟨9, _⟩ => ⟨S2048x9216, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFRefIdeal.lean ====
abbrev S2048x2048 : Shape := ⟨2, ![2048, 2048]⟩
abbrev S2048x9024 : Shape := ⟨2, ![2048, 9024]⟩
abbrev S2048x4864 : Shape := ⟨2, ![2048, 4864]⟩
abbrev S2048x64 : Shape := ⟨2, ![2048, 64]⟩
abbrev S2048x4096 : Shape := ⟨2, ![2048, 4096]⟩
abbrev S_ : Shape := ⟨0, ![]⟩
abbrev S2048x192 : Shape := ⟨2, ![2048, 192]⟩
abbrev S2048x9216 : Shape := ⟨2, ![2048, 9216]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x9024, .bf16⟩
  | .hbm, ⟨2, _⟩ => ⟨S2048x2048, .f32⟩
  | .hbm, ⟨3, _⟩ => ⟨S2048x9024, .f32⟩
  | .hbm, ⟨4, _⟩ => ⟨S2048x9024, .f32⟩
  | .hbm, ⟨5, _⟩ => ⟨S2048x4864, .f32⟩
  | .hbm, ⟨6, _⟩ => ⟨S2048x64, .f32⟩
  | .hbm, ⟨7, _⟩ => ⟨S2048x4096, .f32⟩
  | .hbm, ⟨8, _⟩ => ⟨S_, .f32⟩
  | .hbm, ⟨9, _⟩ => ⟨S2048x192, .f32⟩
  | .hbm, ⟨10, _⟩ => ⟨S2048x9216, .f32⟩
  | .hbm, ⟨11, _⟩ => ⟨S2048x9216, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutF.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFRefIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.ConvMath.lean ====
module
public import Idealize.ShloMosaic.Lib.Pointwise
public import Idealize.ShloMosaic.PureOps.Ideal
public import Idealize.ShloMosaic.PureOps.Ideal.Laws

/-! # The gated convolution's backward pass: the mathematics of one column

A column of the sequence is a function of its 2048 positions. The gradient of a three-tap causal convolution moves a
column up by one and by two positions; the gradient of `silu(gate) · value` is written twice, once with the sigmoid as
`½·tanh(½x)+½` and the factors collected, once as the chain rule leaves it. -/

@[expose] public section

noncomputable section

namespace Cert.ConvMath

open Idealize.ShloMosaic

/-- A column: one extended real per position. -/
abbrev Col := Fin 2048 → EReal

/-- The column moved up by `n`: position `p` holds what position `p + n` held, the last `n` positions zero. -/
def up (n : ℕ) (d : Col) : Col := fun p => if h : (p : ℕ) + n < 2048 then d ⟨p + n, h⟩ else 0

/-- The column moved down by `n`, the first `n` positions zero. -/
def down (n : ℕ) (x : Col) : Col := fun p => if (p : ℕ) < n then 0 else x ⟨p - n, by omega⟩

/-- Moving by nothing. -/
theorem up_zero (d : Col) : up 0 d = d := by
  funext p
  unfold up
  rw [dif_pos (by omega)]
  rfl

/-- The convolution's output at one position: three taps and a bias. -/
def conv (w : Fin 3 → EReal) (b : EReal) (x : Col) (p : Fin 2048) : EReal :=
  w 0 * down 2 x p + w 1 * down 1 x p + w 2 * x p + b

/-- The gradient of the convolution's input at one position. -/
def du (w : Fin 3 → EReal) (d : Col) (p : Fin 2048) : EReal := w 2 * d p + w 1 * up 1 d p + w 0 * up 2 d p

/-- The gradient of tap `r` of the convolution. -/
def dw (d x : Col) (r : Fin 3) : EReal := ∑ p, up (2 - r) d p * x p

/-- Moving the gradient up or the input down gives the same sum of products. -/
theorem sum_up_mul (n : ℕ) (d x : Col) : ∑ p, up n d p * x p = ∑ p, d p * down n x p := by
  have hl : ∀ p, up n d p * x p = ∑ q : Fin 2048, if (q : ℕ) = p + n then d q * x p else 0 := by
    intro p
    unfold up
    by_cases h : (p : ℕ) + n < 2048
    · rw [dif_pos h, Finset.sum_eq_single ⟨p + n, h⟩]
      · simp
      · intro q _ hq
        rw [if_neg]
        intro hh
        exact hq (Fin.ext hh)
      · simp
    · rw [dif_neg h, zero_mul, Finset.sum_eq_zero]
      intro q _
      rw [if_neg]
      omega
  have hr : ∀ q, d q * down n x q = ∑ p : Fin 2048, if (q : ℕ) = p + n then d q * x p else 0 := by
    intro q
    unfold down
    by_cases h : (q : ℕ) < n
    · rw [if_pos h, mul_zero, Finset.sum_eq_zero]
      intro p _
      rw [if_neg]
      omega
    · rw [if_neg h, Finset.sum_eq_single ⟨q - n, by omega⟩]
      · rw [if_pos]
        show (q : ℕ) = q - n + n
        omega
      · intro p _ hp
        rw [if_neg]
        intro hh
        exact hp (Fin.ext (by show (p : ℕ) = q - n; omega))
      · simp
  simp only [hl, hr]
  exact Finset.sum_comm

/-- The word of one half. -/
abbrev half : EReal := Ideal.ofBits FTy.f32 1056964608#32

theorem half_eq : half = ((1 / 2 : ℝ) : EReal) := by
  simp [half, Ideal.ofBits, Ideal.ieee, -EReal.coe_mul]
  norm_num

/-- The sigmoid, by the hyperbolic tangent. -/
def sg (g : EReal) : EReal := half * Ideal.tanh (half * g) + half

/-- The gradient of the gate: `ct · value · silu'(gate)`, the factors collected. -/
def dgate (f v g : EReal) : EReal := f * v * (sg g * (1 + g * (1 - sg g)))

/-- The gradient of the value: `ct · silu(gate)`. -/
def dval (f g : EReal) : EReal := f * (g * sg g)

/-- The sigmoid as the logistic function. -/
def lg (g : EReal) : EReal := Ideal.div 1 (1 + Ideal.exp (-g))

theorem lg_coe (x : ℝ) : lg (x : EReal) = ((1 / (1 + Real.exp (-x)) : ℝ) : EReal) := by
  have h : (1 + Real.exp (-x) : ℝ) ≠ 0 := by positivity
  show Ideal.div ((1 : ℝ) : EReal) ((1 : ℝ) + ((Real.exp (-x) : ℝ) : EReal)) = _
  rw [← EReal.coe_add, Ideal.div_coe h, ← EReal.coe_mul, one_mul]

/-- Both forms of the sigmoid agree at a real number. -/
theorem sg_coe (x : ℝ) : sg (x : EReal) = lg (x : EReal) := by
  rw [lg_coe]
  unfold sg
  rw [half_eq, ← EReal.coe_mul]
  show ((1 / 2 : ℝ) : EReal) * ((Real.tanh (1 / 2 * x) : ℝ) : EReal) + _ = _
  rw [← EReal.coe_mul, ← EReal.coe_add]
  congr 1
  have e : Real.exp (-x) = Real.exp (-(1 / 2 * x)) * Real.exp (-(1 / 2 * x)) := by
    rw [← Real.exp_add]; congr 1; ring
  have e1 : Real.exp (1 / 2 * x) * Real.exp (-(1 / 2 * x)) = 1 := by
    rw [← Real.exp_add, add_neg_cancel, Real.exp_zero]
  rw [Real.tanh_eq_sinh_div_cosh, Real.sinh_eq, Real.cosh_eq, e]
  have hp := Real.exp_pos (1 / 2 * x)
  have hn := Real.exp_pos (-(1 / 2 * x))
  generalize Real.exp (1 / 2 * x) = a at *
  generalize Real.exp (-(1 / 2 * x)) = b at *
  have h1 : a + b ≠ 0 := by positivity
  have h2 : 1 + b * b ≠ 0 := by positivity
  field_simp
  nlinarith

/-- The gate's gradient, collected, is the chain rule's two terms at real numbers. -/
theorem dgate_coe (f v g : ℝ) :
    dgate (f : EReal) v g = (f : EReal) * v * lg g + g * ((f : EReal) * v) * (lg g * (1 - lg g)) := by
  unfold dgate
  rw [sg_coe, lg_coe]
  generalize (1 / (1 + Real.exp (-g)) : ℝ) = s
  have h1 : (1 : EReal) = ((1 : ℝ) : EReal) := rfl
  simp only [h1, ← EReal.coe_mul, ← EReal.coe_sub, ← EReal.coe_add]
  congr 1
  ring

end Cert.ConvMath
end
-- ==== Proof.ConvRef.lean ====
module
public import proofs.«01_k».proof.Proof.Gen.ConvRefIdeal.Read
public import proofs.«01_k».proof.Proof.ConvMath

/-! # The reference's five results, column by column

The gradient `val_main_v37` with respect to the convolution's output is kept closed here: every result is a column
function of it (`ConvMath.du`, `ConvMath.dw`, a plain sum). -/

@[expose] public section
set_option maxRecDepth 16384
noncomputable section
namespace Cert.ConvRefIdeal.Columns
open Cert.ConvRefIdeal Cert.ConvRefIdeal.Value Cert.ConvRefIdeal.Read Cert.ConvMath
open Idealize.ShloMosaic Idealize.ShloMosaic.TcCoe Idealize.SL.Sem

variable (x0 : FVec Ideal S2048x11264 .bf16) (x1 : FVec Ideal S3x11264 .f32) (x2 : FVec Ideal S11264 .f32) (x3 : FVec Ideal S2048x5632 .bf16)

/-- Column `q` of the gradient with respect to the convolution's output. -/
def D (q : Fin 11264) : Col := fun p => val_main_v37 (F := Ideal) x0 x1 x2 x3 (ix2 p q)

/-- The gate's half of that gradient: the chain rule's two terms. -/
theorem D_gate (p : Fin 2048) (j : Fin 5632) :
    D x0 x1 x2 x3 ⟨j, by omega⟩ p
      = x3 (ix2 p j) * val_main_v28 (F := Ideal) x0 x1 x2 (ix2 p ⟨5632 + j, by omega⟩) * lg (val_main_v28 (F := Ideal) x0 x1 x2 (ix2 p ⟨j, by omega⟩))
        + val_main_v28 (F := Ideal) x0 x1 x2 (ix2 p ⟨j, by omega⟩) * (x3 (ix2 p j) * val_main_v28 (F := Ideal) x0 x1 x2 (ix2 p ⟨5632 + j, by omega⟩))
          * (lg (val_main_v28 (F := Ideal) x0 x1 x2 (ix2 p ⟨j, by omega⟩)) * (1 - lg (val_main_v28 (F := Ideal) x0 x1 x2 (ix2 p ⟨j, by omega⟩)))) := by
  unfold D
  pointwise [val_main_v37, val_main_v36, val_main_v34, val_main_call1_v0, val_main_call1_v1, val_main_call1_v2, val_main_v35, val_main_v33, val_main_v31_0, val_main_v31_1, val_main_v31_2, val_main_call0_v0, val_main_call0_v1, val_main_call0_cst, val_main_call0_v2, val_main_call0_v3, val_main_call0_cst_0, val_main_call0_v4, val_main_call0_cst_1, val_main_call0_v6, val_main_call0_v7, val_main_v29, val_main_v30, lg]

/-- The value's half of it. -/
theorem D_value (p : Fin 2048) (j : Fin 5632) :
    D x0 x1 x2 x3 ⟨5632 + j, by omega⟩ p
      = val_main_v28 (F := Ideal) x0 x1 x2 (ix2 p ⟨j, by omega⟩) * lg (val_main_v28 (F := Ideal) x0 x1 x2 (ix2 p ⟨j, by omega⟩)) * x3 (ix2 p j) := by
  unfold D
  pointwise [val_main_v37, val_main_v36, val_main_v34, val_main_call1_v0, val_main_call1_v1, val_main_call1_v2, val_main_v35, val_main_v33, val_main_v31_0, val_main_v31_1, val_main_v31_2, val_main_call0_v0, val_main_call0_v1, val_main_call0_cst, val_main_call0_v2, val_main_call0_v3, val_main_call0_cst_0, val_main_call0_v4, val_main_call0_cst_1, val_main_call0_v6, val_main_call0_v7, val_main_v29, val_main_v30, lg]

/-- The convolution's output: the three taps and the bias. -/
theorem pre (p : Fin 2048) (q : Fin 11264) :
    val_main_v28 (F := Ideal) x0 x1 x2 (ix2 p q)
      = conv (fun r => x1 (ix2 r q)) (x2 (ix1 q)) (fun p => x0 (ix2 p q)) p := by
  unfold conv
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1]
  refine congrArg₂ _ (congrArg₂ _ (congrArg₂ _ rfl (congrArg₂ _ rfl ?_)) rfl) rfl
  unfold down
  by_cases h : (p : ℕ) < 1
  · rw [dif_pos (by omega), if_pos h]
  · rw [dif_neg (by omega), if_neg h]
    congr 2
    exact Fin.ext (by show 1 + (p : ℕ) - 2 = p - 1; omega)

/-- The gradient of the convolution's input. -/
theorem du_eq (p : Fin 2048) (q : Fin 11264) :
    val_main_v73 (F := Ideal) x0 x1 x2 x3 (ix2 p q) = du (fun r => x1 (ix2 r q)) (D x0 x1 x2 x3 q) p := by
  pointwise [val_main_v73, val_main_v68, val_main_v67, val_main_v57, val_main_v47, val_main_v56, val_main_v62, val_main_v61, val_main_v7, val_main_v42, val_main_v51, val_main_v41, val_main_v22, val_main_v50, val_main_v15, val_main_v5, val_main_v13, val_main_v20, val_main_v4, val_main_v12, val_main_v19, val_main_cst_6, val_main_cst_10, val_main_cst_14]
  unfold du up D
  refine congrArg₂ _ (congrArg₂ _ rfl ?_) ?_
  · by_cases h : (p : ℕ) + 1 < 2048
    · rw [dif_pos (by omega), dif_pos h]
      congr 3
      exact Fin.ext (by show 2 + (p : ℕ) - 1 = p + 1; omega)
    · rw [dif_neg (by omega), dif_neg h, mul_zero]
  · by_cases h : (p : ℕ) + 2 < 2048
    · rw [dif_pos (by omega), dif_pos h]
      congr 3
      exact Fin.ext (by show 2 + (p : ℕ) = p + 2; omega)
    · rw [dif_neg (by omega), dif_neg h, mul_zero]

/-- A sum of products with the gradient moved up by two has 2046 terms. -/
theorem sum_up_two (d x : Col) : ∑ p, up 2 d p * x p = ∑ i : Fin 2046, d ⟨2 + i, by omega⟩ * x ⟨i, by omega⟩ := by
  rw [show (∑ p : Fin 2048, up 2 d p * x p) = ∑ p : Fin (2046 + 2), up 2 d p * x p from rfl, Fin.sum_univ_add]
  have hz : ∀ i : Fin 2, up 2 d (Fin.natAdd 2046 i) * x (Fin.natAdd 2046 i) = 0 := by
    intro i
    unfold up
    rw [dif_neg (by show ¬ (2046 + (i : ℕ) + 2 < 2048); omega), zero_mul]
  rw [Finset.sum_eq_zero (s := Finset.univ) (f := fun i : Fin 2 => up 2 d (Fin.natAdd 2046 i) * x (Fin.natAdd 2046 i)) (fun i _ => hz i), add_zero]
  refine Finset.sum_congr rfl fun i _ => ?_
  unfold up
  rw [dif_pos (by show (i : ℕ) + 2 < 2048; omega)]
  congr 2
  ext
  show (i : ℕ) + 2 = 2 + i
  omega

/-- The gradient of the taps. -/
theorem dw_eq (r : Fin 3) (q : Fin 11264) :
    val_main_v71 (F := Ideal) x0 x1 x2 x3 (ix2 r q) = dw (D x0 x1 x2 x3 q) (fun p => x0 (ix2 p q)) r := by
  pointwise [val_main_v71, val_main_v70, val_main_v60, val_main_v59, val_main_v49, val_main_v69, val_main_v58, val_main_v48, val_main_v66, val_main_v65, val_main_v64, val_main_v63, val_main_v55, val_main_v54, val_main_v53, val_main_v52, val_main_v46, val_main_v45, val_main_v44, val_main_v43, val_main_v6, val_main_v14, val_main_v21, val_main_v2, val_main_v1, val_main_v0, val_main_cst, val_main_cst_4, val_main_cst_5, val_main_cst_7, val_main_cst_8, val_main_cst_9, val_main_cst_11, val_main_cst_12, val_main_cst_13, val_main_cst_15]
  unfold dw
  match r with
  | 0 =>
    rw [show ((2 : ℕ) - ((0 : Fin 3) : ℕ)) = 2 from rfl, sum_up_two]
    simp [D]
  | 1 =>
    rw [show ((2 : ℕ) - ((1 : Fin 3) : ℕ)) = 1 from rfl, sum_up_mul]
    simp [D, down]
    refine Finset.sum_congr rfl fun i _ => ?_
    by_cases h : i = 0
    · rw [dif_pos h, if_pos h]
    · rw [dif_neg h, if_neg h]
      congr 3
      exact Fin.ext (by show 1 + (i : ℕ) - 2 = i - 1; omega)
  | 2 =>
    rw [show ((2 : ℕ) - ((2 : Fin 3) : ℕ)) = 0 from rfl, up_zero]
    simp [D]

/-- The gradient of the bias. -/
theorem db_eq (q : Fin 11264) : val_main_v40 (F := Ideal) x0 x1 x2 x3 (ix1 q) = ∑ p, D x0 x1 x2 x3 q p := by
  pointwise [val_main_v40, val_main_v39, val_main_v38, val_main_cst_3, val_main_cst_2]
  simp [D]

/-- The five results, entry by entry. -/
theorem out79 (b : Fin 2) (p : Fin 2048) (j : Fin 5632) : val_main_v79 (F := Ideal) x0 x1 x2 x3 (ix3 b p j)
    = if b = 0 then du (fun r => x1 (ix2 r ⟨j, by omega⟩)) (D x0 x1 x2 x3 ⟨j, by omega⟩) p
      else du (fun r => x1 (ix2 r ⟨5632 + j, by omega⟩)) (D x0 x1 x2 x3 ⟨5632 + j, by omega⟩) p := by
  rw [← du_eq, ← du_eq]
  match b with
  | 0 => pointwise [val_main_v79, val_main_v78, val_main_v77, val_main_v76, val_main_v75, val_main_v74]
  | 1 => pointwise [val_main_v79, val_main_v78, val_main_v77, val_main_v76, val_main_v75, val_main_v74]

theorem out80 (r : Fin 3) (j : Fin 5632) : val_main_v80 (F := Ideal) x0 x1 x2 x3 (ix2 r j)
    = dw (D x0 x1 x2 x3 ⟨j, by omega⟩) (fun p => x0 (ix2 p ⟨j, by omega⟩)) r := by
  rw [← dw_eq]
  pointwise [val_main_v80]

theorem out81 (r : Fin 3) (j : Fin 5632) : val_main_v81 (F := Ideal) x0 x1 x2 x3 (ix2 r j)
    = dw (D x0 x1 x2 x3 ⟨5632 + j, by omega⟩) (fun p => x0 (ix2 p ⟨5632 + j, by omega⟩)) r := by
  rw [← dw_eq]
  pointwise [val_main_v81]

theorem out83 (r : Fin 1) (j : Fin 5632) : val_main_v83 (F := Ideal) x0 x1 x2 x3 (ix2 r j) = ∑ p, D x0 x1 x2 x3 ⟨j, by omega⟩ p := by
  rw [← db_eq]
  pointwise [val_main_v83, val_main_v82]

theorem out85 (r : Fin 1) (j : Fin 5632) : val_main_v85 (F := Ideal) x0 x1 x2 x3 (ix2 r j) = ∑ p, D x0 x1 x2 x3 ⟨5632 + j, by omega⟩ p := by
  rw [← db_eq]
  pointwise [val_main_v85, val_main_v84]

end Cert.ConvRefIdeal.Columns
end
-- ==== Proof.ConvKernel.lean ====
module
public import proofs.«01_k».proof.Proof.Gen.ConvIdeal.Value
public import proofs.«01_k».proof.Proof.ConvMath
public import Idealize.ShloMosaic.Lib.Pipeline.ValueKit
public import Idealize.ShloMosaic.Lib.Claim

/-! # The kernel's five results, column by column

Each grid point holds 256 columns of both halves. What it stores is a column function (`ConvMath.du`, `ConvMath.dw`, a
plain sum) of the gradients `DG`, `DV` that it forms from the convolution's output and the incoming gradient. -/

@[expose] public section
set_option maxRecDepth 16384
noncomputable section
namespace Cert.ConvIdeal.Columns
open Cert.ConvIdeal Cert.ConvIdeal.Gen Cert.ConvMath
open Idealize.ShloMosaic Idealize.ShloMosaic.TcCoe Idealize.SL.Sem
open Idealize.ShloMosaic.Pipeline (Dat)

/-- A select on a comparison of a position with a bound. -/
theorem select_lt {α : Type} (p k : ℕ) (hp : p < 2048) (hk : k < 4096) (a b : α) :
    Scalar.select (IntOp.cmpi .slt (BitVec.ofNat 32 p) (BitVec.ofNat 32 k)) a b = if p < k then a else b := by
  have h : (BitVec.ofNat 32 p).slt (BitVec.ofNat 32 k) = decide (p < k) := by
    rw [BitVec.slt_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  by_cases hpk : p < k <;> simp [Scalar.select, IntOp.cmpi, h, hpk]

/-- A rotation by one with the last position zeroed moves a column up by one. -/
theorem rot_one (d : Col) (p : Fin 2048) (h : ((p : ℕ) + 2048 - 2047) % 2048 < 2048) (f : EReal → EReal) (hf : f 0 = 0) :
    Scalar.select (IntOp.cmpi .slt (BitVec.ofNat 32 (p : ℕ)) 2047#32) (f (d ⟨((p : ℕ) + 2048 - 2047) % 2048, h⟩)) 0 = f (up 1 d p) := by
  rw [show (2047#32 : BitVec 32) = BitVec.ofNat 32 2047 from rfl, select_lt _ _ p.isLt (by omega)]
  unfold up
  by_cases hp : (p : ℕ) < 2047
  · rw [if_pos hp, dif_pos (by omega)]
    congr 3
    omega
  · rw [if_neg hp, dif_neg (by omega), hf]

/-- A rotation by two with the last two positions zeroed moves a column up by two. -/
theorem rot_two (d : Col) (p : Fin 2048) (h : ((p : ℕ) + 2048 - 2046) % 2048 < 2048) (f : EReal → EReal) (hf : f 0 = 0) :
    Scalar.select (IntOp.cmpi .slt (BitVec.ofNat 32 (p : ℕ)) 2046#32) (f (d ⟨((p : ℕ) + 2048 - 2046) % 2048, h⟩)) 0 = f (up 2 d p) := by
  rw [show (2046#32 : BitVec 32) = BitVec.ofNat 32 2046 from rfl, select_lt _ _ p.isLt (by omega)]
  unfold up
  by_cases hp : (p : ℕ) < 2046
  · rw [if_pos hp, dif_pos (by omega)]
    congr 3
    omega
  · rw [if_neg hp, dif_neg (by omega), hf]

section Blocks

variable (x0 x1 : FVec Ideal S2048x256 .bf16) (x2 x3 : FVec Ideal S3x256 .f32) (x4 : FVec Ideal S2x2048x256 .bf16)
  (x5 : FVec Ideal S2048x256 .bf16)

/-- The gate's gradient in column `q` of a block. -/
def dg (q : Fin 256) : Col := fun p => dgate (x5 (ix2 p q)) (x4 (ix3 1 p q)) (x4 (ix3 0 p q))

/-- The value's gradient in column `q` of a block. -/
def dv (q : Fin 256) : Col := fun p => dval (x5 (ix2 p q)) (x4 (ix3 0 p q))

theorem gate2 (q : Fin 256) : k0_pay13 (F := Ideal) (k0_pay27 (F := Ideal) x0 x1 x2 x3 x4 x5) (k0_pay30 (F := Ideal) x0 x1 x2 x3 x4 x5) (ix2 0 q)
    = ∑ p, up 0 (dg x4 x5 q) p * x0 (ix2 p q) := by
  pointwise [k0_pay13, k0_pay1, k0_pay2, k0_pay3, k0_pay4, k0_pay5, k0_pay6, k0_pay7, k0_pay8, k0_pay9, k0_pay10, k0_pay11, k0_pay17, k0_pay18, k0_pay19, k0_pay20, k0_pay25, k0_pay26, k0_pay27, k0_pay28, k0_pay29, k0_pay30, k0_pay31, k0_pay32, k0_pay33, k0_pay34]
  rw [up_zero]
  rfl

theorem gate1 (q : Fin 256) : k0_pay14 (F := Ideal) (k0_pay27 (F := Ideal) x0 x1 x2 x3 x4 x5) (k0_pay31 (F := Ideal) x0 x1 x2 x3 x4 x5) (ix2 0 q)
    = ∑ p, up 1 (dg x4 x5 q) p * x0 (ix2 p q) := by
  pointwise [k0_pay14, k0_pay1, k0_pay2, k0_pay3, k0_pay4, k0_pay5, k0_pay6, k0_pay7, k0_pay8, k0_pay9, k0_pay10, k0_pay11, k0_pay17, k0_pay18, k0_pay19, k0_pay20, k0_pay25, k0_pay26, k0_pay27, k0_pay28, k0_pay29, k0_pay30, k0_pay31, k0_pay32, k0_pay33, k0_pay34]
  exact Finset.sum_congr rfl fun p _ => rot_one (dg x4 x5 q) p _ (fun a => a * x0 (ix2 p q)) (zero_mul _)

theorem gate0 (q : Fin 256) : k0_pay15 (F := Ideal) (k0_pay27 (F := Ideal) x0 x1 x2 x3 x4 x5) (k0_pay32 (F := Ideal) x0 x1 x2 x3 x4 x5) (k0_pay33 (F := Ideal) x0 x1 x2 x3 x4 x5) (ix2 0 q)
    = ∑ p, up 2 (dg x4 x5 q) p * x0 (ix2 p q) := by
  pointwise [k0_pay15, k0_pay1, k0_pay2, k0_pay3, k0_pay4, k0_pay5, k0_pay6, k0_pay7, k0_pay8, k0_pay9, k0_pay10, k0_pay11, k0_pay17, k0_pay18, k0_pay19, k0_pay20, k0_pay25, k0_pay26, k0_pay27, k0_pay28, k0_pay29, k0_pay30, k0_pay31, k0_pay32, k0_pay33, k0_pay34]
  exact Finset.sum_congr rfl fun p _ => rot_two (dg x4 x5 q) p _ (fun a => a * x0 (ix2 p q)) (zero_mul _)

theorem value2 (q : Fin 256) : k0_pay22 (F := Ideal) (k0_pay28 (F := Ideal) x0 x1 x2 x3 x4 x5) (k0_pay29 (F := Ideal) x0 x1 x2 x3 x4 x5) (k0_pay34 (F := Ideal) x0 x1 x2 x3 x4 x5) (ix2 0 q)
    = ∑ p, up 0 (dv x4 x5 q) p * x1 (ix2 p q) := by
  pointwise [k0_pay22, k0_pay1, k0_pay2, k0_pay3, k0_pay4, k0_pay5, k0_pay6, k0_pay7, k0_pay8, k0_pay9, k0_pay10, k0_pay11, k0_pay17, k0_pay18, k0_pay19, k0_pay20, k0_pay25, k0_pay26, k0_pay27, k0_pay28, k0_pay29, k0_pay30, k0_pay31, k0_pay32, k0_pay33, k0_pay34]
  rw [up_zero]
  rfl

theorem value1 (q : Fin 256) : k0_pay23 (F := Ideal) (k0_pay28 (F := Ideal) x0 x1 x2 x3 x4 x5) (k0_pay29 (F := Ideal) x0 x1 x2 x3 x4 x5) (k0_pay34 (F := Ideal) x0 x1 x2 x3 x4 x5) (ix2 0 q)
    = ∑ p, up 1 (dv x4 x5 q) p * x1 (ix2 p q) := by
  pointwise [k0_pay23, k0_pay1, k0_pay2, k0_pay3, k0_pay4, k0_pay5, k0_pay6, k0_pay7, k0_pay8, k0_pay9, k0_pay10, k0_pay11, k0_pay17, k0_pay18, k0_pay19, k0_pay20, k0_pay25, k0_pay26, k0_pay27, k0_pay28, k0_pay29, k0_pay30, k0_pay31, k0_pay32, k0_pay33, k0_pay34]
  exact Finset.sum_congr rfl fun p _ => rot_one (dv x4 x5 q) p _ (fun a => a * x1 (ix2 p q)) (zero_mul _)

theorem value0 (q : Fin 256) : k0_pay24 (F := Ideal) (k0_pay28 (F := Ideal) x0 x1 x2 x3 x4 x5) (k0_pay29 (F := Ideal) x0 x1 x2 x3 x4 x5) (k0_pay34 (F := Ideal) x0 x1 x2 x3 x4 x5) (ix2 0 q)
    = ∑ p, up 2 (dv x4 x5 q) p * x1 (ix2 p q) := by
  pointwise [k0_pay24, k0_pay1, k0_pay2, k0_pay3, k0_pay4, k0_pay5, k0_pay6, k0_pay7, k0_pay8, k0_pay9, k0_pay10, k0_pay11, k0_pay17, k0_pay18, k0_pay19, k0_pay20, k0_pay25, k0_pay26, k0_pay27, k0_pay28, k0_pay29, k0_pay30, k0_pay31, k0_pay32, k0_pay33, k0_pay34]
  exact Finset.sum_congr rfl fun p _ => rot_two (dv x4 x5 q) p _ (fun a => a * x1 (ix2 p q)) (zero_mul _)

theorem biasGate (q : Fin 256) : k0_pay12 (F := Ideal) (k0_pay30 (F := Ideal) x0 x1 x2 x3 x4 x5) (ix2 0 q) = ∑ p, dg x4 x5 q p := by
  pointwise [k0_pay12, k0_pay1, k0_pay2, k0_pay3, k0_pay4, k0_pay5, k0_pay6, k0_pay7, k0_pay8, k0_pay9, k0_pay10, k0_pay11, k0_pay17, k0_pay18, k0_pay19, k0_pay20, k0_pay25, k0_pay26, k0_pay27, k0_pay28, k0_pay29, k0_pay30, k0_pay31, k0_pay32, k0_pay33, k0_pay34]
  rfl

theorem biasValue (q : Fin 256) : k0_pay21 (F := Ideal) (k0_pay29 (F := Ideal) x0 x1 x2 x3 x4 x5) (k0_pay34 (F := Ideal) x0 x1 x2 x3 x4 x5) (ix2 0 q) = ∑ p, dv x4 x5 q p := by
  pointwise [k0_pay21, k0_pay1, k0_pay2, k0_pay3, k0_pay4, k0_pay5, k0_pay6, k0_pay7, k0_pay8, k0_pay9, k0_pay10, k0_pay11, k0_pay17, k0_pay18, k0_pay19, k0_pay20, k0_pay25, k0_pay26, k0_pay27, k0_pay28, k0_pay29, k0_pay30, k0_pay31, k0_pay32, k0_pay33, k0_pay34]
  rfl

theorem inGate (w2 w1 w0 : FVec Ideal S1x256 .f32) (p : Fin 2048) (q : Fin 256) :
    k0_pay16 (F := Ideal) (k0_pay30 (F := Ideal) x0 x1 x2 x3 x4 x5) (k0_pay31 (F := Ideal) x0 x1 x2 x3 x4 x5) (k0_pay32 (F := Ideal) x0 x1 x2 x3 x4 x5) (k0_pay33 (F := Ideal) x0 x1 x2 x3 x4 x5) w2 w1 w0 (ix3 0 p q)
      = w2 (ix2 0 q) * dg x4 x5 q p + w1 (ix2 0 q) * up 1 (dg x4 x5 q) p + w0 (ix2 0 q) * up 2 (dg x4 x5 q) p := by
  pointwise [k0_pay16, k0_pay1, k0_pay2, k0_pay3, k0_pay4, k0_pay5, k0_pay6, k0_pay7, k0_pay8, k0_pay9, k0_pay10, k0_pay11, k0_pay17, k0_pay18, k0_pay19, k0_pay20, k0_pay25, k0_pay26, k0_pay27, k0_pay28, k0_pay29, k0_pay30, k0_pay31, k0_pay32, k0_pay33, k0_pay34]
  refine congrArg₂ _ (congrArg₂ _ rfl ?_) ?_
  · exact rot_one (dg x4 x5 q) p _ (fun a => w1 (ix2 0 q) * a) (mul_zero _)
  · exact rot_two (dg x4 x5 q) p _ (fun a => w0 (ix2 0 q) * a) (mul_zero _)

theorem inValue (w2 w1 w0 : FVec Ideal S1x256 .f32) (p : Fin 2048) (q : Fin 256) :
    k0_pay1 (F := Ideal) (k0_pay20 (F := Ideal) (k0_pay29 (F := Ideal) x0 x1 x2 x3 x4 x5) (k0_pay34 (F := Ideal) x0 x1 x2 x3 x4 x5)) (k0_pay25 (F := Ideal) (k0_pay29 (F := Ideal) x0 x1 x2 x3 x4 x5) (k0_pay34 (F := Ideal) x0 x1 x2 x3 x4 x5) w2) (k0_pay26 (F := Ideal) (k0_pay29 (F := Ideal) x0 x1 x2 x3 x4 x5) (k0_pay34 (F := Ideal) x0 x1 x2 x3 x4 x5) w1) w0 (ix3 0 p q)
      = w2 (ix2 0 q) * dv x4 x5 q p + w1 (ix2 0 q) * up 1 (dv x4 x5 q) p + w0 (ix2 0 q) * up 2 (dv x4 x5 q) p := by
  pointwise [k0_pay1, k0_pay2, k0_pay3, k0_pay4, k0_pay5, k0_pay6, k0_pay7, k0_pay8, k0_pay9, k0_pay10, k0_pay11, k0_pay17, k0_pay18, k0_pay19, k0_pay20, k0_pay25, k0_pay26, k0_pay27, k0_pay28, k0_pay29, k0_pay30, k0_pay31, k0_pay32, k0_pay33, k0_pay34]
  refine congrArg₂ _ (congrArg₂ _ rfl ?_) ?_
  · exact rot_one (dv x4 x5 q) p _ (fun a => w1 (ix2 0 q) * a) (mul_zero _)
  · exact rot_two (dv x4 x5 q) p _ (fun a => w0 (ix2 0 q) * a) (mul_zero _)

/-- The stored block of the gate's taps. -/
theorem block7 (r : Fin 3) (q : Fin 256) :
    out0_7 (F := Ideal) x0 x1 x2 x3 x4 x5 (ix2 r q) = dw (dg x4 x5 q) (fun p => x0 (ix2 p q)) r := by
  unfold out0_7
  canon_tiles y h
  all_goals (idx_vars y; obtain rfl : y0 = 0 := Subsingleton.elim _ _; obtain rfl : y1 = q := Fin.ext h1.symm)
  · obtain rfl : r = 0 := Fin.ext h0
    exact gate0 x0 x1 x2 x3 x4 x5 _
  · obtain rfl : r = 1 := Fin.ext h0
    exact gate1 x0 x1 x2 x3 x4 x5 _
  · obtain rfl : r = 2 := Fin.ext h0
    exact gate2 x0 x1 x2 x3 x4 x5 _

/-- The stored block of the value's taps. -/
theorem block8 (r : Fin 3) (q : Fin 256) :
    out0_8 (F := Ideal) x0 x1 x2 x3 x4 x5 (ix2 r q) = dw (dv x4 x5 q) (fun p => x1 (ix2 p q)) r := by
  unfold out0_8
  canon_tiles y h
  all_goals (idx_vars y; obtain rfl : y0 = 0 := Subsingleton.elim _ _; obtain rfl : y1 = q := Fin.ext h1.symm)
  · obtain rfl : r = 0 := Fin.ext h0
    exact value0 x0 x1 x2 x3 x4 x5 _
  · obtain rfl : r = 1 := Fin.ext h0
    exact value1 x0 x1 x2 x3 x4 x5 _
  · obtain rfl : r = 2 := Fin.ext h0
    exact value2 x0 x1 x2 x3 x4 x5 _

/-- The stored blocks of the two biases. -/
theorem block9 (r : Fin 1) (q : Fin 256) : out0_9 (F := Ideal) x0 x1 x2 x3 x4 x5 (ix2 r q) = ∑ p, dg x4 x5 q p := by
  unfold out0_9
  canon_tiles y h
  idx_vars y
  obtain rfl : y0 = 0 := Subsingleton.elim _ _
  obtain rfl : y1 = q := Fin.ext h1.symm
  exact biasGate x0 x1 x2 x3 x4 x5 _

theorem block10 (r : Fin 1) (q : Fin 256) : out0_10 (F := Ideal) x0 x1 x2 x3 x4 x5 (ix2 r q) = ∑ p, dv x4 x5 q p := by
  unfold out0_10
  canon_tiles y h
  idx_vars y
  obtain rfl : y0 = 0 := Subsingleton.elim _ _
  obtain rfl : y1 = q := Fin.ext h1.symm
  exact biasValue x0 x1 x2 x3 x4 x5 _

/-- The stored block of the convolution's input gradient. -/
theorem block6 (b : Fin 2) (p : Fin 2048) (q : Fin 256) :
    out0_6 (F := Ideal) x0 x1 x2 x3 x4 x5 (ix3 b p q)
      = if b = 0 then du (fun r => x2 (ix2 r q)) (dg x4 x5 q) p else du (fun r => x3 (ix2 r q)) (dv x4 x5 q) p := by
  unfold out0_6
  canon_tiles y h
  all_goals (idx_vars y; obtain rfl : y0 = 0 := Subsingleton.elim _ _; obtain rfl : y1 = p := Fin.ext h1.symm; obtain rfl : y2 = q := Fin.ext h2.symm)
  · obtain rfl : b = 1 := Fin.ext h0
    rw [inValue, if_neg (by decide)]
    unfold du
    refine congrArg₂ _ (congrArg₂ _ (congrArg₂ _ (congrArg x3 ?_) rfl) (congrArg₂ _ (congrArg x3 ?_) rfl)) (congrArg₂ _ (congrArg x3 ?_) rfl)
    all_goals idx_ext
  · obtain rfl : b = 0 := Fin.ext h0
    rw [inGate, if_pos rfl]
    unfold du
    refine congrArg₂ _ (congrArg₂ _ (congrArg₂ _ (congrArg x2 ?_) rfl) (congrArg₂ _ (congrArg x2 ?_) rfl)) (congrArg₂ _ (congrArg x2 ?_) rfl)
    all_goals idx_ext

end Blocks

end Cert.ConvIdeal.Columns
end
-- ==== Proof.ConvArrays.lean ====
module
public import proofs.«01_k».proof.Proof.ConvKernel

/-! # The kernel's five result arrays

Grid point `t` holds columns `256 t … 256 t + 255` of each half, so the blocks put together are column functions of the
whole arrays. -/

@[expose] public section
set_option maxRecDepth 16384
noncomputable section
namespace Cert.ConvIdeal.Columns
open Cert.ConvIdeal Cert.ConvIdeal.Gen Cert.ConvMath
open Idealize.ShloMosaic Idealize.ShloMosaic.TcCoe Idealize.SL.Sem
open Idealize.ShloMosaic.Pipeline (Dat)

/-- The gate's gradient in column `j`, from the convolution's output `A` and the incoming gradient `f`. -/
def DG (A : FVec Ideal S2x2048x5632 .bf16) (f : FVec Ideal S2048x5632 .bf16) (j : Fin 5632) : Col :=
  fun p => dgate (f (ix2 p j)) (A (ix3 1 p j)) (A (ix3 0 p j))

/-- The value's gradient in column `j`. -/
def DV (A : FVec Ideal S2x2048x5632 .bf16) (f : FVec Ideal S2048x5632 .bf16) (j : Fin 5632) : Col :=
  fun p => dval (f (ix2 p j)) (A (ix3 0 p j))

/-- Column `j` of the gate's half of an array of 11264 columns, and of the value's half. -/
abbrev lo (j : Fin 5632) : Fin 11264 := ⟨j, by omega⟩
abbrev hi (j : Fin 5632) : Fin 11264 := ⟨5632 + j, by omega⟩

variable (x : FVec Ideal S2048x11264 .bf16) (w : FVec Ideal S3x11264 .f32) (A : FVec Ideal S2x2048x5632 .bf16)
  (f : FVec Ideal S2048x5632 .bf16)

def at6 (b : Fin 2) (p : Fin 2048) (j : Fin 5632) : EReal :=
  if b = 0 then du (fun r => w (ix2 r (lo j))) (DG A f j) p else du (fun r => w (ix2 r (hi j))) (DV A f j) p
def out6 : FVec Ideal S2x2048x5632 .bf16 := fun i => at6 w A f (i 0) (i 1) (i 2)
def out7 : FVec Ideal S3x5632 .f32 := fun i => dw (DG A f (i 1)) (fun p => x (ix2 p (lo (i 1)))) (i 0)
def out8 : FVec Ideal S3x5632 .f32 := fun i => dw (DV A f (i 1)) (fun p => x (ix2 p (hi (i 1)))) (i 0)
def out9 : FVec Ideal S1x5632 .f32 := fun i => ∑ p, DG A f (i 1) p
def out10 : FVec Ideal S1x5632 .f32 := fun i => ∑ p, DV A f (i 1) p

theorem idx : ∀ t : Fin cfg0.N, win0_0.index t = ![0, t.val] ∧ win0_1.index t = ![0, 22 + t.val] ∧ win0_2.index t = ![0, t.val]
    ∧ win0_3.index t = ![0, 22 + t.val] ∧ win0_4.index t = ![0, 0, t.val] ∧ win0_5.index t = ![0, t.val]
    ∧ win0_6.index t = ![0, 0, t.val] ∧ win0_7.index t = ![0, t.val] ∧ win0_8.index t = ![0, t.val]
    ∧ win0_9.index t = ![0, t.val] ∧ win0_10.index t = ![0, t.val] ∧ t.val < 22 :=
  (by decide +kernel : ∀ t : Fin grid0.N, _)

variable (m : (ℓ : Loc nD τ sig) → Buf (Elt Ideal) ℓ) (c : Dev nD) (t : Fin cfg0.N)

/-- Column `q` of grid point `t`. -/
def col (t : Fin cfg0.N) (q : Fin 256) : Fin 5632 := ⟨256 * t.val + q, by have := (idx t).2.2.2.2.2.2.2.2.2.2.2; omega⟩

theorem read0 (p : Fin 2048) (q : Fin 256) : iblk m c 0 t (ix2 p q) = m ((c : Thread nD τ).loc main_arg0) (ix2 p (lo (col t q))) := by
  blk_point [iblk, V, idx t, col]
theorem read1 (p : Fin 2048) (q : Fin 256) : iblk m c 1 t (ix2 p q) = m ((c : Thread nD τ).loc main_arg0) (ix2 p (hi (col t q))) := by
  blk_point [iblk, V, idx t, col]
theorem read2 (r : Fin 3) (q : Fin 256) : iblk m c 2 t (ix2 r q) = m ((c : Thread nD τ).loc main_arg1) (ix2 r (lo (col t q))) := by
  blk_point [iblk, V, idx t, col]
theorem read3 (r : Fin 3) (q : Fin 256) : iblk m c 3 t (ix2 r q) = m ((c : Thread nD τ).loc main_arg1) (ix2 r (hi (col t q))) := by
  blk_point [iblk, V, idx t, col]
theorem read4 (b : Fin 2) (p : Fin 2048) (q : Fin 256) : iblk m c 4 t (ix3 b p q) = V m c main_v33 (ix3 b p (col t q)) := by
  blk_ext [iblk, idx t, col]
theorem read5 (p : Fin 2048) (q : Fin 256) : iblk m c 5 t (ix2 p q) = m ((c : Thread nD τ).loc main_arg3) (ix2 p (col t q)) := by
  blk_point [iblk, V, idx t, col]

theorem dg_read (q : Fin 256) : dg (iblk m c 4 t) (iblk m c 5 t) q = DG (V m c main_v33) (m ((c : Thread nD τ).loc main_arg3)) (col t q) := by
  funext p
  unfold dg DG
  rw [read4, read4, read5]
theorem dv_read (q : Fin 256) : dv (iblk m c 4 t) (iblk m c 5 t) q = DV (V m c main_v33) (m ((c : Thread nD τ).loc main_arg3)) (col t q) := by
  funext p
  unfold dv DV
  rw [read4, read5]

theorem emb6 (b : Fin 2) (p : Fin 2048) (q : Fin 256) : ((cfg0.win 6).blk t).view.emb (ix3 b p q) = ix3 b p (col t q) := by
  blk_ext [idx t, col]
theorem emb7 (r : Fin 3) (q : Fin 256) : ((cfg0.win 7).blk t).view.emb (ix2 r q) = ix2 r (col t q) := by
  blk_ext [idx t, col]
theorem emb8 (r : Fin 3) (q : Fin 256) : ((cfg0.win 8).blk t).view.emb (ix2 r q) = ix2 r (col t q) := by
  blk_ext [idx t, col]
theorem emb9 (r : Fin 1) (q : Fin 256) : ((cfg0.win 9).blk t).view.emb (ix2 r q) = ix2 r (col t q) := by
  blk_ext [idx t, col]
theorem emb10 (r : Fin 1) (q : Fin 256) : ((cfg0.win 10).blk t).view.emb (ix2 r q) = ix2 r (col t q) := by
  blk_ext [idx t, col]

theorem final6 : (dats m 0 c).arrAt 6 (cfgs 0).N = out6 (m ((c : Thread nD τ).loc main_arg1)) (V m c main_v33) (m ((c : Thread nD τ).loc main_arg3)) := by
  refine (dats m 0 c).arrAt_eq_of_covers 6 _ (by decide +kernel) fun t _ y => ?_
  idx_vars y
  refine Eq.trans ?_ (congrArg (out6 _ _ _) (emb6 t y0 y1 y2)).symm
  blk_simp
  rw [after0_6, block6, dg_read, dv_read]
  show _ = at6 _ _ _ y0 y1 (col t y2)
  unfold at6
  by_cases h : y0 = 0
  · rw [if_pos h, if_pos h]
    exact congrArg (fun g => du g _ _) (funext fun r => read2 m c t r y2)
  · rw [if_neg h, if_neg h]
    exact congrArg (fun g => du g _ _) (funext fun r => read3 m c t r y2)

theorem final7 : (dats m 0 c).arrAt 7 (cfgs 0).N = out7 (m ((c : Thread nD τ).loc main_arg0)) (V m c main_v33) (m ((c : Thread nD τ).loc main_arg3)) := by
  refine (dats m 0 c).arrAt_eq_of_covers 7 _ (by decide +kernel) fun t _ y => ?_
  idx_vars y
  refine Eq.trans ?_ (congrArg (out7 _ _ _) (emb7 t y0 y1)).symm
  blk_simp
  rw [after0_7, block7, dg_read]
  exact congrArg (fun g => dw _ g _) (funext fun p => read0 m c t p y1)

theorem final8 : (dats m 0 c).arrAt 8 (cfgs 0).N = out8 (m ((c : Thread nD τ).loc main_arg0)) (V m c main_v33) (m ((c : Thread nD τ).loc main_arg3)) := by
  refine (dats m 0 c).arrAt_eq_of_covers 8 _ (by decide +kernel) fun t _ y => ?_
  idx_vars y
  refine Eq.trans ?_ (congrArg (out8 _ _ _) (emb8 t y0 y1)).symm
  blk_simp
  rw [after0_8, block8, dv_read]
  exact congrArg (fun g => dw _ g _) (funext fun p => read1 m c t p y1)

theorem final9 : (dats m 0 c).arrAt 9 (cfgs 0).N = out9 (V m c main_v33) (m ((c : Thread nD τ).loc main_arg3)) := by
  refine (dats m 0 c).arrAt_eq_of_covers 9 _ (by decide +kernel) fun t _ y => ?_
  idx_vars y
  refine Eq.trans ?_ (congrArg (out9 _ _) (emb9 t y0 y1)).symm
  blk_simp
  rw [after0_9, block9, dg_read]
  rfl

theorem final10 : (dats m 0 c).arrAt 10 (cfgs 0).N = out10 (V m c main_v33) (m ((c : Thread nD τ).loc main_arg3)) := by
  refine (dats m 0 c).arrAt_eq_of_covers 10 _ (by decide +kernel) fun t _ y => ?_
  idx_vars y
  refine Eq.trans ?_ (congrArg (out10 _ _) (emb10 t y0 y1)).symm
  blk_simp
  rw [after0_10, block10, dv_read]
  rfl

/-- What the launch finds in the convolution's output array: the host lines' three taps and bias. -/
theorem entry_gate (p : Fin 2048) (j : Fin 5632) : V m c main_v33 (ix3 0 p j)
    = conv (fun r => m ((c : Thread nD τ).loc main_arg1) (ix2 r (lo j))) (m ((c : Thread nD τ).loc main_arg2) (ix1 (lo j)))
        (fun p => m ((c : Thread nD τ).loc main_arg0) (ix2 p (lo j))) p := by
  entry_read
  unfold conv
  pointwise
  refine congrArg₂ _ (congrArg₂ _ (congrArg₂ _ rfl (congrArg₂ _ rfl ?_)) rfl) rfl
  unfold down
  by_cases h : (p : ℕ) < 1
  · rw [dif_pos (by omega), if_pos h]
  · rw [dif_neg (by omega), if_neg h]
    congr 2
    exact Fin.ext (by show 1 + (p : ℕ) - 2 = p - 1; omega)

theorem entry_value (p : Fin 2048) (j : Fin 5632) : V m c main_v33 (ix3 1 p j)
    = conv (fun r => m ((c : Thread nD τ).loc main_arg1) (ix2 r (hi j))) (m ((c : Thread nD τ).loc main_arg2) (ix1 (hi j)))
        (fun p => m ((c : Thread nD τ).loc main_arg0) (ix2 p (hi j))) p := by
  entry_read
  unfold conv
  pointwise
  refine congrArg₂ _ (congrArg₂ _ (congrArg₂ _ rfl (congrArg₂ _ rfl ?_)) rfl) rfl
  unfold down
  by_cases h : (p : ℕ) < 1
  · rw [dif_pos (by omega), if_pos h]
  · rw [dif_neg (by omega), if_neg h]
    congr 2
    exact Fin.ext (by show 1 + (p : ℕ) - 2 = p - 1; omega)

end Cert.ConvIdeal.Columns
end
-- ==== Proof.ConvEq.lean ====
module
public import proofs.«01_k».proof.Proof.ConvRef
public import proofs.«01_k».proof.Proof.ConvArrays
public import proofs.«01_k».proof.Pre_conv_finite
public import proofs.«01_k».proof.Proof.Gen.Pre_conv_finite

/-! # Finite arguments make both gradients equal

The precondition says that every argument entry is a real number; then the convolution's output is one, and the kernel's
gate and value gradients are the reference's. -/

@[expose] public section
set_option maxRecDepth 16384
noncomputable section
namespace Cert.ConvEq
open Cert.ConvMath
open Idealize.ShloMosaic Idealize.ShloMosaic.TcCoe Idealize.SL.Sem

/-- A value that differs from itself by zero is a real number. -/
theorem real_of_sub (x : EReal) (h : x - x = 0) : ∃ r : ℝ, x = r := by
  induction x with
  | bot => simp at h
  | coe r => exact ⟨r, rfl⟩
  | top => simp at h

theorem down_real (n : ℕ) (x : Col) (hx : ∀ p, ∃ r : ℝ, x p = r) (p : Fin 2048) : ∃ r : ℝ, down n x p = r := by
  unfold down
  by_cases h : (p : ℕ) < n
  · exact ⟨0, by rw [if_pos h]; rfl⟩
  · rw [if_neg h]; exact hx _

/-- The convolution of real numbers is a real number. -/
theorem conv_real (w : Fin 3 → EReal) (b : EReal) (x : Col) (hw : ∀ r, ∃ a : ℝ, w r = a) (hb : ∃ a : ℝ, b = a)
    (hx : ∀ p, ∃ a : ℝ, x p = a) (p : Fin 2048) : ∃ a : ℝ, conv w b x p = a := by
  obtain ⟨w0, h0⟩ := hw 0
  obtain ⟨w1, h1⟩ := hw 1
  obtain ⟨w2, h2⟩ := hw 2
  obtain ⟨b', hb⟩ := hb
  obtain ⟨x0, hx0⟩ := down_real 2 x hx p
  obtain ⟨x1, hx1⟩ := down_real 1 x hx p
  obtain ⟨x2, hx2⟩ := hx p
  refine ⟨w0 * x0 + w1 * x1 + w2 * x2 + b', ?_⟩
  unfold conv
  rw [h0, h1, h2, hb, hx0, hx1, hx2]
  simp only [EReal.coe_add, EReal.coe_mul]

section
open Cert.ConvIdeal

variable (x0 : FVec Ideal S2048x11264 .bf16) (x1 : FVec Ideal S3x11264 .f32) (x2 : FVec Ideal S11264 .f32) (x3 : FVec Ideal S2048x5632 .bf16)

/-- The precondition, read entry by entry. -/
theorem finite (h : (Cert.Pre_conv_finite.fn (F := Ideal) x0 x1 x2 x3).1 = (fun _ => 1#1)
      ∧ (Cert.Pre_conv_finite.fn (F := Ideal) x0 x1 x2 x3).2.1 = (fun _ => 1#1)
      ∧ (Cert.Pre_conv_finite.fn (F := Ideal) x0 x1 x2 x3).2.2.1 = (fun _ => 1#1)
      ∧ (Cert.Pre_conv_finite.fn (F := Ideal) x0 x1 x2 x3).2.2.2 = (fun _ => 1#1)) :
    (∀ p q, ∃ r : ℝ, x0 (ix2 p q) = r) ∧ (∀ p q, ∃ r : ℝ, x1 (ix2 p q) = r) ∧ (∀ q, ∃ r : ℝ, x2 (ix1 q) = r)
      ∧ (∀ p q, ∃ r : ℝ, x3 (ix2 p q) = r) := by
  obtain ⟨h0, h1, h2, h3⟩ := h
  refine ⟨fun p q => ?_, fun p q => ?_, fun q => ?_, fun p q => ?_⟩
  · have h := congrFun h0 (ix2 p q)
    apply real_of_sub
    revert h
    pointwise [Cert.Pre_conv_finite.fn]
    intro h
    by_contra hn
    rw [decide_eq_false hn] at h
    exact absurd h (by decide)
  · have h := congrFun h1 (ix2 p q)
    apply real_of_sub
    revert h
    pointwise [Cert.Pre_conv_finite.fn]
    intro h
    by_contra hn
    rw [decide_eq_false hn] at h
    exact absurd h (by decide)
  · have h := congrFun h2 (ix1 q)
    apply real_of_sub
    revert h
    pointwise [Cert.Pre_conv_finite.fn]
    intro h
    by_contra hn
    rw [decide_eq_false hn] at h
    exact absurd h (by decide)
  · have h := congrFun h3 (ix2 p q)
    apply real_of_sub
    revert h
    pointwise [Cert.Pre_conv_finite.fn]
    intro h
    by_contra hn
    rw [decide_eq_false hn] at h
    exact absurd h (by decide)

variable (A : FVec Ideal S2x2048x5632 .bf16)

theorem gate_eq (h0 : ∀ p q, ∃ r : ℝ, x0 (ix2 p q) = r) (h1 : ∀ p q, ∃ r : ℝ, x1 (ix2 p q) = r)
    (h2 : ∀ q, ∃ r : ℝ, x2 (ix1 q) = r) (h3 : ∀ p q, ∃ r : ℝ, x3 (ix2 p q) = r)
    (j : Fin 5632) (ag : ∀ p, A (ix3 0 p j) = conv (fun r => x1 (ix2 r (Columns.lo j))) (x2 (ix1 (Columns.lo j))) (fun p => x0 (ix2 p (Columns.lo j))) p)
    (av : ∀ p, A (ix3 1 p j) = conv (fun r => x1 (ix2 r (Columns.hi j))) (x2 (ix1 (Columns.hi j))) (fun p => x0 (ix2 p (Columns.hi j))) p) :
    Columns.DG A x3 j = Cert.ConvRefIdeal.Columns.D x0 x1 x2 x3 (Columns.lo j) := by
  funext p
  unfold Columns.DG
  rw [Cert.ConvRefIdeal.Columns.D_gate, Cert.ConvRefIdeal.Columns.pre, Cert.ConvRefIdeal.Columns.pre, ag, av]
  obtain ⟨g, hg⟩ := conv_real (fun r => x1 (ix2 r (Columns.lo j))) (x2 (ix1 (Columns.lo j))) (fun p => x0 (ix2 p (Columns.lo j)))
    (fun r => h1 _ _) (h2 _) (fun p => h0 _ _) p
  obtain ⟨v, hv⟩ := conv_real (fun r => x1 (ix2 r (Columns.hi j))) (x2 (ix1 (Columns.hi j))) (fun p => x0 (ix2 p (Columns.hi j)))
    (fun r => h1 _ _) (h2 _) (fun p => h0 _ _) p
  obtain ⟨f, hf⟩ := h3 p j
  rw [hg, hv, hf]
  exact dgate_coe f v g

theorem value_eq (h0 : ∀ p q, ∃ r : ℝ, x0 (ix2 p q) = r) (h1 : ∀ p q, ∃ r : ℝ, x1 (ix2 p q) = r)
    (h2 : ∀ q, ∃ r : ℝ, x2 (ix1 q) = r)
    (j : Fin 5632) (ag : ∀ p, A (ix3 0 p j) = conv (fun r => x1 (ix2 r (Columns.lo j))) (x2 (ix1 (Columns.lo j))) (fun p => x0 (ix2 p (Columns.lo j))) p) :
    Columns.DV A x3 j = Cert.ConvRefIdeal.Columns.D x0 x1 x2 x3 (Columns.hi j) := by
  funext p
  unfold Columns.DV
  rw [Cert.ConvRefIdeal.Columns.D_value, Cert.ConvRefIdeal.Columns.pre, ag]
  obtain ⟨g, hg⟩ := conv_real (fun r => x1 (ix2 r (Columns.lo j))) (x2 (ix1 (Columns.lo j))) (fun p => x0 (ix2 p (Columns.lo j)))
    (fun r => h1 _ _) (h2 _) (fun p => h0 _ _) p
  rw [hg, dval, sg_coe, mul_comm]

/-- The five results agree. -/
theorem results (h : (Cert.Pre_conv_finite.fn (F := Ideal) x0 x1 x2 x3).1 = (fun _ => 1#1)
      ∧ (Cert.Pre_conv_finite.fn (F := Ideal) x0 x1 x2 x3).2.1 = (fun _ => 1#1)
      ∧ (Cert.Pre_conv_finite.fn (F := Ideal) x0 x1 x2 x3).2.2.1 = (fun _ => 1#1)
      ∧ (Cert.Pre_conv_finite.fn (F := Ideal) x0 x1 x2 x3).2.2.2 = (fun _ => 1#1))
    (ag : ∀ p j, A (ix3 0 p j) = conv (fun r => x1 (ix2 r (Columns.lo j))) (x2 (ix1 (Columns.lo j))) (fun p => x0 (ix2 p (Columns.lo j))) p)
    (av : ∀ p j, A (ix3 1 p j) = conv (fun r => x1 (ix2 r (Columns.hi j))) (x2 (ix1 (Columns.hi j))) (fun p => x0 (ix2 p (Columns.hi j))) p) :
    Columns.out6 x1 A x3 = Cert.ConvRefIdeal.Read.val_main_v79 (F := Ideal) x0 x1 x2 x3
      ∧ Columns.out7 x0 A x3 = Cert.ConvRefIdeal.Read.val_main_v80 (F := Ideal) x0 x1 x2 x3
      ∧ Columns.out8 x0 A x3 = Cert.ConvRefIdeal.Read.val_main_v81 (F := Ideal) x0 x1 x2 x3
      ∧ Columns.out9 A x3 = Cert.ConvRefIdeal.Read.val_main_v83 (F := Ideal) x0 x1 x2 x3
      ∧ Columns.out10 A x3 = Cert.ConvRefIdeal.Read.val_main_v85 (F := Ideal) x0 x1 x2 x3 := by
  obtain ⟨h0, h1, h2, h3⟩ := finite x0 x1 x2 x3 h
  have eg : ∀ j, Columns.DG A x3 j = Cert.ConvRefIdeal.Columns.D x0 x1 x2 x3 (Columns.lo j) := fun j =>
    gate_eq x0 x1 x2 x3 A h0 h1 h2 h3 j (fun p => ag p j) (fun p => av p j)
  have ev : ∀ j, Columns.DV A x3 j = Cert.ConvRefIdeal.Columns.D x0 x1 x2 x3 (Columns.hi j) := fun j =>
    value_eq x0 x1 x2 x3 A h0 h1 h2 j (fun p => ag p j)
  refine ⟨?_, ?_, ?_, ?_, ?_⟩
  · funext i
    idx_vars i
    rw [Cert.ConvRefIdeal.Columns.out79]
    show Columns.at6 _ _ _ i0 i1 i2 = _
    unfold Columns.at6
    rw [eg, ev]
  · funext i
    idx_vars i
    rw [Cert.ConvRefIdeal.Columns.out80]
    exact congrArg (fun d => dw d _ _) (eg i1)
  · funext i
    idx_vars i
    rw [Cert.ConvRefIdeal.Columns.out81]
    exact congrArg (fun d => dw d _ _) (ev i1)
  · funext i
    idx_vars i
    rw [Cert.ConvRefIdeal.Columns.out83]
    exact congrArg (fun d : Col => ∑ p, d p) (eg i1)
  · funext i
    idx_vars i
    rw [Cert.ConvRefIdeal.Columns.out85]
    exact congrArg (fun d : Col => ∑ p, d p) (ev i1)

end
end Cert.ConvEq
end
-- ==== Proof.ConvClaim.lean ====
module
public import proofs.«01_k».proof.Defs
public import proofs.«01_k».proof.Proof.ConvEq
public import proofs.«01_k».proof.Proof.Gen.ConvRefIdeal.Run
public import Idealize.ShloMosaic.Lib.Quiescent

/-! # The claims about the gated convolution's backward call -/

@[expose] public section
noncomputable section
namespace Cert.ConvClaim
open Idealize.ShloMosaic Idealize.ShloMosaic.TcCoe Idealize.SL.Sem

/-- The reference runs, keeps its arguments, and has no semaphore to leave unsettled. -/
theorem ref_frame : Cert.quiescent_ConvRefIdeal := fun m ρ _ =>
  (θ_run _ _ _).mono (fun r h => And.intro (fun c => (h c).2.2.2.2.2) (sem_eq_zero_of_no_sems (by decide) r.2))
    (Cert.ConvRefIdeal.Value.run (F := Ideal) m ρ)

section
open Cert.ConvRefIdeal Cert.ConvRefIdeal.Value Cert.ConvRefIdeal.Read

/-- The reference's run, its results as the named stages. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79) = val_main_v79 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v80) = val_main_v80 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v81) = val_main_v81 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v83) = val_main_v83 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v85) = val_main_v85 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => by
    obtain ⟨r0, r1, r2, r3, r4, ra⟩ := h c
    exact ⟨r0.trans (val_main_v79_eq (StableHlo.launchContents m c)), r1.trans (val_main_v80_eq (StableHlo.launchContents m c)), r2.trans (val_main_v81_eq (StableHlo.launchContents m c)), r3.trans (val_main_v83_eq (StableHlo.launchContents m c)), r4.trans (val_main_v85_eq (StableHlo.launchContents m c)), ra⟩) (run (F := Ideal) m ρ)

end

section
open Cert.ConvIdeal Cert.ConvIdeal.Gen

/-- The kernel's five final arrays as the reference's named stages, at finite arguments. -/
theorem finals (m : (ℓ : Loc nD τ sig) → Buf (Elt Ideal) ℓ) (hpre : Cert.Pre_ConvIdeal_conv_finite m) (c : Dev nD) :
    Cert.ConvRefIdeal.Read.val_main_v79 (F := Ideal) (m ((c : Thread nD τ).loc main_arg0)) (m ((c : Thread nD τ).loc main_arg1)) (m ((c : Thread nD τ).loc main_arg2)) (m ((c : Thread nD τ).loc main_arg3)) = (dats m 0 c).arrAt 6 cfg0.N
      ∧ Cert.ConvRefIdeal.Read.val_main_v80 (F := Ideal) (m ((c : Thread nD τ).loc main_arg0)) (m ((c : Thread nD τ).loc main_arg1)) (m ((c : Thread nD τ).loc main_arg2)) (m ((c : Thread nD τ).loc main_arg3)) = (dats m 0 c).arrAt 7 cfg0.N
      ∧ Cert.ConvRefIdeal.Read.val_main_v81 (F := Ideal) (m ((c : Thread nD τ).loc main_arg0)) (m ((c : Thread nD τ).loc main_arg1)) (m ((c : Thread nD τ).loc main_arg2)) (m ((c : Thread nD τ).loc main_arg3)) = (dats m 0 c).arrAt 8 cfg0.N
      ∧ Cert.ConvRefIdeal.Read.val_main_v83 (F := Ideal) (m ((c : Thread nD τ).loc main_arg0)) (m ((c : Thread nD τ).loc main_arg1)) (m ((c : Thread nD τ).loc main_arg2)) (m ((c : Thread nD τ).loc main_arg3)) = (dats m 0 c).arrAt 9 cfg0.N
      ∧ Cert.ConvRefIdeal.Read.val_main_v85 (F := Ideal) (m ((c : Thread nD τ).loc main_arg0)) (m ((c : Thread nD τ).loc main_arg1)) (m ((c : Thread nD τ).loc main_arg2)) (m ((c : Thread nD τ).loc main_arg3)) = (dats m 0 c).arrAt 10 cfg0.N := by
  obtain ⟨e6, e7, e8, e9, e10⟩ := Cert.ConvEq.results (m ((c : Thread nD τ).loc main_arg0)) (m ((c : Thread nD τ).loc main_arg1))
    (m ((c : Thread nD τ).loc main_arg2)) (m ((c : Thread nD τ).loc main_arg3)) (V m c main_v33) (hpre c)
    (Columns.entry_gate m c) (Columns.entry_value m c)
  exact ⟨((Columns.final6 m c).trans e6).symm, ((Columns.final7 m c).trans e7).symm, ((Columns.final8 m c).trans e8).symm, ((Columns.final9 m c).trans e9).symm, ((Columns.final10 m c).trans e10).symm⟩

end

/-- Under finite arguments the call's five results are the reference's. -/
theorem value : Cert.algebraic_ConvIdeal_ConvRefIdeal_pre_conv_finite := by
  intro m g m' g' hpre hargs
  refine ⟨fun c => (Cert.ConvIdeal.Gen.dats m 0 c).arrAt 6 Cert.ConvIdeal.cfg0.N, fun c => (Cert.ConvIdeal.Gen.dats m 0 c).arrAt 7 Cert.ConvIdeal.cfg0.N, fun c => (Cert.ConvIdeal.Gen.dats m 0 c).arrAt 8 Cert.ConvIdeal.cfg0.N, fun c => (Cert.ConvIdeal.Gen.dats m 0 c).arrAt 9 Cert.ConvIdeal.cfg0.N, fun c => (Cert.ConvIdeal.Gen.dats m 0 c).arrAt 10 Cert.ConvIdeal.cfg0.N,
    Cert.ConvIdeal.Value.run_blocks m g, ?_⟩
  refine (θ_run _ _ _).mono (fun r h c => ?_) (ref_run m' g')
  obtain ⟨r0, r1, r2, r3, r4, ra⟩ := h c
  obtain ⟨a0, a1, a2, a3⟩ := hargs c
  obtain ⟨e6, e7, e8, e9, e10⟩ := finals m hpre c
  rw [a0, a1, a2, a3] at r0 r1 r2 r3 r4
  refine ⟨r0.trans ?_, r1.trans ?_, r2.trans ?_, r3.trans ?_, r4.trans ?_, ra⟩
  · exact e6
  · exact e7
  · exact e8
  · exact e9
  · exact e10

end Cert.ConvClaim
end
-- ==== Proof.AttnRunCases.lean ====
/- The body of the attention's backward call, run once at each of its three kinds of point: the first key block of a pair of
   heads (the queries packed, the row sums of `do · o` taken, the gradient of the queries cleared), a middle one, and the last
   (the gradient of the queries written out). Each run is a subtype the run finds. -/
module

public import proofs.«01_k».proof.Proof.Gen.AttnIdeal.Frame
public import proofs.«01_k».proof.Proof.Gen.AttnIdeal.Loops
public import Idealize.ShloMosaic.Lib.Pipeline.FrameBody
public import Idealize.ShloMosaic.Lib.Ring
public import Idealize.ShloMosaic.Lib.Tactic
public import Idealize.ShloMosaic.Lib.LoopRemainder
public import Idealize.ShloMosaic.Lib.WordCmp

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first key block: the kernel's own test of its second grid coordinate. -/
abbrev isFirst (i : grid0.Coords) : Prop := Scalar.cmpi .ne (Scalar.extui (Scalar.cmpi .eq (BitVec.ofNat 32 (i 1).val) 0#32)) 0#32 = 1#1

/-- The last key block. -/
abbrev isLast (i : grid0.Coords) : Prop := k0_cond2 i = 1#1

end Cert.AttnIdeal.Body

end
-- ==== Proof.AttnRunFirst.lean ====
/- The body of the attention's backward call run at the first key block of a pair of heads: a subtype the run finds. -/
module

public import proofs.«01_k».proof.Proof.AttnRunCases
public import proofs.«01_k».proof.Proof.Gen.AttnIdeal.Loops
public import Idealize.ShloMosaic.Lib.Pipeline.FrameBody
public import Idealize.ShloMosaic.Lib.Ring
public import Idealize.ShloMosaic.Lib.Tactic
public import Idealize.ShloMosaic.Lib.LoopRemainder
public import Idealize.ShloMosaic.Lib.WordCmp

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at the first key block: everything the scratch held before is replaced. -/
noncomputable def runFirst (c : Dev nD) (i : grid0.Coords) (arg2 : Memref sig .tc .vmem S2048x256 .bf16) (harg2 : arg2.IsWhole) (arg3 : Memref sig .tc .vmem S2048x128 .bf16) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x2048x2 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x256 .bf16) (harg11 : arg11.IsWhole) (arg12 : Memref sig .tc .vmem S2048x128 .bf16) (harg12 : arg12.IsWhole) (arg13 : Memref sig .tc .vmem S512x512 .bf16) (harg13 : arg13.IsWhole) (arg14 : Memref sig .tc .vmem S1x512x128 .f32) (harg14 : arg14.IsWhole) (arg15 : Memref sig .tc .vmem S2x2048x256 .bf16) (harg15 : arg15.IsWhole) (arg16 : Memref sig .tc .vmem S2x2048x256 .f32) (harg16 : arg16.IsWhole) (arg17 : Memref sig .tc .vmem S2x2048x1 .f32) (harg17 : arg17.IsWhole) (hc1 : isFirst i) (hc2 : ¬isLast i)
    (x2 : Vec F S2048x256 .bf16) (x3 : Vec F S2048x128 .bf16) (x4 : Vec F S2048x512 .bf16) (x5 : Vec F S2048x128 .bf16) (x6 : Vec F S2048x256 .bf16) (x7 : Vec F S2048x256 .bf16) (x8 : Vec F S1x2048x2 .f32) (x9 : Vec F S2048x128 .f32) (x10 : Vec F S2048x128 .f32) :
    Σ' (L13 : List (View.Piece (Elt F) S512x512 .bf16)) (L14 : List (View.Piece (Elt F) S1x512x128 .f32)) (L15 : List (View.Piece (Elt F) S2x2048x256 .bf16)) (L16 : List (View.Piece (Elt F) S2x2048x256 .f32)), { L17 : List (View.Piece (Elt F) S2x2048x1 .f32) //
      ∀ (E : Set ℕ) (K : PUnit → sProp 𝕄) (d11 : Vec F S2048x256 .bf16) (d12 : Vec F S2048x128 .bf16),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare d11 ∗ owns (c : Thread nD τ) arg12 fullShare d12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare d11 ∗ owns (c : Thread nD τ) arg12 fullShare d12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K d11 d12 => ?run⟩
  case run =>
    simp only [cc0_attn_bwd_eq_skeleton]; unfold cc0_attn_bwd_skel
    simp only [k0_part4_eq_skeleton, k0_part5_eq_skeleton, k0_part6_eq_skeleton, k0_part7_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%e13, %f13, -, H13⟩, ⟨%e14, %f14, -, H14⟩, ⟨%e15, %f15, -, H15⟩, ⟨%e16, %f16, -, H16⟩, ⟨%e17, %f17, -, H17⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; iexact H14
    isplitl [H15]
    · iexists _; iexact H15
    isplitl [H16]
    · iexists _; iexact H16
    iexists _; iexact H17

end Cert.AttnIdeal.Body

end
-- ==== Proof.AttnRunMiddle.lean ====
/- The body of the attention's backward call run at a middle key block: a subtype the run finds. -/
module

public import proofs.«01_k».proof.Proof.AttnRunCases
public import proofs.«01_k».proof.Proof.Gen.AttnIdeal.Loops
public import Idealize.ShloMosaic.Lib.Pipeline.FrameBody
public import Idealize.ShloMosaic.Lib.Ring
public import Idealize.ShloMosaic.Lib.Tactic
public import Idealize.ShloMosaic.Lib.LoopRemainder
public import Idealize.ShloMosaic.Lib.WordCmp

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a middle key block. -/
noncomputable def runMiddle (c : Dev nD) (i : grid0.Coords) (arg2 : Memref sig .tc .vmem S2048x256 .bf16) (harg2 : arg2.IsWhole) (arg3 : Memref sig .tc .vmem S2048x128 .bf16) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x2048x2 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x256 .bf16) (harg11 : arg11.IsWhole) (arg12 : Memref sig .tc .vmem S2048x128 .bf16) (harg12 : arg12.IsWhole) (arg13 : Memref sig .tc .vmem S512x512 .bf16) (harg13 : arg13.IsWhole) (arg14 : Memref sig .tc .vmem S1x512x128 .f32) (harg14 : arg14.IsWhole) (arg15 : Memref sig .tc .vmem S2x2048x256 .bf16) (harg15 : arg15.IsWhole) (arg16 : Memref sig .tc .vmem S2x2048x256 .f32) (harg16 : arg16.IsWhole) (arg17 : Memref sig .tc .vmem S2x2048x1 .f32) (harg17 : arg17.IsWhole) (hc1 : ¬isFirst i) (hc2 : ¬isLast i)
    (x2 : Vec F S2048x256 .bf16) (x3 : Vec F S2048x128 .bf16) (x4 : Vec F S2048x512 .bf16) (x5 : Vec F S2048x128 .bf16) (x6 : Vec F S2048x256 .bf16) (x7 : Vec F S2048x256 .bf16) (x8 : Vec F S1x2048x2 .f32) (x9 : Vec F S2048x128 .f32) (x10 : Vec F S2048x128 .f32) (x15 : Vec F S2x2048x256 .bf16) (x16 : Vec F S2x2048x256 .f32) (x17 : Vec F S2x2048x1 .f32) :
    Σ' (L13 : List (View.Piece (Elt F) S512x512 .bf16)) (L14 : List (View.Piece (Elt F) S1x512x128 .f32)), { L16 : List (View.Piece (Elt F) S2x2048x256 .f32) //
      ∀ (E : Set ℕ) (K : PUnit → sProp 𝕄) (d11 : Vec F S2048x256 .bf16) (d12 : Vec F S2048x128 .bf16),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare d11 ∗ owns (c : Thread nD τ) arg12 fullShare d12 ∗ (∃ d, owns (c : Thread nD τ) arg13 fullShare d) ∗ (∃ d, owns (c : Thread nD τ) arg14 fullShare d) ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare d11 ∗ owns (c : Thread nD τ) arg12 fullShare d12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ owns (c : Thread nD τ) arg15 fullShare x15 ∗ (arg16.view.loc (c : Thread nD τ) ↦[arg16.view.set]{fullShare} arg16.view.writes (Elt F) (harg16.unread x16) L16) ∗ owns (c : Thread nD τ) arg17 fullShare x17) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K d11 d12 => ?run⟩
  case run =>
    simp only [cc0_attn_bwd_eq_skeleton]; unfold cc0_attn_bwd_skel
    simp only [k0_part4_eq_skeleton, k0_part5_eq_skeleton, k0_part6_eq_skeleton, k0_part7_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%e13, %f13, -, H13⟩, ⟨%e14, %f14, -, H14⟩, ⟨%f15, %hf15, H15⟩, ⟨%f16, %hf16, H16⟩, ⟨%f17, %hf17, H17⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg15.eq_unread hf15
    obtain rfl := harg16.eq_unread hf16
    obtain rfl := harg17.eq_unread hf17
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; iexact H14
    isplitl [H15]
    · iexists _; isplitr; · ipureintro; exact harg15.read_unread _
      iexact H15
    isplitl [H16]
    · iexact H16
    iexists _; isplitr; · ipureintro; exact harg17.read_unread _
    iexact H17

end Cert.AttnIdeal.Body

end
-- ==== Proof.AttnRunLast.lean ====
/- The body of the attention's backward call run at the last key block: a subtype the run finds. -/
module

public import proofs.«01_k».proof.Proof.AttnRunCases
public import proofs.«01_k».proof.Proof.Gen.AttnIdeal.Loops
public import Idealize.ShloMosaic.Lib.Pipeline.FrameBody
public import Idealize.ShloMosaic.Lib.Ring
public import Idealize.ShloMosaic.Lib.Tactic
public import Idealize.ShloMosaic.Lib.LoopRemainder
public import Idealize.ShloMosaic.Lib.WordCmp

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at the last key block. -/
noncomputable def runLast (c : Dev nD) (i : grid0.Coords) (arg2 : Memref sig .tc .vmem S2048x256 .bf16) (harg2 : arg2.IsWhole) (arg3 : Memref sig .tc .vmem S2048x128 .bf16) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x2048x2 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x256 .bf16) (harg11 : arg11.IsWhole) (arg12 : Memref sig .tc .vmem S2048x128 .bf16) (harg12 : arg12.IsWhole) (arg13 : Memref sig .tc .vmem S512x512 .bf16) (harg13 : arg13.IsWhole) (arg14 : Memref sig .tc .vmem S1x512x128 .f32) (harg14 : arg14.IsWhole) (arg15 : Memref sig .tc .vmem S2x2048x256 .bf16) (harg15 : arg15.IsWhole) (arg16 : Memref sig .tc .vmem S2x2048x256 .f32) (harg16 : arg16.IsWhole) (arg17 : Memref sig .tc .vmem S2x2048x1 .f32) (harg17 : arg17.IsWhole) (hc1 : ¬isFirst i) (hc2 : isLast i)
    (x2 : Vec F S2048x256 .bf16) (x3 : Vec F S2048x128 .bf16) (x4 : Vec F S2048x512 .bf16) (x5 : Vec F S2048x128 .bf16) (x6 : Vec F S2048x256 .bf16) (x7 : Vec F S2048x256 .bf16) (x8 : Vec F S1x2048x2 .f32) (x9 : Vec F S2048x128 .f32) (x10 : Vec F S2048x128 .f32) (x15 : Vec F S2x2048x256 .bf16) (x16 : Vec F S2x2048x256 .f32) (x17 : Vec F S2x2048x1 .f32) :
    Σ' (L11 : List (View.Piece (Elt F) S2048x256 .bf16)) (L12 : List (View.Piece (Elt F) S2048x128 .bf16)) (L13 : List (View.Piece (Elt F) S512x512 .bf16)) (L14 : List (View.Piece (Elt F) S1x512x128 .f32)), { L16 : List (View.Piece (Elt F) S2x2048x256 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ owns (c : Thread nD τ) arg15 fullShare x15 ∗ (arg16.view.loc (c : Thread nD τ) ↦[arg16.view.set]{fullShare} arg16.view.writes (Elt F) (harg16.unread x16) L16) ∗ owns (c : Thread nD τ) arg17 fullShare x17) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_attn_bwd_eq_skeleton]; unfold cc0_attn_bwd_skel
    simp only [k0_part4_eq_skeleton, k0_part5_eq_skeleton, k0_part6_eq_skeleton, k0_part7_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%e11, %f11, -, H11⟩, ⟨%e12, %f12, -, H12⟩, ⟨%e13, %f13, -, H13⟩, ⟨%e14, %f14, -, H14⟩, ⟨%f15, %hf15, H15⟩, ⟨%f16, %hf16, H16⟩, ⟨%f17, %hf17, H17⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg15.eq_unread hf15
    obtain rfl := harg16.eq_unread hf16
    obtain rfl := harg17.eq_unread hf17
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexact H12
    isplitl [H13]
    · iexists _; iexact H13
    isplitl [H14]
    · iexists _; iexact H14
    isplitl [H15]
    · iexists _; isplitr; · ipureintro; exact harg15.read_unread _
      iexact H15
    isplitl [H16]
    · iexact H16
    iexists _; isplitr; · ipureintro; exact harg17.read_unread _
    iexact H17

end Cert.AttnIdeal.Body

end
-- ==== Proof.AttnRunFrame.lean ====
/- The launch of the attention's backward call: what each point leaves in the outputs' buffers and in the three scratch buffers the
   kernel carries from one key block to the next (the packed queries, the gradient of the queries, the row sums of `do · o`), the
   body's obligation at every point, the run, and the frame. -/
module

public import proofs.«01_k».proof.Proof.AttnRunFirst
public import proofs.«01_k».proof.Proof.AttnRunMiddle
public import proofs.«01_k».proof.Proof.AttnRunLast
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two tests, in closed form -/

theorem isFirst_iff : ∀ t : Fin cfg0.N, isFirst (grid0.coords t) ↔ t.val % 4 = 0 :=
  (fun t => by
    have ht : t.val < 32 := Nat.lt_of_lt_of_eq t.isLt N_0
    have e1 : (grid0.coords t 1).val = t.val / 1 % 4 := Pipeline.Grid.coords_val t 1 (by decide) rfl
    simp only [isFirst, e1]
    word_cmp
   : ∀ t : Fin grid0.N, isFirst (grid0.coords t) ↔ t.val % 4 = 0)

theorem isLast_iff : ∀ t : Fin cfg0.N, isLast (grid0.coords t) ↔ t.val % 4 = 3 :=
  (fun t => by
    have ht : t.val < 32 := Nat.lt_of_lt_of_eq t.isLt N_0
    have e1 : (grid0.coords t 1).val = t.val / 1 % 4 := Pipeline.Grid.coords_val t 1 (by decide) rfl
    simp only [isLast, k0_cond2, e1]
    word_cmp
   : ∀ t : Fin grid0.N, isLast (grid0.coords t) ↔ t.val % 4 = 3)

/-! ## The scratch buffers -/

abbrev scQ : Memref sig .tc .vmem S2x2048x256 .bf16 := Memref.whole cc0_scratch0
abbrev scG : Memref sig .tc .vmem S2x2048x256 .f32 := Memref.whole cc0_scratch1
abbrev scD : Memref sig .tc .vmem S2x2048x1 .f32 := Memref.whole cc0_scratch2

theorem PhiA_eq (c : Dev nD) :
    (Pipeline.ΦA spec0 c : sProp 𝕄)
      = iprop(iprop((∃ d, owns (c : Thread nD τ) scQ fullShare d) ∗ (∃ d, owns (c : Thread nD τ) scG fullShare d) ∗ (∃ d, owns (c : Thread nD τ) scD fullShare d)) ∗ (∃ r, prngReg c r)) := by
  unfold Pipeline.ΦA; rw [scopedRest0_eq]; simp only [scQ, scG, scD, owns_whole]; try rfl

/-- What the scratch buffers hold: the packed queries, the gradient of the queries, the row sums. -/
abbrev Scr (F : FTy → Type) := Vec F S2x2048x256 .bf16 × Vec F S2x2048x256 .f32 × Vec F S2x2048x1 .f32

/-! ## The runs at a point's own memrefs and blocks -/

/-- The run of the case at point `t`. -/
abbrev atFirst (c : Dev nD) (t : Fin cfg0.N) (h0 : t.val % 4 = 0) (h3 : ¬t.val % 4 = 3) :=
  runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) scQ (Memref.isWhole_whole _) scG (Memref.isWhole_whole _) scD (Memref.isWhole_whole _) ((isFirst_iff t).mpr h0) (fun h => h3 ((isLast_iff t).mp h)) (iblk m c 0 t) (iblk m c 1 t) (iblk m c 2 t) (iblk m c 3 t) (iblk m c 4 t) (iblk m c 5 t) (iblk m c 6 t) (iblk m c 7 t) (iblk m c 8 t)

/-- The run of the case at point `t`. -/
abbrev atMiddle (c : Dev nD) (t : Fin cfg0.N) (h0 : ¬t.val % 4 = 0) (h3 : ¬t.val % 4 = 3) (s : Scr F) :=
  runMiddle c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) scQ (Memref.isWhole_whole _) scG (Memref.isWhole_whole _) scD (Memref.isWhole_whole _) (fun h => h0 ((isFirst_iff t).mp h)) (fun h => h3 ((isLast_iff t).mp h)) (iblk m c 0 t) (iblk m c 1 t) (iblk m c 2 t) (iblk m c 3 t) (iblk m c 4 t) (iblk m c 5 t) (iblk m c 6 t) (iblk m c 7 t) (iblk m c 8 t) s.1 s.2.1 s.2.2

/-- The run of the case at point `t`. -/
abbrev atLast (c : Dev nD) (t : Fin cfg0.N) (h0 : ¬t.val % 4 = 0) (h3 : t.val % 4 = 3) (s : Scr F) :=
  runLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) scQ (Memref.isWhole_whole _) scG (Memref.isWhole_whole _) scD (Memref.isWhole_whole _) (fun h => h0 ((isFirst_iff t).mp h)) ((isLast_iff t).mpr h3) (iblk m c 0 t) (iblk m c 1 t) (iblk m c 2 t) (iblk m c 3 t) (iblk m c 4 t) (iblk m c 5 t) (iblk m c 6 t) (iblk m c 7 t) (iblk m c 8 t) s.1 s.2.1 s.2.2

/-! ## The stores cover what they are read back from -/

theorem coverFirst13 (c : Dev nD) (t : Fin cfg0.N) (h0 : t.val % 4 = 0) (h3 : ¬t.val % 4 = 3) (y : S512x512.Idx) :
    ∃ pc ∈ (atFirst m c t h0 h3).1, y ∈ pc.1.set :=
  View.cover_of_tiledL (atFirst m c t h0 h3).1 S512x128.size (by sl_kernel_rfl) y

theorem coverFirst14 (c : Dev nD) (t : Fin cfg0.N) (h0 : t.val % 4 = 0) (h3 : ¬t.val % 4 = 3) (y : S1x512x128.Idx) :
    ∃ pc ∈ (atFirst m c t h0 h3).2.1, y ∈ pc.1.set :=
  View.cover_of_tiledL (atFirst m c t h0 h3).2.1 S1x512x128.size (by sl_kernel_rfl) y

theorem coverFirst15 (c : Dev nD) (t : Fin cfg0.N) (h0 : t.val % 4 = 0) (h3 : ¬t.val % 4 = 3) (y : S2x2048x256.Idx) :
    ∃ pc ∈ (atFirst m c t h0 h3).2.2.1, y ∈ pc.1.set :=
  View.cover_of_tiledL (atFirst m c t h0 h3).2.2.1 S1x2048x256.size (by sl_kernel_rfl) y

theorem coverFirst17 (c : Dev nD) (t : Fin cfg0.N) (h0 : t.val % 4 = 0) (h3 : ¬t.val % 4 = 3) (y : S2x2048x1.Idx) :
    ∃ pc ∈ (atFirst m c t h0 h3).2.2.2.2.1, y ∈ pc.1.set :=
  View.cover_of_tiledL (atFirst m c t h0 h3).2.2.2.2.1 S1x2048x1.size (by sl_kernel_rfl) y

theorem coverMiddle13 (c : Dev nD) (t : Fin cfg0.N) (h0 : ¬t.val % 4 = 0) (h3 : ¬t.val % 4 = 3) (s : Scr F) (y : S512x512.Idx) :
    ∃ pc ∈ (atMiddle m c t h0 h3 s).1, y ∈ pc.1.set :=
  View.cover_of_tiledL (atMiddle m c t h0 h3 s).1 S512x128.size (by sl_kernel_rfl) y

theorem coverMiddle14 (c : Dev nD) (t : Fin cfg0.N) (h0 : ¬t.val % 4 = 0) (h3 : ¬t.val % 4 = 3) (s : Scr F) (y : S1x512x128.Idx) :
    ∃ pc ∈ (atMiddle m c t h0 h3 s).2.1, y ∈ pc.1.set :=
  View.cover_of_tiledL (atMiddle m c t h0 h3 s).2.1 S1x512x128.size (by sl_kernel_rfl) y

theorem coverLast11 (c : Dev nD) (t : Fin cfg0.N) (h0 : ¬t.val % 4 = 0) (h3 : t.val % 4 = 3) (s : Scr F) (y : S2048x256.Idx) :
    ∃ pc ∈ (atLast m c t h0 h3 s).1, y ∈ pc.1.set :=
  View.cover_of_tiledL (atLast m c t h0 h3 s).1 S2048x128.size (by sl_kernel_rfl) y

theorem coverLast12 (c : Dev nD) (t : Fin cfg0.N) (h0 : ¬t.val % 4 = 0) (h3 : t.val % 4 = 3) (s : Scr F) (y : S2048x128.Idx) :
    ∃ pc ∈ (atLast m c t h0 h3 s).2.1, y ∈ pc.1.set :=
  View.cover_of_tiledL (atLast m c t h0 h3 s).2.1 S2048x128.size (by sl_kernel_rfl) y

theorem coverLast13 (c : Dev nD) (t : Fin cfg0.N) (h0 : ¬t.val % 4 = 0) (h3 : t.val % 4 = 3) (s : Scr F) (y : S512x512.Idx) :
    ∃ pc ∈ (atLast m c t h0 h3 s).2.2.1, y ∈ pc.1.set :=
  View.cover_of_tiledL (atLast m c t h0 h3 s).2.2.1 S512x128.size (by sl_kernel_rfl) y

theorem coverLast14 (c : Dev nD) (t : Fin cfg0.N) (h0 : ¬t.val % 4 = 0) (h3 : t.val % 4 = 3) (s : Scr F) (y : S1x512x128.Idx) :
    ∃ pc ∈ (atLast m c t h0 h3 s).2.2.2.1, y ∈ pc.1.set :=
  View.cover_of_tiledL (atLast m c t h0 h3 s).2.2.2.1 S1x512x128.size (by sl_kernel_rfl) y

theorem coverFirst16 (c : Dev nD) (t : Fin cfg0.N) (h0 : t.val % 4 = 0) (h3 : ¬t.val % 4 = 3) (y : S2x2048x256.Idx) :
    ∃ pc ∈ (atFirst m c t h0 h3).2.2.2.1, y ∈ pc.1.set := by
  have e : (atFirst m c t h0 h3).2.2.2.1 = _ ++ _ :: _ :: runFirst.sl.H16_1 := rfl
  obtain ⟨pc, hp, hy⟩ := View.cover_of_tiledL (runFirst.sl.H16_1 (F := F)) S2x2048x256.size (by sl_kernel_rfl) y
  refine ⟨pc, ?_, hy⟩
  rw [e]
  exact List.mem_append_right _ (List.mem_cons_of_mem _ (List.mem_cons_of_mem _ hp))

/-! ## What the scratch buffers hold after each point -/

def scrFirst (c : Dev nD) (t : Fin cfg0.N) (h0 : t.val % 4 = 0) (h3 : ¬t.val % 4 = 3) : Scr F :=
  (View.canon (atFirst m c t h0 h3).2.2.1, View.canon (atFirst m c t h0 h3).2.2.2.1, View.canon (atFirst m c t h0 h3).2.2.2.2.1)

def scrMiddle (c : Dev nD) (t : Fin cfg0.N) (h0 : ¬t.val % 4 = 0) (h3 : ¬t.val % 4 = 3) (s : Scr F) : Scr F :=
  (s.1, scG.view.read (Elt F) (scG.view.writes (Elt F) ((Memref.isWhole_whole cc0_scratch1).unread s.2.1) (atMiddle m c t h0 h3 s).2.2.1), s.2.2)

def scrLast (c : Dev nD) (t : Fin cfg0.N) (h0 : ¬t.val % 4 = 0) (h3 : t.val % 4 = 3) (s : Scr F) : Scr F :=
  (s.1, scG.view.read (Elt F) (scG.view.writes (Elt F) ((Memref.isWhole_whole cc0_scratch1).unread s.2.1) (atLast m c t h0 h3 s).2.2.2.2.1), s.2.2)

theorem readFirst15 (c : Dev nD) (t : Fin cfg0.N) (h0 : t.val % 4 = 0) (h3 : ¬t.val % 4 = 3) (f : scQ.view.ty.Contents (Elt F)) :
    scQ.view.read (Elt F) (scQ.view.writes (Elt F) f (atFirst m c t h0 h3).2.2.1) = (scrFirst m c t h0 h3).1 := by
  unfold scrFirst; dsimp only
  exact View.read_writes_eq_canon _ _ _ (coverFirst15 m c t h0 h3)

theorem readFirst16 (c : Dev nD) (t : Fin cfg0.N) (h0 : t.val % 4 = 0) (h3 : ¬t.val % 4 = 3) (f : scG.view.ty.Contents (Elt F)) :
    scG.view.read (Elt F) (scG.view.writes (Elt F) f (atFirst m c t h0 h3).2.2.2.1) = (scrFirst m c t h0 h3).2.1 := by
  unfold scrFirst; dsimp only
  exact View.read_writes_eq_canon _ _ _ (coverFirst16 m c t h0 h3)

theorem readFirst17 (c : Dev nD) (t : Fin cfg0.N) (h0 : t.val % 4 = 0) (h3 : ¬t.val % 4 = 3) (f : scD.view.ty.Contents (Elt F)) :
    scD.view.read (Elt F) (scD.view.writes (Elt F) f (atFirst m c t h0 h3).2.2.2.2.1) = (scrFirst m c t h0 h3).2.2 := by
  unfold scrFirst; dsimp only
  exact View.read_writes_eq_canon _ _ _ (coverFirst17 m c t h0 h3)

/-- After the body at position `n`. -/
def scrAt (c : Dev nD) : (n : ℕ) → n < cfg0.N → Scr F
  | 0, hn => scrFirst m c ⟨0, hn⟩ (Nat.zero_mod _) (fun h => absurd ((Nat.zero_mod 4).symm.trans h) (by decide))
  | n + 1, hn =>
    if h0 : (n + 1) % 4 = 0 then scrFirst m c ⟨n + 1, hn⟩ h0 (fun h => by dsimp only at h; omega)
    else if h3 : (n + 1) % 4 = 3 then scrLast m c ⟨n + 1, hn⟩ h0 h3 (scrAt c n (Nat.lt_of_succ_lt hn))
    else scrMiddle m c ⟨n + 1, hn⟩ h0 h3 (scrAt c n (Nat.lt_of_succ_lt hn))

/-- Before a point that is not the first. -/
abbrev scrBefore (c : Dev nD) (t : Fin cfg0.N) : Scr F := scrAt m c (t.val - 1) (Nat.lt_of_le_of_lt (Nat.sub_le _ _) t.isLt)

theorem scrAt_first (c : Dev nD) (t : Fin cfg0.N) (h0 : t.val % 4 = 0) (h3 : ¬t.val % 4 = 3) :
    scrAt m c t.val t.isLt = scrFirst m c t h0 h3 := by
  obtain ⟨n, hn⟩ := t
  cases n with
  | zero => exact rfl
  | succ n => exact (dif_pos h0).trans rfl

theorem scrAt_middle (c : Dev nD) (t : Fin cfg0.N) (h0 : ¬t.val % 4 = 0) (h3 : ¬t.val % 4 = 3) :
    scrAt m c t.val t.isLt = scrMiddle m c t h0 h3 (scrBefore m c t) := by
  obtain ⟨n, hn⟩ := t
  cases n with
  | zero => exact (by exfalso; (try dsimp only at h0); exact absurd (Nat.zero_mod _) h0)
  | succ n => exact (dif_neg h0).trans ((dif_neg h3).trans rfl)

theorem scrAt_last (c : Dev nD) (t : Fin cfg0.N) (h0 : ¬t.val % 4 = 0) (h3 : t.val % 4 = 3) :
    scrAt m c t.val t.isLt = scrLast m c t h0 h3 (scrBefore m c t) := by
  obtain ⟨n, hn⟩ := t
  cases n with
  | zero => exact (by exfalso; (try dsimp only at h0); exact absurd (Nat.zero_mod _) h0)
  | succ n => exact (dif_neg h0).trans ((dif_pos h3).trans rfl)

/-- The three scratch buffers at stated contents, and the generator register at some state. -/
def held (c : Dev nD) (s : Scr F) : sProp 𝕄 :=
  iprop(iprop(owns (c : Thread nD τ) scQ fullShare s.1 ∗ owns (c : Thread nD τ) scG fullShare s.2.1 ∗ owns (c : Thread nD τ) scD fullShare s.2.2) ∗ (∃ r, prngReg c r))

/-- The invariant before position `n`. -/
def PhiS (c : Dev nD) : (n : ℕ) → n ≤ cfg0.N → sProp 𝕄
  | 0, _ => Pipeline.ΦA spec0 c
  | n + 1, hn => held c (scrAt m c n hn)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = held c (scrAt m c n hn) := rfl

theorem PhiS_pos (c : Dev nD) (n : ℕ) (h : n ≤ cfg0.N) (hz : n ≠ 0) :
    PhiS m c n h = held c (scrAt m c (n - 1) (by omega)) := by
  cases n with
  | zero => exact absurd rfl hz
  | succ n => rfl

/-! ## What the outputs' buffers hold after each point -/

def out13 (c : Dev nD) (t : Fin cfg0.N) : Vec F S512x512 .bf16 :=
  if h0 : t.val % 4 = 0 then View.canon (atFirst m c t h0 (by omega)).1
  else if h3 : t.val % 4 = 3 then View.canon (atLast m c t h0 h3 (scrBefore m c t)).2.2.1
  else View.canon (atMiddle m c t h0 h3 (scrBefore m c t)).1

theorem out13_first (c : Dev nD) (t : Fin cfg0.N) (h0 : t.val % 4 = 0) (h3 : ¬t.val % 4 = 3) :
    out13 m c t = View.canon (atFirst m c t h0 h3).1 := dif_pos h0

theorem out13_middle (c : Dev nD) (t : Fin cfg0.N) (h0 : ¬t.val % 4 = 0) (h3 : ¬t.val % 4 = 3) :
    out13 m c t = View.canon (atMiddle m c t h0 h3 (scrBefore m c t)).1 := (dif_neg h0).trans (dif_neg h3)

theorem out13_last (c : Dev nD) (t : Fin cfg0.N) (h0 : ¬t.val % 4 = 0) (h3 : t.val % 4 = 3) :
    out13 m c t = View.canon (atLast m c t h0 h3 (scrBefore m c t)).2.2.1 := (dif_neg h0).trans (dif_pos h3)

def out14 (c : Dev nD) (t : Fin cfg0.N) : Vec F S1x512x128 .f32 :=
  if h0 : t.val % 4 = 0 then View.canon (atFirst m c t h0 (by omega)).2.1
  else if h3 : t.val % 4 = 3 then View.canon (atLast m c t h0 h3 (scrBefore m c t)).2.2.2.1
  else View.canon (atMiddle m c t h0 h3 (scrBefore m c t)).2.1

theorem out14_first (c : Dev nD) (t : Fin cfg0.N) (h0 : t.val % 4 = 0) (h3 : ¬t.val % 4 = 3) :
    out14 m c t = View.canon (atFirst m c t h0 h3).2.1 := dif_pos h0

theorem out14_middle (c : Dev nD) (t : Fin cfg0.N) (h0 : ¬t.val % 4 = 0) (h3 : ¬t.val % 4 = 3) :
    out14 m c t = View.canon (atMiddle m c t h0 h3 (scrBefore m c t)).2.1 := (dif_neg h0).trans (dif_neg h3)

theorem out14_last (c : Dev nD) (t : Fin cfg0.N) (h0 : ¬t.val % 4 = 0) (h3 : t.val % 4 = 3) :
    out14 m c t = View.canon (atLast m c t h0 h3 (scrBefore m c t)).2.2.2.1 := (dif_neg h0).trans (dif_pos h3)

def out11 (c : Dev nD) (t : Fin cfg0.N) : Vec F S2048x256 .bf16 :=
  if h3 : t.val % 4 = 3 then View.canon (atLast m c t (by omega) h3 (scrBefore m c t)).1 else View.canon []

theorem out11_last (c : Dev nD) (t : Fin cfg0.N) (h0 : ¬t.val % 4 = 0) (h3 : t.val % 4 = 3) :
    out11 m c t = View.canon (atLast m c t h0 h3 (scrBefore m c t)).1 := dif_pos h3

def out12 (c : Dev nD) (t : Fin cfg0.N) : Vec F S2048x128 .bf16 :=
  if h3 : t.val % 4 = 3 then View.canon (atLast m c t (by omega) h3 (scrBefore m c t)).2.1 else View.canon []

theorem out12_last (c : Dev nD) (t : Fin cfg0.N) (h0 : ¬t.val % 4 = 0) (h3 : t.val % 4 = 3) :
    out12 m c t = View.canon (atLast m c t h0 h3 (scrBefore m c t)).2.1 := dif_pos h3

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out11 m c t
    | ⟨10, _⟩ => out12 m c t
    | ⟨11, _⟩ => out13 m c t
    | ⟨12, _⟩ => out14 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out11 m c t := by dsimp only [dats]
theorem after_10 (c : Dev nD) (t : Fin cfg0.N) : (dats m 0 c).after 10 t = out12 m c t := by dsimp only [dats]
theorem after_11 (c : Dev nD) (t : Fin cfg0.N) : (dats m 0 c).after 11 t = out13 m c t := by dsimp only [dats]
theorem after_12 (c : Dev nD) (t : Fin cfg0.N) : (dats m 0 c).after 12 t = out14 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_11 : ∀ t : Fin cfg0.N, cfg0.idle 11 (grid0.coords t) = false := fun _ => rfl
theorem live_12 : ∀ t : Fin cfg0.N, cfg0.idle 12 (grid0.coords t) = false := fun _ => rfl
theorem idle_9 (t : Fin cfg0.N) (h3 : ¬t.val % 4 = 3) : cfg0.idle 9 (grid0.coords t) = true := by
  have hn : ¬isLast (grid0.coords t) := fun h => h3 ((isLast_iff t).mp h)
  simpa [cfg0, idle0, isLast] using hn
theorem busy_9 (t : Fin cfg0.N) (h3 : t.val % 4 = 3) : cfg0.idle 9 (grid0.coords t) = false := by
  have hn : isLast (grid0.coords t) := (isLast_iff t).mpr h3
  simpa [cfg0, idle0, isLast] using hn
theorem kept_9 (t : Fin cfg0.N) (h3 : ¬t.val % 4 = 3) : (cfg0.win 9).flush t = false := by
  cases h : (cfg0.win 9).flush t with
  | false => rfl
  | true => exact absurd ((flush0_9 t).mp h) h3
theorem idle_10 (t : Fin cfg0.N) (h3 : ¬t.val % 4 = 3) : cfg0.idle 10 (grid0.coords t) = true := by
  have hn : ¬isLast (grid0.coords t) := fun h => h3 ((isLast_iff t).mp h)
  simpa [cfg0, idle0, isLast] using hn
theorem busy_10 (t : Fin cfg0.N) (h3 : t.val % 4 = 3) : cfg0.idle 10 (grid0.coords t) = false := by
  have hn : isLast (grid0.coords t) := (isLast_iff t).mpr h3
  simpa [cfg0, idle0, isLast] using hn
theorem kept_10 (t : Fin cfg0.N) (h3 : ¬t.val % 4 = 3) : (cfg0.win 10).flush t = false := by
  cases h : (cfg0.win 10).flush t with
  | false => rfl
  | true => exact absurd ((flush0_10 t).mp h) h3

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves_0 (c : Dev nD) (t : Fin cfg0.N) :
    (dats m 0 c).leavesExact 0 t = owns (c : Thread nD τ) (st0_0 t) fullShare (iblk m c 0 t) := by
  unfold Dat.leavesExact; rw [live_0 t, after_0]
theorem leaves_1 (c : Dev nD) (t : Fin cfg0.N) :
    (dats m 0 c).leavesExact 1 t = owns (c : Thread nD τ) (st0_1 t) fullShare (iblk m c 1 t) := by
  unfold Dat.leavesExact; rw [live_1 t, after_1]
theorem leaves_2 (c : Dev nD) (t : Fin cfg0.N) :
    (dats m 0 c).leavesExact 2 t = owns (c : Thread nD τ) (st0_2 t) fullShare (iblk m c 2 t) := by
  unfold Dat.leavesExact; rw [live_2 t, after_2]
theorem leaves_3 (c : Dev nD) (t : Fin cfg0.N) :
    (dats m 0 c).leavesExact 3 t = owns (c : Thread nD τ) (st0_3 t) fullShare (iblk m c 3 t) := by
  unfold Dat.leavesExact; rw [live_3 t, after_3]
theorem leaves_4 (c : Dev nD) (t : Fin cfg0.N) :
    (dats m 0 c).leavesExact 4 t = owns (c : Thread nD τ) (st0_4 t) fullShare (iblk m c 4 t) := by
  unfold Dat.leavesExact; rw [live_4 t, after_4]
theorem leaves_5 (c : Dev nD) (t : Fin cfg0.N) :
    (dats m 0 c).leavesExact 5 t = owns (c : Thread nD τ) (st0_5 t) fullShare (iblk m c 5 t) := by
  unfold Dat.leavesExact; rw [live_5 t, after_5]
theorem leaves_6 (c : Dev nD) (t : Fin cfg0.N) :
    (dats m 0 c).leavesExact 6 t = owns (c : Thread nD τ) (st0_6 t) fullShare (iblk m c 6 t) := by
  unfold Dat.leavesExact; rw [live_6 t, after_6]
theorem leaves_7 (c : Dev nD) (t : Fin cfg0.N) :
    (dats m 0 c).leavesExact 7 t = owns (c : Thread nD τ) (st0_7 t) fullShare (iblk m c 7 t) := by
  unfold Dat.leavesExact; rw [live_7 t, after_7]
theorem leaves_8 (c : Dev nD) (t : Fin cfg0.N) :
    (dats m 0 c).leavesExact 8 t = owns (c : Thread nD τ) (st0_8 t) fullShare (iblk m c 8 t) := by
  unfold Dat.leavesExact; rw [live_8 t, after_8]
theorem leaves_11 (c : Dev nD) (t : Fin cfg0.N) :
    (dats m 0 c).leavesExact 11 t = owns (c : Thread nD τ) (st0_11 t) fullShare (out13 m c t) := by
  unfold Dat.leavesExact; rw [live_11 t, after_11]
theorem leaves_12 (c : Dev nD) (t : Fin cfg0.N) :
    (dats m 0 c).leavesExact 12 t = owns (c : Thread nD τ) (st0_12 t) fullShare (out14 m c t) := by
  unfold Dat.leavesExact; rw [live_12 t, after_12]
theorem leaves_9 (c : Dev nD) (t : Fin cfg0.N) (h3 : t.val % 4 = 3) :
    (dats m 0 c).leavesExact 9 t = owns (c : Thread nD τ) (st0_9 t) fullShare (out11 m c t) := by
  unfold Dat.leavesExact; rw [busy_9 t h3, after_9]
theorem leaves_10 (c : Dev nD) (t : Fin cfg0.N) (h3 : t.val % 4 = 3) :
    (dats m 0 c).leavesExact 10 t = owns (c : Thread nD τ) (st0_10 t) fullShare (out12 m c t) := by
  unfold Dat.leavesExact; rw [busy_10 t h3, after_10]

set_option maxHeartbeats 2000000 in
theorem soundFirst (c : Dev nD) (t : Fin cfg0.N) (h0 : t.val % 4 = 0) (h3 : ¬t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_11, leaves_12]
  by_cases hz : t.val = 0
  · rw [PhiS_castSucc m c t, PhiS_zero m c _ _ hz, PhiA_eq]
    rw [scrAt_first m c t h0 h3, out13_first m c t h0 h3, out14_first m c t h0 h3]
    rw [Dat.leavesExact_idle _ 9 t (idle_9 t h3) (kept_9 t h3), Dat.leavesExact_idle _ 10 t (idle_10 t h3) (kept_10 t h3)]
    unfold held
    iintro ⟨⟨⟨HQ, HG, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((atFirst m c t h0 h3).2.2.2.2.2 Set.univ _ ((dats m 0 c).before 9 t d9) ((dats m 0 c).before 10 t d10))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HQ]; · iexact HQ
    isplitl [HG]; · iexact HG
    isplitl [HD]; · iexact HD
    iintro ⟨H0, H1, H2, H3, H4, H5, H6, H7, H8, H9, H10, ⟨%e11, H11⟩, ⟨%e12, H12⟩, ⟨%eQ, HQ⟩, ⟨%eG, HG⟩, ⟨%eD, HD⟩⟩
    isplitl [HQ HG HD Hg]
    · isplitl [HQ HG HD]
      · isplitl [HQ]
        · unfold owns; iexists _; isplitr
          swap; · iexact HQ
          ipureintro; exact readFirst15 m c t h0 h3 _
        isplitl [HG]
        · unfold owns; iexists _; isplitr
          swap; · iexact HG
          ipureintro; exact readFirst16 m c t h0 h3 _
        unfold owns; iexists _; isplitr
        swap; · iexact HD
        ipureintro; exact readFirst17 m c t h0 h3 _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]
    · unfold owns; iexists _; isplitr
      swap; · iexact H11
      ipureintro; exact View.read_writes_eq_canon _ _ _ (coverFirst13 m c t h0 h3)
    unfold owns; iexists _; isplitr
    swap; · iexact H12
    ipureintro; exact View.read_writes_eq_canon _ _ _ (coverFirst14 m c t h0 h3)
  · rw [PhiS_castSucc m c t, PhiS_pos m c _ _ hz]
    rw [scrAt_first m c t h0 h3, out13_first m c t h0 h3, out14_first m c t h0 h3]
    rw [Dat.leavesExact_idle _ 9 t (idle_9 t h3) (kept_9 t h3), Dat.leavesExact_idle _ 10 t (idle_10 t h3) (kept_10 t h3)]
    unfold held
    iintro ⟨⟨⟨HQ, HG, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((atFirst m c t h0 h3).2.2.2.2.2 Set.univ _ ((dats m 0 c).before 9 t d9) ((dats m 0 c).before 10 t d10))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HQ]; · iexists _; iexact HQ
    isplitl [HG]; · iexists _; iexact HG
    isplitl [HD]; · iexists _; iexact HD
    iintro ⟨H0, H1, H2, H3, H4, H5, H6, H7, H8, H9, H10, ⟨%e11, H11⟩, ⟨%e12, H12⟩, ⟨%eQ, HQ⟩, ⟨%eG, HG⟩, ⟨%eD, HD⟩⟩
    isplitl [HQ HG HD Hg]
    · isplitl [HQ HG HD]
      · isplitl [HQ]
        · unfold owns; iexists _; isplitr
          swap; · iexact HQ
          ipureintro; exact readFirst15 m c t h0 h3 _
        isplitl [HG]
        · unfold owns; iexists _; isplitr
          swap; · iexact HG
          ipureintro; exact readFirst16 m c t h0 h3 _
        unfold owns; iexists _; isplitr
        swap; · iexact HD
        ipureintro; exact readFirst17 m c t h0 h3 _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]
    · unfold owns; iexists _; isplitr
      swap; · iexact H11
      ipureintro; exact View.read_writes_eq_canon _ _ _ (coverFirst13 m c t h0 h3)
    unfold owns; iexists _; isplitr
    swap; · iexact H12
    ipureintro; exact View.read_writes_eq_canon _ _ _ (coverFirst14 m c t h0 h3)

set_option maxHeartbeats 2000000 in
theorem soundMiddle (c : Dev nD) (t : Fin cfg0.N) (h0 : ¬t.val % 4 = 0) (h3 : ¬t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_11, leaves_12]
  have hz : t.val ≠ 0 := fun h => h0 (by rw [h])
  rw [PhiS_castSucc m c t, PhiS_pos m c _ _ hz]
  rw [scrAt_middle m c t h0 h3, out13_middle m c t h0 h3, out14_middle m c t h0 h3]
  rw [Dat.leavesExact_idle _ 9 t (idle_9 t h3) (kept_9 t h3), Dat.leavesExact_idle _ 10 t (idle_10 t h3) (kept_10 t h3)]
  unfold held scrMiddle
  iintro ⟨⟨⟨HQ, HG, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((atMiddle m c t h0 h3 (scrBefore m c t)).2.2.2 Set.univ _ ((dats m 0 c).before 9 t d9) ((dats m 0 c).before 10 t d10))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HQ]; · iexact HQ
  isplitl [HG]; · iexact HG
  isplitl [HD]; · iexact HD
  iintro ⟨H0, H1, H2, H3, H4, H5, H6, H7, H8, H9, H10, ⟨%e11, H11⟩, ⟨%e12, H12⟩, HQ, HG, HD⟩
  isplitl [HQ HG HD Hg]
  · isplitl [HQ HG HD]
    · isplitl [HQ]; · iexact HQ
      isplitl [HG]
      · unfold owns; iexists _; isplitr
        swap; · iexact HG
        ipureintro; rfl
      iexact HD
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]
  · unfold owns; iexists _; isplitr
    swap; · iexact H11
    ipureintro; exact View.read_writes_eq_canon _ _ _ (coverMiddle13 m c t h0 h3 (scrBefore m c t))
  unfold owns; iexists _; isplitr
  swap; · iexact H12
  ipureintro; exact View.read_writes_eq_canon _ _ _ (coverMiddle14 m c t h0 h3 (scrBefore m c t))

set_option maxHeartbeats 2000000 in
theorem soundLast (c : Dev nD) (t : Fin cfg0.N) (h0 : ¬t.val % 4 = 0) (h3 : t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_11, leaves_12]
  have hz : t.val ≠ 0 := fun h => h0 (by rw [h])
  rw [PhiS_castSucc m c t, PhiS_pos m c _ _ hz]
  rw [scrAt_last m c t h0 h3, out13_last m c t h0 h3, out14_last m c t h0 h3]
  rw [leaves_9 m c t h3, leaves_10 m c t h3, out11_last m c t h0 h3, out12_last m c t h0 h3]
  unfold held scrLast
  iintro ⟨⟨⟨HQ, HG, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((atLast m c t h0 h3 (scrBefore m c t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HQ]; · iexact HQ
  isplitl [HG]; · iexact HG
  isplitl [HD]; · iexact HD
  iintro ⟨H0, H1, H2, H3, H4, H5, H6, H7, H8, ⟨%e9, H9⟩, ⟨%e10, H10⟩, ⟨%e11, H11⟩, ⟨%e12, H12⟩, HQ, HG, HD⟩
  isplitl [HQ HG HD Hg]
  · isplitl [HQ HG HD]
    · isplitl [HQ]; · iexact HQ
      isplitl [HG]
      · unfold owns; iexists _; isplitr
        swap; · iexact HG
        ipureintro; rfl
      iexact HD
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (coverLast11 m c t h0 h3 (scrBefore m c t))
  isplitl [H10]
  · unfold owns; iexists _; isplitr
    swap; · iexact H10
    ipureintro; exact View.read_writes_eq_canon _ _ _ (coverLast12 m c t h0 h3 (scrBefore m c t))
  isplitl [H11]
  · unfold owns; iexists _; isplitr
    swap; · iexact H11
    ipureintro; exact View.read_writes_eq_canon _ _ _ (coverLast13 m c t h0 h3 (scrBefore m c t))
  unfold owns; iexists _; isplitr
  swap; · iexact H12
  ipureintro; exact View.read_writes_eq_canon _ _ _ (coverLast14 m c t h0 h3 (scrBefore m c t))

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact soundFirst m c t h0 (by omega)
  · by_cases h3 : t.val % 4 = 3
    · exact soundLast m c t h0 h3
    · exact soundMiddle m c t h0 h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA_eq]
  unfold held
  iintro ⟨⟨HQ, HG, HD⟩, Hg⟩
  isplitl [HQ HG HD]
  · isplitl [HQ]; · iexists _; iexact HQ
    isplitl [HG]; · iexists _; iexact HG
    iexists _; iexact HD
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.AttnIdeal.Body

end
-- ==== Proof.AttnClaim.lean ====
/- The attention's backward call: the frame of its reference, and the naming of its mask. -/
module

public import proofs.«01_k».proof.Defs
public import proofs.«01_k».proof.Proof.AttnRunFrame
public import proofs.«01_k».proof.Proof.AttnRawFrame
public import proofs.«01_k».proof.Proof.Gen.AttnRefIdeal.Run
public import Idealize.ShloMosaic.Lib.Quiescent

@[expose] public section

noncomputable section

namespace Cert.AttnClaim

open Idealize.ShloMosaic Idealize.SL.Sem

theorem ref_frame : Cert.quiescent_AttnRefIdeal := fun m ρ _ =>
  (θ_run _ _ _).mono (fun r h => And.intro (fun c => (h c).2.2.2.2) (sem_eq_zero_of_no_sems (by decide) r.2))
    (Cert.AttnRefIdeal.Value.run (F := Ideal) m ρ)

theorem kernel_frame : Cert.quiescent_Attn := fun m ρ _ => Cert.Attn.Body.frame m ρ

theorem ideal_frame : Cert.quiescent_AttnIdeal := fun m ρ _ => Cert.AttnIdeal.Body.frame m ρ

theorem mask_named : Cert.preserves_Attn_AttnIdeal :=
  IdealRules.named_const.statement Cert.AttnIdeal.κ "mask" .f32 0xF149F2CA#32 ⊥ rfl

end Cert.AttnClaim

end
-- ==== Proof.AttnMath.lean ====
module
public import Idealize.ShloMosaic.Lib.Pointwise
public import Idealize.ShloMosaic.PureOps.Ideal
public import Idealize.ShloMosaic.PureOps.Ideal.Laws

/-! # Causal attention and its gradient over the reals

Sixteen heads of 2048 positions. A head's query and key have 128 plain columns and 64 rotated ones, the rotated key
being one for all heads; the indices are natural numbers, so that a block's row `512 * b + a` needs no proof. -/

@[expose] public section

noncomputable section

namespace Cert.AttnMath

open Idealize.ShloMosaic

/-- A finite sum of reals, as an extended real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- What the attention reads: plain and rotated queries, plain keys, the rotated key, values, the output's gradient, and
the scale of the scores. -/
structure Arr where
  qn : ℕ → ℕ → ℕ → ℝ
  qr : ℕ → ℕ → ℕ → ℝ
  kn : ℕ → ℕ → ℕ → ℝ
  kr : ℕ → ℕ → ℝ
  v : ℕ → ℕ → ℕ → ℝ
  g : ℕ → ℕ → ℕ → ℝ
  c : ℝ

namespace Arr
variable (A : Arr)

/-- The score of query `i` and key `j`. -/
def S (h i j : ℕ) : ℝ := ((∑ d : Fin 128, A.qn h i d * A.kn h j d) + ∑ r : Fin 64, A.qr h i r * A.kr j r) * A.c

/-- The sum of the exponentials of a query's scores, up to its own position. -/
def L (h i : ℕ) : ℝ := ∑ j : Fin 2048, if (j : ℕ) ≤ i then Real.exp (A.S h i j) else 0

/-- The attention of query `i` to key `j`. -/
def P (h i j : ℕ) : ℝ := if j ≤ i then Real.exp (A.S h i j) / A.L h i else 0

/-- The attention's output. -/
def o (h i d : ℕ) : ℝ := ∑ j : Fin 2048, A.P h i j * A.v h j d

/-- The gradient of the attention, before the softmax. -/
def DP (h i j : ℕ) : ℝ := ∑ d : Fin 128, A.g h i d * A.v h j d

/-- A row's mean of `DP` under the attention. -/
def delta (h i : ℕ) : ℝ := ∑ d : Fin 128, A.g h i d * A.o h i d

/-- The gradient of the scores, times their scale. -/
def dS (h i j : ℕ) : ℝ := A.P h i j * (A.DP h i j - A.delta h i) * A.c

/-- A query's 256 lanes for head `h`: plain columns, then the rotated ones in the half the head's parity chooses. -/
def q256 (h i l : ℕ) : ℝ := if l < 128 then A.qn h i l else if (l - 128) / 64 = h % 2 then A.qr h i ((l - 128) % 64) else 0

/-- A key's 256 lanes: plain columns, then the rotated ones twice. -/
def k256 (h j l : ℕ) : ℝ := if l < 128 then A.kn h j l else A.kr j ((l - 128) % 64)

theorem L_pos (h i : ℕ) : 0 < A.L h i := by
  unfold L
  have h0 : (0 : ℝ) < if ((0 : Fin 2048) : ℕ) ≤ i then Real.exp (A.S h i (0 : Fin 2048)) else 0 := by
    rw [if_pos (by simp)]; exact Real.exp_pos _
  refine lt_of_lt_of_le h0 (Finset.single_le_sum (f := fun j : Fin 2048 => if (j : ℕ) ≤ i then Real.exp (A.S h i j) else 0) ?_ (Finset.mem_univ _))
  intro j _
  show 0 ≤ if (j : ℕ) ≤ i then Real.exp (A.S h i j) else 0
  split
  · exact (Real.exp_pos _).le
  · exact le_rfl

theorem P_of_lt {h i j : ℕ} (hij : i < j) : A.P h i j = 0 := if_neg (by omega)

theorem dS_of_lt {h i j : ℕ} (hij : i < j) : A.dS h i j = 0 := by
  unfold dS; rw [A.P_of_lt hij]; ring

/-- The exponential of a score less any number. -/
def E (M : ℝ) (h i j : ℕ) : ℝ := if j ≤ i then Real.exp (A.S h i j - M) else 0

theorem E_eq (M : ℝ) (h i j : ℕ) : A.E M h i j = (if j ≤ i then Real.exp (A.S h i j) else 0) * Real.exp (-M) := by
  unfold E
  split
  · rw [sub_eq_add_neg, Real.exp_add]
  · ring

theorem sum_E (M : ℝ) (h i : ℕ) : ∑ j : Fin 2048, A.E M h i j = A.L h i * Real.exp (-M) := by
  simp only [E_eq]
  rw [← Finset.sum_mul]; rfl

theorem sum_E_pos (M : ℝ) (h i : ℕ) : 0 < ∑ j : Fin 2048, A.E M h i j := by
  rw [sum_E]; exact mul_pos (A.L_pos h i) (Real.exp_pos _)

/-- The softmax is the same whatever number is taken off the scores. -/
theorem softmax (M : ℝ) (h i j : ℕ) : A.E M h i j / (∑ j' : Fin 2048, A.E M h i j') = A.P h i j := by
  rw [sum_E, E_eq]
  have h1 := (A.L_pos h i).ne'
  have h2 := (Real.exp_pos (-M)).ne'
  unfold P
  split
  · field_simp
  · simp

/-- The row's log-sum. -/
theorem lse (M : ℝ) (h i : ℕ) : M + Real.log (∑ j : Fin 2048, A.E M h i j) = Real.log (A.L h i) := by
  rw [sum_E, Real.log_mul (A.L_pos h i).ne' (Real.exp_pos _).ne', Real.log_exp]; ring

/-- The attention from the score and the row's log-sum. -/
theorem P_exp {h i j : ℕ} (hij : j ≤ i) : Real.exp (A.S h i j - Real.log (A.L h i)) = A.P h i j := by
  rw [P, if_pos hij, Real.exp_sub, Real.exp_log (A.L_pos h i)]

/-- A row's mean, over the keys. -/
theorem delta_eq (h i : ℕ) : A.delta h i = ∑ j : Fin 2048, A.P h i j * A.DP h i j := by
  unfold delta o DP
  simp only [Finset.mul_sum]
  rw [Finset.sum_comm]
  exact Finset.sum_congr rfl fun j _ => Finset.sum_congr rfl fun d _ => by ring

/-- The gradient of a score through the quotient of exponentials. -/
theorem quotient (M : ℝ) (h i j : ℕ) :
    (A.DP h i j / (∑ j' : Fin 2048, A.E M h i j')
      + -(∑ j₁ : Fin 2048, A.DP h i j₁ * (1 / ((∑ j' : Fin 2048, A.E M h i j') * (∑ j' : Fin 2048, A.E M h i j'))) * A.E M h i j₁)) * A.E M h i j * A.c
      = A.dS h i j := by
  have hs := (A.sum_E_pos M h i).ne'
  have e : ∀ j, A.E M h i j = A.P h i j * (∑ j' : Fin 2048, A.E M h i j') := fun j => by
    rw [← A.softmax M h i j]; field_simp
  have es : (∑ j₁ : Fin 2048, A.DP h i j₁ * (1 / ((∑ j' : Fin 2048, A.E M h i j') * (∑ j' : Fin 2048, A.E M h i j'))) * A.E M h i j₁)
      = A.delta h i / (∑ j' : Fin 2048, A.E M h i j') := by
    rw [A.delta_eq, Finset.sum_div]
    refine Finset.sum_congr rfl fun j₁ _ => ?_
    rw [e j₁]; field_simp
  rw [es, e j, dS]
  field_simp
  ring

/-- A sum over 256 lanes, plain ones first. -/
theorem sum_256 (f : ℕ → ℝ) : ∑ l : Fin 256, f l = (∑ d : Fin 128, f d) + ((∑ r : Fin 64, f (128 + r)) + ∑ r : Fin 64, f (192 + r)) := by
  rw [Fin.sum_univ_eq_sum_range, Fin.sum_univ_eq_sum_range, Fin.sum_univ_eq_sum_range (fun r => f (128 + r)), Fin.sum_univ_eq_sum_range (fun r => f (192 + r)),
    show 256 = 128 + (64 + 64) from rfl, Finset.sum_range_add, Finset.sum_range_add]
  simp only [← Nat.add_assoc, Nat.reduceAdd]

theorem q256_plain (h i : ℕ) {l : ℕ} (hl : l < 128) : A.q256 h i l = A.qn h i l := if_pos hl

theorem k256_plain (h j : ℕ) {l : ℕ} (hl : l < 128) : A.k256 h j l = A.kn h j l := if_pos hl

theorem q256_rot (h i l : ℕ) : A.q256 h i (128 + l) = if l / 64 = h % 2 then A.qr h i (l % 64) else 0 := by
  unfold q256
  rw [if_neg (show ¬ 128 + l < 128 by omega), Nat.add_sub_cancel_left]

theorem k256_rot (h j l : ℕ) : A.k256 h j (128 + l) = A.kr j (l % 64) := by
  unfold k256
  rw [if_neg (show ¬ 128 + l < 128 by omega), Nat.add_sub_cancel_left]

/-- The contraction over the 256 lanes is the score's. -/
theorem S_256 (h i j : ℕ) : (∑ l : Fin 256, A.q256 h i l * A.k256 h j l) * A.c = A.S h i j := by
  rw [sum_256 fun l => A.q256 h i l * A.k256 h j l, S]
  refine congrArg (· * A.c) (congrArg₂ (· + ·) ?_ ?_)
  · refine Finset.sum_congr rfl fun d _ => ?_
    rw [A.q256_plain h i d.isLt, A.k256_plain h j d.isLt]
  · have e1 : ∀ r : Fin 64, A.q256 h i (128 + r) * A.k256 h j (128 + r) = (if h % 2 = 0 then A.qr h i r else 0) * A.kr j r := fun r => by
      have hr := r.isLt
      rw [A.q256_rot, A.k256_rot, show (r : ℕ) / 64 = 0 by omega, show (r : ℕ) % 64 = r by omega]
      simp only [eq_comm]
    have e2 : ∀ r : Fin 64, A.q256 h i (192 + r) * A.k256 h j (192 + r) = (if h % 2 = 1 then A.qr h i r else 0) * A.kr j r := fun r => by
      have hr := r.isLt
      rw [show 192 + (r : ℕ) = 128 + (64 + r) by omega, A.q256_rot, A.k256_rot, show (64 + (r : ℕ)) / 64 = 1 by omega, show (64 + (r : ℕ)) % 64 = r by omega]
      simp only [eq_comm]
    simp only [e1, e2]
    rcases Nat.mod_two_eq_zero_or_one h with h0 | h0 <;> simp [h0]

end Arr

/-- A block's sum, as a sum over its rows. -/
theorem sum_blk (f : ℕ → ℝ) (n : ℕ) : ∑ a : Fin 512, f (512 * n + a) = ∑ i ∈ Finset.Ico (512 * n) (512 * (n + 1)), f i := by
  rw [Fin.sum_univ_eq_sum_range (fun a => f (512 * n + a)), Finset.sum_Ico_eq_sum_range, show 512 * (n + 1) - 512 * n = 512 by omega]

/-- One block more. -/
theorem sum_step (f : ℕ → ℝ) {n m : ℕ} (h : n ≤ m) :
    (∑ i ∈ Finset.Ico (512 * n) (512 * m), f i) + ∑ a : Fin 512, f (512 * m + a) = ∑ i ∈ Finset.Ico (512 * n) (512 * (m + 1)), f i := by
  rw [sum_blk, Finset.sum_Ico_consecutive _ (by omega) (by omega)]

/-- The rows before a block add nothing when they are zero. -/
theorem sum_from (f : ℕ → ℝ) {n : ℕ} (hn : 512 * n ≤ 2048) (hz : ∀ i, i < 512 * n → f i = 0) :
    ∑ i ∈ Finset.Ico (512 * n) (512 * 4), f i = ∑ i : Fin 2048, f i := by
  rw [Fin.sum_univ_eq_sum_range, Finset.range_eq_Ico, ← Finset.sum_Ico_consecutive f (Nat.zero_le (512 * n)) hn,
    Finset.sum_eq_zero (s := Finset.Ico 0 (512 * n)), zero_add]
  intro i hi
  exact hz i (Finset.mem_Ico.1 hi).2

end Cert.AttnMath
end
-- ==== Proof.AttnPay.lean ====
module
public import proofs.«01_k».proof.Proof.AttnMath
public import proofs.«01_k».proof.Proof.Gen.AttnIdeal.Skeleton
public import Idealize.ShloMosaic.Lib.Pointwise
public import Idealize.ShloMosaic.Lib.Pipeline.ValueKit
public import Idealize.ShloMosaic.Lib.WordCmp

/-! # The values one block of queries and one block of keys computes

Each payload of the body over operands that hold real numbers: the attention's block, the gradient of its scores, and
the three products that gradient enters. -/

@[expose] public section

set_option maxRecDepth 16384
noncomputable section

namespace Cert.AttnPay

open Idealize.ShloMosaic Idealize.ShloMosaic.TcCoe Cert.AttnIdeal Cert.AttnIdeal.Gen Cert.AttnMath

theorem exp_coe (r : ℝ) : Ideal.exp (r : EReal) = ((Real.exp r : ℝ) : EReal) := rfl

theorem mask_bot : (Named.named (F := Ideal) κ "mask" 4048155338#32 : Ideal .f32) = ⊥ :=
  IdealRules.named_const.ideal_named_scalar _ _ _ _ rfl

section block
variable {A : Arr} {h qb kb : ℕ}
variable {kc : FVec Ideal S512x256 .bf16} {vv g : Vec Ideal S512x128 .bf16} {qc : Vec Ideal S1x512x256 .bf16} {ls dl : Vec Ideal S1x512x1 .f32}
variable (hc : Ideal.ofBits FTy.f32 1033096506#32 = ((A.c : ℝ) : EReal))
variable (hk : ∀ (b : Fin 512) (l : Fin 256), kc (ix2 b l) = ((A.k256 h (512 * kb + b) l : ℝ) : EReal))
variable (hv : ∀ (b : Fin 512) (d : Fin 128), vv (ix2 b d) = ((A.v h (512 * kb + b) d : ℝ) : EReal))
variable (hg : ∀ (a : Fin 512) (d : Fin 128), g (ix2 a d) = ((A.g h (512 * qb + a) d : ℝ) : EReal))
variable (hq : ∀ (a : Fin 512) (l : Fin 256), qc (ix3 0 a l) = ((A.q256 h (512 * qb + a) l : ℝ) : EReal))
variable (hl : ∀ a : Fin 512, ls (ix3 0 a 0) = ((Real.log (A.L h (512 * qb + a)) : ℝ) : EReal))
variable (hd : ∀ a : Fin 512, dl (ix3 0 a 0) = ((A.delta h (512 * qb + a) : ℝ) : EReal))

include hc hk hq hl in
/-- The attention's block, below the diagonal. -/
theorem pay13 (hqk : kb < qb) (a b : Fin 512) : k0_pay13 kc qc ls (ix2 a b) = ((A.P h (512 * qb + a) (512 * kb + b) : ℝ) : EReal) := by
  pointwise [k0_pay13, k0_pay12]
  rw [hc]
  simp only [hk, hq, hl, ← EReal.coe_mul, ← coe_sum, ← EReal.coe_sub, exp_coe]
  rw [A.S_256, A.P_exp (by have := b.isLt; omega)]

include hc hk hq hl hv hg hd in
/-- The gradient of the scores' block. -/
theorem pay14 (hqk : kb < qb) (a b : Fin 512) :
    k0_pay14 kc vv qc g ls dl (ix2 a b) = ((A.dS h (512 * qb + a) (512 * kb + b) : ℝ) : EReal) := by
  pointwise [k0_pay14]
  rw [hc, pay13 hc hk hq hl hqk]
  simp only [hv, hg, hd, ← EReal.coe_mul, ← coe_sum, ← EReal.coe_sub]
  rfl

include hc hk hq hl hg in
/-- The values' gradient takes the block's summand. -/
theorem pay15 (hqk : kb < qb) {acc : FVec Ideal S512x128 .f32} {r : Fin 512 → Fin 128 → ℝ} (hacc : ∀ b d, acc (ix2 b d) = ((r b d : ℝ) : EReal))
    (b : Fin 512) (d : Fin 128) : k0_pay15 kc acc qc g ls (ix2 b d)
      = ((r b d + ∑ a : Fin 512, A.P h (512 * qb + a) (512 * kb + b) * A.g h (512 * qb + a) d : ℝ) : EReal) := by
  pointwise [k0_pay15]
  simp only [pay13 hc hk hq hl hqk, hacc, hg, ← EReal.coe_mul, ← coe_sum, ← EReal.coe_add]

include hc hk hq hl hv hg hd in
/-- The keys' gradient takes the block's summand. -/
theorem pay16 (hqk : kb < qb) {acc : FVec Ideal S512x256 .f32} {r : Fin 512 → Fin 256 → ℝ} (hacc : ∀ b l, acc (ix2 b l) = ((r b l : ℝ) : EReal))
    (b : Fin 512) (l : Fin 256) : k0_pay16 kc vv acc qc g ls dl (ix2 b l)
      = ((r b l + ∑ a : Fin 512, A.dS h (512 * qb + a) (512 * kb + b) * A.q256 h (512 * qb + a) l : ℝ) : EReal) := by
  pointwise [k0_pay16, k0_pay12]
  simp only [pay14 hc hk hv hg hq hl hd hqk, hacc, hq, ← EReal.coe_mul, ← coe_sum, ← EReal.coe_add]

include hc hk hq hl hv hg hd in
/-- The queries' gradient takes the block's summand. -/
theorem pay17 (hqk : kb < qb) {acc : Vec Ideal S1x512x256 .f32} {r : Fin 512 → Fin 256 → ℝ} (hacc : ∀ a l, acc (ix3 0 a l) = ((r a l : ℝ) : EReal))
    (a : Fin 512) (l : Fin 256) : k0_pay17 kc vv qc g ls dl acc (ix3 0 a l)
      = ((r a l + ∑ b : Fin 512, A.dS h (512 * qb + a) (512 * kb + b) * A.k256 h (512 * kb + b) l : ℝ) : EReal) := by
  pointwise [k0_pay17]
  simp only [pay14 hc hk hv hg hq hl hd hqk, hacc, hk, ← EReal.coe_mul, ← coe_sum, ← EReal.coe_add]

/-- The scores of a block on the diagonal, later keys at minus infinity. -/
def diag (A : Arr) (h kb : ℕ) (s : FVec Ideal S512x512 .f32) : Prop :=
  ∀ a b : Fin 512, s (ix2 a b) = if (b : ℕ) ≤ a then ((A.S h (512 * kb + a) (512 * kb + b) : ℝ) : EReal) else ⊥

theorem select_le (a b : Fin 512) (x y : EReal) :
    Scalar.select (IntOp.cmpi CmpIPredicate.sle (BitVec.ofNat 32 (b : ℕ)) (BitVec.ofNat 32 (a : ℕ))) x y = if (b : ℕ) ≤ a then x else y := by
  word_cmp

end block

section diagonal
variable {A : Arr} {h kb : ℕ}
variable {kc qf : FVec Ideal S512x256 .bf16} {vv g : Vec Ideal S512x128 .bf16} {qc : Vec Ideal S1x512x256 .bf16} {ls dl : Vec Ideal S1x512x1 .f32}
variable {s : FVec Ideal S512x512 .f32}
variable (hc : Ideal.ofBits FTy.f32 1033096506#32 = ((A.c : ℝ) : EReal)) (hs : diag A h kb s)
variable (hk : ∀ (b : Fin 512) (l : Fin 256), kc (ix2 b l) = ((A.k256 h (512 * kb + b) l : ℝ) : EReal))
variable (hv : ∀ (b : Fin 512) (d : Fin 128), vv (ix2 b d) = ((A.v h (512 * kb + b) d : ℝ) : EReal))
variable (hg : ∀ (a : Fin 512) (d : Fin 128), g (ix2 a d) = ((A.g h (512 * kb + a) d : ℝ) : EReal))
variable (hq : ∀ (a : Fin 512) (l : Fin 256), qc (ix3 0 a l) = ((A.q256 h (512 * kb + a) l : ℝ) : EReal))
variable (hf : ∀ (a : Fin 512) (l : Fin 256), qf (ix2 a l) = ((A.q256 h (512 * kb + a) l : ℝ) : EReal))
variable (hl : ∀ a : Fin 512, ls (ix3 0 a 0) = ((Real.log (A.L h (512 * kb + a)) : ℝ) : EReal))
variable (hd : ∀ a : Fin 512, dl (ix3 0 a 0) = ((A.delta h (512 * kb + a) : ℝ) : EReal))

include hc hk hq in
/-- The first head's scores on the diagonal. -/
theorem pay32 {kn kp : Vec Ideal S512x128 .bf16} (e : k0_pay27 kn kp = kc) : diag A h kb (k0_pay32 kn kp qc) := by
  intro a b
  subst e
  pointwise [k0_pay32, k0_pay31]
  rw [hc, mask_bot, select_le]
  simp only [hk, hq, ← EReal.coe_mul, ← coe_sum]
  rw [A.S_256]

include hc hk hq in
/-- The second head's scores on the diagonal. -/
theorem pay39 : diag A h kb (select k0_pay40 (k0_pay39 kc qc) (broadcast S512x512 (Named.named κ "mask" 4048155338#32))) := by
  intro a b
  pointwise [k0_pay39, k0_pay38, k0_pay40]
  rw [hc, mask_bot, select_le]
  simp only [hk, hq, ← EReal.coe_mul, ← coe_sum]
  rw [A.S_256]

include hs hl in
/-- The attention's block on the diagonal. -/
theorem pay33 (a b : Fin 512) : k0_pay33 s ls (ix2 a b) = ((A.P h (512 * kb + a) (512 * kb + b) : ℝ) : EReal) := by
  pointwise [k0_pay33]
  rw [hs a b, hl]
  split
  · rw [← EReal.coe_sub, exp_coe, A.P_exp (by omega)]
  · rw [A.P_of_lt (by omega), EReal.bot_sub]; rfl

include hc hs hl hv hg hd in
/-- The gradient of the scores' block on the diagonal. -/
theorem pay34 (a b : Fin 512) : k0_pay34 vv g s ls dl (ix2 a b) = ((A.dS h (512 * kb + a) (512 * kb + b) : ℝ) : EReal) := by
  pointwise [k0_pay34]
  rw [hc, pay33 hs hl]
  simp only [hv, hg, hd, ← EReal.coe_mul, ← coe_sum, ← EReal.coe_sub]
  rfl

include hs hl hg in
/-- The values' gradient, from the diagonal. -/
theorem pay35 (b : Fin 512) (d : Fin 128) : k0_pay35 (k0_pay30 (F := Ideal)) g s ls (ix2 b d)
      = ((∑ a : Fin 512, A.P h (512 * kb + a) (512 * kb + b) * A.g h (512 * kb + a) d : ℝ) : EReal) := by
  pointwise [k0_pay35, k0_pay30]
  simp only [pay33 hs hl, hg, ← EReal.coe_mul, ← coe_sum]

include hc hs hl hv hg hd hf in
/-- The keys' gradient, from the diagonal. -/
theorem pay36 (b : Fin 512) (l : Fin 256) : k0_pay36 vv (k0_pay29 (F := Ideal)) qf g s ls dl (ix2 b l)
      = ((∑ a : Fin 512, A.dS h (512 * kb + a) (512 * kb + b) * A.q256 h (512 * kb + a) l : ℝ) : EReal) := by
  pointwise [k0_pay36, k0_pay29]
  simp only [pay34 hc hs hv hg hl hd, hf, ← EReal.coe_mul, ← coe_sum]

include hc hs hl hv hg hd hk in
/-- The queries' gradient takes the diagonal's summand. -/
theorem pay37 {acc : Vec Ideal S1x512x256 .f32} {r : Fin 512 → Fin 256 → ℝ} (hacc : ∀ a l, acc (ix3 0 a l) = ((r a l : ℝ) : EReal))
    (a : Fin 512) (l : Fin 256) : k0_pay37 kc vv g s ls dl acc (ix3 0 a l)
      = ((r a l + ∑ b : Fin 512, A.dS h (512 * kb + a) (512 * kb + b) * A.k256 h (512 * kb + b) l : ℝ) : EReal) := by
  pointwise [k0_pay37]
  simp only [pay34 hc hs hv hg hl hd, hacc, hk, ← EReal.coe_mul, ← coe_sum, ← EReal.coe_add]

end diagonal

/-! The second head's payloads are the first's. -/

theorem pay47_eq (kc : FVec Ideal S512x256 .bf16) (qc : Vec Ideal S1x512x256 .bf16) (ls : Vec Ideal S1x512x1 .f32) :
    k0_pay47 kc qc ls = k0_pay13 kc qc ls := rfl
theorem pay49_eq (kc : FVec Ideal S512x256 .bf16) (acc : FVec Ideal S512x128 .f32) (qc : Vec Ideal S1x512x256 .bf16) (g : Vec Ideal S512x128 .bf16)
    (ls : Vec Ideal S1x512x1 .f32) : k0_pay49 kc acc qc g ls = k0_pay15 kc acc qc g ls := rfl
theorem pay50_eq (kc : FVec Ideal S512x256 .bf16) (vv : Vec Ideal S512x128 .bf16) (acc : FVec Ideal S512x256 .f32) (qc : Vec Ideal S1x512x256 .bf16)
    (g : Vec Ideal S512x128 .bf16) (ls dl : Vec Ideal S1x512x1 .f32) : k0_pay50 kc vv acc qc g ls dl = k0_pay16 kc vv acc qc g ls dl := rfl
theorem pay51_eq (kc : FVec Ideal S512x256 .bf16) (vv : Vec Ideal S512x128 .bf16) (qc : Vec Ideal S1x512x256 .bf16)
    (g : Vec Ideal S512x128 .bf16) (ls dl : Vec Ideal S1x512x1 .f32) (acc : Vec Ideal S1x512x256 .f32) :
    k0_pay51 kc vv qc g ls dl acc = k0_pay17 kc vv qc g ls dl acc := rfl
theorem pay43_eq (z : FVec Ideal S512x128 .f32) (g : Vec Ideal S512x128 .bf16) (s : FVec Ideal S512x512 .f32) (k : IVec S512x512 1) (z' : Ideal .f32)
    (ls : Vec Ideal S1x512x1 .f32) : k0_pay43 z g s k z' ls = k0_pay35 z g (select k s (broadcast S512x512 z')) ls := rfl
theorem pay44_eq (vv : Vec Ideal S512x128 .bf16) (z : FVec Ideal S512x256 .f32) (qf : FVec Ideal S512x256 .bf16) (g : Vec Ideal S512x128 .bf16)
    (s : FVec Ideal S512x512 .f32) (k : IVec S512x512 1) (z' : Ideal .f32) (ls dl : Vec Ideal S1x512x1 .f32) :
    k0_pay44 vv z qf g s k z' ls dl = k0_pay36 vv z qf g (select k s (broadcast S512x512 z')) ls dl := rfl
theorem pay45_eq (kc : FVec Ideal S512x256 .bf16) (vv g : Vec Ideal S512x128 .bf16)
    (s : FVec Ideal S512x512 .f32) (k : IVec S512x512 1) (z' : Ideal .f32) (ls dl : Vec Ideal S1x512x1 .f32) (acc : Vec Ideal S1x512x256 .f32) :
    k0_pay45 kc vv g s k z' ls dl acc = k0_pay37 kc vv g (select k s (broadcast S512x512 z')) ls dl acc := rfl

end Cert.AttnPay
end
-- ==== Proof.AttnTrip.lean ====
module
public import proofs.«01_k».proof.Proof.AttnPay
public import proofs.«01_k».proof.Proof.Gen.AttnIdeal.Loops
public import Idealize.ShloMosaic.Lib.WritesUnit

/-! # The blocks of queries after a block of keys

One point takes one block of keys and values of two heads; after the block of queries on the diagonal a loop takes the
later ones. What it carries (the keys' and values' gradients) and what it leaves in the queries' gradient, as sums of
reals. -/

@[expose] public section

set_option maxRecDepth 16384
noncomputable section

namespace Cert.AttnTrip

open Idealize.ShloMosaic Idealize.ShloMosaic.TcCoe Cert.AttnIdeal Cert.AttnIdeal.Gen Cert.AttnMath Cert.AttnPay
open Idealize.SL Idealize.SL.RA Idealize.SL.Sem

/-! ## Loads and stores, element by element -/

section place
variable {sg : RefSig} {κ : Kind} {sp : Space} {e : EltTy} {Val : EltTy → Type}

theorem load_at {s : Shape} (v : View sg κ sp s e) (f : v.ty.Contents Val) {off off' size : Fin s.rank → ℕ} (inb : ∀ a, off a + size a ≤ s.size a)
    (he : off = off') (x : (Rect.unit off size inb).shape.Idx) (y : s.Idx) (hy : ∀ a, (y a).val = off' a + (x a).val) :
    v.readAt Val (Rect.unit off size inb).toLoadRect f x = v.read Val f y := by
  subst he
  rw [View.readAt_apply]
  refine congrArg _ (funext fun a => Fin.ext ?_)
  show off a + 1 * (x a).val = (y a).val
  rw [hy a, Nat.one_mul]

theorem load2 {d0 d1 e0 e1 : ℕ} (v : View sg κ sp ⟨2, ![d0, d1]⟩ e) (f : v.ty.Contents Val) {off : Fin 2 → ℕ} (o0 o1 : ℕ)
    (inb : ∀ a : Fin 2, off a + (![e0, e1] : Fin 2 → ℕ) a ≤ (![d0, d1] : Fin 2 → ℕ) a) (he : off = ![o0, o1]) (x0 : Fin e0) (x1 : Fin e1) (y0 : Fin d0) (y1 : Fin d1)
    (h0 : y0.val = o0 + x0.val) (h1 : y1.val = o1 + x1.val) :
    v.readAt Val (Rect.unit (s := ⟨2, ![d0, d1]⟩) off ![e0, e1] inb).toLoadRect f (ix2 x0 x1) = v.read Val f (ix2 y0 y1) :=
  load_at (s := ⟨2, ![d0, d1]⟩) v f inb he (ix2 x0 x1) (ix2 y0 y1) (Fin.forall_fin_two.mpr ⟨h0, h1⟩)

theorem load3 {d0 d1 d2 e0 e1 e2 : ℕ} (v : View sg κ sp ⟨3, ![d0, d1, d2]⟩ e) (f : v.ty.Contents Val) {off : Fin 3 → ℕ} (o0 o1 o2 : ℕ)
    (inb : ∀ a : Fin 3, off a + (![e0, e1, e2] : Fin 3 → ℕ) a ≤ (![d0, d1, d2] : Fin 3 → ℕ) a) (he : off = ![o0, o1, o2])
    (x0 : Fin e0) (x1 : Fin e1) (x2 : Fin e2) (y0 : Fin d0) (y1 : Fin d1) (y2 : Fin d2)
    (h0 : y0.val = o0 + x0.val) (h1 : y1.val = o1 + x1.val) (h2 : y2.val = o2 + x2.val) :
    v.readAt Val (Rect.unit (s := ⟨3, ![d0, d1, d2]⟩) off ![e0, e1, e2] inb).toLoadRect f (ix3 x0 x1 x2) = v.read Val f (ix3 y0 y1 y2) :=
  load_at (s := ⟨3, ![d0, d1, d2]⟩) v f inb he (ix3 x0 x1 x2) (ix3 y0 y1 y2) (Fin.forall_fin_succ.mpr ⟨h0, Fin.forall_fin_two.mpr ⟨h1, h2⟩⟩)

/-- A store of 512 rows of one plane: inside it. -/
theorem store_in {d0 d1 d2 : ℕ} (v : View sg κ sp ⟨3, ![d0, d1, d2]⟩ e) (f : v.ty.Contents Val) {off : Fin 3 → ℕ} (o0 o1 : ℕ)
    (inb : ∀ a : Fin 3, off a + (![1, 512, d2] : Fin 3 → ℕ) a ≤ (![d0, d1, d2] : Fin 3 → ℕ) a) (he : off = ![o0, o1, 0])
    (w : (⟨3, ![1, 512, d2]⟩ : Shape).Idx → Val e) (L : List (View.Piece Val ⟨3, ![d0, d1, d2]⟩ e))
    (x1 : Fin 512) (y0 : Fin d0) (y1 : Fin d1) (y2 : Fin d2) (h0 : y0.val = o0) (h1 : y1.val = o1 + x1.val) :
    v.read Val (v.writes Val f ((⟨Rect.unit (s := ⟨3, ![d0, d1, d2]⟩) off ![1, 512, d2] inb, w⟩ : View.Piece Val ⟨3, ![d0, d1, d2]⟩ e) :: L)) (ix3 y0 y1 y2)
      = w (ix3 0 x1 y2) :=
  View.read_writes_cons_unit_of_mem (s := ⟨3, ![d0, d1, d2]⟩) v f inb w L (ix3 y0 y1 y2) (ix3 0 x1 y2) he
    (Fin.forall_fin_succ.mpr ⟨h0, Fin.forall_fin_two.mpr ⟨h1, (Nat.zero_add _).symm⟩⟩)

/-- A store of 512 rows of one plane: outside it. -/
theorem store_out {d0 d1 d2 : ℕ} (v : View sg κ sp ⟨3, ![d0, d1, d2]⟩ e) (f : v.ty.Contents Val) {off : Fin 3 → ℕ} (o0 o1 : ℕ)
    (inb : ∀ a : Fin 3, off a + (![1, 512, d2] : Fin 3 → ℕ) a ≤ (![d0, d1, d2] : Fin 3 → ℕ) a) (he : off = ![o0, o1, 0])
    (w : (⟨3, ![1, 512, d2]⟩ : Shape).Idx → Val e) (L : List (View.Piece Val ⟨3, ![d0, d1, d2]⟩ e))
    (y0 : Fin d0) (y1 : Fin d1) (y2 : Fin d2) (h : y0.val ≠ o0 ∨ y1.val < o1 ∨ o1 + 512 ≤ y1.val) :
    v.read Val (v.writes Val f ((⟨Rect.unit (s := ⟨3, ![d0, d1, d2]⟩) off ![1, 512, d2] inb, w⟩ : View.Piece Val ⟨3, ![d0, d1, d2]⟩ e) :: L)) (ix3 y0 y1 y2)
      = v.read Val (v.writes Val f L) (ix3 y0 y1 y2) := by
  by_cases h0 : y0.val = o0
  · exact View.read_writes_cons_unit_of_not_mem (s := ⟨3, ![d0, d1, d2]⟩) v f inb w L (ix3 y0 y1 y2) he 1
      (by rcases h with h | h
          · exact absurd h0 h
          · exact h)
  · exact View.read_writes_cons_unit_of_not_mem (s := ⟨3, ![d0, d1, d2]⟩) v f inb w L (ix3 y0 y1 y2) he 0
      (show y0.val < o0 ∨ o0 + 1 ≤ y0.val by omega)

end place

/-! ## The sums -/

section sums
variable (A : Arr)

/-- The queries' gradient when key blocks up to `kb` are done, block `kb` only for query blocks before `kb + n`. -/
def DQ (kb n h i l : ℕ) : ℝ := ∑ j ∈ Finset.range (512 * (kb + if i < 512 * (kb + n) then 1 else 0)), A.dS h i j * A.k256 h j l

/-- The keys' gradient of block `kb` from `n` query blocks. -/
def DK (kb n h b l : ℕ) : ℝ := ∑ i ∈ Finset.Ico (512 * kb) (512 * (kb + n)), A.dS h i (512 * kb + b) * A.q256 h i l

/-- The values' gradient of block `kb` from `n` query blocks. -/
def DV (kb n h b d : ℕ) : ℝ := ∑ i ∈ Finset.Ico (512 * kb) (512 * (kb + n)), A.P h i (512 * kb + b) * A.g h i d

theorem DQ_in (kb n h l a : ℕ) (ha : a < 512) :
    DQ A kb n h (512 * (kb + n) + a) l + ∑ b : Fin 512, A.dS h (512 * (kb + n) + a) (512 * kb + b) * A.k256 h (512 * kb + b) l
      = DQ A kb (n + 1) h (512 * (kb + n) + a) l := by
  unfold DQ
  rw [if_neg (by omega), if_pos (by omega), Nat.add_zero, sum_blk (fun j => A.dS h (512 * (kb + n) + a) j * A.k256 h j l) kb, Finset.range_eq_Ico, Finset.range_eq_Ico,
    Finset.sum_Ico_consecutive _ (by omega) (by omega)]

theorem DQ_out (kb n h l i : ℕ) (hi : i < 512 * (kb + n) ∨ 512 * (kb + n) + 512 ≤ i) : DQ A kb (n + 1) h i l = DQ A kb n h i l := by
  unfold DQ
  rcases hi with hi | hi
  · rw [if_pos hi, if_pos (by omega)]
  · rw [if_neg (by omega), if_neg (by omega)]

theorem DQ_zero (kb h i l : ℕ) : DQ A kb 0 h i l = ∑ j ∈ Finset.range (512 * kb), A.dS h i j * A.k256 h j l := by
  unfold DQ
  split
  · rename_i hi
    rw [Finset.range_eq_Ico, Finset.range_eq_Ico, ← Finset.sum_Ico_consecutive _ (Nat.zero_le (512 * kb)) (by omega)]
    rw [Finset.sum_eq_zero (s := Finset.Ico (512 * kb) _), add_zero]
    intro j hj
    rw [A.dS_of_lt (by have := (Finset.mem_Ico.1 hj).1; omega), zero_mul]
  · rfl

theorem DQ_all (kb n h i l : ℕ) (hn : kb + n = 4) (hi : i < 2048) : DQ A kb n h i l = ∑ j ∈ Finset.range (512 * (kb + 1)), A.dS h i j * A.k256 h j l := by
  unfold DQ
  rw [if_pos (by omega)]

theorem DK_step (kb n h b l : ℕ) :
    DK A kb n h b l + ∑ a : Fin 512, A.dS h (512 * (kb + n) + a) (512 * kb + b) * A.q256 h (512 * (kb + n) + a) l = DK A kb (n + 1) h b l :=
  sum_step (fun i => A.dS h i (512 * kb + b) * A.q256 h i l) (Nat.le_add_right kb n)

theorem DV_step (kb n h b d : ℕ) :
    DV A kb n h b d + ∑ a : Fin 512, A.P h (512 * (kb + n) + a) (512 * kb + b) * A.g h (512 * (kb + n) + a) d = DV A kb (n + 1) h b d :=
  sum_step (fun i => A.P h i (512 * kb + b) * A.g h i d) (Nat.le_add_right kb n)

theorem DK_zero (kb h b l : ℕ) : DK A kb 0 h b l = 0 := by unfold DK; simp
theorem DV_zero (kb h b d : ℕ) : DV A kb 0 h b d = 0 := by unfold DV; simp

end sums

/-! ## The blocks after the diagonal -/

theorem trips_eq : ∀ i : grid0.Coords, (k0_t1_loop i).trips = 3 - (i 1).val := by decide +kernel

/-- The operands of the pair `p`'s two heads: queries, row sums, output's gradient, rows' log-sums. -/
structure Held (A : Arr) (p : ℕ) (Q : Vec Ideal S2x2048x256 .bf16) (DL : Vec Ideal S2x2048x1 .f32) (G : Vec Ideal S2048x256 .bf16) (LS : Vec Ideal S1x2048x2 .f32) : Prop where
  q : ∀ (h : Fin 2) (i : Fin 2048) (l : Fin 256), Q (ix3 h i l) = ((A.q256 (2 * p + h) i l : ℝ) : EReal)
  dl : ∀ (h : Fin 2) (i : Fin 2048), DL (ix3 h i 0) = ((A.delta (2 * p + h) i : ℝ) : EReal)
  g : ∀ (h : Fin 2) (i : Fin 2048) (d : Fin 128) (l : Fin 256), l.val = 128 * h + d → G (ix2 i l) = ((A.g (2 * p + h) i d : ℝ) : EReal)
  ls : ∀ (h : Fin 2) (i : Fin 2048), LS (ix3 0 i h) = ((Real.log (A.L (2 * p + h) i) : ℝ) : EReal)

/-- The block `kb` of a head's keys and values. -/
structure Keys (A : Arr) (h kb : ℕ) (kc : FVec Ideal S512x256 .bf16) (vv : Vec Ideal S512x128 .bf16) : Prop where
  k : ∀ (b : Fin 512) (l : Fin 256), kc (ix2 b l) = ((A.k256 h (512 * kb + b) l : ℝ) : EReal)
  v : ∀ (b : Fin 512) (d : Fin 128), vv (ix2 b d) = ((A.v h (512 * kb + b) d : ℝ) : EReal)

/-- What is carried when `n` query blocks are done. -/
structure Carried (A : Arr) (p kb n : ℕ) (x : FVec Ideal S512x256 .f32 × FVec Ideal S512x128 .f32 × FVec Ideal S512x256 .f32 × FVec Ideal S512x128 .f32)
    (D : Vec Ideal S2x2048x256 .f32) : Prop where
  k0 : ∀ (b : Fin 512) (l : Fin 256), x.1 (ix2 b l) = ((DK A kb n (2 * p) b l : ℝ) : EReal)
  v0 : ∀ (b : Fin 512) (d : Fin 128), x.2.1 (ix2 b d) = ((DV A kb n (2 * p) b d : ℝ) : EReal)
  k1 : ∀ (b : Fin 512) (l : Fin 256), x.2.2.1 (ix2 b l) = ((DK A kb n (2 * p + 1) b l : ℝ) : EReal)
  v1 : ∀ (b : Fin 512) (d : Fin 128), x.2.2.2 (ix2 b d) = ((DV A kb n (2 * p + 1) b d : ℝ) : EReal)
  q : ∀ (h : Fin 2) (i : Fin 2048) (l : Fin 256), D (ix3 h i l) = ((DQ A kb n (2 * p + h) i l : ℝ) : EReal)

section loop

variable (𝒱 : Variants) (c : Dev nD) (bd : Option 𝒱.V) (i : grid0.Coords) (arg2 : Memref sig .tc .vmem S2048x256 .bf16) (harg2 : arg2.IsWhole)
variable (arg3 : Memref sig .tc .vmem S2048x128 .bf16) (harg3 : arg3.IsWhole) (arg4 : Memref sig .tc .vmem S2048x512 .bf16) (harg4 : arg4.IsWhole) (arg5 : Memref sig .tc .vmem S2048x128 .bf16) (harg5 : arg5.IsWhole)
variable (arg6 : Memref sig .tc .vmem S2048x256 .bf16) (harg6 : arg6.IsWhole) (arg7 : Memref sig .tc .vmem S2048x256 .bf16) (harg7 : arg7.IsWhole) (arg8 : Memref sig .tc .vmem S1x2048x2 .f32) (harg8 : arg8.IsWhole)
variable (arg9 : Memref sig .tc .vmem S2048x128 .f32) (harg9 : arg9.IsWhole) (arg10 : Memref sig .tc .vmem S2048x128 .f32) (harg10 : arg10.IsWhole) (arg11 : Memref sig .tc .vmem S2048x256 .bf16) (harg11 : arg11.IsWhole)
variable (arg12 : Memref sig .tc .vmem S2048x128 .bf16) (harg12 : arg12.IsWhole) (arg13 : Memref sig .tc .vmem S512x512 .bf16) (harg13 : arg13.IsWhole) (arg14 : Memref sig .tc .vmem S1x512x128 .f32) (harg14 : arg14.IsWhole)
variable (arg15 : Memref sig .tc .vmem S2x2048x256 .bf16) (harg15 : arg15.IsWhole) (arg16 : Memref sig .tc .vmem S2x2048x256 .f32) (harg16 : arg16.IsWhole) (arg17 : Memref sig .tc .vmem S2x2048x1 .f32) (harg17 : arg17.IsWhole)
variable (arg1 : BitVec 32) (v10 : FVec Ideal S512x256 .bf16) (v16 : FVec Ideal S512x256 .bf16) (v18 : Vec Ideal S512x128 .bf16) (v20 : Vec Ideal S512x128 .bf16) (v21 : FVec Ideal S512x256 .f32)
variable (v22 : FVec Ideal S512x128 .f32) (v24 : BitVec 32) (v56 : FVec Ideal S512x128 .f32) (v58 : FVec Ideal S512x256 .f32) (v70 : FVec Ideal S512x256 .bf16) (v72 : Vec Ideal S512x128 .bf16)
variable (v75 : FVec Ideal S512x512 .f32) (v78 : IVec S512x512 1) (cst_28 : Ideal .f32) (v111 : BitVec 32) (X_arg7 : BufTy.Contents (Elt Ideal) arg7.view.ty) (X_arg8 : BufTy.Contents (Elt Ideal) arg8.view.ty)
variable (X_arg15 : BufTy.Contents (Elt Ideal) arg15.view.ty) (X_arg17 : BufTy.Contents (Elt Ideal) arg17.view.ty)

theorem tripR_eq (k : Fin (k0_t1_loop i).trips)
    (acc : FVec Ideal S512x256 .f32 × FVec Ideal S512x128 .f32 × FVec Ideal S512x256 .f32 × FVec Ideal S512x128 .f32) (f : BufTy.Contents (Elt Ideal) arg16.view.ty) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
            arg1 v10 v16 v18 v20 v21 v22 v24 v56 v58 v70 v72 v75 v78 cst_28 v111 X_arg7 X_arg8 X_arg15 X_arg17 k acc f
      = (k0_pay16 v10 v18 acc.1 (arg15.view.readAt (Elt Ideal) (Rect.unit (s := S2x2048x256) (k0_off14 i k) S1x512x256.size (k0_off14_inb i k)).toLoadRect X_arg15)
            (arg7.view.readAt (Elt Ideal) (Rect.unit (s := S2048x256) (k0_off15 i k) S512x128.size (k0_off15_inb i k)).toLoadRect X_arg7)
            (arg8.view.readAt (Elt Ideal) (Rect.unit (s := S1x2048x2) (k0_off16 i k) S1x512x1.size (k0_off16_inb i k)).toLoadRect X_arg8)
            (arg17.view.readAt (Elt Ideal) (Rect.unit (s := S2x2048x1) (k0_off17 i k) S1x512x1.size (k0_off17_inb i k)).toLoadRect X_arg17),
          k0_pay15 v10 acc.2.1 (arg15.view.readAt (Elt Ideal) (Rect.unit (s := S2x2048x256) (k0_off14 i k) S1x512x256.size (k0_off14_inb i k)).toLoadRect X_arg15)
            (arg7.view.readAt (Elt Ideal) (Rect.unit (s := S2048x256) (k0_off15 i k) S512x128.size (k0_off15_inb i k)).toLoadRect X_arg7)
            (arg8.view.readAt (Elt Ideal) (Rect.unit (s := S1x2048x2) (k0_off16 i k) S1x512x1.size (k0_off16_inb i k)).toLoadRect X_arg8),
          k0_pay50 v16 v20 acc.2.2.1 (arg15.view.readAt (Elt Ideal) (Rect.unit (s := S2x2048x256) (k0_off18 i k) S1x512x256.size (k0_off18_inb i k)).toLoadRect X_arg15)
            (arg7.view.readAt (Elt Ideal) (Rect.unit (s := S2048x256) (k0_off19 i k) S512x128.size (k0_off19_inb i k)).toLoadRect X_arg7)
            (arg8.view.readAt (Elt Ideal) (Rect.unit (s := S1x2048x2) (k0_off20 i k) S1x512x1.size (k0_off20_inb i k)).toLoadRect X_arg8)
            (arg17.view.readAt (Elt Ideal) (Rect.unit (s := S2x2048x1) (k0_off21 i k) S1x512x1.size (k0_off21_inb i k)).toLoadRect X_arg17),
          k0_pay49 v16 acc.2.2.2 (arg15.view.readAt (Elt Ideal) (Rect.unit (s := S2x2048x256) (k0_off18 i k) S1x512x256.size (k0_off18_inb i k)).toLoadRect X_arg15)
            (arg7.view.readAt (Elt Ideal) (Rect.unit (s := S2048x256) (k0_off19 i k) S512x128.size (k0_off19_inb i k)).toLoadRect X_arg7)
            (arg8.view.readAt (Elt Ideal) (Rect.unit (s := S1x2048x2) (k0_off20 i k) S1x512x1.size (k0_off20_inb i k)).toLoadRect X_arg8)) := by
  unfold tripR_k0_t1 trip_k0_t1
  rfl

theorem tripL_eq (k : Fin (k0_t1_loop i).trips)
    (acc : FVec Ideal S512x256 .f32 × FVec Ideal S512x128 .f32 × FVec Ideal S512x256 .f32 × FVec Ideal S512x128 .f32) (f : BufTy.Contents (Elt Ideal) arg16.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
            arg1 v10 v16 v18 v20 v21 v22 v24 v56 v58 v70 v72 v75 v78 cst_28 v111 X_arg7 X_arg8 X_arg15 X_arg17 k acc f
      = [⟨Rect.unit (s := S2x2048x256) (k0_off18 i k) S1x512x256.size (k0_off18_inb i k),
          k0_pay51 v16 v20 (arg15.view.readAt (Elt Ideal) (Rect.unit (s := S2x2048x256) (k0_off18 i k) S1x512x256.size (k0_off18_inb i k)).toLoadRect X_arg15)
            (arg7.view.readAt (Elt Ideal) (Rect.unit (s := S2048x256) (k0_off19 i k) S512x128.size (k0_off19_inb i k)).toLoadRect X_arg7)
            (arg8.view.readAt (Elt Ideal) (Rect.unit (s := S1x2048x2) (k0_off20 i k) S1x512x1.size (k0_off20_inb i k)).toLoadRect X_arg8)
            (arg17.view.readAt (Elt Ideal) (Rect.unit (s := S2x2048x1) (k0_off21 i k) S1x512x1.size (k0_off21_inb i k)).toLoadRect X_arg17)
            (arg16.view.readAt (Elt Ideal) (Rect.unit (s := S2x2048x256) (k0_off18 i k) S1x512x256.size (k0_off18_inb i k)).toLoadRect f)⟩,
         ⟨Rect.unit (s := S2x2048x256) (k0_off14 i k) S1x512x256.size (k0_off14_inb i k),
          k0_pay17 v10 v18 (arg15.view.readAt (Elt Ideal) (Rect.unit (s := S2x2048x256) (k0_off14 i k) S1x512x256.size (k0_off14_inb i k)).toLoadRect X_arg15)
            (arg7.view.readAt (Elt Ideal) (Rect.unit (s := S2048x256) (k0_off15 i k) S512x128.size (k0_off15_inb i k)).toLoadRect X_arg7)
            (arg8.view.readAt (Elt Ideal) (Rect.unit (s := S1x2048x2) (k0_off16 i k) S1x512x1.size (k0_off16_inb i k)).toLoadRect X_arg8)
            (arg17.view.readAt (Elt Ideal) (Rect.unit (s := S2x2048x1) (k0_off17 i k) S1x512x1.size (k0_off17_inb i k)).toLoadRect X_arg17)
            (arg16.view.readAt (Elt Ideal) (Rect.unit (s := S2x2048x256) (k0_off14 i k) S1x512x256.size (k0_off14_inb i k)).toLoadRect f)⟩] := by
  unfold tripL_k0_t1 trip_k0_t1
  rfl

variable (G : BufTy.Contents (Elt Ideal) arg16.view.ty)
variable (init : FVec Ideal S512x256 .f32 × FVec Ideal S512x128 .f32 × FVec Ideal S512x256 .f32 × FVec Ideal S512x128 .f32)

/-- The loop's invariant. -/
theorem carried {A : Arr} {p kb : ℕ} (hkb : (i 1).val = kb) (hc : Ideal.ofBits FTy.f32 1033096506#32 = ((A.c : ℝ) : EReal))
    (hh : Held A p (arg15.view.read (Elt Ideal) X_arg15) (arg17.view.read (Elt Ideal) X_arg17) (arg7.view.read (Elt Ideal) X_arg7) (arg8.view.read (Elt Ideal) X_arg8))
    (h0 : Keys A (2 * p) kb v10 v18) (h1 : Keys A (2 * p + 1) kb v16 v20)
    (hi : Carried A p kb 1 init (arg16.view.read (Elt Ideal) G)) :
    ∀ n, n ≤ (k0_t1_loop i).trips → Carried A p kb (n + 1)
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
            arg1 v10 v16 v18 v20 v21 v22 v24 v56 v58 v70 v72 v75 v78 cst_28 v111 X_arg7 X_arg8 X_arg15 X_arg17 G init n).1
      (arg16.view.read (Elt Ideal) (arg16.view.writes (Elt Ideal) G
        (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
            arg1 v10 v16 v18 v20 v21 v22 v24 v56 v58 v70 v72 v75 v78 cst_28 v111 X_arg7 X_arg8 X_arg15 X_arg17 G init n).2)) := by
  intro n
  induction n with
  | zero => intro _; exact hi
  | succ n ih =>
    intro hn
    have hI := ih (by omega)
    have ht := trips_eq i
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
            arg1 v10 v16 v18 v20 v21 v22 v24 v56 v58 v70 v72 v75 v78 cst_28 v111 X_arg7 X_arg8 X_arg15 X_arg17 G init ⟨n, hn⟩
    rw [e]
    clear e ih
    rw [tripR_eq, tripL_eq]
    generalize (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
            arg1 v10 v16 v18 v20 v21 v22 v24 v56 v58 v70 v72 v75 v78 cst_28 v111 X_arg7 X_arg8 X_arg15 X_arg17 G init n) = s at hI ⊢
    obtain ⟨acc, L⟩ := s
    have hq := hI.q
    have hk0 := hI.k0
    have hk1 := hI.k1
    have hv0 := hI.v0
    have hv1 := hI.v1
    dsimp only at hq hk0 hk1 hv0 hv1
    have hqb : kb < kb + (n + 1) := by omega
    have e14 : k0_off14 i ⟨n, hn⟩ = ![0, 512 * (kb + (n + 1)), 0] := by rw [k0_off14_eq, hkb]; dsimp only; congr 2; omega
    have e15 : k0_off15 i ⟨n, hn⟩ = ![512 * (kb + (n + 1)), 0] := by rw [k0_off15_eq, hkb]; dsimp only; congr 1; omega
    have e16 : k0_off16 i ⟨n, hn⟩ = ![0, 512 * (kb + (n + 1)), 0] := by rw [k0_off16_eq, hkb]; dsimp only; congr 2; omega
    have e17 : k0_off17 i ⟨n, hn⟩ = ![0, 512 * (kb + (n + 1)), 0] := by rw [k0_off17_eq, hkb]; dsimp only; congr 2; omega
    have e18 : k0_off18 i ⟨n, hn⟩ = ![1, 512 * (kb + (n + 1)), 0] := by rw [k0_off18_eq, hkb]; dsimp only; congr 2; omega
    have e19 : k0_off19 i ⟨n, hn⟩ = ![512 * (kb + (n + 1)), 128] := by rw [k0_off19_eq, hkb]; dsimp only; congr 1; omega
    have e20 : k0_off20 i ⟨n, hn⟩ = ![0, 512 * (kb + (n + 1)), 1] := by rw [k0_off20_eq, hkb]; dsimp only; congr 2; omega
    have e21 : k0_off21 i ⟨n, hn⟩ = ![1, 512 * (kb + (n + 1)), 0] := by rw [k0_off21_eq, hkb]; dsimp only; congr 2; omega
    have hrow : ∀ a : Fin 512, 512 * (kb + (n + 1)) + a.val < 2048 := fun a => by have := a.isLt; omega
    have q0 : ∀ (a : Fin 512) (l : Fin 256), arg15.view.readAt (Elt Ideal) (Rect.unit (s := S2x2048x256) (k0_off14 i ⟨n, hn⟩) S1x512x256.size (k0_off14_inb i ⟨n, hn⟩)).toLoadRect X_arg15 (ix3 0 a l)
        = ((A.q256 (2 * p) (512 * (kb + (n + 1)) + a) l : ℝ) : EReal) := fun a l =>
      (load3 arg15.view X_arg15 0 _ 0 _ e14 0 a l 0 ⟨_, hrow a⟩ l rfl rfl (Nat.zero_add _).symm).trans (hh.q 0 _ l)
    have q1 : ∀ (a : Fin 512) (l : Fin 256), arg15.view.readAt (Elt Ideal) (Rect.unit (s := S2x2048x256) (k0_off18 i ⟨n, hn⟩) S1x512x256.size (k0_off18_inb i ⟨n, hn⟩)).toLoadRect X_arg15 (ix3 0 a l)
        = ((A.q256 (2 * p + 1) (512 * (kb + (n + 1)) + a) l : ℝ) : EReal) := fun a l =>
      (load3 arg15.view X_arg15 1 _ 0 _ e18 0 a l 1 ⟨_, hrow a⟩ l rfl rfl (Nat.zero_add _).symm).trans (hh.q 1 _ l)
    have g0 : ∀ (a : Fin 512) (d : Fin 128), arg7.view.readAt (Elt Ideal) (Rect.unit (s := S2048x256) (k0_off15 i ⟨n, hn⟩) S512x128.size (k0_off15_inb i ⟨n, hn⟩)).toLoadRect X_arg7 (ix2 a d)
        = ((A.g (2 * p) (512 * (kb + (n + 1)) + a) d : ℝ) : EReal) := fun a d =>
      (load2 arg7.view X_arg7 _ 0 _ e15 a d ⟨_, hrow a⟩ ⟨d, by have := d.isLt; omega⟩ rfl (Nat.zero_add _).symm).trans (hh.g 0 _ d _ (by simp))
    have g1 : ∀ (a : Fin 512) (d : Fin 128), arg7.view.readAt (Elt Ideal) (Rect.unit (s := S2048x256) (k0_off19 i ⟨n, hn⟩) S512x128.size (k0_off19_inb i ⟨n, hn⟩)).toLoadRect X_arg7 (ix2 a d)
        = ((A.g (2 * p + 1) (512 * (kb + (n + 1)) + a) d : ℝ) : EReal) := fun a d =>
      (load2 arg7.view X_arg7 _ 128 _ e19 a d ⟨_, hrow a⟩ ⟨128 + d, by have := d.isLt; omega⟩ rfl rfl).trans (hh.g 1 _ d _ (by simp))
    have l0 : ∀ a : Fin 512, arg8.view.readAt (Elt Ideal) (Rect.unit (s := S1x2048x2) (k0_off16 i ⟨n, hn⟩) S1x512x1.size (k0_off16_inb i ⟨n, hn⟩)).toLoadRect X_arg8 (ix3 0 a 0)
        = ((Real.log (A.L (2 * p) (512 * (kb + (n + 1)) + a)) : ℝ) : EReal) := fun a =>
      (load3 arg8.view X_arg8 0 _ 0 _ e16 0 a 0 0 ⟨_, hrow a⟩ 0 rfl rfl rfl).trans (hh.ls 0 _)
    have l1 : ∀ a : Fin 512, arg8.view.readAt (Elt Ideal) (Rect.unit (s := S1x2048x2) (k0_off20 i ⟨n, hn⟩) S1x512x1.size (k0_off20_inb i ⟨n, hn⟩)).toLoadRect X_arg8 (ix3 0 a 0)
        = ((Real.log (A.L (2 * p + 1) (512 * (kb + (n + 1)) + a)) : ℝ) : EReal) := fun a =>
      (load3 arg8.view X_arg8 0 _ 1 _ e20 0 a 0 0 ⟨_, hrow a⟩ 1 rfl rfl rfl).trans (hh.ls 1 _)
    have d0 : ∀ a : Fin 512, arg17.view.readAt (Elt Ideal) (Rect.unit (s := S2x2048x1) (k0_off17 i ⟨n, hn⟩) S1x512x1.size (k0_off17_inb i ⟨n, hn⟩)).toLoadRect X_arg17 (ix3 0 a 0)
        = ((A.delta (2 * p) (512 * (kb + (n + 1)) + a) : ℝ) : EReal) := fun a =>
      (load3 arg17.view X_arg17 0 _ 0 _ e17 0 a 0 0 ⟨_, hrow a⟩ 0 rfl rfl rfl).trans (hh.dl 0 _)
    have d1 : ∀ a : Fin 512, arg17.view.readAt (Elt Ideal) (Rect.unit (s := S2x2048x1) (k0_off21 i ⟨n, hn⟩) S1x512x1.size (k0_off21_inb i ⟨n, hn⟩)).toLoadRect X_arg17 (ix3 0 a 0)
        = ((A.delta (2 * p + 1) (512 * (kb + (n + 1)) + a) : ℝ) : EReal) := fun a =>
      (load3 arg17.view X_arg17 1 _ 0 _ e21 0 a 0 1 ⟨_, hrow a⟩ 0 rfl rfl rfl).trans (hh.dl 1 _)
    have p0 : ∀ (a : Fin 512) (l : Fin 256), arg16.view.readAt (Elt Ideal) (Rect.unit (s := S2x2048x256) (k0_off14 i ⟨n, hn⟩) S1x512x256.size (k0_off14_inb i ⟨n, hn⟩)).toLoadRect
        (arg16.view.writes (Elt Ideal) G L) (ix3 0 a l) = ((DQ A kb (n + 1) (2 * p) (512 * (kb + (n + 1)) + a) l : ℝ) : EReal) := fun a l =>
      (load3 arg16.view _ 0 _ 0 _ e14 0 a l 0 ⟨_, hrow a⟩ l rfl rfl (Nat.zero_add _).symm).trans (hq 0 _ l)
    have p1 : ∀ (a : Fin 512) (l : Fin 256), arg16.view.readAt (Elt Ideal) (Rect.unit (s := S2x2048x256) (k0_off18 i ⟨n, hn⟩) S1x512x256.size (k0_off18_inb i ⟨n, hn⟩)).toLoadRect
        (arg16.view.writes (Elt Ideal) G L) (ix3 0 a l) = ((DQ A kb (n + 1) (2 * p + 1) (512 * (kb + (n + 1)) + a) l : ℝ) : EReal) := fun a l =>
      (load3 arg16.view _ 1 _ 0 _ e18 0 a l 1 ⟨_, hrow a⟩ l rfl rfl (Nat.zero_add _).symm).trans (hq 1 _ l)
    refine ⟨fun b l => ?_, fun b d => ?_, fun b l => ?_, fun b d => ?_, fun h y l => ?_⟩
    · exact (pay16 hc h0.k h0.v g0 q0 l0 d0 hqb hk0 b l).trans (congrArg _ (DK_step A kb (n + 1) (2 * p) b l))
    · exact (pay15 hc h0.k g0 q0 l0 hqb hv0 b d).trans (congrArg _ (DV_step A kb (n + 1) (2 * p) b d))
    · exact (pay16 hc h1.k h1.v g1 q1 l1 d1 hqb hk1 b l).trans (congrArg _ (DK_step A kb (n + 1) (2 * p + 1) b l))
    · exact (pay15 hc h1.k g1 q1 l1 hqb hv1 b d).trans (congrArg _ (DV_step A kb (n + 1) (2 * p + 1) b d))
    · by_cases hy : 512 * (kb + (n + 1)) ≤ y.val ∧ y.val < 512 * (kb + (n + 1)) + 512
      · obtain ⟨a, ha⟩ : ∃ a : Fin 512, y.val = 512 * (kb + (n + 1)) + a.val := ⟨⟨y.val - 512 * (kb + (n + 1)), by omega⟩, by dsimp only; omega⟩
        rcases Fin.exists_fin_two.mp ⟨h, rfl⟩ with e | e
        · subst e
          refine (store_out arg16.view G 1 _ _ e18 _ _ 0 y l (Or.inl (by decide))).trans ?_
          refine (store_in arg16.view G 0 _ _ e14 _ _ a 0 y l rfl ha).trans ?_
          refine (pay17 hc h0.k h0.v g0 q0 l0 d0 hqb p0 a l).trans ?_
          rw [ha]
          exact congrArg _ (DQ_in A kb (n + 1) (2 * p) l a a.isLt)
        · subst e
          refine (store_in arg16.view G 1 _ _ e18 _ _ a 1 y l rfl ha).trans ?_
          refine (pay17 hc h1.k h1.v g1 q1 l1 d1 hqb p1 a l).trans ?_
          rw [ha]
          exact congrArg _ (DQ_in A kb (n + 1) (2 * p + 1) l a a.isLt)
      · refine (store_out arg16.view G 1 _ _ e18 _ _ h y l (Or.inr (by omega))).trans ?_
        refine (store_out arg16.view G 0 _ _ e14 _ _ h y l (Or.inr (by omega))).trans ?_
        exact (hq h y l).trans (congrArg _ (DQ_out A kb (n + 1) _ _ _ (by omega)).symm)

end loop

end Cert.AttnTrip
end
-- ==== Proof.AttnMove.lean ====
module
public import proofs.«01_k».proof.Proof.AttnPay
public import Idealize.ShloMosaic.Lib.WordCmp

/-! # What the body moves

The packed queries and keys, the row sums of `do · o`, the blocks written out, and the rotation of the queries' gradient
back. -/

@[expose] public section

set_option maxRecDepth 16384
noncomputable section

namespace Cert.AttnMove

open Idealize.ShloMosaic Idealize.ShloMosaic.TcCoe Cert.AttnIdeal Cert.AttnIdeal.Gen Cert.AttnMath Cert.AttnPay

section pack
variable {A : Arr} {p : ℕ}

theorem lane_lt {n : ℕ} (h : n < 128) (x y : EReal) :
    Scalar.select (IntOp.cmpi CmpIPredicate.slt (BitVec.ofNat 32 n) 64#32) x y = if n < 64 then x else y := by
  word_cmp

theorem lane_ge {n : ℕ} (h : n < 128) (x y : EReal) :
    Scalar.select (IntOp.cmpi CmpIPredicate.sge (BitVec.ofNat 32 n) 64#32) x y = if n < 64 then y else x := by
  word_cmp
  by_cases h' : n < 64
  · rw [if_pos h', if_neg (by omega)]
  · rw [if_neg h', if_pos (by omega)]

/-- The first head's packed query. -/
theorem pay9 {x y : Vec Ideal S2048x128 .bf16} (hx : ∀ (b : Fin 2048) (d : Fin 128), x (ix2 b d) = ((A.qn (2 * p) b d : ℝ) : EReal))
    (hy : ∀ (b : Fin 2048) (l : Fin 128), y (ix2 b l) = ((A.qr (2 * p + l / 64) b (l % 64) : ℝ) : EReal)) (b : Fin 2048) (l : Fin 256) :
    k0_pay9 x y (ix3 0 b l) = ((A.q256 (2 * p) b l : ℝ) : EReal) := by
  pointwise [k0_pay9]
  unfold Arr.q256
  split
  · rw [hx]
  · have hl := l.isLt
    rw [hy, lane_lt (by omega : l.val - 128 < 128)]
    by_cases h : l.val - 128 < 64
    · rw [if_pos h]
      refine Eq.trans (congrArg (fun k => ((A.qr k b ((l.val - 128) % 64) : ℝ) : EReal)) (show 2 * p + (l.val - 128) / 64 = 2 * p by omega)) ?_
      exact congrArg _ (if_pos (by omega)).symm
    · rw [if_neg h]
      exact Eq.trans EReal.coe_zero.symm (congrArg (fun r : ℝ => (r : EReal)) (if_neg (by omega)).symm)

/-- The second head's packed query. -/
theorem pay25 {x y : Vec Ideal S2048x128 .bf16} (hx : ∀ (b : Fin 2048) (d : Fin 128), x (ix2 b d) = ((A.qn (2 * p + 1) b d : ℝ) : EReal))
    (hy : ∀ (b : Fin 2048) (l : Fin 128), y (ix2 b l) = ((A.qr (2 * p + l / 64) b (l % 64) : ℝ) : EReal)) (b : Fin 2048) (l : Fin 256) :
    k0_pay25 x (k0_pay11 y) (iota .tc S2048x128 32 [1] iota_S2048x128_d1_w32) 64#32 (ix3 0 b l) = ((A.q256 (2 * p + 1) b l : ℝ) : EReal) := by
  pointwise [k0_pay25, k0_pay11]
  unfold Arr.q256
  split
  · rw [hx]
  · have hl := l.isLt
    rw [hy, lane_ge (by omega : l.val - 128 < 128)]
    by_cases h : l.val - 128 < 64
    · rw [if_pos h]
      exact Eq.trans EReal.coe_zero.symm (congrArg (fun r : ℝ => (r : EReal)) (if_neg (by omega)).symm)
    · rw [if_neg h]
      refine Eq.trans (congrArg (fun k => ((A.qr k b ((l.val - 128) % 64) : ℝ) : EReal)) (show 2 * p + (l.val - 128) / 64 = 2 * p + 1 by omega)) ?_
      exact congrArg _ (if_pos (by omega)).symm

/-- The row sums of `do · o`. -/
theorem pay10 {h : ℕ} {x y : Vec Ideal S2048x128 .bf16} (hx : ∀ (b : Fin 2048) (d : Fin 128), x (ix2 b d) = ((A.g h b d : ℝ) : EReal))
    (hy : ∀ (b : Fin 2048) (d : Fin 128), y (ix2 b d) = ((A.o h b d : ℝ) : EReal)) (b : Fin 2048) :
    k0_pay10 x y (ix3 0 b 0) = ((A.delta h b : ℝ) : EReal) := by
  pointwise [k0_pay10]
  simp only [hx, hy, ← EReal.coe_mul, ← coe_sum]
  rfl

theorem pay26_eq (x y : Vec Ideal S2048x128 .bf16) : k0_pay26 x y = k0_pay10 x y := rfl

/-- A packed block of keys. -/
theorem pay27 {h kb : ℕ} {x y : Vec Ideal S512x128 .bf16} (hx : ∀ (b : Fin 512) (d : Fin 128), x (ix2 b d) = ((A.kn h (512 * kb + b) d : ℝ) : EReal))
    (hy : ∀ (b : Fin 512) (l : Fin 128), y (ix2 b l) = ((A.kr (512 * kb + b) (l % 64) : ℝ) : EReal)) (b : Fin 512) (l : Fin 256) :
    k0_pay27 x y (ix2 b l) = ((A.k256 h (512 * kb + b) l : ℝ) : EReal) := by
  pointwise [k0_pay27]
  unfold Arr.k256
  split
  · rw [hx]
  · rw [hy]

theorem pay28_eq (x y : Vec Ideal S512x128 .bf16) : k0_pay28 x y = k0_pay27 x y := rfl

theorem pay31 {h kb : ℕ} {q : Vec Ideal S1x512x256 .bf16} (hq : ∀ (a : Fin 512) (l : Fin 256), q (ix3 0 a l) = ((A.q256 h (512 * kb + a) l : ℝ) : EReal))
    (a : Fin 512) (l : Fin 256) : k0_pay31 q (ix2 a l) = ((A.q256 h (512 * kb + a) l : ℝ) : EReal) := by
  pointwise [k0_pay31]
  rw [hq]

theorem pay38_eq (q : Vec Ideal S1x512x256 .bf16) : k0_pay38 q = k0_pay31 q := rfl

end pack

/-! ## The blocks written out -/

theorem pay1 (x : FVec Ideal S512x256 .f32) (b : Fin 512) (d : Fin 128) (l : Fin 256) (hl : l.val = d.val) : k0_pay1 x (ix2 b d) = x (ix2 b l) := by
  pointwise [k0_pay1]
  exact congrArg x (congrArg (ix2 b) (Fin.ext hl.symm))

theorem pay3_eq (x : FVec Ideal S512x256 .f32) : k0_pay3 x = k0_pay1 x := rfl
theorem pay2_eq (x : FVec Ideal S512x128 .f32) : k0_pay2 x = x := rfl
theorem pay4_eq (x : FVec Ideal S512x128 .f32) : k0_pay4 x = x := rfl

theorem pay5 (x y : FVec Ideal S512x256 .f32) (b : Fin 512) (d : Fin 128) (l : Fin 256) (hl : l.val = 128 + d.val) :
    k0_pay5 x y (FloatOps.ofBits FTy.f32 0#32) (ix3 0 b d) = x (ix2 b l) + y (ix2 b l) := by
  have e : l = ⟨128 + d.val, by have := d.isLt; omega⟩ := Fin.ext hl
  rw [e]
  pointwise [k0_pay5]

theorem pay6 (x : Vec Ideal S1x2048x128 .f32) (b : Fin 2048) (d : Fin 128) : k0_pay6 x (ix2 b d) = x (ix3 0 b d) := by
  pointwise [k0_pay6]

theorem pay7_eq (x : Vec Ideal S1x2048x128 .f32) : k0_pay7 x = k0_pay6 x := rfl

/-- A lane's place in its half, as the body computes it. -/
abbrev lane64 (n : ℕ) : BitVec 32 :=
  IntOp.remsi ArithUnit.vector (BitVec.ofNat 32 n) (Scalar.select (Scalar.cmpi CmpIPredicate.eq 64#32 0#32) 1#32 64#32)

theorem half_lt : ∀ l : Fin 128, IntOp.cmpi CmpIPredicate.slt
    (Scalar.select (IntOp.andi (IntOp.xori (IntOp.cmpi CmpIPredicate.slt (lane64 l) 0#32)
        (Scalar.cmpi CmpIPredicate.slt (Scalar.select (Scalar.cmpi CmpIPredicate.eq 64#32 0#32) 1#32 64#32) 0#32))
        (IntOp.cmpi CmpIPredicate.ne (lane64 l) 0#32))
      (IntOp.addi (lane64 l) (Scalar.select (Scalar.cmpi CmpIPredicate.eq 64#32 0#32) 1#32 64#32)) (lane64 l)) 32#32
      = if l.val % 64 < 32 then 1#1 else 0#1 := by decide +kernel

/-- The rotation back. -/
theorem pay24 {w : ℕ → ℕ → ℕ → ℝ} {p : ℕ} {cs sn : ℕ → ℕ → ℝ} {x y : Vec Ideal S1x2048x128 .f32} {c s : Vec Ideal S2048x128 .f32}
    (hx : ∀ (b : Fin 2048) (l : Fin 128), x (ix3 0 b l) = ((w (2 * p) b l : ℝ) : EReal))
    (hy : ∀ (b : Fin 2048) (l : Fin 128), y (ix3 0 b l) = ((w (2 * p + 1) b l : ℝ) : EReal))
    (hc : ∀ (b : Fin 2048) (l : Fin 128), c (ix2 b l) = ((cs b (l % 32) : ℝ) : EReal))
    (hs : ∀ (b : Fin 2048) (l : Fin 128), s (ix2 b l) = (((if l.val % 64 < 32 then -sn b (l % 32) else sn b (l % 32)) : ℝ) : EReal))
    (b : Fin 2048) (l : Fin 128) : k0_pay24 x y c s (ix2 b l)
      = ((if l.val % 64 < 32 then w (2 * p + l / 64) b l * cs b (l % 32) + w (2 * p + l / 64) b (l + 32) * sn b (l % 32)
          else w (2 * p + l / 64) b l * cs b (l % 32) - w (2 * p + l / 64) b (l - 32) * sn b (l % 32) : ℝ) : EReal) := by
  have pick : ∀ (n : Fin 128) (k : ℕ), n.val = k → Scalar.select (IntOp.cmpi CmpIPredicate.slt (BitVec.ofNat 32 n.val) 64#32) (x (ix3 0 b n)) (y (ix3 0 b n))
      = ((w (2 * p + k / 64) b k : ℝ) : EReal) := fun n k e => by
    subst e
    have hn := n.isLt
    rw [lane_lt hn, hx, hy]
    split
    · rw [show n.val / 64 = 0 by omega]; rfl
    · rw [show n.val / 64 = 1 by omega]
  have hl := l.isLt
  pointwise [k0_pay24]
  rw [half_lt l, pick l l rfl, hc, hs]
  by_cases h : l.val % 64 < 32
  · rw [if_pos h, if_pos h, if_pos h]
    refine (congrArg (fun z : EReal => ((w (2 * p + l / 64) b l : ℝ) : EReal) * ((cs b (l % 32) : ℝ) : EReal) + z * (0 - ((-sn b (l % 32) : ℝ) : EReal)))
      ((if_pos rfl).trans (pick ⟨(l.val + 128 - 96) % 128, Nat.mod_lt _ (by decide)⟩ (l + 32) (by show (l.val + 128 - 96) % 128 = l.val + 32; omega)))).trans ?_
    rw [show (l.val + 32) / 64 = l.val / 64 by omega, ← EReal.coe_zero, ← EReal.coe_sub, ← EReal.coe_mul, ← EReal.coe_mul, ← EReal.coe_add]
    congr 1; ring
  · rw [if_neg h, if_neg h, if_neg h]
    refine (congrArg (fun z : EReal => ((w (2 * p + l / 64) b l : ℝ) : EReal) * ((cs b (l % 32) : ℝ) : EReal) + z * (0 - ((sn b (l % 32) : ℝ) : EReal)))
      ((if_neg (by decide)).trans (pick ⟨(l.val + 128 - 32) % 128, Nat.mod_lt _ (by decide)⟩ (l - 32) (by show (l.val + 128 - 32) % 128 = l.val - 32; omega)))).trans ?_
    rw [show (l.val - 32) / 64 = l.val / 64 by omega, ← EReal.coe_zero, ← EReal.coe_sub, ← EReal.coe_mul, ← EReal.coe_mul, ← EReal.coe_add]
    congr 1; ring

end Cert.AttnMove
end
-- ==== Proof.AttnPoint.lean ====
module
public import proofs.«01_k».proof.Proof.AttnTrip
public import proofs.«01_k».proof.Proof.AttnMove
public import Idealize.ShloMosaic.Lib.Writes

/-! # One point's block of keys

The block of queries on the diagonal, then the loop over the later ones: what a point carries out of the loop and leaves
in the queries' gradient. -/

@[expose] public section

set_option maxRecDepth 16384
noncomputable section

namespace Cert.AttnPoint

open Idealize.ShloMosaic Idealize.ShloMosaic.TcCoe Cert.AttnIdeal Cert.AttnIdeal.Gen Cert.AttnMath Cert.AttnPay Cert.AttnTrip
open Idealize.SL Idealize.SL.RA Idealize.SL.Sem

/-- The pair `p`'s keys and values. -/
structure Given (A : Arr) (p : ℕ) (x4 : Vec Ideal S2048x512 .bf16) (x5 : Vec Ideal S2048x128 .bf16) : Prop where
  kn : ∀ (h : Fin 2) (j : Fin 2048) (d : Fin 128) (l : Fin 512), l.val = 256 * h + d → x4 (ix2 j l) = ((A.kn (2 * p + h) j d : ℝ) : EReal)
  v : ∀ (h : Fin 2) (j : Fin 2048) (d : Fin 128) (l : Fin 512), l.val = 256 * h + 128 + d → x4 (ix2 j l) = ((A.v (2 * p + h) j d : ℝ) : EReal)
  kr : ∀ (j : Fin 2048) (l : Fin 128), x5 (ix2 j l) = ((A.kr j (l % 64) : ℝ) : EReal)

theorem DK_one (A : Arr) (kb h b l : ℕ) : ∑ a : Fin 512, A.dS h (512 * kb + a) (512 * kb + b) * A.q256 h (512 * kb + a) l = DK A kb 1 h b l := by
  have e := DK_step A kb 0 h b l
  rw [DK_zero, zero_add] at e
  exact e

theorem DV_one (A : Arr) (kb h b d : ℕ) : ∑ a : Fin 512, A.P h (512 * kb + a) (512 * kb + b) * A.g h (512 * kb + a) d = DV A kb 1 h b d := by
  have e := DV_step A kb 0 h b d
  rw [DV_zero, zero_add] at e
  exact e

section point

variable (c : Dev nD) (i : grid0.Coords) (arg2 : Memref sig .tc .vmem S2048x256 .bf16) (harg2 : arg2.IsWhole)
variable (arg3 : Memref sig .tc .vmem S2048x128 .bf16) (harg3 : arg3.IsWhole) (arg4 : Memref sig .tc .vmem S2048x512 .bf16) (harg4 : arg4.IsWhole) (arg5 : Memref sig .tc .vmem S2048x128 .bf16) (harg5 : arg5.IsWhole)
variable (arg6 : Memref sig .tc .vmem S2048x256 .bf16) (harg6 : arg6.IsWhole) (arg7 : Memref sig .tc .vmem S2048x256 .bf16) (harg7 : arg7.IsWhole) (arg8 : Memref sig .tc .vmem S1x2048x2 .f32) (harg8 : arg8.IsWhole)
variable (arg9 : Memref sig .tc .vmem S2048x128 .f32) (harg9 : arg9.IsWhole) (arg10 : Memref sig .tc .vmem S2048x128 .f32) (harg10 : arg10.IsWhole) (arg11 : Memref sig .tc .vmem S2048x256 .bf16) (harg11 : arg11.IsWhole)
variable (arg12 : Memref sig .tc .vmem S2048x128 .bf16) (harg12 : arg12.IsWhole) (arg13 : Memref sig .tc .vmem S512x512 .bf16) (harg13 : arg13.IsWhole) (arg14 : Memref sig .tc .vmem S1x512x128 .f32) (harg14 : arg14.IsWhole)
variable (arg15 : Memref sig .tc .vmem S2x2048x256 .bf16) (harg15 : arg15.IsWhole) (arg16 : Memref sig .tc .vmem S2x2048x256 .f32) (harg16 : arg16.IsWhole) (arg17 : Memref sig .tc .vmem S2x2048x1 .f32) (harg17 : arg17.IsWhole)

variable (X4 : BufTy.Contents (Elt Ideal) arg4.view.ty) (X5 : BufTy.Contents (Elt Ideal) arg5.view.ty) (X7 : BufTy.Contents (Elt Ideal) arg7.view.ty) (X8 : BufTy.Contents (Elt Ideal) arg8.view.ty)
variable (X15 : BufTy.Contents (Elt Ideal) arg15.view.ty) (X17 : BufTy.Contents (Elt Ideal) arg17.view.ty) (f : BufTy.Contents (Elt Ideal) arg16.view.ty)
variable (L0 : List (View.Piece (Elt Ideal) S2x2048x256 .f32)) (v103 : Vec Ideal S1x512x256 .f32)

/-- The scores' block on the diagonal, per head. -/
abbrev s0 : FVec Ideal S512x512 .f32 := k0_pay32 (arg4.view.readAt (Elt Ideal) (Rect.unit (s := S2048x512) (k0_off1 i) S512x128.size (k0_off1_inb i)).toLoadRect X4) (arg5.view.readAt (Elt Ideal) (Rect.unit (s := S2048x128) (k0_off2 i) S512x128.size (k0_off2_inb i)).toLoadRect X5)
  (arg15.view.readAt (Elt Ideal) (Rect.unit (s := S2x2048x256) (k0_off6 i) S1x512x256.size (k0_off6_inb i)).toLoadRect X15)
abbrev kc0 : FVec Ideal S512x256 .bf16 := k0_pay27 (arg4.view.readAt (Elt Ideal) (Rect.unit (s := S2048x512) (k0_off1 i) S512x128.size (k0_off1_inb i)).toLoadRect X4) (arg5.view.readAt (Elt Ideal) (Rect.unit (s := S2048x128) (k0_off2 i) S512x128.size (k0_off2_inb i)).toLoadRect X5)
abbrev kc1 : FVec Ideal S512x256 .bf16 := k0_pay28 (arg4.view.readAt (Elt Ideal) (Rect.unit (s := S2048x512) (k0_off3 i) S512x128.size (k0_off3_inb i)).toLoadRect X4) (arg5.view.readAt (Elt Ideal) (Rect.unit (s := S2048x128) (k0_off2 i) S512x128.size (k0_off2_inb i)).toLoadRect X5)
abbrev s1 : FVec Ideal S512x512 .f32 := k0_pay39 (kc1 i arg4 arg5 X4 X5)
  (arg15.view.readAt (Elt Ideal) (Rect.unit (s := S2x2048x256) (k0_off10 i) S1x512x256.size (k0_off10_inb i)).toLoadRect X15)
/-- What is carried into the loop. -/
abbrev init : FVec Ideal S512x256 .f32 × FVec Ideal S512x128 .f32 × FVec Ideal S512x256 .f32 × FVec Ideal S512x128 .f32 :=
  (k0_pay36 (arg4.view.readAt (Elt Ideal) (Rect.unit (s := S2048x512) (k0_off4 i) S512x128.size (k0_off4_inb i)).toLoadRect X4) k0_pay29 (k0_pay31 (arg15.view.readAt (Elt Ideal) (Rect.unit (s := S2x2048x256) (k0_off6 i) S1x512x256.size (k0_off6_inb i)).toLoadRect X15))
      (arg7.view.readAt (Elt Ideal) (Rect.unit (s := S2048x256) (k0_off7 i) S512x128.size (k0_off7_inb i)).toLoadRect X7) (s0 i arg4 arg5 arg15 X4 X5 X15)
      (arg8.view.readAt (Elt Ideal) (Rect.unit (s := S1x2048x2) (k0_off8 i) S1x512x1.size (k0_off8_inb i)).toLoadRect X8)
      (arg17.view.readAt (Elt Ideal) (Rect.unit (s := S2x2048x1) (k0_off9 i) S1x512x1.size (k0_off9_inb i)).toLoadRect X17),
    k0_pay35 k0_pay30 (arg7.view.readAt (Elt Ideal) (Rect.unit (s := S2048x256) (k0_off7 i) S512x128.size (k0_off7_inb i)).toLoadRect X7) (s0 i arg4 arg5 arg15 X4 X5 X15)
      (arg8.view.readAt (Elt Ideal) (Rect.unit (s := S1x2048x2) (k0_off8 i) S1x512x1.size (k0_off8_inb i)).toLoadRect X8),
    k0_pay44 (arg4.view.readAt (Elt Ideal) (Rect.unit (s := S2048x512) (k0_off5 i) S512x128.size (k0_off5_inb i)).toLoadRect X4) k0_pay29 (k0_pay38 (arg15.view.readAt (Elt Ideal) (Rect.unit (s := S2x2048x256) (k0_off10 i) S1x512x256.size (k0_off10_inb i)).toLoadRect X15))
      (arg7.view.readAt (Elt Ideal) (Rect.unit (s := S2048x256) (k0_off11 i) S512x128.size (k0_off11_inb i)).toLoadRect X7) (s1 i arg4 arg5 arg15 X4 X5 X15) k0_pay40 (Named.named κ "mask" 4048155338#32)
      (arg8.view.readAt (Elt Ideal) (Rect.unit (s := S1x2048x2) (k0_off12 i) S1x512x1.size (k0_off12_inb i)).toLoadRect X8)
      (arg17.view.readAt (Elt Ideal) (Rect.unit (s := S2x2048x1) (k0_off13 i) S1x512x1.size (k0_off13_inb i)).toLoadRect X17),
    k0_pay43 k0_pay30 (arg7.view.readAt (Elt Ideal) (Rect.unit (s := S2048x256) (k0_off11 i) S512x128.size (k0_off11_inb i)).toLoadRect X7) (s1 i arg4 arg5 arg15 X4 X5 X15) k0_pay40 (Named.named κ "mask" 4048155338#32)
      (arg8.view.readAt (Elt Ideal) (Rect.unit (s := S1x2048x2) (k0_off12 i) S1x512x1.size (k0_off12_inb i)).toLoadRect X8))
/-- What the diagonal leaves in the queries' gradient. -/
abbrev left : List (View.Piece (Elt Ideal) S2x2048x256 .f32) :=
  (⟨Rect.unit (s := S2x2048x256) (k0_off10 i) S1x512x256.size (k0_off10_inb i),
    k0_pay45 (kc1 i arg4 arg5 X4 X5) (arg4.view.readAt (Elt Ideal) (Rect.unit (s := S2048x512) (k0_off5 i) S512x128.size (k0_off5_inb i)).toLoadRect X4)
      (arg7.view.readAt (Elt Ideal) (Rect.unit (s := S2048x256) (k0_off11 i) S512x128.size (k0_off11_inb i)).toLoadRect X7) (s1 i arg4 arg5 arg15 X4 X5 X15) k0_pay40 (Named.named κ "mask" 4048155338#32)
      (arg8.view.readAt (Elt Ideal) (Rect.unit (s := S1x2048x2) (k0_off12 i) S1x512x1.size (k0_off12_inb i)).toLoadRect X8)
      (arg17.view.readAt (Elt Ideal) (Rect.unit (s := S2x2048x1) (k0_off13 i) S1x512x1.size (k0_off13_inb i)).toLoadRect X17) v103⟩ : View.Piece (Elt Ideal) S2x2048x256 .f32) ::
  (⟨Rect.unit (s := S2x2048x256) (k0_off6 i) S1x512x256.size (k0_off6_inb i),
    k0_pay37 (kc0 i arg4 arg5 X4 X5) (arg4.view.readAt (Elt Ideal) (Rect.unit (s := S2048x512) (k0_off4 i) S512x128.size (k0_off4_inb i)).toLoadRect X4)
      (arg7.view.readAt (Elt Ideal) (Rect.unit (s := S2048x256) (k0_off7 i) S512x128.size (k0_off7_inb i)).toLoadRect X7) (s0 i arg4 arg5 arg15 X4 X5 X15)
      (arg8.view.readAt (Elt Ideal) (Rect.unit (s := S1x2048x2) (k0_off8 i) S1x512x1.size (k0_off8_inb i)).toLoadRect X8)
      (arg17.view.readAt (Elt Ideal) (Rect.unit (s := S2x2048x1) (k0_off9 i) S1x512x1.size (k0_off9_inb i)).toLoadRect X17)
      (arg16.view.readAt (Elt Ideal) (Rect.unit (s := S2x2048x256) (k0_off6 i) S1x512x256.size (k0_off6_inb i)).toLoadRect (arg16.view.writes (Elt Ideal) f L0))⟩ : View.Piece (Elt Ideal) S2x2048x256 .f32) :: L0
/-- The loop's result. -/
abbrev res := st_k0_t1 (F := Ideal) Variants.none c none i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      (BitVec.ofNat 32 (i 1).val) (kc0 i arg4 arg5 X4 X5) (kc1 i arg4 arg5 X4 X5)
      (arg4.view.readAt (Elt Ideal) (Rect.unit (s := S2048x512) (k0_off4 i) S512x128.size (k0_off4_inb i)).toLoadRect X4)
      (arg4.view.readAt (Elt Ideal) (Rect.unit (s := S2048x512) (k0_off5 i) S512x128.size (k0_off5_inb i)).toLoadRect X4) k0_pay29 k0_pay30
      (Scalar.muli (BitVec.ofNat 32 (i 1).val) 512#32)
      (k0_pay35 k0_pay30 (arg7.view.readAt (Elt Ideal) (Rect.unit (s := S2048x256) (k0_off7 i) S512x128.size (k0_off7_inb i)).toLoadRect X7) (s0 i arg4 arg5 arg15 X4 X5 X15)
        (arg8.view.readAt (Elt Ideal) (Rect.unit (s := S1x2048x2) (k0_off8 i) S1x512x1.size (k0_off8_inb i)).toLoadRect X8))
      (k0_pay36 (arg4.view.readAt (Elt Ideal) (Rect.unit (s := S2048x512) (k0_off4 i) S512x128.size (k0_off4_inb i)).toLoadRect X4) k0_pay29 (k0_pay31 (arg15.view.readAt (Elt Ideal) (Rect.unit (s := S2x2048x256) (k0_off6 i) S1x512x256.size (k0_off6_inb i)).toLoadRect X15))
        (arg7.view.readAt (Elt Ideal) (Rect.unit (s := S2048x256) (k0_off7 i) S512x128.size (k0_off7_inb i)).toLoadRect X7) (s0 i arg4 arg5 arg15 X4 X5 X15)
        (arg8.view.readAt (Elt Ideal) (Rect.unit (s := S1x2048x2) (k0_off8 i) S1x512x1.size (k0_off8_inb i)).toLoadRect X8)
        (arg17.view.readAt (Elt Ideal) (Rect.unit (s := S2x2048x1) (k0_off9 i) S1x512x1.size (k0_off9_inb i)).toLoadRect X17))
      (k0_pay38 (arg15.view.readAt (Elt Ideal) (Rect.unit (s := S2x2048x256) (k0_off10 i) S1x512x256.size (k0_off10_inb i)).toLoadRect X15))
      (arg7.view.readAt (Elt Ideal) (Rect.unit (s := S2048x256) (k0_off11 i) S512x128.size (k0_off11_inb i)).toLoadRect X7) (s1 i arg4 arg5 arg15 X4 X5 X15) k0_pay40 (Named.named κ "mask" 4048155338#32)
      (Scalar.addi (BitVec.ofNat 32 (i 1).val) 1#32) X7 X8 X15 X17
      (arg16.view.writes (Elt Ideal) f (left i arg4 arg5 arg7 arg8 arg15 arg16 arg17 X4 X5 X7 X8 X15 X17 f L0 v103))
      (init i arg4 arg5 arg7 arg8 arg15 arg17 X4 X5 X7 X8 X15 X17)
      (Scf.trips (k0_t1_loop i).lb (k0_t1_loop i).ub (k0_t1_loop i).st)

theorem point {A : Arr} {p kb : ℕ} (hkb : (i 1).val = kb) (hk4 : kb < 4) (hc : Ideal.ofBits FTy.f32 1033096506#32 = ((A.c : ℝ) : EReal))
    (hg : Given A p (arg4.view.read (Elt Ideal) X4) (arg5.view.read (Elt Ideal) X5))
    (hh : Held A p (arg15.view.read (Elt Ideal) X15) (arg17.view.read (Elt Ideal) X17) (arg7.view.read (Elt Ideal) X7) (arg8.view.read (Elt Ideal) X8))
    (hq : ∀ (h : Fin 2) (y : Fin 2048) (l : Fin 256), arg16.view.read (Elt Ideal) (arg16.view.writes (Elt Ideal) f L0) (ix3 h y l) = ((DQ A kb 0 (2 * p + h) y l : ℝ) : EReal))
    (p1 : ∀ (a : Fin 512) (l : Fin 256), v103 (ix3 0 a l) = ((DQ A kb 0 (2 * p + 1) (512 * kb + a) l : ℝ) : EReal)) :
    Carried A p kb (4 - kb)
      (res c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X7 X8 X15 X17 f L0 v103).1
      (arg16.view.read (Elt Ideal) (arg16.view.writes (Elt Ideal) f
        ((res c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X7 X8 X15 X17 f L0 v103).2
          ++ left i arg4 arg5 arg7 arg8 arg15 arg16 arg17 X4 X5 X7 X8 X15 X17 f L0 v103))) := by
  have ht := trips_eq i
  rw [View.writes_append, show 4 - kb = (k0_t1_loop i).trips + 1 by omega]
  have hrow : ∀ a : Fin 512, 512 * kb + a.val < 2048 := fun a => by have := a.isLt; omega
  have e1 : k0_off1 i = ![512 * kb, 0] := by rw [k0_off1_eq, hkb]
  have e2 : k0_off2 i = ![512 * kb, 0] := by rw [k0_off2_eq, hkb]
  have e3 : k0_off3 i = ![512 * kb, 256] := by rw [k0_off3_eq, hkb]
  have e4 : k0_off4 i = ![512 * kb, 128] := by rw [k0_off4_eq, hkb]
  have e5 : k0_off5 i = ![512 * kb, 384] := by rw [k0_off5_eq, hkb]
  have e6 : k0_off6 i = ![0, 512 * kb, 0] := by rw [k0_off6_eq, hkb]
  have e7 : k0_off7 i = ![512 * kb, 0] := by rw [k0_off7_eq, hkb]
  have e8 : k0_off8 i = ![0, 512 * kb, 0] := by rw [k0_off8_eq, hkb]
  have e9 : k0_off9 i = ![0, 512 * kb, 0] := by rw [k0_off9_eq, hkb]
  have e10 : k0_off10 i = ![1, 512 * kb, 0] := by rw [k0_off10_eq, hkb]
  have e11 : k0_off11 i = ![512 * kb, 128] := by rw [k0_off11_eq, hkb]
  have e12 : k0_off12 i = ![0, 512 * kb, 1] := by rw [k0_off12_eq, hkb]
  have e13 : k0_off13 i = ![1, 512 * kb, 0] := by rw [k0_off13_eq, hkb]
  have kn0 : ∀ (b : Fin 512) (d : Fin 128), arg4.view.readAt (Elt Ideal) (Rect.unit (s := S2048x512) (k0_off1 i) S512x128.size (k0_off1_inb i)).toLoadRect X4 (ix2 b d) = ((A.kn (2 * p) (512 * kb + b) d : ℝ) : EReal) := fun b d =>
    (load2 arg4.view X4 _ 0 _ e1 b d ⟨_, hrow b⟩ ⟨0 + d, by have := d.isLt; omega⟩ rfl rfl).trans (hg.kn 0 _ d _ (by simp))
  have kn1 : ∀ (b : Fin 512) (d : Fin 128), arg4.view.readAt (Elt Ideal) (Rect.unit (s := S2048x512) (k0_off3 i) S512x128.size (k0_off3_inb i)).toLoadRect X4 (ix2 b d) = ((A.kn (2 * p + 1) (512 * kb + b) d : ℝ) : EReal) := fun b d =>
    (load2 arg4.view X4 _ 256 _ e3 b d ⟨_, hrow b⟩ ⟨256 + d, by have := d.isLt; omega⟩ rfl rfl).trans (hg.kn 1 _ d _ (by simp))
  have vv0 : ∀ (b : Fin 512) (d : Fin 128), arg4.view.readAt (Elt Ideal) (Rect.unit (s := S2048x512) (k0_off4 i) S512x128.size (k0_off4_inb i)).toLoadRect X4 (ix2 b d) = ((A.v (2 * p) (512 * kb + b) d : ℝ) : EReal) := fun b d =>
    (load2 arg4.view X4 _ 128 _ e4 b d ⟨_, hrow b⟩ ⟨128 + d, by have := d.isLt; omega⟩ rfl rfl).trans (hg.v 0 _ d _ (by simp))
  have vv1 : ∀ (b : Fin 512) (d : Fin 128), arg4.view.readAt (Elt Ideal) (Rect.unit (s := S2048x512) (k0_off5 i) S512x128.size (k0_off5_inb i)).toLoadRect X4 (ix2 b d) = ((A.v (2 * p + 1) (512 * kb + b) d : ℝ) : EReal) := fun b d =>
    (load2 arg4.view X4 _ 384 _ e5 b d ⟨_, hrow b⟩ ⟨384 + d, by have := d.isLt; omega⟩ rfl rfl).trans (hg.v 1 _ d _ (by simp))
  have kp : ∀ (b : Fin 512) (l : Fin 128), arg5.view.readAt (Elt Ideal) (Rect.unit (s := S2048x128) (k0_off2 i) S512x128.size (k0_off2_inb i)).toLoadRect X5 (ix2 b l) = ((A.kr (512 * kb + b) (l % 64) : ℝ) : EReal) := fun b l =>
    (load2 arg5.view X5 _ 0 _ e2 b l ⟨_, hrow b⟩ l rfl (Nat.zero_add _).symm).trans (hg.kr _ l)
  have g0 : ∀ (b : Fin 512) (d : Fin 128), arg7.view.readAt (Elt Ideal) (Rect.unit (s := S2048x256) (k0_off7 i) S512x128.size (k0_off7_inb i)).toLoadRect X7 (ix2 b d) = ((A.g (2 * p) (512 * kb + b) d : ℝ) : EReal) := fun b d =>
    (load2 arg7.view X7 _ 0 _ e7 b d ⟨_, hrow b⟩ ⟨0 + d, by have := d.isLt; omega⟩ rfl rfl).trans (hh.g 0 _ d _ (by simp))
  have g1 : ∀ (b : Fin 512) (d : Fin 128), arg7.view.readAt (Elt Ideal) (Rect.unit (s := S2048x256) (k0_off11 i) S512x128.size (k0_off11_inb i)).toLoadRect X7 (ix2 b d) = ((A.g (2 * p + 1) (512 * kb + b) d : ℝ) : EReal) := fun b d =>
    (load2 arg7.view X7 _ 128 _ e11 b d ⟨_, hrow b⟩ ⟨128 + d, by have := d.isLt; omega⟩ rfl rfl).trans (hh.g 1 _ d _ (by simp))
  have q0 : ∀ (a : Fin 512) (l : Fin 256), arg15.view.readAt (Elt Ideal) (Rect.unit (s := S2x2048x256) (k0_off6 i) S1x512x256.size (k0_off6_inb i)).toLoadRect X15 (ix3 0 a l) = ((A.q256 (2 * p) (512 * kb + a) l : ℝ) : EReal) := fun a l =>
    (load3 arg15.view X15 0 _ 0 _ e6 0 a l 0 ⟨_, hrow a⟩ l rfl rfl (Nat.zero_add _).symm).trans (hh.q 0 _ l)
  have l0 : ∀ a : Fin 512, arg8.view.readAt (Elt Ideal) (Rect.unit (s := S1x2048x2) (k0_off8 i) S1x512x1.size (k0_off8_inb i)).toLoadRect X8 (ix3 0 a 0) = ((Real.log (A.L (2 * p) (512 * kb + a)) : ℝ) : EReal) := fun a =>
    (load3 arg8.view X8 0 _ 0 _ e8 0 a 0 0 ⟨_, hrow a⟩ 0 rfl rfl rfl).trans (hh.ls 0 _)
  have d0 : ∀ a : Fin 512, arg17.view.readAt (Elt Ideal) (Rect.unit (s := S2x2048x1) (k0_off9 i) S1x512x1.size (k0_off9_inb i)).toLoadRect X17 (ix3 0 a 0) = ((A.delta (2 * p) (512 * kb + a) : ℝ) : EReal) := fun a =>
    (load3 arg17.view X17 0 _ 0 _ e9 0 a 0 0 ⟨_, hrow a⟩ 0 rfl rfl rfl).trans (hh.dl 0 _)
  have q1 : ∀ (a : Fin 512) (l : Fin 256), arg15.view.readAt (Elt Ideal) (Rect.unit (s := S2x2048x256) (k0_off10 i) S1x512x256.size (k0_off10_inb i)).toLoadRect X15 (ix3 0 a l) = ((A.q256 (2 * p + 1) (512 * kb + a) l : ℝ) : EReal) := fun a l =>
    (load3 arg15.view X15 1 _ 0 _ e10 0 a l 1 ⟨_, hrow a⟩ l rfl rfl (Nat.zero_add _).symm).trans (hh.q 1 _ l)
  have l1 : ∀ a : Fin 512, arg8.view.readAt (Elt Ideal) (Rect.unit (s := S1x2048x2) (k0_off12 i) S1x512x1.size (k0_off12_inb i)).toLoadRect X8 (ix3 0 a 0) = ((Real.log (A.L (2 * p + 1) (512 * kb + a)) : ℝ) : EReal) := fun a =>
    (load3 arg8.view X8 0 _ 1 _ e12 0 a 0 0 ⟨_, hrow a⟩ 1 rfl rfl rfl).trans (hh.ls 1 _)
  have d1 : ∀ a : Fin 512, arg17.view.readAt (Elt Ideal) (Rect.unit (s := S2x2048x1) (k0_off13 i) S1x512x1.size (k0_off13_inb i)).toLoadRect X17 (ix3 0 a 0) = ((A.delta (2 * p + 1) (512 * kb + a) : ℝ) : EReal) := fun a =>
    (load3 arg17.view X17 1 _ 0 _ e13 0 a 0 1 ⟨_, hrow a⟩ 0 rfl rfl rfl).trans (hh.dl 1 _)
  have p0 : ∀ (a : Fin 512) (l : Fin 256), arg16.view.readAt (Elt Ideal) (Rect.unit (s := S2x2048x256) (k0_off6 i) S1x512x256.size (k0_off6_inb i)).toLoadRect (arg16.view.writes (Elt Ideal) f L0) (ix3 0 a l) = ((DQ A kb 0 (2 * p) (512 * kb + a) l : ℝ) : EReal) := fun a l =>
    (load3 arg16.view _ 0 _ 0 _ e6 0 a l 0 ⟨_, hrow a⟩ l rfl rfl (Nat.zero_add _).symm).trans (hq 0 _ l)
  have k0 := AttnMove.pay27 kn0 kp
  have k1 := AttnMove.pay27 kn1 kp
  have t0 := AttnPay.pay32 hc k0 q0 rfl
  have t1 := AttnPay.pay39 hc k1 q1
  refine carried Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ X7 X8 X15 X17 _ _ hkb hc hh ⟨k0, vv0⟩ ⟨k1, vv1⟩ ?_ _ le_rfl
  refine ⟨fun b l => ?_, fun b d => ?_, fun b l => ?_, fun b d => ?_, fun h y l => ?_⟩
  · exact (pay36 hc t0 vv0 g0 (AttnMove.pay31 q0) l0 d0 b l).trans (congrArg _ (DK_one A kb (2 * p) b l))
  · exact (pay35 t0 g0 l0 b d).trans (congrArg _ (DV_one A kb (2 * p) b d))
  · exact (pay36 hc t1 vv1 g1 (AttnMove.pay31 q1) l1 d1 b l).trans (congrArg _ (DK_one A kb (2 * p + 1) b l))
  · exact (pay35 t1 g1 l1 b d).trans (congrArg _ (DV_one A kb (2 * p + 1) b d))
  · by_cases hy : 512 * kb ≤ y.val ∧ y.val < 512 * kb + 512
    · obtain ⟨a, ha⟩ : ∃ a : Fin 512, y.val = 512 * kb + a.val := ⟨⟨y.val - 512 * kb, by omega⟩, by dsimp only; omega⟩
      rcases Fin.exists_fin_two.mp ⟨h, rfl⟩ with e | e
      · subst e
        refine (store_out arg16.view f 1 _ _ e10 _ _ 0 y l (Or.inl (by decide))).trans ?_
        refine (store_in arg16.view f 0 _ _ e6 _ _ a 0 y l rfl ha).trans ?_
        refine (pay37 hc t0 k0 vv0 g0 l0 d0 p0 a l).trans ?_
        rw [ha]
        exact congrArg _ (DQ_in A kb 0 (2 * p) l a a.isLt)
      · subst e
        refine (store_in arg16.view f 1 _ _ e10 _ _ a 1 y l rfl ha).trans ?_
        refine (pay37 hc t1 k1 vv1 g1 l1 d1 p1 a l).trans ?_
        rw [ha]
        exact congrArg _ (DQ_in A kb 0 (2 * p + 1) l a a.isLt)
    · refine (store_out arg16.view f 1 _ _ e10 _ _ h y l (Or.inr (by omega))).trans ?_
      refine (store_out arg16.view f 0 _ _ e6 _ _ h y l (Or.inr (by omega))).trans ?_
      exact (hq h y l).trans (congrArg _ (DQ_out A kb 0 _ _ _ (by omega)).symm)

end point

end Cert.AttnPoint
end
-- ==== Proof.AttnCase.lean ====
module
public import proofs.«01_k».proof.Proof.AttnRunFrame
public import proofs.«01_k».proof.Proof.AttnPoint

/-! # What each point leaves

At the first, a middle and the last point of a pair: the packed queries and row sums it keeps, the queries' gradient so
far, and the block of the keys' and values' gradient it writes out. -/

@[expose] public section

set_option maxRecDepth 16384
noncomputable section

namespace Cert.AttnCase

open Idealize.ShloMosaic Idealize.ShloMosaic.TcCoe Cert.AttnIdeal Cert.AttnIdeal.Gen Cert.AttnIdeal.Body Cert.AttnMath Cert.AttnTrip
open Idealize.SL Idealize.SL.RA Idealize.SL.Sem

/-! ## A list of stores, element by element -/

theorem canon_mem {S : Shape} {e : EltTy} {off size : Fin S.rank → ℕ} (inb : ∀ a, off a + size a ≤ S.size a) (w : (Rect.unit off size inb).shape.Idx → Elt Ideal e)
    (L : List (View.Piece (Elt Ideal) S e)) (y : S.Idx) (x : (Rect.unit off size inb).shape.Idx) (hx : ∀ a, (y a).val = off a + (x a).val) :
    View.canon ((⟨Rect.unit off size inb, w⟩ : View.Piece (Elt Ideal) S e) :: L) y = w x := by
  have hy : (Rect.unit off size inb).emb x = y := funext fun a => Fin.ext (by
    show off a + 1 * (x a).val = (y a).val
    rw [hx a, Nat.one_mul])
  rw [← hy]
  exact View.canon_cons_emb _ w L x

theorem canon_not_mem {S : Shape} {e : EltTy} {off size : Fin S.rank → ℕ} (inb : ∀ a, off a + size a ≤ S.size a) (w : (Rect.unit off size inb).shape.Idx → Elt Ideal e)
    (L : List (View.Piece (Elt Ideal) S e)) (y : S.Idx) (a : Fin S.rank) (ha : (y a).val < off a ∨ off a + size a ≤ (y a).val) :
    View.canon ((⟨Rect.unit off size inb, w⟩ : View.Piece (Elt Ideal) S e) :: L) y = View.canon L y := by
  refine View.canon_cons_of_not_mem _ L fun h => ?_
  obtain ⟨x, hx⟩ := (Rect.unit off size inb).exists_idx_of_mem h
  have e := congrArg Fin.val (congrFun hx a)
  have e' : off a + 1 * (x a).val = (y a).val := e
  have hb : (x a).val < size a := (x a).isLt
  omega

/-- A store of some columns. -/
theorem col_in {d0 d1 e1 : ℕ} {e : EltTy} {o1 : ℕ} (inb : ∀ a : Fin 2, (![0, o1] : Fin 2 → ℕ) a + (![d0, e1] : Fin 2 → ℕ) a ≤ (![d0, d1] : Fin 2 → ℕ) a)
    (w : (⟨2, ![d0, e1]⟩ : Shape).Idx → Elt Ideal e) (L : List (View.Piece (Elt Ideal) ⟨2, ![d0, d1]⟩ e)) (b : Fin d0) (l : Fin d1) (d : Fin e1) (h : l.val = o1 + d.val) :
    View.canon ((⟨Rect.unit (s := ⟨2, ![d0, d1]⟩) ![0, o1] ![d0, e1] inb, w⟩ : View.Piece (Elt Ideal) ⟨2, ![d0, d1]⟩ e) :: L) (ix2 b l) = w (ix2 b d) :=
  canon_mem (S := ⟨2, ![d0, d1]⟩) inb w L (ix2 b l) (ix2 b d) (Fin.forall_fin_two.mpr ⟨(Nat.zero_add _).symm, h⟩)

theorem col_out {d0 d1 e1 : ℕ} {e : EltTy} {o1 : ℕ} (inb : ∀ a : Fin 2, (![0, o1] : Fin 2 → ℕ) a + (![d0, e1] : Fin 2 → ℕ) a ≤ (![d0, d1] : Fin 2 → ℕ) a)
    (w : (⟨2, ![d0, e1]⟩ : Shape).Idx → Elt Ideal e) (L : List (View.Piece (Elt Ideal) ⟨2, ![d0, d1]⟩ e)) (b : Fin d0) (l : Fin d1) (h : l.val < o1 ∨ o1 + e1 ≤ l.val) :
    View.canon ((⟨Rect.unit (s := ⟨2, ![d0, d1]⟩) ![0, o1] ![d0, e1] inb, w⟩ : View.Piece (Elt Ideal) ⟨2, ![d0, d1]⟩ e) :: L) (ix2 b l) = View.canon L (ix2 b l) :=
  canon_not_mem (S := ⟨2, ![d0, d1]⟩) inb w L (ix2 b l) 1 h

/-! ## What is written out of the loop -/

section outs
variable {A : Arr} {p kb n : ℕ} {x : FVec Ideal S512x256 .f32 × FVec Ideal S512x128 .f32 × FVec Ideal S512x256 .f32 × FVec Ideal S512x128 .f32}
variable {D : Vec Ideal S2x2048x256 .f32}

/-- The block of the keys' and values' gradient, two heads side by side. -/
def DKV (A : Arr) (p kb n b l : ℕ) : ℝ :=
  if l % 256 < 128 then DK A kb n (2 * p + l / 256) b (l % 256) else DV A kb n (2 * p + l / 256) b (l % 256 - 128)

theorem out_kv (C : Carried A p kb n x D) (b l : Fin 512) :
    View.canon (Val := Elt Ideal) (s := S512x512) (e := .bf16)
      [⟨Rect.unit ![0, 384] ![512, 128] inb_S512x512_S512x128_0_384, k0_pay4 x.2.2.2⟩, ⟨Rect.unit ![0, 256] ![512, 128] inb_S512x512_S512x128_0_256, k0_pay3 x.2.2.1⟩,
       ⟨Rect.unit ![0, 128] ![512, 128] inb_S512x512_S512x128_0_128, k0_pay2 x.2.1⟩, ⟨Rect.unit ![0, 0] ![512, 128] inb_S512x512_S512x128_0_0, k0_pay1 x.1⟩] (ix2 b l)
      = ((DKV A p kb n b l : ℝ) : EReal) := by
  have hl := l.isLt
  unfold DKV
  by_cases h1 : l.val < 128
  · refine (col_out _ _ _ b l (by omega)).trans ((col_out _ _ _ b l (by omega)).trans ((col_out _ _ _ b l (by omega)).trans ?_))
    refine (col_in _ _ _ b l ⟨l.val, h1⟩ (Nat.zero_add _).symm).trans ?_
    rw [AttnMove.pay1 x.1 b _ ⟨l.val, by omega⟩ rfl, C.k0, if_pos (by omega), show l.val / 256 = 0 by omega, show l.val % 256 = l.val by omega]
    rfl
  by_cases h2 : l.val < 256
  · refine (col_out _ _ _ b l (by omega)).trans ((col_out _ _ _ b l (by omega)).trans ?_)
    refine (col_in _ _ _ b l ⟨l.val - 128, by omega⟩ (by dsimp only; omega)).trans ?_
    rw [AttnMove.pay2_eq, C.v0, if_neg (by omega), show l.val / 256 = 0 by omega, show l.val % 256 = l.val by omega]
    rfl
  by_cases h3 : l.val < 384
  · refine (col_out _ _ _ b l (by omega)).trans ?_
    refine (col_in _ _ _ b l ⟨l.val - 256, by omega⟩ (by dsimp only; omega)).trans ?_
    rw [AttnMove.pay3_eq, AttnMove.pay1 x.2.2.1 b _ ⟨l.val - 256, by omega⟩ rfl, C.k1, if_pos (by omega), show l.val / 256 = 1 by omega, show l.val % 256 = l.val - 256 by omega]
  · refine (col_in _ _ _ b l ⟨l.val - 384, by omega⟩ (by dsimp only; omega)).trans ?_
    rw [AttnMove.pay4_eq, C.v1, if_neg (by omega), show l.val / 256 = 1 by omega, show l.val % 256 - 128 = l.val - 384 by omega]

theorem out_kr (C : Carried A p kb n x D) (b : Fin 512) (l : Fin 128) :
    View.canon (Val := Elt Ideal) (s := S1x512x128) (e := .f32)
      [⟨Rect.unit ![0, 0, 0] ![1, 512, 128] inb_S1x512x128_S1x512x128_0_0_0, k0_pay5 x.1 x.2.2.1 (FloatOps.ofBits FTy.f32 0#32)⟩] (ix3 0 b l)
      = ((DK A kb n (2 * p) b (128 + l) + DK A kb n (2 * p + 1) b (128 + l) : ℝ) : EReal) := by
  have hl := l.isLt
  refine (canon_mem (S := S1x512x128) _ _ _ (ix3 0 b l) (ix3 0 b l) (Fin.forall_fin_succ.mpr ⟨rfl, Fin.forall_fin_two.mpr ⟨(Nat.zero_add _).symm, (Nat.zero_add _).symm⟩⟩)).trans ?_
  rw [AttnMove.pay5 x.1 x.2.2.1 b l ⟨128 + l.val, by omega⟩ rfl, C.k0, C.k1, ← EReal.coe_add]

end outs

/-! ## The points -/

/-- The blocks a point reads. -/
structure Blocks (A : Arr) (p : ℕ) (x2 : Vec Ideal S2048x256 .bf16) (x3 : Vec Ideal S2048x128 .bf16) (x4 : Vec Ideal S2048x512 .bf16) (x5 : Vec Ideal S2048x128 .bf16)
    (x6 x7 : Vec Ideal S2048x256 .bf16) (x8 : Vec Ideal S1x2048x2 .f32) : Prop where
  qn : ∀ (h : Fin 2) (i : Fin 2048) (d : Fin 128) (l : Fin 256), l.val = 128 * h + d → x2 (ix2 i l) = ((A.qn (2 * p + h) i d : ℝ) : EReal)
  qr : ∀ (i : Fin 2048) (l : Fin 128), x3 (ix2 i l) = ((A.qr (2 * p + l / 64) i (l % 64) : ℝ) : EReal)
  kv : AttnPoint.Given A p x4 x5
  o : ∀ (h : Fin 2) (i : Fin 2048) (d : Fin 128) (l : Fin 256), l.val = 128 * h + d → x6 (ix2 i l) = ((A.o (2 * p + h) i d : ℝ) : EReal)
  g : ∀ (h : Fin 2) (i : Fin 2048) (d : Fin 128) (l : Fin 256), l.val = 128 * h + d → x7 (ix2 i l) = ((A.g (2 * p + h) i d : ℝ) : EReal)
  ls : ∀ (h : Fin 2) (i : Fin 2048), x8 (ix3 0 i h) = ((Real.log (A.L (2 * p + h) i) : ℝ) : EReal)

/-- What the scratch buffers hold after key block `kb`. -/
structure Kept (A : Arr) (p kb : ℕ) (s : Scr Ideal) : Prop where
  q : ∀ (h : Fin 2) (i : Fin 2048) (l : Fin 256), s.1 (ix3 h i l) = ((A.q256 (2 * p + h) i l : ℝ) : EReal)
  dq : ∀ (h : Fin 2) (i : Fin 2048) (l : Fin 256), s.2.1 (ix3 h i l) = ((DQ A kb (4 - kb) (2 * p + h) i l : ℝ) : EReal)
  dl : ∀ (h : Fin 2) (i : Fin 2048), s.2.2 (ix3 h i 0) = ((A.delta (2 * p + h) i : ℝ) : EReal)

/-- What a point leaves in the two blocks of the keys' and values' gradient. -/
structure Wrote (A : Arr) (p kb : ℕ) (w13 : Vec Ideal S512x512 .bf16) (w14 : Vec Ideal S1x512x128 .f32) : Prop where
  kv : ∀ b l : Fin 512, w13 (ix2 b l) = ((DKV A p kb (4 - kb) b l : ℝ) : EReal)
  kr : ∀ (b : Fin 512) (l : Fin 128), w14 (ix3 0 b l) = ((DK A kb (4 - kb) (2 * p) b (128 + l) + DK A kb (4 - kb) (2 * p + 1) b (128 + l) : ℝ) : EReal)

theorem coord_1 (t : Fin cfg0.N) : (grid0.coords t 1).val = t.val % 4 := by
  have e : (grid0.coords t 1).val = t.val / 1 % 4 := Pipeline.Grid.coords_val t 1 (by decide) rfl
  rw [e, Nat.div_one]

/-- What the last point of a pair leaves in the two blocks of the queries' gradient. -/
structure Ended (A : Arr) (p : ℕ) (cs sn : ℕ → ℕ → ℝ) (w11 : Vec Ideal S2048x256 .bf16) (w12 : Vec Ideal S2048x128 .bf16) : Prop where
  qn : ∀ (h : Fin 2) (i : Fin 2048) (d : Fin 128) (l : Fin 256), l.val = 128 * h + d → w11 (ix2 i l) = ((DQ A 3 1 (2 * p + h) i d : ℝ) : EReal)
  qr : ∀ (i : Fin 2048) (l : Fin 128), w12 (ix2 i l)
      = ((if l.val % 64 < 32 then DQ A 3 1 (2 * p + l / 64) i (128 + l) * cs i (l % 32) + DQ A 3 1 (2 * p + l / 64) i (128 + (l + 32)) * sn i (l % 32)
          else DQ A 3 1 (2 * p + l / 64) i (128 + l) * cs i (l % 32) - DQ A 3 1 (2 * p + l / 64) i (128 + (l - 32)) * sn i (l % 32) : ℝ) : EReal)

end Cert.AttnCase
end
-- ==== Proof.AttnVals.lean ====
module
public import proofs.«01_k».proof.Proof.AttnCase

/-! # The four gradients of the attention over the reals -/

@[expose] public section

noncomputable section

namespace Cert.AttnVals

open Idealize.ShloMosaic Cert.AttnMath Cert.AttnTrip Cert.AttnCase

/-- A row of 64 columns turned by the angles of position `i`: the two halves are the two coordinates. -/
def turn (cs sn : ℕ → ℕ → ℝ) (i : ℕ) (x : ℕ → ℝ) (r : ℕ) : ℝ :=
  if r < 32 then x r * cs i r - x (32 + r) * sn i r else x (32 + (r - 32)) * cs i (r - 32) + x (r - 32) * sn i (r - 32)

/-- The same row turned back. -/
def back (cs sn : ℕ → ℕ → ℝ) (i : ℕ) (x : ℕ → ℝ) (r : ℕ) : ℝ :=
  if r < 32 then x r * cs i r + x (r + 32) * sn i r else x r * cs i (r - 32) - x (r - 32) * sn i (r - 32)

/-- What the attention reads, from the seven arguments and the scale: queries, queries to be rotated, keys and values by
head, the key to be rotated, the two tables, the output's gradient. -/
def arr (a0 a1 a2 a3 cs sn a6 : ℕ → ℕ → ℝ) (s : ℝ) : Arr where
  qn h i d := a0 i (h * 128 + d)
  qr h i r := turn cs sn i (fun r => a1 i (h * 64 + r)) r
  kn h j d := a2 j (h * 256 + d)
  kr j r := turn cs sn j (a3 j) r
  v h j d := a2 j (h * 256 + (128 + d))
  g h i d := a6 i (h * 128 + d)
  c := s

variable (A : Arr)

/-- The plain queries' gradient. -/
def dqn (i l : ℕ) : ℝ := ∑ j : Fin 2048, A.dS (l / 128) i j * A.kn (l / 128) j (l % 128)
/-- The gradient of the queries to be rotated. -/
def dqp (cs sn : ℕ → ℕ → ℝ) (i l : ℕ) : ℝ := back cs sn i (fun r => ∑ j : Fin 2048, A.dS (l / 64) i j * A.kr j r) (l % 64)
/-- The gradient of the keys and values. -/
def dkv (j l : ℕ) : ℝ :=
  if l % 256 < 128 then ∑ i : Fin 2048, A.dS (l / 256) i j * A.qn (l / 256) i (l % 256)
  else ∑ i : Fin 2048, A.P (l / 256) i j * A.g (l / 256) i (l % 256 - 128)
/-- The gradient of each head's rotated key, two heads side by side. -/
def dkp (p j l : ℕ) : ℝ := ∑ i : Fin 2048, A.dS (2 * p + l / 64) i j * A.qr (2 * p + l / 64) i (l % 64)

theorem DQ_plain (h i : ℕ) {d : ℕ} (hi : i < 2048) (hd : d < 128) : DQ A 3 1 h i d = ∑ j : Fin 2048, A.dS h i j * A.kn h j d := by
  rw [DQ_all A 3 1 h i d rfl hi, Fin.sum_univ_eq_sum_range (fun j => A.dS h i j * A.kn h j d) 2048]
  refine Finset.sum_congr rfl fun j _ => ?_
  rw [A.k256_plain h j hd]

theorem DQ_rot (h i : ℕ) (l : ℕ) (hi : i < 2048) : DQ A 3 1 h i (128 + l) = ∑ j : Fin 2048, A.dS h i j * A.kr j (l % 64) := by
  rw [DQ_all A 3 1 h i _ rfl hi, Fin.sum_univ_eq_sum_range (fun j => A.dS h i j * A.kr j (l % 64)) 2048]
  refine Finset.sum_congr rfl fun j _ => ?_
  rw [A.k256_rot h j l]

theorem dS_zero (h i j : ℕ) (hj : i < j) : A.dS h i j = 0 := A.dS_of_lt hj

theorem DK_sum {kb : ℕ} (hk : kb < 4) (h b l : ℕ) : DK A kb (4 - kb) h b l = ∑ i : Fin 2048, A.dS h i (512 * kb + b) * A.q256 h i l := by
  unfold DK
  rw [show kb + (4 - kb) = 4 by omega]
  refine sum_from (fun i => A.dS h i (512 * kb + b) * A.q256 h i l) (by omega) fun i hi => ?_
  rw [dS_zero A h i _ (by omega), zero_mul]

theorem DV_sum {kb : ℕ} (hk : kb < 4) (h b d : ℕ) : DV A kb (4 - kb) h b d = ∑ i : Fin 2048, A.P h i (512 * kb + b) * A.g h i d := by
  unfold DV
  rw [show kb + (4 - kb) = 4 by omega]
  refine sum_from (fun i => A.P h i (512 * kb + b) * A.g h i d) (by omega) fun i hi => ?_
  rw [A.P_of_lt (by omega), zero_mul]

theorem ended_qn (p : ℕ) (h : Fin 2) (i : Fin 2048) (d : Fin 128) : DQ A 3 1 (2 * p + h) i d = dqn A i (256 * p + (128 * h + d)) := by
  have hd := d.isLt
  rw [DQ_plain A _ _ i.isLt hd, dqn, show (256 * p + (128 * (h : ℕ) + d)) / 128 = 2 * p + h by omega, show (256 * p + (128 * (h : ℕ) + d)) % 128 = d by omega]

theorem ended_qr (cs sn : ℕ → ℕ → ℝ) (p : ℕ) (i : Fin 2048) (l : Fin 128) :
    (if l.val % 64 < 32 then DQ A 3 1 (2 * p + l / 64) i (128 + l) * cs i (l % 32) + DQ A 3 1 (2 * p + l / 64) i (128 + (l + 32)) * sn i (l % 32)
      else DQ A 3 1 (2 * p + l / 64) i (128 + l) * cs i (l % 32) - DQ A 3 1 (2 * p + l / 64) i (128 + (l - 32)) * sn i (l % 32))
      = dqp A cs sn i (128 * p + l) := by
  have hl := l.isLt
  rw [DQ_rot A _ _ _ i.isLt, DQ_rot A _ _ _ i.isLt, DQ_rot A _ _ _ i.isLt]
  unfold dqp back
  rw [show (128 * p + (l : ℕ)) / 64 = 2 * p + l / 64 by omega, show (128 * p + (l : ℕ)) % 64 = l % 64 by omega]
  by_cases h : (l : ℕ) % 64 < 32
  · rw [if_pos h, if_pos h, show ((l : ℕ) + 32) % 64 = l % 64 + 32 by omega, show (l : ℕ) % 32 = l % 64 by omega]
  · rw [if_neg h, if_neg h, show ((l : ℕ) - 32) % 64 = l % 64 - 32 by omega, show (l : ℕ) % 32 = l % 64 - 32 by omega]

theorem wrote_kv {p kb : ℕ} (hk : kb < 4) (b l : Fin 512) : DKV A p kb (4 - kb) b l = dkv A (512 * kb + b) (512 * p + l) := by
  have hl := l.isLt
  unfold DKV dkv
  rw [show (512 * p + (l : ℕ)) / 256 = 2 * p + l / 256 by omega, show (512 * p + (l : ℕ)) % 256 = l % 256 by omega]
  by_cases h : (l : ℕ) % 256 < 128
  · rw [if_pos h, if_pos h, DK_sum A hk]
    refine Finset.sum_congr rfl fun i _ => ?_
    rw [A.q256_plain _ _ h]
  · rw [if_neg h, if_neg h, DV_sum A hk]

theorem wrote_kr {p kb : ℕ} (hk : kb < 4) (b : Fin 512) (l : Fin 128) :
    DK A kb (4 - kb) (2 * p) b (128 + l) + DK A kb (4 - kb) (2 * p + 1) b (128 + l) = dkp A p (512 * kb + b) l := by
  have hl := l.isLt
  rw [DK_sum A hk, DK_sum A hk]
  unfold dkp
  simp only [A.q256_rot]
  rcases (show (l : ℕ) / 64 = 0 ∨ (l : ℕ) / 64 = 1 by omega) with h | h
  · rw [h, Finset.sum_eq_zero (s := Finset.univ) (f := fun i : Fin 2048 => A.dS (2 * p + 1) i (512 * kb + b) * if 0 = (2 * p + 1) % 2 then A.qr (2 * p + 1) i (l % 64) else 0), add_zero]
    · refine Finset.sum_congr rfl fun i _ => ?_
      rw [if_pos (by omega)]; rfl
    · intro i _
      rw [if_neg (by omega), mul_zero]
  · rw [h, Finset.sum_eq_zero (s := Finset.univ) (f := fun i : Fin 2048 => A.dS (2 * p) i (512 * kb + b) * if 1 = (2 * p) % 2 then A.qr (2 * p) i (l % 64) else 0), zero_add]
    · refine Finset.sum_congr rfl fun i _ => ?_
      rw [if_pos (by omega)]
    · intro i _
      rw [if_neg (by omega), mul_zero]

end Cert.AttnVals
end
-- ==== Proof.AttnHost.lean ====
module
public import proofs.«01_k».proof.Proof.AttnRunFrame
public import proofs.«01_k».proof.Proof.AttnVals
public import Idealize.ShloMosaic.Lib.Pipeline.ValueKit
public import Idealize.ShloMosaic.Lib.Pointwise
public import Idealize.ShloMosaic.Lib.WordCmp

/-! # The host lines before the kernel: the attention's output and its rows' log-sums -/

@[expose] public section
set_option maxRecDepth 16384
noncomputable section
namespace Cert.AttnHost
open Cert.AttnIdeal Cert.AttnIdeal.Gen Cert.AttnMath Cert.AttnVals
open Idealize.ShloMosaic Idealize.ShloMosaic.TcCoe Idealize.SL.Sem

/-! ## Rows of masked scores -/

/-- A row of masked scores less a number, exponentiated. -/
theorem exp_masked (A : Arr) (M : ℝ) (h i j : ℕ) :
    Ideal.exp ((if j ≤ i then ((A.S h i j : ℝ) : EReal) else ⊥) - (M : EReal)) = ((A.E M h i j : ℝ) : EReal) := by
  unfold Arr.E
  split
  · rw [← EReal.coe_sub]; rfl
  · rw [EReal.bot_sub]; exact EReal.coe_zero.symm

/-- The greatest of a row of masked scores is a real number. -/
theorem fold_real {n : ℕ} (hn : 0 < n) (f : Fin n → EReal) (h0 : f ⟨0, hn⟩ ≠ ⊥) (ht : ∀ j, f j ≠ ⊤) :
    ∃ M : ℝ, (Finset.univ : Finset (Fin n)).fold max (⊥ : EReal) f = (M : EReal) := by
  have h1 : (Finset.univ : Finset (Fin n)).fold max (⊥ : EReal) f ≠ ⊤ := by
    refine ne_of_lt ((Finset.fold_max_lt _).2 ⟨bot_lt_top, fun j _ => lt_top_iff_ne_top.2 (ht j)⟩)
  have h2 : (Finset.univ : Finset (Fin n)).fold max (⊥ : EReal) f ≠ ⊥ := by
    refine ne_of_gt ((Finset.lt_fold_max _).2 (Or.inr ⟨⟨0, hn⟩, Finset.mem_univ _, bot_lt_iff_ne_bot.2 h0⟩))
  exact ⟨_, (EReal.coe_toReal h1 h2).symm⟩

/-- Each row's greatest score. -/
def mx (SC : FVec Ideal S16x2048x2048 .f32) : FVec Ideal S16x2048 .f32 :=
  Host.reduce FloatOps.maximumf SC (constant S_ FTy.f32 4286578688#32) reducesTo_S16x2048x2048_S16x2048_d2 h_S_

/-- Each row's log-sum, two heads side by side. -/
def lseOf (SC : FVec Ideal S16x2048x2048 .f32) (MX : FVec Ideal S16x2048 .f32) : FVec Ideal S8x2048x2 .f32 :=
  transpose S8x2048x2 [0, 2, 1]
    (shapeCast S8x2x2048
      (addf MX (Host.log (Host.reduceAdd
        (Host.exp (subf SC (broadcastInDim S16x2048x2048 ![0, 1, 2] bcast_S16x2048x1_S16x2048x2048_0_1_2
          (broadcastInDim S16x2048x1 ![0, 1] bcast_S16x2048_S16x2048x1_0_1 MX))))
        (constant S_ FTy.f32 0#32) reducesTo_S16x2048x2048_S16x2048_d2 h_S_)))
      shapeCasts_S16x2048_S8x2x2048)
    transposes_S8x2x2048_S8x2048x2_0_2_1

/-- The attention's output. -/
def outOf (SC : FVec Ideal S16x2048x2048 .f32) (MX : FVec Ideal S16x2048 .f32) (kv : FVec Ideal S2048x4096 .bf16) : FVec Ideal S2048x2048 .bf16 :=
  truncf FTy.bf16
    (shapeCast S2048x2048
      (transpose S2048x16x128 [2, 0, 1]
        (Host.dotGeneral dot_S2048x16x128_S16x2048x2048_S16x128x2048_0_2_2_1_1_0 none
          (extractStridedSlice S2048x16x128 ![0, 0, 128]
            (shapeCast S2048x16x256 (extf FTy.f32 kv bitsLt_bf16_f32) shapeCasts_S2048x4096_S2048x16x256)
            slices_S2048x16x256_S2048x16x128_0_0_128)
          (Host.divf
            (Host.exp (subf SC (broadcastInDim S16x2048x2048 ![0, 1, 2] bcast_S16x2048x1_S16x2048x2048_0_1_2
              (broadcastInDim S16x2048x1 ![0, 1] bcast_S16x2048_S16x2048x1_0_1
                (maximumf (broadcastInDim S16x2048 ![] bcast_S_S16x2048 (constant S_ FTy.f32 4286578688#32)) MX)))))
            (broadcastInDim S16x2048x2048 ![0, 1, 2] bcast_S16x2048x1_S16x2048x2048_0_1_2
              (broadcastInDim S16x2048x1 ![0, 1] bcast_S16x2048_S16x2048x1_0_1
                (Host.reduceAdd
                  (Host.exp (subf SC (broadcastInDim S16x2048x2048 ![0, 1, 2] bcast_S16x2048x1_S16x2048x2048_0_1_2
                    (broadcastInDim S16x2048x1 ![0, 1] bcast_S16x2048_S16x2048x1_0_1
                      (maximumf (broadcastInDim S16x2048 ![] bcast_S_S16x2048 (constant S_ FTy.f32 4286578688#32)) MX)))))
                  (constant S_ FTy.f32 0#32) reducesTo_S16x2048x2048_S16x2048_d2 h_S_)))))
        transposes_S16x128x2048_S2048x16x128_2_0_1)
      shapeCasts_S2048x16x128_S2048x2048)
    bitsLt_bf16_f32

section
variable {A : Arr} {SC : FVec Ideal S16x2048x2048 .f32}
variable (hS : ∀ (h : Fin 16) (i j : Fin 2048), SC (ix3 h i j) = if j.val ≤ i.val then ((A.S h i j : ℝ) : EReal) else ⊥)

theorem neg_inf : Ideal.ofBits FTy.f32 4286578688#32 = ⊥ := by
  simp [Ideal.ofBits, Ideal.ieee]

theorem scale_real : ∃ s : ℝ, Ideal.ofBits FTy.f32 1033096506#32 = (s : EReal) := by
  simp [Ideal.ofBits, Ideal.ieee]
  exact ⟨_, rfl⟩

include hS in
theorem mx_real : ∃ M : Fin 16 → Fin 2048 → ℝ, ∀ h i, mx SC (ix2 h i) = ((M h i : ℝ) : EReal) := by
  have e : ∀ h i, ∃ M : ℝ, mx SC (ix2 h i) = ((M : ℝ) : EReal) := fun h i => by
    unfold mx
    rw [Host.reduce_eq_fold_single (a := 2) _ _ _ _ (by decide : S16x2048x2048.Reduces [2] S16x2048)]
    have hl : (SC ∘ (by decide : S16x2048x2048.Reduces [2] S16x2048).lift (ix2 h i)) = fun j : Fin 2048 => SC (ix3 h i j) := by
      funext j
      refine congrArg SC ?_
      funext a
      revert a
      exact (by intro a; fin_cases a <;> rfl)
    obtain ⟨M, hM⟩ := fold_real (n := 2048) (by decide) (fun j : Fin 2048 => SC (ix3 h i j)) (by rw [hS, if_pos (Nat.zero_le _)]; exact EReal.coe_ne_bot _)
      (fun j => by rw [hS]; split <;> simp)
    refine ⟨M, ?_⟩
    refine Eq.trans ?_ hM
    rw [← neg_inf]
    exact congrArg (Finset.fold _ _ · _) hl
  choose M hM using e
  exact ⟨M, hM⟩

variable {MX : FVec Ideal S16x2048 .f32} {M : Fin 16 → Fin 2048 → ℝ} (hM : ∀ h i, MX (ix2 h i) = ((M h i : ℝ) : EReal))

include hS hM in
theorem lse_real (p : Fin 8) (i : Fin 2048) (h : Fin 2) : lseOf SC MX (ix3 p i h) = ((Real.log (A.L (2 * p + h) i) : ℝ) : EReal) := by
  unfold lseOf
  pointwise
  simp only [hS, hM, exp_masked]
  rw [← coe_sum]
  refine (congrArg (_ + ·) (if_neg (not_le.2 (A.sum_E_pos _ _ _)))).trans ?_
  rw [← EReal.coe_add, A.lse]
  rw [show (p : ℕ) * 2 + h = 2 * p + h by omega]

set_option maxHeartbeats 2000000 in
include hS hM in
theorem out_real {kv : FVec Ideal S2048x4096 .bf16} {a2 : ℕ → ℕ → ℝ} (h2 : ∀ (j : Fin 2048) (l : Fin 4096), kv (ix2 j l) = ((a2 j l : ℝ) : EReal))
    (hv : ∀ h j d, A.v h j d = a2 j (h * 256 + (128 + d))) (i l : Fin 2048) : outOf SC MX kv (ix2 i l) = ((A.o (l / 128) i (l % 128) : ℝ) : EReal) := by
  unfold outOf
  pointwise
  simp only [neg_inf, max_bot_left, hS, hM, h2, exp_masked]
  simp only [← coe_sum]
  unfold Arr.o
  rw [coe_sum]
  refine Finset.sum_congr rfl fun j _ => ?_
  refine (congrArg (_ * ·) (Ideal.div_coe (A.sum_E_pos (M ⟨l / 128, by omega⟩ i) _ _).ne' _)).trans ?_
  rw [← EReal.coe_mul, ← EReal.coe_mul, ← A.softmax (M ⟨l / 128, by omega⟩ i), hv]
  refine congrArg _ ?_
  ring
end

/-! ## The host lines -/

section
variable (σ : (b : DevRef τ sig) → b.ty.Contents (Elt Ideal))

theorem after_84 : (StableHlo.after hostOps0_2 σ (Proc.tc.devRef main_v84) : FVec Ideal S8x2048x2 .f32)
    = lseOf (σ (Proc.tc.devRef main_v56)) (mx (σ (Proc.tc.devRef main_v56))) := by
  entry_read
  rfl

theorem after_74 : (StableHlo.after hostOps0_2 σ (Proc.tc.devRef main_v74) : FVec Ideal S2048x2048 .bf16)
    = outOf (σ (Proc.tc.devRef main_v56)) (mx (σ (Proc.tc.devRef main_v56))) (σ (Proc.tc.devRef main_arg2)) := by
  entry_read
  rfl

theorem after_56 (h : Fin 16) (i j : Fin 2048) : (StableHlo.after hostOps0_1 σ (Proc.tc.devRef main_v56) : FVec Ideal S16x2048x2048 .f32) (ix3 h i j)
    = if (σ (Proc.tc.devRef main_v55) : IVec S1x2048x2048 1) (ix3 (0 : Fin 1) i j) = 1#1 then (σ (Proc.tc.devRef main_v48) : FVec Ideal S16x2048x2048 .f32) (ix3 h i j)
      else (σ (Proc.tc.devRef main_cst_0) : FVec Ideal S_ .f32) ix0 := by
  entry_read
  simp -implicitDefEqProofs only [StableHlo.TRef.toBuf, StableHlo.TRef.ofBuf, cast_eq]
  pointwise
  rfl

theorem after_55 (i j : Fin 2048) : (StableHlo.after hostOps0 σ (Proc.tc.devRef main_v55) : IVec S1x2048x2048 1) (ix3 (0 : Fin 1) i j) = 1#1 ↔ j.val ≤ i.val := by
  entry_read
  pointwise
  have hi := i.isLt
  have hj := j.isLt
  word_cmp
  by_cases h : j.val ≤ i.val
  · simp [h]
  · simp [h]
    exact (by decide : ¬(0#1 : BitVec 1) = 1#1)

theorem after_const : (StableHlo.after hostOps0 σ (Proc.tc.devRef main_cst_0) : FVec Ideal S_ .f32) ix0 = (⊥ : EReal) := by
  entry_read
  exact neg_inf

theorem after_96 (i : Fin 2048) (l : Fin 1024) : (StableHlo.after hostOps0_2 σ (Proc.tc.devRef main_v96) : FVec Ideal S2048x1024 .bf16) (ix2 i l)
    = (σ (Proc.tc.devRef main_v16) : FVec Ideal S2048x16x64 .f32) (ix3 i ⟨l / 64, by omega⟩ ⟨l % 64, by omega⟩) := by
  entry_read
  pointwise

theorem after_86 (j : Fin 2048) (l : Fin 128) : (StableHlo.after hostOps0_2 σ (Proc.tc.devRef main_v86) : FVec Ideal S2048x128 .bf16) (ix2 j l)
    = (σ (Proc.tc.devRef main_v26) : FVec Ideal S2048x64 .f32) (ix2 j ⟨l % 64, by omega⟩) := by
  entry_read
  pointwise
  by_cases h : (l : ℕ) < 64
  · rw [dif_pos h]
    exact congrArg (fun x : Fin 64 => (σ (Proc.tc.devRef main_v26) : FVec Ideal S2048x64 .f32) (ix2 j x)) (Fin.ext (by show (l : ℕ) = l % 64; omega))
  · rw [dif_neg h]
    exact congrArg (fun x : Fin 64 => (σ (Proc.tc.devRef main_v26) : FVec Ideal S2048x64 .f32) (ix2 j x)) (Fin.ext (by show (l : ℕ) - 64 = l % 64; omega))

theorem after_89 (b : Fin 2048) (l : Fin 128) : (StableHlo.after hostOps0_2 σ (Proc.tc.devRef main_v89) : FVec Ideal S2048x128 .f32) (ix2 b l)
    = (σ (Proc.tc.devRef main_arg4) : FVec Ideal S2048x32 .f32) (ix2 b ⟨l % 32, by omega⟩) := by
  entry_read
  pointwise

/-! ## The rotated queries and keys, and the scores -/

theorem coe_turn (x1 x2 k s : ℝ) : (x1 : EReal) * k - (x2 : EReal) * s = ((x1 * k - x2 * s : ℝ) : EReal) := by
  rw [← EReal.coe_mul, ← EReal.coe_mul, ← EReal.coe_sub]
theorem coe_turn' (x1 x2 k s : ℝ) : (x1 : EReal) * k + (x2 : EReal) * s = ((x1 * k + x2 * s : ℝ) : EReal) := by
  rw [← EReal.coe_mul, ← EReal.coe_mul, ← EReal.coe_add]

/-- The scores from the 192 columns of a query and a key. -/
theorem sum_192 (f : ℕ → ℝ) : ∑ x : Fin 192, f x = (∑ d : Fin 128, f d) + ∑ r : Fin 64, f (128 + r) := by
  rw [Fin.sum_univ_eq_sum_range f 192, Fin.sum_univ_eq_sum_range f 128, Fin.sum_univ_eq_sum_range (fun r => f (128 + r)) 64, Finset.sum_range_add f 128 64]

theorem score (A : Arr) (h i j : ℕ) (q k : Fin 192 → EReal)
    (hq : ∀ x : Fin 192, q x = ((if x.val < 128 then A.qn h i x else A.qr h i (x - 128) : ℝ) : EReal))
    (hk : ∀ x : Fin 192, k x = ((if x.val < 128 then A.kn h j x else A.kr j (x - 128) : ℝ) : EReal)) :
    (∑ x, q x * k x) * (A.c : EReal) = ((A.S h i j : ℝ) : EReal) := by
  have e : ∀ x : Fin 192, q x * k x = (((fun x : ℕ => (if x < 128 then A.qn h i x else A.qr h i (x - 128)) * (if x < 128 then A.kn h j x else A.kr j (x - 128))) x.val : ℝ) : EReal) := fun x => by
    rw [hq, hk, ← EReal.coe_mul]
  rw [Finset.sum_congr rfl fun x _ => e x, ← coe_sum, ← EReal.coe_mul]
  refine (congrArg (fun x : ℝ => ((x * A.c : ℝ) : EReal)) (sum_192 fun x => (if x < 128 then A.qn h i x else A.qr h i (x - 128)) * (if x < 128 then A.kn h j x else A.kr j (x - 128)))).trans ?_
  refine congrArg _ (congrArg (· * A.c) (congrArg₂ (· + ·) ?_ ?_))
  · refine Finset.sum_congr rfl fun d _ => ?_
    have hd := d.isLt
    rw [if_pos hd, if_pos hd]
  · refine Finset.sum_congr rfl fun r _ => ?_
    have hr : ¬ 128 + (r : ℕ) < 128 := by omega
    rw [if_neg hr, if_neg hr, Nat.add_sub_cancel_left]

variable {a0 a1 a2 a3 cs sn a6 : ℕ → ℕ → ℝ} {s : ℝ}
variable (h0 : ∀ (i : Fin 2048) (l : Fin 2048), (σ (Proc.tc.devRef main_arg0) : FVec Ideal S2048x2048 .bf16) (ix2 i l) = ((a0 i l : ℝ) : EReal))
variable (h1 : ∀ (i : Fin 2048) (l : Fin 1024), (σ (Proc.tc.devRef main_arg1) : FVec Ideal S2048x1024 .bf16) (ix2 i l) = ((a1 i l : ℝ) : EReal))
variable (h2 : ∀ (i : Fin 2048) (l : Fin 4096), (σ (Proc.tc.devRef main_arg2) : FVec Ideal S2048x4096 .bf16) (ix2 i l) = ((a2 i l : ℝ) : EReal))
variable (h3 : ∀ (i : Fin 2048) (l : Fin 64), (σ (Proc.tc.devRef main_arg3) : FVec Ideal S2048x64 .bf16) (ix2 i l) = ((a3 i l : ℝ) : EReal))
variable (h4 : ∀ (i : Fin 2048) (l : Fin 32), (σ (Proc.tc.devRef main_arg4) : FVec Ideal S2048x32 .f32) (ix2 i l) = ((cs i l : ℝ) : EReal))
variable (h5 : ∀ (i : Fin 2048) (l : Fin 32), (σ (Proc.tc.devRef main_arg5) : FVec Ideal S2048x32 .f32) (ix2 i l) = ((sn i l : ℝ) : EReal))

include h5 in
theorem after_94 (b : Fin 2048) (l : Fin 128) : (StableHlo.after hostOps0_2 σ (Proc.tc.devRef main_v94) : FVec Ideal S2048x128 .f32) (ix2 b l)
    = ((if l.val % 64 < 32 then -sn b (l % 32) else sn b (l % 32) : ℝ) : EReal) := by
  entry_read
  pointwise
  simp only [h5, ← EReal.coe_neg]
  by_cases h : (l : ℕ) % 64 < 32
  · rw [dif_pos h, if_pos h, show (l : ℕ) % 64 = l % 32 by omega]
  · rw [dif_neg h, if_neg h, show (l : ℕ) % 64 - 32 = l % 32 by omega]

include h1 h4 h5 in
theorem after_16 (i : Fin 2048) (h : Fin 16) (r : Fin 64) : (StableHlo.after hostOps0 σ (Proc.tc.devRef main_v16) : FVec Ideal S2048x16x64 .f32) (ix3 i h r)
    = (((arr a0 a1 a2 a3 cs sn a6 s).qr h i r : ℝ) : EReal) := by
  entry_read
  pointwise
  simp only [h1, h4, h5, coe_turn, coe_turn']
  unfold arr turn
  dsimp only
  split <;> rfl

include h3 h4 h5 in
theorem after_26 (j : Fin 2048) (r : Fin 64) : (StableHlo.after hostOps0 σ (Proc.tc.devRef main_v26) : FVec Ideal S2048x64 .f32) (ix2 j r)
    = (((arr a0 a1 a2 a3 cs sn a6 s).kr j r : ℝ) : EReal) := by
  entry_read
  pointwise
  simp only [h3, h4, h5, coe_turn, coe_turn']
  unfold arr turn
  dsimp only
  split <;> rfl

include h0 h1 h2 h3 h4 h5 in
theorem after_48 (hs : Ideal.ofBits FTy.f32 1033096506#32 = ((s : ℝ) : EReal)) (h : Fin 16) (i j : Fin 2048) :
    (StableHlo.after hostOps0 σ (Proc.tc.devRef main_v48) : FVec Ideal S16x2048x2048 .f32) (ix3 h i j)
    = (((arr a0 a1 a2 a3 cs sn a6 s).S h i j : ℝ) : EReal) := by
  entry_read
  pointwise
  refine (congrArg (_ * ·) hs).trans ?_
  refine score (arr a0 a1 a2 a3 cs sn a6 s) h i j _ _ (fun x => ?_) (fun x => ?_)
  · simp only [h0, h1, h4, h5, coe_turn, coe_turn']
    unfold arr turn
    dsimp only
    split
    · rfl
    · split <;> rfl
  · simp only [h2, h3, h4, h5, coe_turn, coe_turn']
    unfold arr turn
    dsimp only
    split
    · rfl
    · split <;> rfl

end
end Cert.AttnHost
end
-- ==== Proof.AttnFst.lean ====
module
public import proofs.«01_k».proof.Proof.AttnCase

/-! # The first point of a pair -/

@[expose] public section

set_option maxRecDepth 16384
noncomputable section

namespace Cert.AttnCase

open Idealize.ShloMosaic Idealize.ShloMosaic.TcCoe Cert.AttnIdeal Cert.AttnIdeal.Gen Cert.AttnIdeal.Body Cert.AttnMath Cert.AttnTrip
open Idealize.SL Idealize.SL.RA Idealize.SL.Sem

section stored

/-- Two planes stored. -/
theorem planes {d1 d2 : ℕ} {e : EltTy} (i0 : ∀ a : Fin 3, (![0, 0, 0] : Fin 3 → ℕ) a + (![1, d1, d2] : Fin 3 → ℕ) a ≤ (![2, d1, d2] : Fin 3 → ℕ) a)
    (i1 : ∀ a : Fin 3, (![1, 0, 0] : Fin 3 → ℕ) a + (![1, d1, d2] : Fin 3 → ℕ) a ≤ (![2, d1, d2] : Fin 3 → ℕ) a)
    (w0 w1 : (⟨3, ![1, d1, d2]⟩ : Shape).Idx → Elt Ideal e) (z : ℕ → Elt Ideal e) (i : Fin d1) (l : Fin d2) (h0 : w0 (ix3 0 i l) = z 0) (h1 : w1 (ix3 0 i l) = z 1) (h : Fin 2) :
    View.canon (Val := Elt Ideal) (s := ⟨3, ![2, d1, d2]⟩) (e := e)
      [⟨Rect.unit (s := ⟨3, ![2, d1, d2]⟩) ![1, 0, 0] ![1, d1, d2] i1, w1⟩, ⟨Rect.unit (s := ⟨3, ![2, d1, d2]⟩) ![0, 0, 0] ![1, d1, d2] i0, w0⟩] (ix3 h i l) = z h := by
  rcases Fin.exists_fin_two.mp ⟨h, rfl⟩ with e | e
  · subst e
    refine (canon_not_mem (S := ⟨3, ![2, d1, d2]⟩) _ _ _ (ix3 0 i l) 0 (Or.inl (by show 0 < 1; decide))).trans ?_
    refine (canon_mem (S := ⟨3, ![2, d1, d2]⟩) _ _ _ (ix3 0 i l) (ix3 0 i l) (Fin.forall_fin_succ.mpr ⟨rfl, Fin.forall_fin_two.mpr ⟨(Nat.zero_add _).symm, (Nat.zero_add _).symm⟩⟩)).trans ?_
    exact h0
  · subst e
    refine (canon_mem (S := ⟨3, ![2, d1, d2]⟩) _ _ _ (ix3 1 i l) (ix3 0 i l) (Fin.forall_fin_succ.mpr ⟨rfl, Fin.forall_fin_two.mpr ⟨(Nat.zero_add _).symm, (Nat.zero_add _).symm⟩⟩)).trans ?_
    exact h1

/-- A load of some columns of a whole buffer. -/
theorem load_col {d0 d1 e1 : ℕ} {e : EltTy} (M : Memref sig .tc .vmem ⟨2, ![d0, d1]⟩ e) (hM : M.IsWhole) (X : (⟨2, ![d0, d1]⟩ : Shape).Idx → Elt Ideal e) (n : ℕ)
    (inb : ∀ a : Fin 2, (![0, n] : Fin 2 → ℕ) a + (![d0, e1] : Fin 2 → ℕ) a ≤ (![d0, d1] : Fin 2 → ℕ) a) (b : Fin d0) (d : Fin e1) (l : Fin d1) (hl : l.val = n + d.val) :
    M.view.readAt (Elt Ideal) (Rect.unit (s := ⟨2, ![d0, d1]⟩) ![0, n] ![d0, e1] inb).toLoadRect (hM.unread X) (ix2 b d) = X (ix2 b l) := by
  rw [load2 M.view _ 0 n inb rfl b d b l (Nat.zero_add _).symm hl, hM.read_unread]

end stored

section kept
variable (c : Dev nD) (arg2 : Memref sig .tc .vmem S2048x256 .bf16) (harg2 : arg2.IsWhole) (arg3 : Memref sig .tc .vmem S2048x128 .bf16) (harg3 : arg3.IsWhole)
variable (arg6 : Memref sig .tc .vmem S2048x256 .bf16) (harg6 : arg6.IsWhole) (arg7 : Memref sig .tc .vmem S2048x256 .bf16) (harg7 : arg7.IsWhole)
variable (x2 x6 x7 : Vec Ideal S2048x256 .bf16) (x3 : Vec Ideal S2048x128 .bf16)

theorem stored_q : (runFirst.sl.H15_2 (F := Ideal) c arg2 harg2 arg3 harg3 x2 x3 :
      List (View.Piece (Elt Ideal) S2x2048x256 .bf16))
    = [⟨Rect.unit ![1, 0, 0] S1x2048x256.size inb_S2x2048x256_S1x2048x256_1_0_0, k0_pay25 (arg2.view.readAt (Elt Ideal) (Rect.unit (s := S2048x256) ![0, 128] S2048x128.size inb_S2048x256_S2048x128_0_128).toLoadRect (harg2.unread x2))
          (k0_pay11 (arg3.view.readAt (Elt Ideal) (Rect.unit (s := S2048x128) ![0, 0] S2048x128.size inb_S2048x128_S2048x128_0_0).toLoadRect (harg3.unread x3))) (iota .tc S2048x128 32 [1] iota_S2048x128_d1_w32) 64#32⟩,
       ⟨Rect.unit ![0, 0, 0] S1x2048x256.size inb_S2x2048x256_S1x2048x256_0_0_0, k0_pay9 (arg2.view.readAt (Elt Ideal) (Rect.unit (s := S2048x256) ![0, 0] S2048x128.size inb_S2048x256_S2048x128_0_0).toLoadRect (harg2.unread x2))
          (arg3.view.readAt (Elt Ideal) (Rect.unit (s := S2048x128) ![0, 0] S2048x128.size inb_S2048x128_S2048x128_0_0).toLoadRect (harg3.unread x3))⟩] := rfl

theorem stored_d : (runFirst.sl.H17_2 (F := Ideal) c arg6 harg6 arg7 harg7 x6 x7 :
      List (View.Piece (Elt Ideal) S2x2048x1 .f32))
    = [⟨Rect.unit ![1, 0, 0] S1x2048x1.size inb_S2x2048x1_S1x2048x1_1_0_0, k0_pay10 (arg7.view.readAt (Elt Ideal) (Rect.unit (s := S2048x256) ![0, 128] S2048x128.size inb_S2048x256_S2048x128_0_128).toLoadRect (harg7.unread x7))
          (arg6.view.readAt (Elt Ideal) (Rect.unit (s := S2048x256) ![0, 128] S2048x128.size inb_S2048x256_S2048x128_0_128).toLoadRect (harg6.unread x6))⟩,
       ⟨Rect.unit ![0, 0, 0] S1x2048x1.size inb_S2x2048x1_S1x2048x1_0_0_0, k0_pay10 (arg7.view.readAt (Elt Ideal) (Rect.unit (s := S2048x256) ![0, 0] S2048x128.size inb_S2048x256_S2048x128_0_0).toLoadRect (harg7.unread x7))
          (arg6.view.readAt (Elt Ideal) (Rect.unit (s := S2048x256) ![0, 0] S2048x128.size inb_S2048x256_S2048x128_0_0).toLoadRect (harg6.unread x6))⟩] := rfl

theorem gen_q {A : Arr} {p : ℕ} (hqn : ∀ (h : Fin 2) (i : Fin 2048) (d : Fin 128) (l : Fin 256), l.val = 128 * h + d → x2 (ix2 i l) = ((A.qn (2 * p + h) i d : ℝ) : EReal))
    (hqr : ∀ (i : Fin 2048) (l : Fin 128), x3 (ix2 i l) = ((A.qr (2 * p + l / 64) i (l % 64) : ℝ) : EReal)) (h : Fin 2) (i : Fin 2048) (l : Fin 256) :
    View.canon (runFirst.sl.H15_2 (F := Ideal) c arg2 harg2 arg3 harg3 x2 x3) (ix3 h i l) = ((A.q256 (2 * p + h) i l : ℝ) : EReal) := by
  have l2 : ∀ (h : Fin 2) (n : ℕ) (inb) (b : Fin 2048) (d : Fin 128), n = 128 * h.val →
      arg2.view.readAt (Elt Ideal) (Rect.unit (s := S2048x256) ![0, n] ![2048, 128] inb).toLoadRect (harg2.unread x2) (ix2 b d)
        = ((A.qn (2 * p + h) b d : ℝ) : EReal) := fun h n inb b d hn =>
    (load_col _ _ _ n inb b d ⟨n + d, by have := d.isLt; have := h.isLt; omega⟩ rfl).trans (hqn h b d _ (by dsimp only; omega))
  have l3 : ∀ (inb) (b : Fin 2048) (l : Fin 128),
      arg3.view.readAt (Elt Ideal) (Rect.unit (s := S2048x128) ![0, 0] ![2048, 128] inb).toLoadRect (harg3.unread x3) (ix2 b l)
        = ((A.qr (2 * p + l / 64) b (l % 64) : ℝ) : EReal) := fun inb b l =>
    (load_col _ _ _ 0 inb b l l (Nat.zero_add _).symm).trans (hqr b l)
  rw [stored_q]
  exact planes (d1 := 2048) (d2 := 256) (e := .bf16) _ _ _ _ (fun n => ((A.q256 (2 * p + n) i l : ℝ) : EReal)) i l
    (AttnMove.pay9 (fun b d => l2 0 0 _ b d rfl) (l3 _) i l) (AttnMove.pay25 (fun b d => l2 1 128 _ b d rfl) (l3 _) i l) h

theorem gen_d {A : Arr} {p : ℕ} (ho : ∀ (h : Fin 2) (i : Fin 2048) (d : Fin 128) (l : Fin 256), l.val = 128 * h + d → x6 (ix2 i l) = ((A.o (2 * p + h) i d : ℝ) : EReal))
    (hg : ∀ (h : Fin 2) (i : Fin 2048) (d : Fin 128) (l : Fin 256), l.val = 128 * h + d → x7 (ix2 i l) = ((A.g (2 * p + h) i d : ℝ) : EReal)) (h : Fin 2) (i : Fin 2048) :
    View.canon (runFirst.sl.H17_2 (F := Ideal) c arg6 harg6 arg7 harg7 x6 x7) (ix3 h i 0) = ((A.delta (2 * p + h) i : ℝ) : EReal) := by
  have l6 : ∀ (h : Fin 2) (n : ℕ) (inb) (b : Fin 2048) (d : Fin 128), n = 128 * h.val →
      arg6.view.readAt (Elt Ideal) (Rect.unit (s := S2048x256) ![0, n] ![2048, 128] inb).toLoadRect (harg6.unread x6) (ix2 b d)
        = ((A.o (2 * p + h) b d : ℝ) : EReal) := fun h n inb b d hn =>
    (load_col _ _ _ n inb b d ⟨n + d, by have := d.isLt; have := h.isLt; omega⟩ rfl).trans (ho h b d _ (by dsimp only; omega))
  have l7 : ∀ (h : Fin 2) (n : ℕ) (inb) (b : Fin 2048) (d : Fin 128), n = 128 * h.val →
      arg7.view.readAt (Elt Ideal) (Rect.unit (s := S2048x256) ![0, n] ![2048, 128] inb).toLoadRect (harg7.unread x7) (ix2 b d)
        = ((A.g (2 * p + h) b d : ℝ) : EReal) := fun h n inb b d hn =>
    (load_col _ _ _ n inb b d ⟨n + d, by have := d.isLt; have := h.isLt; omega⟩ rfl).trans (hg h b d _ (by dsimp only; omega))
  rw [stored_d]
  exact planes (d1 := 2048) (d2 := 1) (e := .f32) _ _ _ _ (fun n => ((A.delta (2 * p + n) i : ℝ) : EReal)) i 0
    (AttnMove.pay10 (fun b d => l7 0 0 _ b d rfl) (fun b d => l6 0 0 _ b d rfl) i) (AttnMove.pay10 (fun b d => l7 1 128 _ b d rfl) (fun b d => l6 1 128 _ b d rfl) i) h

theorem gen_z (h : Fin 2) (i : Fin 2048) (l : Fin 256) : View.canon (runFirst.sl.H16_1 (F := Ideal)) (ix3 h i l) = 0 := by
  refine (canon_mem (S := S2x2048x256) _ _ _ (ix3 h i l) (ix3 h i l) (Fin.forall_fin_succ.mpr ⟨(Nat.zero_add _).symm, Fin.forall_fin_two.mpr ⟨(Nat.zero_add _).symm, (Nat.zero_add _).symm⟩⟩)).trans ?_
  pointwise [runFirst.sl.v143, runFirst.sl.v140, runFirst.sl.cst_58]

end kept

variable (m : (ℓ : Loc nD τ sig) → Buf (Elt Ideal) ℓ) (c : Dev nD) (t : Fin cfg0.N)
variable {A : Arr} {p : ℕ} (hc : Ideal.ofBits FTy.f32 1033096506#32 = ((A.c : ℝ) : EReal))
variable (hb : Blocks A p (iblk m c 0 t) (iblk m c 1 t) (iblk m c 2 t) (iblk m c 3 t) (iblk m c 4 t) (iblk m c 5 t) (iblk m c 6 t))

theorem first_q (h0 : t.val % 4 = 0) (h3 : ¬t.val % 4 = 3) : (scrFirst m c t h0 h3).1
    = View.canon (runFirst.sl.H15_2 (F := Ideal) c (st0_0 t) (hstage0_0 ((cfg0.slots t 0).cast nbuf0_0)) (st0_1 t) (hstage0_1 ((cfg0.slots t 1).cast nbuf0_1)) (iblk m c 0 t) (iblk m c 1 t)) := by
  unfold scrFirst
  dsimp only
  exact congrArg View.canon rfl

theorem first_d (h0 : t.val % 4 = 0) (h3 : ¬t.val % 4 = 3) : (scrFirst m c t h0 h3).2.2
    = View.canon (runFirst.sl.H17_2 (F := Ideal) c (st0_4 t) (hstage0_4 ((cfg0.slots t 4).cast nbuf0_4)) (st0_5 t) (hstage0_5 ((cfg0.slots t 5).cast nbuf0_5)) (iblk m c 4 t) (iblk m c 5 t)) := by
  unfold scrFirst
  dsimp only
  exact congrArg View.canon rfl

include hb in
theorem kept_q (h0 : t.val % 4 = 0) (h3 : ¬t.val % 4 = 3) (h : Fin 2) (i : Fin 2048) (l : Fin 256) :
    (scrFirst m c t h0 h3).1 (ix3 h i l) = ((A.q256 (2 * p + h) i l : ℝ) : EReal) := by
  refine (congrFun (first_q m c t h0 h3) (ix3 h i l)).trans ?_
  exact gen_q c (st0_0 t) (hstage0_0 ((cfg0.slots t 0).cast nbuf0_0)) (st0_1 t) (hstage0_1 ((cfg0.slots t 1).cast nbuf0_1)) (iblk m c 0 t) (iblk m c 1 t) hb.qn hb.qr h i l

include hb in
theorem kept_d (h0 : t.val % 4 = 0) (h3 : ¬t.val % 4 = 3) (h : Fin 2) (i : Fin 2048) :
    (scrFirst m c t h0 h3).2.2 (ix3 h i 0) = ((A.delta (2 * p + h) i : ℝ) : EReal) := by
  refine (congrFun (first_d m c t h0 h3) (ix3 h i 0)).trans ?_
  exact gen_d c (st0_4 t) (hstage0_4 ((cfg0.slots t 4).cast nbuf0_4)) (st0_5 t) (hstage0_5 ((cfg0.slots t 5).cast nbuf0_5)) (iblk m c 4 t) (iblk m c 5 t) hb.o hb.g h i

set_option maxHeartbeats 2000000 in
include hc hb in
theorem first (h0 : t.val % 4 = 0) (h3 : ¬t.val % 4 = 3) :
    Kept A p (t.val % 4) (scrFirst m c t h0 h3) ∧ Wrote A p (t.val % 4) (View.canon (atFirst m c t h0 h3).1) (View.canon (atFirst m c t h0 h3).2.1) := by
  have h4 : t.val % 4 < 4 := Nat.mod_lt _ (by decide)
  have z : ∀ (h : Fin 2) (y : ℕ) (l : Fin 256), DQ A (t.val % 4) 0 (2 * p + h) y l = 0 := fun h y l => by rw [DQ_zero, h0]; simp
  have hq : ∀ (h : Fin 2) (y : Fin 2048) (l : Fin 256), scG.view.read (Elt Ideal) (scG.view.writes (Elt Ideal) scG.view.junk (runFirst.sl.H16_1 (F := Ideal))) (ix3 h y l)
      = ((DQ A (t.val % 4) 0 (2 * p + h) y l : ℝ) : EReal) := fun h y l => by
    rw [z, View.read_writes_junk_apply_eq_canon]
    exact (gen_z h y l).trans EReal.coe_zero.symm
  have C := AttnPoint.point c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) scQ (Memref.isWhole_whole _) scG (Memref.isWhole_whole _) scD (Memref.isWhole_whole _)
    ((hstage0_2 ((cfg0.slots t 2).cast nbuf0_2)).unread (iblk m c 2 t)) ((hstage0_3 ((cfg0.slots t 3).cast nbuf0_3)).unread (iblk m c 3 t))
    ((hstage0_5 ((cfg0.slots t 5).cast nbuf0_5)).unread (iblk m c 5 t)) ((hstage0_6 ((cfg0.slots t 6).cast nbuf0_6)).unread (iblk m c 6 t))
    (scQ.view.writes (Elt Ideal) scQ.view.junk (runFirst.sl.H15_2 (F := Ideal) c (st0_0 t) (hstage0_0 ((cfg0.slots t 0).cast nbuf0_0)) (st0_1 t) (hstage0_1 ((cfg0.slots t 1).cast nbuf0_1)) (iblk m c 0 t) (iblk m c 1 t)))
    (scD.view.writes (Elt Ideal) scD.view.junk (runFirst.sl.H17_2 (F := Ideal) c (st0_4 t) (hstage0_4 ((cfg0.slots t 4).cast nbuf0_4)) (st0_5 t) (hstage0_5 ((cfg0.slots t 5).cast nbuf0_5)) (iblk m c 4 t) (iblk m c 5 t)))
    scG.view.junk (runFirst.sl.H16_1 (F := Ideal))
    (runFirst.sl.v103 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scQ scG scD (iblk m c 0 t) (iblk m c 1 t) (iblk m c 2 t) (iblk m c 3 t) (iblk m c 4 t) (iblk m c 5 t) (iblk m c 6 t))
    (A := A) (p := p) (coord_1 t) h4 hc
    (by rw [Memref.IsWhole.read_unread, Memref.IsWhole.read_unread]; exact hb.kv)
    (by
      rw [View.read_writes_junk_eq_canon, View.read_writes_junk_eq_canon, ← first_q m c t h0 h3, ← first_d m c t h0 h3, Memref.IsWhole.read_unread, Memref.IsWhole.read_unread]
      exact ⟨kept_q m c t hb h0 h3, kept_d m c t hb h0 h3, hb.g, hb.ls⟩)
    hq
    (fun a l => by
      have ha := a.isLt
      refine (load3 scG.view _ 1 _ 0 _ ((k0_off10_eq _).trans (by rw [coord_1 t])) 0 a l 1 ⟨512 * (t.val % 4) + a, by omega⟩ l rfl rfl (Nat.zero_add _).symm).trans ?_
      exact (store_out scG.view _ 0 _ _ ((k0_off6_eq _).trans (by rw [coord_1 t])) _ _ 1 _ l (Or.inl (by decide))).trans (hq 1 _ l))
  exact ⟨⟨kept_q m c t hb h0 h3, fun h i l => (congrFun (readFirst16 m c t h0 h3 scG.view.junk) _).symm.trans (C.q h i l), kept_d m c t hb h0 h3⟩,
    fun b l => out_kv C b l, fun b l => out_kr C b l⟩

end Cert.AttnCase
end
-- ==== Proof.AttnMid.lean ====
module
public import proofs.«01_k».proof.Proof.AttnCase

/-! # A middle point of a pair -/

@[expose] public section

set_option maxRecDepth 16384
noncomputable section

namespace Cert.AttnCase

open Idealize.ShloMosaic Idealize.ShloMosaic.TcCoe Cert.AttnIdeal Cert.AttnIdeal.Gen Cert.AttnIdeal.Body Cert.AttnMath Cert.AttnTrip
open Idealize.SL Idealize.SL.RA Idealize.SL.Sem

variable (m : (ℓ : Loc nD τ sig) → Buf (Elt Ideal) ℓ) (c : Dev nD) (t : Fin cfg0.N)
variable {A : Arr} {p : ℕ} (hc : Ideal.ofBits FTy.f32 1033096506#32 = ((A.c : ℝ) : EReal))
variable (hb : Blocks A p (iblk m c 0 t) (iblk m c 1 t) (iblk m c 2 t) (iblk m c 3 t) (iblk m c 4 t) (iblk m c 5 t) (iblk m c 6 t))

set_option maxHeartbeats 2000000 in
include hc hb in
theorem middle (h0 : ¬t.val % 4 = 0) (h3 : ¬t.val % 4 = 3) {s : Scr Ideal} (hs : Kept A p (t.val % 4 - 1) s) :
    Kept A p (t.val % 4) (scrMiddle m c t h0 h3 s) ∧ Wrote A p (t.val % 4) (View.canon (atMiddle m c t h0 h3 s).1) (View.canon (atMiddle m c t h0 h3 s).2.1) := by
  have h4 : t.val % 4 < 4 := Nat.mod_lt _ (by decide)
  have hq : ∀ (h : Fin 2) (y : Fin 2048) (l : Fin 256), s.2.1 (ix3 h y l) = ((DQ A (t.val % 4) 0 (2 * p + h) y l : ℝ) : EReal) := fun h y l => by
    rw [hs.dq h y l, DQ_all A _ _ _ _ _ (by omega) y.isLt, DQ_zero, show t.val % 4 - 1 + 1 = t.val % 4 by omega]
  have C := AttnPoint.point c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) scQ (Memref.isWhole_whole _) scG (Memref.isWhole_whole _) scD (Memref.isWhole_whole _)
    ((hstage0_2 ((cfg0.slots t 2).cast nbuf0_2)).unread (iblk m c 2 t)) ((hstage0_3 ((cfg0.slots t 3).cast nbuf0_3)).unread (iblk m c 3 t))
    ((hstage0_5 ((cfg0.slots t 5).cast nbuf0_5)).unread (iblk m c 5 t)) ((hstage0_6 ((cfg0.slots t 6).cast nbuf0_6)).unread (iblk m c 6 t))
    ((Memref.isWhole_whole cc0_scratch0).unread s.1) ((Memref.isWhole_whole cc0_scratch2).unread s.2.2) ((Memref.isWhole_whole cc0_scratch1).unread s.2.1) []
    (scG.view.readAt (Elt Ideal) (Rect.unit (s := S2x2048x256) (k0_off10 (grid0.coords t)) S1x512x256.size (k0_off10_inb (grid0.coords t))).toLoadRect ((Memref.isWhole_whole cc0_scratch1).unread s.2.1))
    (A := A) (p := p) (coord_1 t) h4 hc
    (by rw [Memref.IsWhole.read_unread, Memref.IsWhole.read_unread]; exact hb.kv)
    (by
      rw [Memref.IsWhole.read_unread, Memref.IsWhole.read_unread, Memref.IsWhole.read_unread, Memref.IsWhole.read_unread]
      exact ⟨hs.q, hs.dl, hb.g, hb.ls⟩)
    (fun h y l => by
      refine Eq.trans (congrFun (Memref.IsWhole.read_unread (Memref.isWhole_whole cc0_scratch1) s.2.1) _) (hq h y l))
    (fun a l => by
      have ha := a.isLt
      refine (load3 scG.view _ 1 _ 0 _ ((k0_off10_eq _).trans (by rw [coord_1 t])) 0 a l 1 ⟨512 * (t.val % 4) + a, by omega⟩ l rfl rfl (Nat.zero_add _).symm).trans ?_
      refine Eq.trans (congrFun (Memref.IsWhole.read_unread (Memref.isWhole_whole cc0_scratch1) s.2.1) _) (hq 1 _ l))
  exact ⟨⟨hs.q, C.q, hs.dl⟩, fun b l => out_kv C b l, fun b l => out_kr C b l⟩

end Cert.AttnCase
end
-- ==== Proof.AttnLst.lean ====
module
public import proofs.«01_k».proof.Proof.AttnCase

/-! # The last point of a pair -/

@[expose] public section

set_option maxRecDepth 16384
noncomputable section

namespace Cert.AttnCase

open Idealize.ShloMosaic Idealize.ShloMosaic.TcCoe Cert.AttnIdeal Cert.AttnIdeal.Gen Cert.AttnIdeal.Body Cert.AttnMath Cert.AttnTrip
open Idealize.SL Idealize.SL.RA Idealize.SL.Sem

section ends
variable {A : Arr} {p : ℕ} (v : View sig .tc .vmem S2x2048x256 .f32) (G : v.ty.Contents (Elt Ideal))
variable (hD : ∀ (h : Fin 2) (i : Fin 2048) (l : Fin 256), v.read (Elt Ideal) G (ix3 h i l) = ((DQ A 3 1 (2 * p + h) i l : ℝ) : EReal))

include hD in
theorem end_q (h : Fin 2) (i : Fin 2048) (d : Fin 128) (l : Fin 256) (hl : l.val = 128 * h + d) :
    View.canon (Val := Elt Ideal) (s := S2048x256) (e := .bf16)
      [⟨Rect.unit ![0, 128] ![2048, 128] inb_S2048x256_S2048x128_0_128,
          k0_pay7 (v.readAt (Elt Ideal) (Rect.unit (s := S2x2048x256) ![1, 0, 0] ![1, 2048, 128] inb_S2x2048x256_S1x2048x128_1_0_0).toLoadRect G)⟩,
       ⟨Rect.unit ![0, 0] ![2048, 128] inb_S2048x256_S2048x128_0_0,
          k0_pay6 (v.readAt (Elt Ideal) (Rect.unit (s := S2x2048x256) ![0, 0, 0] ![1, 2048, 128] inb_S2x2048x256_S1x2048x128_0_0_0).toLoadRect G)⟩] (ix2 i l)
      = ((DQ A 3 1 (2 * p + h) i d : ℝ) : EReal) := by
  have hd := d.isLt
  rcases Fin.exists_fin_two.mp ⟨h, rfl⟩ with e | e
  · subst e
    refine (col_out _ _ _ i l (Or.inl (by rw [hl]; simp))).trans ((col_in _ _ _ i l d (by rw [hl]; simp)).trans ?_)
    rw [AttnMove.pay6]
    exact (load3 v G 0 0 0 _ rfl 0 i d 0 i ⟨d, by omega⟩ rfl (Nat.zero_add _).symm (Nat.zero_add _).symm).trans (hD 0 i _)
  · subst e
    refine (col_in _ _ _ i l d (by rw [hl]; simp)).trans ?_
    rw [AttnMove.pay7_eq, AttnMove.pay6]
    exact (load3 v G 1 0 0 _ rfl 0 i d 1 i ⟨d, by omega⟩ rfl (Nat.zero_add _).symm (Nat.zero_add _).symm).trans (hD 1 i _)

include hD in
theorem end_r {cs sn : ℕ → ℕ → ℝ} (v9 v10 : View sig .tc .vmem S2048x128 .f32) (X9 : v9.ty.Contents (Elt Ideal)) (X10 : v10.ty.Contents (Elt Ideal))
    (hcs : ∀ (b : Fin 2048) (l : Fin 128), v9.read (Elt Ideal) X9 (ix2 b l) = ((cs b (l % 32) : ℝ) : EReal))
    (hsn : ∀ (b : Fin 2048) (l : Fin 128), v10.read (Elt Ideal) X10 (ix2 b l) = (((if l.val % 64 < 32 then -sn b (l % 32) else sn b (l % 32)) : ℝ) : EReal))
    (i : Fin 2048) (l : Fin 128) :
    View.canon (Val := Elt Ideal) (s := S2048x128) (e := .bf16)
      [⟨Rect.unit ![0, 0] ![2048, 128] inb_S2048x128_S2048x128_0_0,
          k0_pay24 (v.readAt (Elt Ideal) (Rect.unit (s := S2x2048x256) ![0, 0, 128] S1x2048x128.size inb_S2x2048x256_S1x2048x128_0_0_128).toLoadRect G)
            (v.readAt (Elt Ideal) (Rect.unit (s := S2x2048x256) ![1, 0, 128] S1x2048x128.size inb_S2x2048x256_S1x2048x128_1_0_128).toLoadRect G)
            (v9.readAt (Elt Ideal) (Rect.unit (s := S2048x128) ![0, 0] S2048x128.size inb_S2048x128_S2048x128_0_0).toLoadRect X9)
            (v10.readAt (Elt Ideal) (Rect.unit (s := S2048x128) ![0, 0] S2048x128.size inb_S2048x128_S2048x128_0_0).toLoadRect X10)⟩] (ix2 i l)
      = ((if l.val % 64 < 32 then DQ A 3 1 (2 * p + l / 64) i (128 + l) * cs i (l % 32) + DQ A 3 1 (2 * p + l / 64) i (128 + (l + 32)) * sn i (l % 32)
          else DQ A 3 1 (2 * p + l / 64) i (128 + l) * cs i (l % 32) - DQ A 3 1 (2 * p + l / 64) i (128 + (l - 32)) * sn i (l % 32) : ℝ) : EReal) := by
  refine (col_in _ _ _ i l l (Nat.zero_add _).symm).trans ?_
  exact AttnMove.pay24 (w := fun h i l => DQ A 3 1 h i (128 + l)) (p := p) (cs := cs) (sn := sn)
    (fun b l => (load3 v G 0 0 128 _ rfl 0 b l 0 b ⟨128 + l, by have := l.isLt; omega⟩ rfl (Nat.zero_add _).symm rfl).trans (hD 0 b _))
    (fun b l => (load3 v G 1 0 128 _ rfl 0 b l 1 b ⟨128 + l, by have := l.isLt; omega⟩ rfl (Nat.zero_add _).symm rfl).trans (hD 1 b _))
    (fun b l => (load2 v9 X9 0 0 _ rfl b l b l (Nat.zero_add _).symm (Nat.zero_add _).symm).trans (hcs b l))
    (fun b l => (load2 v10 X10 0 0 _ rfl b l b l (Nat.zero_add _).symm (Nat.zero_add _).symm).trans (hsn b l)) i l

end ends

variable (m : (ℓ : Loc nD τ sig) → Buf (Elt Ideal) ℓ) (c : Dev nD) (t : Fin cfg0.N)
variable {A : Arr} {p : ℕ} (hc : Ideal.ofBits FTy.f32 1033096506#32 = ((A.c : ℝ) : EReal))
variable (hb : Blocks A p (iblk m c 0 t) (iblk m c 1 t) (iblk m c 2 t) (iblk m c 3 t) (iblk m c 4 t) (iblk m c 5 t) (iblk m c 6 t))
variable {cs sn : ℕ → ℕ → ℝ} (hcs : ∀ (b : Fin 2048) (l : Fin 128), (iblk m c 7 t : Vec Ideal S2048x128 .f32) (ix2 b l) = ((cs b (l % 32) : ℝ) : EReal))
variable (hsn : ∀ (b : Fin 2048) (l : Fin 128), (iblk m c 8 t : Vec Ideal S2048x128 .f32) (ix2 b l) = (((if l.val % 64 < 32 then -sn b (l % 32) else sn b (l % 32)) : ℝ) : EReal))

set_option maxHeartbeats 2000000 in
include hc hb hcs hsn in
theorem last (h0 : ¬t.val % 4 = 0) (h3 : t.val % 4 = 3) {s : Scr Ideal} (hs : Kept A p (t.val % 4 - 1) s) :
    Wrote A p (t.val % 4) (View.canon (atLast m c t h0 h3 s).2.2.1) (View.canon (atLast m c t h0 h3 s).2.2.2.1)
      ∧ Ended A p cs sn (View.canon (atLast m c t h0 h3 s).1) (View.canon (atLast m c t h0 h3 s).2.1) := by
  have h4 : t.val % 4 < 4 := Nat.mod_lt _ (by decide)
  have hq : ∀ (h : Fin 2) (y : Fin 2048) (l : Fin 256), s.2.1 (ix3 h y l) = ((DQ A (t.val % 4) 0 (2 * p + h) y l : ℝ) : EReal) := fun h y l => by
    rw [hs.dq h y l, DQ_all A _ _ _ _ _ (by omega) y.isLt, DQ_zero, show t.val % 4 - 1 + 1 = t.val % 4 by omega]
  have C := AttnPoint.point c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) scQ (Memref.isWhole_whole _) scG (Memref.isWhole_whole _) scD (Memref.isWhole_whole _)
    ((hstage0_2 ((cfg0.slots t 2).cast nbuf0_2)).unread (iblk m c 2 t)) ((hstage0_3 ((cfg0.slots t 3).cast nbuf0_3)).unread (iblk m c 3 t))
    ((hstage0_5 ((cfg0.slots t 5).cast nbuf0_5)).unread (iblk m c 5 t)) ((hstage0_6 ((cfg0.slots t 6).cast nbuf0_6)).unread (iblk m c 6 t))
    ((Memref.isWhole_whole cc0_scratch0).unread s.1) ((Memref.isWhole_whole cc0_scratch2).unread s.2.2) ((Memref.isWhole_whole cc0_scratch1).unread s.2.1) []
    (scG.view.readAt (Elt Ideal) (Rect.unit (s := S2x2048x256) (k0_off10 (grid0.coords t)) S1x512x256.size (k0_off10_inb (grid0.coords t))).toLoadRect ((Memref.isWhole_whole cc0_scratch1).unread s.2.1))
    (A := A) (p := p) (coord_1 t) h4 hc
    (by rw [Memref.IsWhole.read_unread, Memref.IsWhole.read_unread]; exact hb.kv)
    (by
      rw [Memref.IsWhole.read_unread, Memref.IsWhole.read_unread, Memref.IsWhole.read_unread, Memref.IsWhole.read_unread]
      exact ⟨hs.q, hs.dl, hb.g, hb.ls⟩)
    (fun h y l => by
      refine Eq.trans (congrFun (Memref.IsWhole.read_unread (Memref.isWhole_whole cc0_scratch1) s.2.1) _) (hq h y l))
    (fun a l => by
      have ha := a.isLt
      refine (load3 scG.view _ 1 _ 0 _ ((k0_off10_eq _).trans (by rw [coord_1 t])) 0 a l 1 ⟨512 * (t.val % 4) + a, by omega⟩ l rfl rfl (Nat.zero_add _).symm).trans ?_
      refine Eq.trans (congrFun (Memref.IsWhole.read_unread (Memref.isWhole_whole cc0_scratch1) s.2.1) _) (hq 1 _ l))
  refine ⟨⟨fun b l => out_kv C b l, fun b l => out_kr C b l⟩, ?_⟩
  have hD := C.q
  simp only [h3] at hD
  exact ⟨end_q scG.view _ hD, end_r scG.view _ hD (st0_7 t).view (st0_8 t).view ((hstage0_7 ((cfg0.slots t 7).cast nbuf0_7)).unread (iblk m c 7 t)) ((hstage0_8 ((cfg0.slots t 8).cast nbuf0_8)).unread (iblk m c 8 t))
    (by rw [Memref.IsWhole.read_unread]; exact hcs) (by rw [Memref.IsWhole.read_unread]; exact hsn)⟩

end Cert.AttnCase
end
-- ==== Proof.AttnPair.lean ====
module
public import proofs.«01_k».proof.Proof.AttnFst
public import proofs.«01_k».proof.Proof.AttnMid
public import proofs.«01_k».proof.Proof.AttnLst

/-! # The four points of a pair of heads, one after another -/

@[expose] public section

set_option maxRecDepth 16384
noncomputable section

namespace Cert.AttnCase

open Idealize.ShloMosaic Idealize.ShloMosaic.TcCoe Cert.AttnIdeal Cert.AttnIdeal.Gen Cert.AttnIdeal.Body Cert.AttnMath Cert.AttnTrip
open Idealize.SL Idealize.SL.RA Idealize.SL.Sem

variable (m : (ℓ : Loc nD τ sig) → Buf (Elt Ideal) ℓ) (c : Dev nD)
variable {A : Arr} (hc : Ideal.ofBits FTy.f32 1033096506#32 = ((A.c : ℝ) : EReal))
variable (hb : ∀ t : Fin cfg0.N, Blocks A (t.val / 4) (iblk m c 0 t) (iblk m c 1 t) (iblk m c 2 t) (iblk m c 3 t) (iblk m c 4 t) (iblk m c 5 t) (iblk m c 6 t))
variable {cs sn : ℕ → ℕ → ℝ}
variable (hcs : ∀ (t : Fin cfg0.N) (b : Fin 2048) (l : Fin 128), (iblk m c 7 t : Vec Ideal S2048x128 .f32) (ix2 b l) = ((cs b (l % 32) : ℝ) : EReal))
variable (hsn : ∀ (t : Fin cfg0.N) (b : Fin 2048) (l : Fin 128), (iblk m c 8 t : Vec Ideal S2048x128 .f32) (ix2 b l) = ((if l.val % 64 < 32 then -sn b (l % 32) else sn b (l % 32) : ℝ) : EReal))

include hc hb in
/-- The scratch buffers after each point but a pair's last. -/
theorem kept (n : ℕ) (hn : n < cfg0.N) (h3 : ¬n % 4 = 3) : Kept A (n / 4) (n % 4) (scrAt m c n hn) := by
  induction n with
  | zero =>
    rw [scrAt_first m c ⟨0, hn⟩ rfl h3]
    exact (first m c ⟨0, hn⟩ hc (hb ⟨0, hn⟩) rfl h3).1
  | succ k ih =>
    by_cases h0 : (k + 1) % 4 = 0
    · rw [scrAt_first m c ⟨k + 1, hn⟩ h0 h3]
      exact (first m c ⟨k + 1, hn⟩ hc (hb ⟨k + 1, hn⟩) h0 h3).1
    · rw [scrAt_middle m c ⟨k + 1, hn⟩ h0 h3]
      have e := ih (Nat.lt_of_succ_lt hn) (by omega)
      rw [show k / 4 = (k + 1) / 4 by omega, show k % 4 = (k + 1) % 4 - 1 by omega] at e
      exact (middle m c ⟨k + 1, hn⟩ hc (hb ⟨k + 1, hn⟩) h0 h3 e).1

include hc hb in
/-- What the scratch buffers hold before a point that is not a pair's first. -/
theorem kept_before (t : Fin cfg0.N) (h0 : ¬t.val % 4 = 0) : Kept A (t.val / 4) (t.val % 4 - 1) (scrBefore m c t) := by
  have e := kept m c hc hb (t.val - 1) (by have := t.isLt; omega) (by omega)
  rw [show (t.val - 1) / 4 = t.val / 4 by omega, show (t.val - 1) % 4 = t.val % 4 - 1 by omega] at e
  exact e

include hc hb hcs hsn in
theorem wrote (t : Fin cfg0.N) : Wrote A (t.val / 4) (t.val % 4) (out13 m c t) (out14 m c t) := by
  by_cases h0 : t.val % 4 = 0
  · have h3 : ¬t.val % 4 = 3 := by omega
    rw [out13_first m c t h0 h3, out14_first m c t h0 h3]
    exact (first m c t hc (hb t) h0 h3).2
  · by_cases h3 : t.val % 4 = 3
    · rw [out13_last m c t h0 h3, out14_last m c t h0 h3]
      exact (last m c t hc (hb t) (hcs t) (hsn t) h0 h3 (kept_before m c hc hb t h0)).1
    · rw [out13_middle m c t h0 h3, out14_middle m c t h0 h3]
      exact (middle m c t hc (hb t) h0 h3 (kept_before m c hc hb t h0)).2

include hc hb hcs hsn in
theorem ended (t : Fin cfg0.N) (h3 : t.val % 4 = 3) : Ended A (t.val / 4) cs sn (out11 m c t) (out12 m c t) := by
  have h0 : ¬t.val % 4 = 0 := by omega
  rw [out11_last m c t h0 h3, out12_last m c t h0 h3]
  exact (last m c t hc (hb t) (hcs t) (hsn t) h0 h3 (kept_before m c hc hb t h0)).2

end Cert.AttnCase
end
-- ==== Proof.AttnArrays.lean ====
module
public import proofs.«01_k».proof.Proof.AttnPair
public import proofs.«01_k».proof.Proof.AttnVals

/-! # The kernel's four result arrays

Point `t` holds heads `2 (t / 4)` and `2 (t / 4) + 1` and key block `t % 4`. -/

@[expose] public section
set_option maxRecDepth 16384
noncomputable section
namespace Cert.AttnArrays
open Cert.AttnIdeal Cert.AttnIdeal.Gen Cert.AttnIdeal.Body Cert.AttnMath Cert.AttnCase Cert.AttnVals
open Idealize.ShloMosaic Idealize.ShloMosaic.TcCoe Idealize.SL.Sem
open Idealize.ShloMosaic.Pipeline (Dat)

theorem idx : ∀ t : Fin cfg0.N, win0_0.index t = ![0, t.val / 4] ∧ win0_1.index t = ![0, t.val / 4] ∧ win0_2.index t = ![0, t.val / 4]
    ∧ win0_3.index t = ![0, 0] ∧ win0_4.index t = ![0, t.val / 4] ∧ win0_5.index t = ![0, t.val / 4]
    ∧ win0_6.index t = ![t.val / 4, 0, 0] ∧ win0_7.index t = ![0, 0] ∧ win0_8.index t = ![0, 0]
    ∧ win0_9.index t = ![0, t.val / 4] ∧ win0_10.index t = ![0, t.val / 4] ∧ win0_11.index t = ![t.val % 4, t.val / 4]
    ∧ win0_12.index t = ![t.val / 4, t.val % 4, 0] ∧ t.val / 4 < 8 :=
  (by decide +kernel : ∀ t : Fin grid0.N, _)

theorem pair_lt (t : Fin cfg0.N) : t.val / 4 < 8 := (idx t).2.2.2.2.2.2.2.2.2.2.2.2.2

variable (m : (ℓ : Loc nD τ sig) → Buf (Elt Ideal) ℓ) (c : Dev nD) (t : Fin cfg0.N)

/-- Column `l` of pair `t / 4`, in arrays of 256, 128 and 512 columns a pair; row `b` of key block `t % 4`. -/
def col256 (t : Fin cfg0.N) (l : Fin 256) : Fin 2048 := ⟨256 * (t.val / 4) + l, by have := pair_lt t; omega⟩
def col128 (t : Fin cfg0.N) (l : Fin 128) : Fin 1024 := ⟨128 * (t.val / 4) + l, by have := pair_lt t; omega⟩
def col512 (t : Fin cfg0.N) (l : Fin 512) : Fin 4096 := ⟨512 * (t.val / 4) + l, by have := pair_lt t; omega⟩
def key (t : Fin cfg0.N) (b : Fin 512) : Fin 2048 := ⟨512 * (t.val % 4) + b, by omega⟩
def pair (t : Fin cfg0.N) : Fin 8 := ⟨t.val / 4, pair_lt t⟩

theorem emb0 (i : Fin 2048) (l : Fin 256) : ((cfg0.win 0).blk t).view.emb (ix2 i l) = ix2 i (col256 t l) := by blk_ext [idx t, col256]
theorem emb1 (i : Fin 2048) (l : Fin 128) : ((cfg0.win 1).blk t).view.emb (ix2 i l) = ix2 i (col128 t l) := by blk_ext [idx t, col128]
theorem emb2 (i : Fin 2048) (l : Fin 512) : ((cfg0.win 2).blk t).view.emb (ix2 i l) = ix2 i (col512 t l) := by blk_ext [idx t, col512]
theorem emb3 (i : Fin 2048) (l : Fin 128) : ((cfg0.win 3).blk t).view.emb (ix2 i l) = ix2 i l := by blk_ext [idx t]
theorem emb4 (i : Fin 2048) (l : Fin 256) : ((cfg0.win 4).blk t).view.emb (ix2 i l) = ix2 i (col256 t l) := by blk_ext [idx t, col256]
theorem emb5 (i : Fin 2048) (l : Fin 256) : ((cfg0.win 5).blk t).view.emb (ix2 i l) = ix2 i (col256 t l) := by blk_ext [idx t, col256]
theorem emb6 (i : Fin 2048) (h : Fin 2) : ((cfg0.win 6).blk t).view.emb (ix3 (0 : Fin 1) i h) = ix3 (pair t) i h := by blk_ext [idx t, pair]
theorem emb7 (i : Fin 2048) (l : Fin 128) : ((cfg0.win 7).blk t).view.emb (ix2 i l) = ix2 i l := by blk_ext [idx t]
theorem emb8 (i : Fin 2048) (l : Fin 128) : ((cfg0.win 8).blk t).view.emb (ix2 i l) = ix2 i l := by blk_ext [idx t]

section
variable {c}
variable (K : (b : Ref sig .tc) → Buf (Elt Ideal) ((c : Thread nD τ).loc b))
theorem from0 (i : Fin 2048) (l : Fin 256) : ((cfg0.win 0).blk t).view.read (Elt Ideal) (K (Pipeline.arrRef spec0 0)) (ix2 i l) = K main_arg0 (ix2 i (col256 t l)) :=
  congrArg (K main_arg0) (emb0 t i l)
theorem from1 (i : Fin 2048) (l : Fin 128) : ((cfg0.win 1).blk t).view.read (Elt Ideal) (K (Pipeline.arrRef spec0 1)) (ix2 i l) = K main_v96 (ix2 i (col128 t l)) :=
  congrArg (K main_v96) (emb1 t i l)
theorem from2 (i : Fin 2048) (l : Fin 512) : ((cfg0.win 2).blk t).view.read (Elt Ideal) (K (Pipeline.arrRef spec0 2)) (ix2 i l) = K main_arg2 (ix2 i (col512 t l)) :=
  congrArg (K main_arg2) (emb2 t i l)
theorem from3 (i : Fin 2048) (l : Fin 128) : ((cfg0.win 3).blk t).view.read (Elt Ideal) (K (Pipeline.arrRef spec0 3)) (ix2 i l) = K main_v86 (ix2 i l) :=
  congrArg (K main_v86) (emb3 t i l)
theorem from4 (i : Fin 2048) (l : Fin 256) : ((cfg0.win 4).blk t).view.read (Elt Ideal) (K (Pipeline.arrRef spec0 4)) (ix2 i l) = K main_v74 (ix2 i (col256 t l)) :=
  congrArg (K main_v74) (emb4 t i l)
theorem from5 (i : Fin 2048) (l : Fin 256) : ((cfg0.win 5).blk t).view.read (Elt Ideal) (K (Pipeline.arrRef spec0 5)) (ix2 i l) = K main_arg6 (ix2 i (col256 t l)) :=
  congrArg (K main_arg6) (emb5 t i l)
theorem from6 (i : Fin 2048) (h : Fin 2) : ((cfg0.win 6).blk t).view.read (Elt Ideal) (K (Pipeline.arrRef spec0 6)) (ix3 (0 : Fin 1) i h) = K main_v84 (ix3 (pair t) i h) :=
  congrArg (K main_v84) (emb6 t i h)
theorem from7 (i : Fin 2048) (l : Fin 128) : ((cfg0.win 7).blk t).view.read (Elt Ideal) (K (Pipeline.arrRef spec0 7)) (ix2 i l) = K main_v89 (ix2 i l) :=
  congrArg (K main_v89) (emb7 t i l)
theorem from8 (i : Fin 2048) (l : Fin 128) : ((cfg0.win 8).blk t).view.read (Elt Ideal) (K (Pipeline.arrRef spec0 8)) (ix2 i l) = K main_v94 (ix2 i l) :=
  congrArg (K main_v94) (emb8 t i l)
end

theorem read0 (i : Fin 2048) (l : Fin 256) : (iblk m c 0 t : Vec Ideal S2048x256 .bf16) (ix2 i l) = m ((c : Thread nD τ).loc main_arg0) (ix2 i (col256 t l)) :=
  (from0 t (V m c) i l).trans (congrFun (V_main_arg0 m c) _)
theorem read1 (i : Fin 2048) (l : Fin 128) : (iblk m c 1 t : Vec Ideal S2048x128 .bf16) (ix2 i l) = V m c main_v96 (ix2 i (col128 t l)) :=
  from1 t (V m c) i l
theorem read2 (i : Fin 2048) (l : Fin 512) : (iblk m c 2 t : Vec Ideal S2048x512 .bf16) (ix2 i l) = m ((c : Thread nD τ).loc main_arg2) (ix2 i (col512 t l)) :=
  (from2 t (V m c) i l).trans (congrFun (V_main_arg2 m c) _)
theorem read3 (i : Fin 2048) (l : Fin 128) : (iblk m c 3 t : Vec Ideal S2048x128 .bf16) (ix2 i l) = V m c main_v86 (ix2 i l) :=
  from3 t (V m c) i l
theorem read4 (i : Fin 2048) (l : Fin 256) : (iblk m c 4 t : Vec Ideal S2048x256 .bf16) (ix2 i l) = V m c main_v74 (ix2 i (col256 t l)) :=
  from4 t (V m c) i l
theorem read5 (i : Fin 2048) (l : Fin 256) : (iblk m c 5 t : Vec Ideal S2048x256 .bf16) (ix2 i l) = m ((c : Thread nD τ).loc main_arg6) (ix2 i (col256 t l)) :=
  (from5 t (V m c) i l).trans (congrFun (V_main_arg6 m c) _)
theorem read6 (i : Fin 2048) (h : Fin 2) : (iblk m c 6 t : Vec Ideal S1x2048x2 .f32) (ix3 (0 : Fin 1) i h) = V m c main_v84 (ix3 (pair t) i h) :=
  from6 t (V m c) i h
theorem read7 (i : Fin 2048) (l : Fin 128) : (iblk m c 7 t : Vec Ideal S2048x128 .f32) (ix2 i l) = V m c main_v89 (ix2 i l) :=
  from7 t (V m c) i l
theorem read8 (i : Fin 2048) (l : Fin 128) : (iblk m c 8 t : Vec Ideal S2048x128 .f32) (ix2 i l) = V m c main_v94 (ix2 i l) :=
  from8 t (V m c) i l

theorem emb9 (i : Fin 2048) (l : Fin 256) : ((cfg0.win 9).blk t).view.emb (ix2 i l) = ix2 i (col256 t l) := by blk_ext [idx t, col256]
theorem emb10 (i : Fin 2048) (l : Fin 128) : ((cfg0.win 10).blk t).view.emb (ix2 i l) = ix2 i (col128 t l) := by blk_ext [idx t, col128]
theorem emb11 (b l : Fin 512) : ((cfg0.win 11).blk t).view.emb (ix2 b l) = ix2 (key t b) (col512 t l) := by blk_ext [idx t, col512, key]
theorem emb12 (a : Fin 1) (b : Fin 512) (l : Fin 128) : ((cfg0.win 12).blk t).view.emb (ix3 a b l) = ix3 (pair t) (key t b) l := by
  obtain rfl : a = 0 := Fin.ext (by omega)
  blk_ext [idx t, pair, key]

/-- What the launch finds, as real numbers: the arguments, and the arrays the host lines prepare from them. -/
structure Entry (a0 a1 a2 a3 cs sn a6 : ℕ → ℕ → ℝ) (s : ℝ) : Prop where
  q : ∀ (i : Fin 2048) (l : Fin 2048), m ((c : Thread nD τ).loc main_arg0) (ix2 i l) = ((a0 i l : ℝ) : EReal)
  kv : ∀ (j : Fin 2048) (l : Fin 4096), m ((c : Thread nD τ).loc main_arg2) (ix2 j l) = ((a2 j l : ℝ) : EReal)
  g : ∀ (i : Fin 2048) (l : Fin 2048), m ((c : Thread nD τ).loc main_arg6) (ix2 i l) = ((a6 i l : ℝ) : EReal)
  qr : ∀ (i : Fin 2048) (l : Fin 1024), V m c main_v96 (ix2 i l) = (((arr a0 a1 a2 a3 cs sn a6 s).qr (l / 64) i (l % 64) : ℝ) : EReal)
  kr : ∀ (j : Fin 2048) (l : Fin 128), V m c main_v86 (ix2 j l) = (((arr a0 a1 a2 a3 cs sn a6 s).kr j (l % 64) : ℝ) : EReal)
  o : ∀ (i : Fin 2048) (l : Fin 2048), V m c main_v74 (ix2 i l) = (((arr a0 a1 a2 a3 cs sn a6 s).o (l / 128) i (l % 128) : ℝ) : EReal)
  ls : ∀ (p : Fin 8) (i : Fin 2048) (h : Fin 2), V m c main_v84 (ix3 p i h) = ((Real.log ((arr a0 a1 a2 a3 cs sn a6 s).L (2 * p + h) i) : ℝ) : EReal)
  co : ∀ (b : Fin 2048) (l : Fin 128), V m c main_v89 (ix2 b l) = ((cs b (l % 32) : ℝ) : EReal)
  si : ∀ (b : Fin 2048) (l : Fin 128), V m c main_v94 (ix2 b l) = ((if l.val % 64 < 32 then -sn b (l % 32) else sn b (l % 32) : ℝ) : EReal)
  s : Ideal.ofBits FTy.f32 1033096506#32 = ((s : ℝ) : EReal)

section
variable {m c}
variable {a0 a1 a2 a3 cs sn a6 : ℕ → ℕ → ℝ} {s : ℝ} (E : Entry m c a0 a1 a2 a3 cs sn a6 s)

include E in
theorem blocks (t : Fin cfg0.N) : Blocks (arr a0 a1 a2 a3 cs sn a6 s) (t.val / 4) (iblk m c 0 t) (iblk m c 1 t) (iblk m c 2 t) (iblk m c 3 t) (iblk m c 4 t) (iblk m c 5 t) (iblk m c 6 t) := by
  refine ⟨fun h i d l e => ?_, fun i l => ?_, ⟨fun h j d l e => ?_, fun h j d l e => ?_, fun j l => ?_⟩, fun h i d l e => ?_, fun h i d l e => ?_, fun h i => ?_⟩
  · refine (read0 m c t i l).trans ((E.q i _).trans (congrArg _ (congrArg (a0 i) ?_)))
    show 256 * (t.val / 4) + l.val = (2 * (t.val / 4) + h) * 128 + d
    omega
  · have hl := l.isLt
    refine (read1 m c t i l).trans ((E.qr i _).trans (congrArg _ ?_))
    show (arr a0 a1 a2 a3 cs sn a6 s).qr ((128 * (t.val / 4) + l) / 64) i ((128 * (t.val / 4) + l) % 64) = _
    rw [show (128 * (t.val / 4) + (l : ℕ)) / 64 = 2 * (t.val / 4) + l / 64 by omega, show (128 * (t.val / 4) + (l : ℕ)) % 64 = l % 64 by omega]
  · refine (read2 m c t j l).trans ((E.kv j _).trans (congrArg _ (congrArg (a2 j) ?_)))
    show 512 * (t.val / 4) + l.val = (2 * (t.val / 4) + h) * 256 + d
    omega
  · refine (read2 m c t j l).trans ((E.kv j _).trans (congrArg _ (congrArg (a2 j) ?_)))
    show 512 * (t.val / 4) + l.val = (2 * (t.val / 4) + h) * 256 + (128 + d)
    omega
  · exact (read3 m c t j l).trans (E.kr j l)
  · have hd := d.isLt
    refine (read4 m c t i l).trans ((E.o i _).trans (congrArg _ ?_))
    show (arr a0 a1 a2 a3 cs sn a6 s).o ((256 * (t.val / 4) + l) / 128) i ((256 * (t.val / 4) + l) % 128) = _
    rw [show (256 * (t.val / 4) + (l : ℕ)) / 128 = 2 * (t.val / 4) + h by omega, show (256 * (t.val / 4) + (l : ℕ)) % 128 = d by omega]
  · refine (read5 m c t i l).trans ((E.g i _).trans (congrArg _ (congrArg (a6 i) ?_)))
    show 256 * (t.val / 4) + l.val = (2 * (t.val / 4) + h) * 128 + d
    omega
  · exact (read6 m c t i h).trans (E.ls (pair t) i h)

include E in
theorem cosines (t : Fin cfg0.N) (b : Fin 2048) (l : Fin 128) : (iblk m c 7 t : Vec Ideal S2048x128 .f32) (ix2 b l) = ((cs b (l % 32) : ℝ) : EReal) :=
  (read7 m c t b l).trans (E.co b l)
include E in
theorem sines (t : Fin cfg0.N) (b : Fin 2048) (l : Fin 128) :
    (iblk m c 8 t : Vec Ideal S2048x128 .f32) (ix2 b l) = ((if l.val % 64 < 32 then -sn b (l % 32) else sn b (l % 32) : ℝ) : EReal) :=
  (read8 m c t b l).trans (E.si b l)

theorem at9 {A : Arr} {p : ℕ} {w11 : Vec Ideal S2048x256 .bf16} {w12 : Vec Ideal S2048x128 .bf16} (e : Ended A p cs sn w11 w12) (i : Fin 2048) (l : Fin 256) :
    w11 (ix2 i l) = ((dqn A i (256 * p + l) : ℝ) : EReal) := by
  have hl := l.isLt
  rw [e.qn ⟨l / 128, by omega⟩ i ⟨l % 128, by omega⟩ l (by show l.val = 128 * (l / 128) + l % 128; omega), ended_qn A p ⟨l / 128, by omega⟩ i ⟨l % 128, by omega⟩]
  refine congrArg (fun x => ((dqn A i x : ℝ) : EReal)) ?_
  show 256 * p + (128 * ((l : ℕ) / 128) + l % 128) = 256 * p + l
  omega

end

/-! ## The arrays -/

variable (A : Arr) (cs sn : ℕ → ℕ → ℝ)

def out9 : FVec Ideal S2048x2048 .bf16 := fun i => ((dqn A (i 0).val (i 1).val : ℝ) : EReal)
def out10 : FVec Ideal S2048x1024 .bf16 := fun i => ((dqp A cs sn (i 0).val (i 1).val : ℝ) : EReal)
def out11 : FVec Ideal S2048x4096 .bf16 := fun i => ((dkv A (i 0).val (i 1).val : ℝ) : EReal)
def out12 : FVec Ideal S8x2048x128 .f32 := fun i => ((dkp A (i 0).val (i 1).val (i 2).val : ℝ) : EReal)

section
variable {m c}
variable {a0 a1 a2 a3 cs sn a6 : ℕ → ℕ → ℝ} {s : ℝ} (E : Entry m c a0 a1 a2 a3 cs sn a6 s)

include E

theorem final9 : (dats m 0 c).arrAt 9 (cfgs 0).N = out9 (arr a0 a1 a2 a3 cs sn a6 s) := by
  refine (dats m 0 c).arrAt_eq_of_covers 9 _ (by decide +kernel) fun t hf y => ?_
  idx_vars y
  refine Eq.trans ?_ (congrArg (out9 _) (emb9 t y0 y1)).symm
  blk_simp
  rw [after_9]
  exact at9 (ended m c E.s (blocks E) (cosines E) (sines E) t ((flush0_9 t).1 hf)) y0 y1

theorem final10 : (dats m 0 c).arrAt 10 (cfgs 0).N = out10 (arr a0 a1 a2 a3 cs sn a6 s) cs sn := by
  refine (dats m 0 c).arrAt_eq_of_covers 10 _ (by decide +kernel) fun t hf y => ?_
  idx_vars y
  refine Eq.trans ?_ (congrArg (out10 _ cs sn) (emb10 t y0 y1)).symm
  blk_simp
  rw [after_10]
  refine ((ended m c E.s (blocks E) (cosines E) (sines E) t ((flush0_10 t).1 hf)).qr y0 y1).trans ?_
  rw [ended_qr]
  rfl

theorem final11 : (dats m 0 c).arrAt 11 (cfgs 0).N = out11 (arr a0 a1 a2 a3 cs sn a6 s) := by
  refine (dats m 0 c).arrAt_eq_of_covers 11 _ (by decide +kernel) fun t hf y => ?_
  idx_vars y
  refine Eq.trans ?_ (congrArg (out11 _) (emb11 t y0 y1)).symm
  blk_simp
  rw [after_11]
  refine ((wrote m c E.s (blocks E) (cosines E) (sines E) t).kv y0 y1).trans ?_
  rw [wrote_kv _ (Nat.mod_lt _ (by decide))]
  rfl

theorem final12 : (dats m 0 c).arrAt 12 (cfgs 0).N = out12 (arr a0 a1 a2 a3 cs sn a6 s) := by
  refine (dats m 0 c).arrAt_eq_of_covers 12 _ (by decide +kernel) fun t hf y => ?_
  idx_vars y
  refine Eq.trans ?_ (congrArg (out12 _) (emb12 t y0 y1 y2)).symm
  obtain rfl : y0 = 0 := Fin.ext (by omega)
  blk_simp
  rw [after_12]
  refine ((wrote m c E.s (blocks E) (cosines E) (sines E) t).kr y1 y2).trans ?_
  rw [wrote_kr _ (Nat.mod_lt _ (by decide))]
  rfl

end
end Cert.AttnArrays
end
-- ==== Proof.AttnEntry.lean ====
module
public import proofs.«01_k».proof.Proof.AttnHost
public import proofs.«01_k».proof.Proof.AttnArrays

/-! # What the launch finds, as real numbers -/

@[expose] public section
set_option maxRecDepth 16384
noncomputable section
namespace Cert.AttnEntry
open Cert.AttnIdeal Cert.AttnIdeal.Gen Cert.AttnMath Cert.AttnVals Cert.AttnArrays Cert.AttnHost
open Idealize.ShloMosaic Idealize.ShloMosaic.TcCoe Idealize.SL.Sem

section
variable (σ : (b : DevRef τ sig) → b.ty.Contents (Elt Ideal))

theorem keep_16 : StableHlo.after hostOps0_1 σ (Proc.tc.devRef main_v16) = σ (Proc.tc.devRef main_v16) := by
  entry_read
  rfl
theorem keep_26 : StableHlo.after hostOps0_1 σ (Proc.tc.devRef main_v26) = σ (Proc.tc.devRef main_v26) := by
  entry_read
  rfl
theorem keep_2 : StableHlo.after hostOps0_1 (StableHlo.after hostOps0 σ) (Proc.tc.devRef main_arg2) = σ (Proc.tc.devRef main_arg2) := by
  entry_read
  rfl
theorem keep_4 : StableHlo.after hostOps0_1 (StableHlo.after hostOps0 σ) (Proc.tc.devRef main_arg4) = σ (Proc.tc.devRef main_arg4) := by
  entry_read
  rfl
theorem keep_5 : StableHlo.after hostOps0_1 (StableHlo.after hostOps0 σ) (Proc.tc.devRef main_arg5) = σ (Proc.tc.devRef main_arg5) := by
  entry_read
  rfl
end

variable (m : (ℓ : Loc nD τ sig) → Buf (Elt Ideal) ℓ) (c : Dev nD)

/-- The buffers before the scores are masked, and after. -/
def before : (b : DevRef τ sig) → b.ty.Contents (Elt Ideal) := StableHlo.after hostOps0 fun b => m (c, b)
def masked : (b : DevRef τ sig) → b.ty.Contents (Elt Ideal) := StableHlo.after hostOps0_1 (before m c)

theorem V_split (b : Ref sig .tc) : V m c b = StableHlo.after hostOps0_2 (masked m c) (Proc.tc.devRef b) := rfl

variable {a0 a1 a2 a3 cs sn a6 : ℕ → ℕ → ℝ} {s : ℝ}
variable (h0 : ∀ (i : Fin 2048) (l : Fin 2048), (m ((c : Thread nD τ).loc main_arg0) : FVec Ideal S2048x2048 .bf16) (ix2 i l) = ((a0 i l : ℝ) : EReal))
variable (h1 : ∀ (i : Fin 2048) (l : Fin 1024), (m ((c : Thread nD τ).loc main_arg1) : FVec Ideal S2048x1024 .bf16) (ix2 i l) = ((a1 i l : ℝ) : EReal))
variable (h2 : ∀ (i : Fin 2048) (l : Fin 4096), (m ((c : Thread nD τ).loc main_arg2) : FVec Ideal S2048x4096 .bf16) (ix2 i l) = ((a2 i l : ℝ) : EReal))
variable (h3 : ∀ (i : Fin 2048) (l : Fin 64), (m ((c : Thread nD τ).loc main_arg3) : FVec Ideal S2048x64 .bf16) (ix2 i l) = ((a3 i l : ℝ) : EReal))
variable (h4 : ∀ (i : Fin 2048) (l : Fin 32), (m ((c : Thread nD τ).loc main_arg4) : FVec Ideal S2048x32 .f32) (ix2 i l) = ((cs i l : ℝ) : EReal))
variable (h5 : ∀ (i : Fin 2048) (l : Fin 32), (m ((c : Thread nD τ).loc main_arg5) : FVec Ideal S2048x32 .f32) (ix2 i l) = ((sn i l : ℝ) : EReal))
variable (h6 : ∀ (i : Fin 2048) (l : Fin 2048), (m ((c : Thread nD τ).loc main_arg6) : FVec Ideal S2048x2048 .bf16) (ix2 i l) = ((a6 i l : ℝ) : EReal))
variable (hs : Ideal.ofBits FTy.f32 1033096506#32 = ((s : ℝ) : EReal))

include h0 h1 h2 h3 h4 h5 hs in
/-- The masked scores. -/
theorem scores (h : Fin 16) (i j : Fin 2048) : (masked m c (Proc.tc.devRef main_v56) : FVec Ideal S16x2048x2048 .f32) (ix3 h i j)
    = if j.val ≤ i.val then (((arr a0 a1 a2 a3 cs sn a6 s).S h i j : ℝ) : EReal) else ⊥ := by
  refine (after_56 (before m c) h i j).trans ?_
  by_cases hj : j.val ≤ i.val
  · rw [if_pos hj]
    refine (if_pos ((after_55 (fun b => m (c, b)) i j).2 hj)).trans ?_
    exact after_48 (fun b => m (c, b)) h0 h1 h2 h3 h4 h5 hs h i j
  · rw [if_neg hj]
    refine (if_neg fun e => hj ((after_55 (fun b => m (c, b)) i j).1 e)).trans ?_
    exact after_const (fun b => m (c, b))

include h0 h1 h2 h3 h4 h5 h6 hs in
theorem entry : Entry m c a0 a1 a2 a3 cs sn a6 s := by
  have hS := scores (a6 := a6) m c h0 h1 h2 h3 h4 h5 hs
  obtain ⟨M, hM⟩ := mx_real hS
  refine ⟨h0, h2, h6, fun i l => ?_, fun j l => ?_, fun i l => ?_, fun p i h => ?_, fun b l => ?_, fun b l => ?_, hs⟩
  · refine (congrFun (V_split m c main_v96) _).trans ((after_96 (masked m c) i l).trans ?_)
    refine (congrFun (keep_16 (before m c)) _).trans ?_
    exact after_16 (fun b => m (c, b)) h1 h4 h5 i ⟨l / 64, by omega⟩ ⟨l % 64, by omega⟩
  · refine (congrFun (V_split m c main_v86) _).trans ((after_86 (masked m c) j l).trans ?_)
    refine (congrFun (keep_26 (before m c)) _).trans ?_
    exact after_26 (fun b => m (c, b)) h3 h4 h5 j ⟨l % 64, by omega⟩
  · refine (congrFun (V_split m c main_v74) _).trans ((congrFun (after_74 (masked m c)) _).trans ?_)
    refine out_real hS hM (a2 := a2) (fun j l => ?_) (fun _ _ _ => rfl) i l
    exact (congrFun (keep_2 fun b => m (c, b)) _).trans (h2 j l)
  · refine (congrFun (V_split m c main_v84) _).trans ((congrFun (after_84 (masked m c)) _).trans ?_)
    exact lse_real hS hM p i h
  · refine (congrFun (V_split m c main_v89) _).trans ((after_89 (masked m c) b l).trans ?_)
    exact (congrFun (keep_4 fun b => m (c, b)) _).trans (h4 b _)
  · refine (congrFun (V_split m c main_v94) _).trans (after_94 (masked m c) (fun i l => ?_) b l)
    exact (congrFun (keep_5 fun b => m (c, b)) _).trans (h5 i l)

end Cert.AttnEntry
end
-- ==== Proof.AttnRefVal.lean ====
module
public import proofs.«01_k».proof.Proof.Gen.AttnRefIdeal.Read
public import proofs.«01_k».proof.Proof.AttnHost

/-! # The reference's stages as real numbers: scores, softmax and the gradient before it -/

@[expose] public section
set_option maxRecDepth 16384
noncomputable section
namespace Cert.AttnRefVal
open Cert.AttnRefIdeal Cert.AttnRefIdeal.Gen Cert.AttnRefIdeal.Read Cert.AttnMath Cert.AttnVals
open Cert.AttnHost (exp_masked fold_real coe_turn coe_turn' score)
open Idealize.ShloMosaic Idealize.ShloMosaic.TcCoe Idealize.SL.Sem

/-- Each row's greatest masked score is a real number. -/
theorem greatest {A : Arr} (SC : FVec Ideal S16x2048x2048 .f32)
    (hS : ∀ (h : Fin 16) (i j : Fin 2048), SC (ix3 h i j) = if j.val ≤ i.val then ((A.S h i j : ℝ) : EReal) else ⊥) (h : Fin 16) (i : Fin 2048) :
    ∃ M : ℝ, (Host.reduce FloatOps.maximumf SC (val_main_cst_1 (F := Ideal)) reducesTo_S16x2048x2048_S16x2048_d2 h_S_ : FVec Ideal S16x2048 .f32) (ix2 h i) = ((M : ℝ) : EReal) := by
  rw [Host.reduce_eq_fold_single (a := 2) _ _ _ _ (by decide : S16x2048x2048.Reduces [2] S16x2048)]
  have hl : (SC ∘ (by decide : S16x2048x2048.Reduces [2] S16x2048).lift (ix2 h i)) = fun j : Fin 2048 => SC (ix3 h i j) := by
    funext j
    refine congrArg SC ?_
    funext a
    revert a
    exact (by intro a; fin_cases a <;> rfl)
  obtain ⟨M, hM⟩ := fold_real (n := 2048) (by decide) (fun j : Fin 2048 => SC (ix3 h i j)) (by rw [hS, if_pos (Nat.zero_le _)]; exact EReal.coe_ne_bot _)
    (fun j => by rw [hS]; split <;> simp)
  refine ⟨M, ?_⟩
  refine Eq.trans ?_ hM
  rw [← Cert.AttnHost.neg_inf]
  exact congrArg (Finset.fold _ _ · _) hl

variable {x0 : FVec Ideal S2048x2048 .bf16} {x1 : FVec Ideal S2048x1024 .bf16} {x2 : FVec Ideal S2048x4096 .bf16}
variable {x3 : FVec Ideal S2048x64 .bf16} {x4 x5 : FVec Ideal S2048x32 .f32} {x6 : FVec Ideal S2048x2048 .bf16}
variable {a0 a1 a2 a3 cs sn a6 : ℕ → ℕ → ℝ} {s : ℝ}
variable (h0 : ∀ (i : Fin 2048) (l : Fin 2048), x0 (ix2 i l) = ((a0 i l : ℝ) : EReal))
variable (h1 : ∀ (i : Fin 2048) (l : Fin 1024), x1 (ix2 i l) = ((a1 i l : ℝ) : EReal))
variable (h2 : ∀ (i : Fin 2048) (l : Fin 4096), x2 (ix2 i l) = ((a2 i l : ℝ) : EReal))
variable (h3 : ∀ (i : Fin 2048) (l : Fin 64), x3 (ix2 i l) = ((a3 i l : ℝ) : EReal))
variable (h4 : ∀ (i : Fin 2048) (l : Fin 32), x4 (ix2 i l) = ((cs i l : ℝ) : EReal))
variable (h5 : ∀ (i : Fin 2048) (l : Fin 32), x5 (ix2 i l) = ((sn i l : ℝ) : EReal))
variable (h6 : ∀ (i : Fin 2048) (l : Fin 2048), x6 (ix2 i l) = ((a6 i l : ℝ) : EReal))
variable (hs : Ideal.ofBits FTy.f32 1033096506#32 = ((s : ℝ) : EReal))

/-! ## Queries, keys and scores -/

include h0 h1 h4 h5 in
theorem query (i : Fin 2048) (h : Fin 16) (x : Fin 192) : val_main_v32 (F := Ideal) x0 x1 x4 x5 (ix3 i h x)
    = ((if x.val < 128 then (arr a0 a1 a2 a3 cs sn a6 s).qn h i x else (arr a0 a1 a2 a3 cs sn a6 s).qr h i (x - 128) : ℝ) : EReal) := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v13, val_main_v12]
  simp only [h0, h1, h4, h5, coe_turn, coe_turn']
  unfold arr turn
  dsimp only
  split
  · rfl
  · split <;> rfl

include h2 h3 h4 h5 in
theorem key (j : Fin 2048) (h : Fin 16) (x : Fin 192) : val_main_v35 (F := Ideal) x2 x3 x4 x5 (ix3 j h x)
    = ((if x.val < 128 then (arr a0 a1 a2 a3 cs sn a6 s).kn h j x else (arr a0 a1 a2 a3 cs sn a6 s).kr j (x - 128) : ℝ) : EReal) := by
  pointwise [val_main_v35, val_main_v34, val_main_v33, val_main_v14, val_main_v11, val_main_v10, val_main_v9, val_main_v8, val_main_v7, val_main_v6, val_main_v5, val_main_v4, val_main_v3, val_main_v2, val_main_v1, val_main_v0]
  simp only [h2, h3, h4, h5, coe_turn, coe_turn']
  unfold arr turn
  dsimp only
  split
  · rfl
  · split <;> rfl

theorem mask (h : Fin 16) (i j : Fin 2048) : (val_main_v46_1 (F := Ideal) : IVec S16x2048x2048 1) (ix3 h i j) = 1#1 ↔ j.val ≤ i.val := by
  pointwise [val_main_v46_1, val_main_v45, val_main_v44, val_main_v43, val_main_v42, val_main_v41, val_main_v40, val_main_v39]
  have hi := i.isLt
  have hj := j.isLt
  word_cmp

include h0 h1 h2 h3 h4 h5 hs in
theorem scores (h : Fin 16) (i j : Fin 2048) : val_main_v46_0 (F := Ideal) x0 x1 x2 x3 x4 x5 (ix3 h i j)
    = if j.val ≤ i.val then (((arr a0 a1 a2 a3 cs sn a6 s).S h i j : ℝ) : EReal) else ⊥ := by
  have e : val_main_v46_0 (F := Ideal) x0 x1 x2 x3 x4 x5 (ix3 h i j)
      = if (val_main_v46_1 (F := Ideal) : IVec S16x2048x2048 1) (ix3 h i j) = 1#1 then val_main_v38 (F := Ideal) x0 x1 x2 x3 x4 x5 (ix3 h i j) else (⊥ : EReal) := by
    pointwise [val_main_v46_0, val_main_call0_v2, val_main_call0_v0, val_main_cst_0]
    exact congrArg (Scalar.select _ _) Cert.AttnHost.neg_inf
  rw [e]
  by_cases hj : j.val ≤ i.val
  · rw [if_pos hj, if_pos ((mask h i j).2 hj)]
    pointwise [val_main_v38, val_main_v37, val_main_cst, val_main_v36]
    refine (congrArg (_ * ·) hs).trans ?_
    exact score (arr a0 a1 a2 a3 cs sn a6 s) h i j _ _ (fun x => query h0 h1 h4 h5 i h x) (fun x => key h2 h3 h4 h5 j h x)
  · rw [if_neg hj, if_neg (fun e => hj ((mask h i j).1 e))]

include h0 h1 h2 h3 h4 h5 hs in
theorem top (h : Fin 16) (i : Fin 2048) : ∃ M : ℝ, val_main_v49 (F := Ideal) x0 x1 x2 x3 x4 x5 (ix2 h i) = ((M : ℝ) : EReal) := by
  unfold val_main_v49
  exact greatest _ (scores (a6 := a0) h0 h1 h2 h3 h4 h5 hs) h i

theorem cap (X : FVec Ideal S16x2048 .f32) (h : Fin 16) (i : Fin 2048) : maximumf (val_main_v55 (F := Ideal)) X (ix2 h i) = X (ix2 h i) := by
  pointwise [val_main_v55, val_main_cst_3]
  rw [Cert.AttnHost.neg_inf]
  exact bot_sup_eq _

include h0 h1 h2 h3 h4 h5 hs in
/-- The number subtracted from each row of scores is real. -/
theorem shift : ∃ M : Fin 16 → Fin 2048 → ℝ, ∀ h i, val_main_v56 (F := Ideal) x0 x1 x2 x3 x4 x5 (ix2 h i) = ((M h i : ℝ) : EReal) := by
  choose M hM using top h0 h1 h2 h3 h4 h5 hs
  refine ⟨M, fun h i => ?_⟩
  unfold val_main_v56
  exact (cap _ h i).trans (hM h i)

/-! ## The softmax -/

section
variable {M : Fin 16 → Fin 2048 → ℝ} (hM : ∀ h i, val_main_v56 (F := Ideal) x0 x1 x2 x3 x4 x5 (ix2 h i) = ((M h i : ℝ) : EReal))

include h0 h1 h2 h3 h4 h5 hs hM in
theorem exps (h : Fin 16) (i j : Fin 2048) : val_main_v69 (F := Ideal) x0 x1 x2 x3 x4 x5 (ix3 h i j)
    = (((arr a0 a1 a2 a3 cs sn a6 s).E (M h i) h i j : ℝ) : EReal) := by
  pointwise [val_main_v69, val_main_v68, val_main_v67, val_main_v66]
  rw [hM, scores (a6 := a6) h0 h1 h2 h3 h4 h5 hs]
  exact exp_masked _ _ _ _ _

include h0 h1 h2 h3 h4 h5 hs hM in
theorem total (h : Fin 16) (i : Fin 2048) : val_main_v71 (F := Ideal) x0 x1 x2 x3 x4 x5 (ix3 h i (0 : Fin 1))
    = ((∑ j : Fin 2048, (arr a0 a1 a2 a3 cs sn a6 s).E (M h i) h i j : ℝ) : EReal) := by
  pointwise [val_main_v71, val_main_v70, val_main_cst_9]
  rw [coe_sum]
  exact Finset.sum_congr rfl fun j _ => exps h0 h1 h2 h3 h4 h5 hs hM h i j

include h0 h1 h2 h3 h4 h5 hs hM in
theorem probs (h : Fin 16) (i j : Fin 2048) : val_main_v73 (F := Ideal) x0 x1 x2 x3 x4 x5 (ix3 h i j)
    = (((arr a0 a1 a2 a3 cs sn a6 s).P h i j : ℝ) : EReal) := by
  pointwise [val_main_v73, val_main_v72]
  rw [exps (a6 := a6) h0 h1 h2 h3 h4 h5 hs hM, total (a6 := a6) h0 h1 h2 h3 h4 h5 hs hM]
  refine (Ideal.div_coe (Arr.sum_E_pos _ _ _ _).ne' _).trans ?_
  rw [← EReal.coe_mul, ← Arr.softmax _ (M h i)]
  refine congrArg _ ?_
  ring

include h0 h1 h2 h3 h4 h5 hs hM in
theorem inverse (h : Fin 16) (i : Fin 2048) : val_main_v76 (F := Ideal) x0 x1 x2 x3 x4 x5 (ix3 h i (0 : Fin 1))
    = ((1 / ((∑ j : Fin 2048, (arr a0 a1 a2 a3 cs sn a6 s).E (M h i) h i j) * (∑ j : Fin 2048, (arr a0 a1 a2 a3 cs sn a6 s).E (M h i) h i j)) : ℝ) : EReal) := by
  pointwise [val_main_v76, val_main_v75, val_main_cst_10, val_main_v74]
  rw [total (a6 := a6) h0 h1 h2 h3 h4 h5 hs hM, ← EReal.coe_mul]
  have hp := (Arr.sum_E_pos (arr a0 a1 a2 a3 cs sn a6 s) (M h i) h i).ne'
  refine (Ideal.div_coe (mul_ne_zero hp hp) _).trans ?_
  exact one_mul _

/-! ## The gradient before the softmax, and through it -/

include h6 in
theorem grad_in (h : Fin 16) (d : Fin 128) (i : Fin 2048) : val_main_v82 (F := Ideal) x6 (ix3 h d i)
    = (((arr a0 a1 a2 a3 cs sn a6 s).g h i d : ℝ) : EReal) := by
  pointwise [val_main_v82, val_main_v81, val_main_v80]
  exact h6 _ _

include h2 in
theorem values (j : Fin 2048) (h : Fin 16) (d : Fin 128) : val_main_v48 (F := Ideal) x2 (ix3 j h d)
    = (((arr a0 a1 a2 a3 cs sn a6 s).v h j d : ℝ) : EReal) := by
  pointwise [val_main_v48, val_main_v47, val_main_v33, val_main_v14]
  exact h2 _ _

include h2 h6 in
theorem before (h : Fin 16) (i j : Fin 2048) : val_main_v83 (F := Ideal) x2 x6 (ix3 h i j)
    = (((arr a0 a1 a2 a3 cs sn a6 s).DP h i j : ℝ) : EReal) := by
  pointwise [val_main_v83]
  unfold Arr.DP
  rw [coe_sum]
  refine Finset.sum_congr rfl fun d _ => ?_
  rw [grad_in (a0 := a0) (a1 := a1) (a2 := a2) (a3 := a3) (cs := cs) (sn := sn) (s := s) h6, values (a0 := a0) (a1 := a1) (a3 := a3) (cs := cs) (sn := sn) (a6 := a6) (s := s) h2, ← EReal.coe_mul]

end

end Cert.AttnRefVal
end
-- ==== Proof.AttnRefGrad.lean ====
module
public import proofs.«01_k».proof.Proof.AttnRefVal

/-! # The reference's gradient of the scores -/

@[expose] public section
set_option maxRecDepth 16384
noncomputable section
namespace Cert.AttnRefGrad
open Cert.AttnRefIdeal Cert.AttnRefIdeal.Gen Cert.AttnRefIdeal.Read Cert.AttnMath Cert.AttnVals Cert.AttnRefVal
open Idealize.ShloMosaic Idealize.ShloMosaic.TcCoe Idealize.SL.Sem

/-- The gradient through a quotient of exponentials, in one row. -/
theorem quot_coe (E D : Fin 2048 → ℝ) (Z : ℝ) (hZ : Z ≠ 0) (j : Fin 2048) :
    (Ideal.div ((D j : ℝ) : EReal) (Z : EReal) + ∑ _x : Fin 1, -(∑ k, ((D k : ℝ) : EReal) * ((1 / (Z * Z) : ℝ) : EReal) * ((E k : ℝ) : EReal))) * ((E j : ℝ) : EReal)
      = (((D j / Z + -(∑ k, D k * (1 / (Z * Z)) * E k)) * E j : ℝ) : EReal) := by
  rw [Fin.sum_univ_one, Ideal.div_coe hZ, EReal.coe_mul, EReal.coe_add, EReal.coe_neg, coe_sum]
  simp only [EReal.coe_mul, div_eq_mul_inv, one_mul]

variable {x0 : FVec Ideal S2048x2048 .bf16} {x1 : FVec Ideal S2048x1024 .bf16} {x2 : FVec Ideal S2048x4096 .bf16}
variable {x3 : FVec Ideal S2048x64 .bf16} {x4 x5 : FVec Ideal S2048x32 .f32} {x6 : FVec Ideal S2048x2048 .bf16}
variable {a0 a1 a2 a3 cs sn a6 : ℕ → ℕ → ℝ} {s : ℝ}
variable (h0 : ∀ (i : Fin 2048) (l : Fin 2048), x0 (ix2 i l) = ((a0 i l : ℝ) : EReal))
variable (h1 : ∀ (i : Fin 2048) (l : Fin 1024), x1 (ix2 i l) = ((a1 i l : ℝ) : EReal))
variable (h2 : ∀ (i : Fin 2048) (l : Fin 4096), x2 (ix2 i l) = ((a2 i l : ℝ) : EReal))
variable (h3 : ∀ (i : Fin 2048) (l : Fin 64), x3 (ix2 i l) = ((a3 i l : ℝ) : EReal))
variable (h4 : ∀ (i : Fin 2048) (l : Fin 32), x4 (ix2 i l) = ((cs i l : ℝ) : EReal))
variable (h5 : ∀ (i : Fin 2048) (l : Fin 32), x5 (ix2 i l) = ((sn i l : ℝ) : EReal))
variable (h6 : ∀ (i : Fin 2048) (l : Fin 2048), x6 (ix2 i l) = ((a6 i l : ℝ) : EReal))
variable (hs : Ideal.ofBits FTy.f32 1033096506#32 = ((s : ℝ) : EReal))

variable {M : Fin 16 → Fin 2048 → ℝ} (hM : ∀ h i, val_main_v56 (F := Ideal) x0 x1 x2 x3 x4 x5 (ix2 h i) = ((M h i : ℝ) : EReal))

set_option maxHeartbeats 2000000 in
include h0 h1 h2 h3 h4 h5 h6 hs hM in
theorem through (h : Fin 16) (i j : Fin 2048) : val_main_v102 (F := Ideal) x0 x1 x2 x3 x4 x5 x6 (ix3 h i j)
    = (((arr a0 a1 a2 a3 cs sn a6 s).dS h i j : ℝ) : EReal) := by
  have hE := exps (a6 := a6) h0 h1 h2 h3 h4 h5 hs hM
  have hL := total (a6 := a6) h0 h1 h2 h3 h4 h5 hs hM
  have hI := inverse (a6 := a6) h0 h1 h2 h3 h4 h5 hs hM
  have hD := before (a0 := a0) (a1 := a1) (a3 := a3) (cs := cs) (sn := sn) (s := s) h2 h6
  have e : val_main_v97 (F := Ideal) x0 x1 x2 x3 x4 x5 x6 (ix3 h i j)
      = ((((arr a0 a1 a2 a3 cs sn a6 s).DP h i j / (∑ j' : Fin 2048, (arr a0 a1 a2 a3 cs sn a6 s).E (M h i) h i j')
        + -(∑ j₁ : Fin 2048, (arr a0 a1 a2 a3 cs sn a6 s).DP h i j₁ * (1 / ((∑ j' : Fin 2048, (arr a0 a1 a2 a3 cs sn a6 s).E (M h i) h i j') * (∑ j' : Fin 2048, (arr a0 a1 a2 a3 cs sn a6 s).E (M h i) h i j'))) * (arr a0 a1 a2 a3 cs sn a6 s).E (M h i) h i j₁))
          * (arr a0 a1 a2 a3 cs sn a6 s).E (M h i) h i j : ℝ) : EReal) := by
    pointwise [val_main_v97, val_main_v96, val_main_v95, val_main_v94, val_main_cst_12, val_main_v93, val_main_v92, val_main_v91, val_main_v90, val_main_v89, val_main_cst_11, val_main_v88, val_main_v87, val_main_v86]
    simp only [hE, hI, hD, hL]
    exact quot_coe (fun j => (arr a0 a1 a2 a3 cs sn a6 s).E (M h i) h i j) (fun j => (arr a0 a1 a2 a3 cs sn a6 s).DP h i j) _ (Arr.sum_E_pos _ _ _ _).ne' j
  have e' : val_main_v100 (F := Ideal) x0 x1 x2 x3 x4 x5 x6 (ix3 h i j)
      = (if (val_main_v46_1 (F := Ideal) : IVec S16x2048x2048 1) (ix3 h i j) = 1#1 then val_main_v97 (F := Ideal) x0 x1 x2 x3 x4 x5 x6 (ix3 h i j) else (0 : EReal)) := by
    pointwise [val_main_v100, val_main_call1_v0, val_main_call1_cst]
    rfl
  pointwise [val_main_v102, val_main_v101, val_main_cst_14]
  rw [e', hs]
  by_cases hj : j.val ≤ i.val
  · rw [if_pos ((mask h i j).2 hj), e, ← EReal.coe_mul]
    exact congrArg _ (Arr.quotient (arr a0 a1 a2 a3 cs sn a6 s) (M h i) h i j)
  · rw [if_neg (fun e => hj ((mask h i j).1 e)), zero_mul, Arr.dS_of_lt _ (by omega)]
    exact EReal.coe_zero.symm

end Cert.AttnRefGrad
end
-- ==== Proof.AttnRefOut.lean ====
module
public import proofs.«01_k».proof.Proof.AttnRefGrad

/-! # The reference's four results -/

@[expose] public section
set_option maxRecDepth 16384
noncomputable section
namespace Cert.AttnRefOut
open Cert.AttnRefIdeal Cert.AttnRefIdeal.Gen Cert.AttnRefIdeal.Read Cert.AttnMath Cert.AttnVals Cert.AttnRefVal Cert.AttnRefGrad
open Cert.AttnHost (coe_turn coe_turn')
open Idealize.ShloMosaic Idealize.ShloMosaic.TcCoe Idealize.SL.Sem

variable {x0 : FVec Ideal S2048x2048 .bf16} {x1 : FVec Ideal S2048x1024 .bf16} {x2 : FVec Ideal S2048x4096 .bf16}
variable {x3 : FVec Ideal S2048x64 .bf16} {x4 x5 : FVec Ideal S2048x32 .f32} {x6 : FVec Ideal S2048x2048 .bf16}
variable {a0 a1 a2 a3 cs sn a6 : ℕ → ℕ → ℝ} {s : ℝ}
variable (h0 : ∀ (i : Fin 2048) (l : Fin 2048), x0 (ix2 i l) = ((a0 i l : ℝ) : EReal))
variable (h1 : ∀ (i : Fin 2048) (l : Fin 1024), x1 (ix2 i l) = ((a1 i l : ℝ) : EReal))
variable (h2 : ∀ (i : Fin 2048) (l : Fin 4096), x2 (ix2 i l) = ((a2 i l : ℝ) : EReal))
variable (h3 : ∀ (i : Fin 2048) (l : Fin 64), x3 (ix2 i l) = ((a3 i l : ℝ) : EReal))
variable (h4 : ∀ (i : Fin 2048) (l : Fin 32), x4 (ix2 i l) = ((cs i l : ℝ) : EReal))
variable (h5 : ∀ (i : Fin 2048) (l : Fin 32), x5 (ix2 i l) = ((sn i l : ℝ) : EReal))
variable (h6 : ∀ (i : Fin 2048) (l : Fin 2048), x6 (ix2 i l) = ((a6 i l : ℝ) : EReal))
variable (hs : Ideal.ofBits FTy.f32 1033096506#32 = ((s : ℝ) : EReal))

variable {M : Fin 16 → Fin 2048 → ℝ} (hM : ∀ h i, val_main_v56 (F := Ideal) x0 x1 x2 x3 x4 x5 (ix2 h i) = ((M h i : ℝ) : EReal))

include h0 h1 h2 h3 h4 h5 h6 hs hM in
theorem by_keys (j : Fin 2048) (h : Fin 16) (x : Fin 192) : val_main_v104 (F := Ideal) x0 x1 x2 x3 x4 x5 x6 (ix3 j h x)
    = ((∑ i : Fin 2048, (arr a0 a1 a2 a3 cs sn a6 s).dS h i j
        * (if x.val < 128 then (arr a0 a1 a2 a3 cs sn a6 s).qn h i x else (arr a0 a1 a2 a3 cs sn a6 s).qr h i (x - 128)) : ℝ) : EReal) := by
  pointwise [val_main_v104, val_main_v103]
  rw [coe_sum]
  refine Finset.sum_congr rfl fun i _ => ?_
  rw [through h0 h1 h2 h3 h4 h5 h6 hs hM, query (a2 := a2) (a3 := a3) (a6 := a6) (s := s) h0 h1 h4 h5, ← EReal.coe_mul]

include h0 h1 h2 h3 h4 h5 h6 hs hM in
theorem by_queries (i : Fin 2048) (h : Fin 16) (x : Fin 192) : val_main_v106 (F := Ideal) x0 x1 x2 x3 x4 x5 x6 (ix3 i h x)
    = ((∑ j : Fin 2048, (arr a0 a1 a2 a3 cs sn a6 s).dS h i j
        * (if x.val < 128 then (arr a0 a1 a2 a3 cs sn a6 s).kn h j x else (arr a0 a1 a2 a3 cs sn a6 s).kr j (x - 128)) : ℝ) : EReal) := by
  pointwise [val_main_v106, val_main_v105]
  rw [coe_sum]
  refine Finset.sum_congr rfl fun j _ => ?_
  rw [through h0 h1 h2 h3 h4 h5 h6 hs hM, key (a0 := a0) (a1 := a1) (a6 := a6) (s := s) h2 h3 h4 h5, ← EReal.coe_mul]

include h0 h1 h2 h3 h4 h5 h6 hs hM in
theorem by_values (j : Fin 2048) (h : Fin 16) (d : Fin 128) : val_main_v85 (F := Ideal) x0 x1 x2 x3 x4 x5 x6 (ix3 j h d)
    = ((∑ i : Fin 2048, (arr a0 a1 a2 a3 cs sn a6 s).P h i j * (arr a0 a1 a2 a3 cs sn a6 s).g h i d : ℝ) : EReal) := by
  pointwise [val_main_v85, val_main_v84]
  rw [coe_sum]
  refine Finset.sum_congr rfl fun i _ => ?_
  rw [probs (a6 := a6) h0 h1 h2 h3 h4 h5 hs hM, grad_in (a0 := a0) (a1 := a1) (a2 := a2) (a3 := a3) (cs := cs) (sn := sn) (s := s) h6, ← EReal.coe_mul, mul_comm]

include h0 h1 h2 h3 h4 h5 h6 hs hM in
theorem out_qn (i l : Fin 2048) : val_main_v130 (F := Ideal) x0 x1 x2 x3 x4 x5 x6 (ix2 i l)
    = ((dqn (arr a0 a1 a2 a3 cs sn a6 s) i l : ℝ) : EReal) := by
  pointwise [val_main_v130, val_main_v114, val_main_v112]
  refine (by_queries h0 h1 h2 h3 h4 h5 h6 hs hM i ⟨l / 128, by omega⟩ ⟨l % 128, by omega⟩).trans ?_
  unfold dqn
  refine congrArg _ (Finset.sum_congr rfl fun j _ => ?_)
  rw [if_pos (Nat.mod_lt _ (by decide))]

include h0 h1 h2 h3 h4 h5 h6 hs hM in
theorem half (i : Fin 2048) (h : Fin 16) (r : Fin 64) : val_main_v113 (F := Ideal) x0 x1 x2 x3 x4 x5 x6 (ix3 i h r)
    = ((∑ j : Fin 2048, (arr a0 a1 a2 a3 cs sn a6 s).dS h i j * (arr a0 a1 a2 a3 cs sn a6 s).kr j r : ℝ) : EReal) := by
  pointwise [val_main_v113]
  refine (by_queries h0 h1 h2 h3 h4 h5 h6 hs hM i h ⟨128 + r, by omega⟩).trans ?_
  refine congrArg _ (Finset.sum_congr rfl fun j _ => ?_)
  rw [if_neg (show ¬ 128 + (r : ℕ) < 128 by omega), Nat.add_sub_cancel_left]

include h0 h1 h2 h3 h4 h5 h6 hs hM in
theorem out_qp (i : Fin 2048) (l : Fin 1024) : val_main_v131 (F := Ideal) x0 x1 x2 x3 x4 x5 x6 (ix2 i l)
    = ((dqp (arr a0 a1 a2 a3 cs sn a6 s) cs sn i l : ℝ) : EReal) := by
  have hH := half h0 h1 h2 h3 h4 h5 h6 hs hM
  pointwise [val_main_v131, val_main_v129, val_main_v128, val_main_v127, val_main_v126, val_main_v125, val_main_v124, val_main_v123, val_main_v122, val_main_v121, val_main_v120, val_main_v119, val_main_v118, val_main_v117, val_main_v116, val_main_v115, val_main_v19, val_main_v18, val_main_v17, val_main_v16]
  simp only [hH, h4, h5]
  unfold dqp back
  dsimp only
  by_cases h : (l : ℕ) % 64 < 32
  · rw [dif_pos h, if_pos h, ← EReal.coe_mul, ← EReal.coe_mul, ← EReal.coe_add, Nat.add_comm 32, add_comm]
  · rw [dif_neg h, if_neg h, ← EReal.coe_neg, ← EReal.coe_mul, ← EReal.coe_mul, ← EReal.coe_add, show 32 + ((l : ℕ) % 64 - 32) = l % 64 by omega, neg_mul, ← sub_eq_add_neg]

include h0 h1 h2 h3 h4 h5 h6 hs hM in
theorem out_kv (j : Fin 2048) (l : Fin 4096) : val_main_v132 (F := Ideal) x0 x1 x2 x3 x4 x5 x6 (ix2 j l)
    = ((dkv (arr a0 a1 a2 a3 cs sn a6 s) j l : ℝ) : EReal) := by
  have hK := by_keys h0 h1 h2 h3 h4 h5 h6 hs hM
  have hV := by_values h0 h1 h2 h3 h4 h5 h6 hs hM
  pointwise [val_main_v132, val_main_v111, val_main_v110, val_main_v109, val_main_v107, val_main_v99, val_main_v98, val_main_cst_13, val_main_cst_15]
  simp only [hK, hV]
  have hl := l.isLt
  unfold dkv
  by_cases h : (l : ℕ) % 256 < 128
  · rw [dif_neg (fun e => absurd e.2.1 (by omega)), dif_pos ⟨by omega, h⟩, if_pos h, zero_add]
    refine congrArg _ (Finset.sum_congr rfl fun i _ => ?_)
    rw [if_pos h]
  · rw [dif_pos ⟨by omega, by omega, by omega⟩, dif_neg (fun e => h e.2), if_neg h, add_zero]

include h0 h1 h2 h3 h4 h5 h6 hs hM in
theorem out_kp (p : Fin 8) (j : Fin 2048) (l : Fin 128) : val_main_v134 (F := Ideal) x0 x1 x2 x3 x4 x5 x6 (ix3 p j l)
    = ((dkp (arr a0 a1 a2 a3 cs sn a6 s) p j l : ℝ) : EReal) := by
  have hK := by_keys h0 h1 h2 h3 h4 h5 h6 hs hM
  pointwise [val_main_v134, val_main_v133, val_main_v108]
  rw [hK]
  unfold dkp
  refine congrArg _ (Finset.sum_congr rfl fun i _ => ?_)
  have e : (p : ℕ) * 2 + l / 64 = 2 * p + l / 64 := by omega
  rw [if_neg (show ¬ 128 + (l : ℕ) % 64 < 128 by omega)]
  show (arr a0 a1 a2 a3 cs sn a6 s).dS (p * 2 + l / 64) i j * (arr a0 a1 a2 a3 cs sn a6 s).qr (p * 2 + l / 64) i (128 + l % 64 - 128) = _
  rw [e, Nat.add_sub_cancel_left]

end Cert.AttnRefOut
end
-- ==== Proof.AttnValue.lean ====
module
public import proofs.«01_k».proof.Defs
public import proofs.«01_k».proof.Proof.AttnEntry
public import proofs.«01_k».proof.Proof.AttnRefOut
public import proofs.«01_k».proof.Pre_attn_finite

/-! # The attention's backward call computes the reference's four gradients -/

@[expose] public section
set_option maxRecDepth 16384
noncomputable section
namespace Cert.AttnValue
open Idealize.ShloMosaic Idealize.ShloMosaic.TcCoe Idealize.SL.Sem

/-- The side conditions of the precondition's operations. -/
instance facts : Cert.Pre_attn_finite.Facts where
  bitsLt_bf16_f32 := by decide
  bcast_S_S2048x2048 := by decide
  bcast_S_S2048x1024 := by decide
  bcast_S_S2048x4096 := by decide
  bcast_S_S2048x64 := by decide
  bcast_S_S2048x32 := by decide

/-- A value that differs from itself by zero is a real number. -/
theorem real_of_sub (x : EReal) (h : x - x = 0) : ∃ r : ℝ, x = r := by
  induction x with
  | bot => simp at h
  | coe r => exact ⟨r, rfl⟩
  | top => simp at h

/-- A matrix of real entries, its indices as natural numbers. -/
theorem reals {n k : ℕ} (f : Fin n → Fin k → EReal) (h : ∀ p q, ∃ r : ℝ, f p q = r) : ∃ a : ℕ → ℕ → ℝ, ∀ p q, f p q = ((a p.val q.val : ℝ) : EReal) := by
  choose g hg using h
  refine ⟨fun p q => if h : p < n ∧ q < k then g ⟨p, h.1⟩ ⟨q, h.2⟩ else 0, fun p q => ?_⟩
  refine (hg p q).trans (congrArg _ ?_)
  dsimp only
  rw [dif_pos ⟨p.isLt, q.isLt⟩]

section
open Cert.AttnIdeal
variable (x0 x6 : FVec Ideal S2048x2048 .bf16) (x1 : FVec Ideal S2048x1024 .bf16) (x2 : FVec Ideal S2048x4096 .bf16)
variable (x3 : FVec Ideal S2048x64 .bf16) (x4 x5 : FVec Ideal S2048x32 .f32)

/-- The precondition, read entry by entry. -/
theorem finite (h : (Cert.Pre_attn_finite.fn (F := Ideal) x0 x1 x2 x3 x4 x5 x6).1 = (fun _ => 1#1)
      ∧ (Cert.Pre_attn_finite.fn (F := Ideal) x0 x1 x2 x3 x4 x5 x6).2.1 = (fun _ => 1#1)
      ∧ (Cert.Pre_attn_finite.fn (F := Ideal) x0 x1 x2 x3 x4 x5 x6).2.2.1 = (fun _ => 1#1)
      ∧ (Cert.Pre_attn_finite.fn (F := Ideal) x0 x1 x2 x3 x4 x5 x6).2.2.2.1 = (fun _ => 1#1)
      ∧ (Cert.Pre_attn_finite.fn (F := Ideal) x0 x1 x2 x3 x4 x5 x6).2.2.2.2.1 = (fun _ => 1#1)
      ∧ (Cert.Pre_attn_finite.fn (F := Ideal) x0 x1 x2 x3 x4 x5 x6).2.2.2.2.2.1 = (fun _ => 1#1)
      ∧ (Cert.Pre_attn_finite.fn (F := Ideal) x0 x1 x2 x3 x4 x5 x6).2.2.2.2.2.2 = (fun _ => 1#1)) :
    (∃ a : ℕ → ℕ → ℝ, ∀ (p : Fin 2048) (q : Fin 2048), x0 (ix2 p q) = ((a p q : ℝ) : EReal))
      ∧ (∃ a : ℕ → ℕ → ℝ, ∀ (p : Fin 2048) (q : Fin 1024), x1 (ix2 p q) = ((a p q : ℝ) : EReal))
      ∧ (∃ a : ℕ → ℕ → ℝ, ∀ (p : Fin 2048) (q : Fin 4096), x2 (ix2 p q) = ((a p q : ℝ) : EReal))
      ∧ (∃ a : ℕ → ℕ → ℝ, ∀ (p : Fin 2048) (q : Fin 64), x3 (ix2 p q) = ((a p q : ℝ) : EReal))
      ∧ (∃ a : ℕ → ℕ → ℝ, ∀ (p : Fin 2048) (q : Fin 32), x4 (ix2 p q) = ((a p q : ℝ) : EReal))
      ∧ (∃ a : ℕ → ℕ → ℝ, ∀ (p : Fin 2048) (q : Fin 32), x5 (ix2 p q) = ((a p q : ℝ) : EReal))
      ∧ (∃ a : ℕ → ℕ → ℝ, ∀ (p : Fin 2048) (q : Fin 2048), x6 (ix2 p q) = ((a p q : ℝ) : EReal)) := by
  obtain ⟨h0, h1, h2, h3, h4, h5, h6⟩ := h
  refine ⟨reals (fun p q => x0 (ix2 p q)) fun p q => ?_, reals (fun p q => x1 (ix2 p q)) fun p q => ?_, reals (fun p q => x2 (ix2 p q)) fun p q => ?_, reals (fun p q => x3 (ix2 p q)) fun p q => ?_, reals (fun p q => x4 (ix2 p q)) fun p q => ?_, reals (fun p q => x5 (ix2 p q)) fun p q => ?_, reals (fun p q => x6 (ix2 p q)) fun p q => ?_⟩
  · have h := congrFun h0 (ix2 p q)
    apply real_of_sub
    revert h
    pointwise [Cert.Pre_attn_finite.fn, Cert.Pre_attn_finite.fn_part1]
    intro h
    by_contra hn
    rw [decide_eq_false hn] at h
    exact absurd h (by decide)
  · have h := congrFun h1 (ix2 p q)
    apply real_of_sub
    revert h
    pointwise [Cert.Pre_attn_finite.fn, Cert.Pre_attn_finite.fn_part1]
    intro h
    by_contra hn
    rw [decide_eq_false hn] at h
    exact absurd h (by decide)
  · have h := congrFun h2 (ix2 p q)
    apply real_of_sub
    revert h
    pointwise [Cert.Pre_attn_finite.fn, Cert.Pre_attn_finite.fn_part1]
    intro h
    by_contra hn
    rw [decide_eq_false hn] at h
    exact absurd h (by decide)
  · have h := congrFun h3 (ix2 p q)
    apply real_of_sub
    revert h
    pointwise [Cert.Pre_attn_finite.fn, Cert.Pre_attn_finite.fn_part1]
    intro h
    by_contra hn
    rw [decide_eq_false hn] at h
    exact absurd h (by decide)
  · have h := congrFun h4 (ix2 p q)
    apply real_of_sub
    revert h
    pointwise [Cert.Pre_attn_finite.fn, Cert.Pre_attn_finite.fn_part1]
    intro h
    by_contra hn
    rw [decide_eq_false hn] at h
    exact absurd h (by decide)
  · have h := congrFun h5 (ix2 p q)
    apply real_of_sub
    revert h
    pointwise [Cert.Pre_attn_finite.fn, Cert.Pre_attn_finite.fn_part1]
    intro h
    by_contra hn
    rw [decide_eq_false hn] at h
    exact absurd h (by decide)
  · have h := congrFun h6 (ix2 p q)
    apply real_of_sub
    revert h
    pointwise [Cert.Pre_attn_finite.fn, Cert.Pre_attn_finite.fn_part1]
    intro h
    by_contra hn
    rw [decide_eq_false hn] at h
    exact absurd h (by decide)
end

section
open Cert.AttnIdeal Cert.AttnIdeal.Gen Cert.AttnIdeal.Body Cert.AttnVals Cert.AttnArrays

set_option maxHeartbeats 4000000 in
/-- The kernel's four final arrays as the reference's named stages, at finite arguments. -/
theorem finals (m : (ℓ : Loc nD τ sig) → Buf (Elt Ideal) ℓ) (hpre : Cert.Pre_AttnIdeal_attn_finite m) (c : Dev nD) :
    Cert.AttnRefIdeal.Read.val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 9 (cfgs 0).N
      ∧ Cert.AttnRefIdeal.Read.val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 10 (cfgs 0).N
      ∧ Cert.AttnRefIdeal.Read.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 11 (cfgs 0).N
      ∧ Cert.AttnRefIdeal.Read.val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (dats m 0 c).arrAt 12 (cfgs 0).N := by
  have hp := hpre c
  have hf := finite (m ((c : Thread nD τ).loc main_arg0)) (m ((c : Thread nD τ).loc main_arg6)) (m ((c : Thread nD τ).loc main_arg1)) (m ((c : Thread nD τ).loc main_arg2)) (m ((c : Thread nD τ).loc main_arg3)) (m ((c : Thread nD τ).loc main_arg4)) (m ((c : Thread nD τ).loc main_arg5)) hp
  obtain ⟨⟨a0, h0⟩, ⟨a1, h1⟩, ⟨a2, h2⟩, ⟨a3, h3⟩, ⟨cs, h4⟩, ⟨sn, h5⟩, ⟨a6, h6⟩⟩ := hf
  obtain ⟨s, hs⟩ := Cert.AttnHost.scale_real
  have E := Cert.AttnEntry.entry m c h0 h1 h2 h3 h4 h5 h6 hs
  obtain ⟨M, hM⟩ := Cert.AttnRefVal.shift h0 h1 h2 h3 h4 h5 hs
  refine ⟨Eq.trans ?_ (final9 E).symm, Eq.trans ?_ (final10 E).symm, Eq.trans ?_ (final11 E).symm, Eq.trans ?_ (final12 E).symm⟩
  · funext i
    idx_vars i
    exact Cert.AttnRefOut.out_qn h0 h1 h2 h3 h4 h5 h6 hs hM i0 i1
  · funext i
    idx_vars i
    exact Cert.AttnRefOut.out_qp h0 h1 h2 h3 h4 h5 h6 hs hM i0 i1
  · funext i
    idx_vars i
    exact Cert.AttnRefOut.out_kv h0 h1 h2 h3 h4 h5 h6 hs hM i0 i1
  · funext i
    idx_vars i
    exact Cert.AttnRefOut.out_kp h0 h1 h2 h3 h4 h5 h6 hs hM i0 i1 i2

section
variable (m : (ℓ : Loc nD τ sig) → Buf (Elt Ideal) ℓ) {r : PUnit × MemSt nD τ sig (Elt Ideal)} (h : Pipeline.FramePost cfgs (dats m) 0 (V m) r) (c : Dev nD)

include h
theorem final_qn : r.2.mem ((c.tc : Thread nD τ).loc main_v97_0) = (dats m 0 c).arrAt 9 (cfgs 0).N := (h c).1 9
theorem final_qp : r.2.mem ((c.tc : Thread nD τ).loc main_v97_1) = (dats m 0 c).arrAt 10 (cfgs 0).N := (h c).1 10
theorem final_kv : r.2.mem ((c.tc : Thread nD τ).loc main_v97_2) = (dats m 0 c).arrAt 11 (cfgs 0).N := (h c).1 11
theorem final_kp : r.2.mem ((c.tc : Thread nD τ).loc main_v97_3) = (dats m 0 c).arrAt 12 (cfgs 0).N := (h c).1 12
end

/-- The kernel's run: its four results are the final arrays, its arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v97_0) = (dats m 0 c).arrAt 9 (cfgs 0).N
      ∧ r.2.mem ((c.tc : Thread nD τ).loc main_v97_1) = (dats m 0 c).arrAt 10 (cfgs 0).N
      ∧ r.2.mem ((c.tc : Thread nD τ).loc main_v97_2) = (dats m 0 c).arrAt 11 (cfgs 0).N
      ∧ r.2.mem ((c.tc : Thread nD τ).loc main_v97_3) = (dats m 0 c).arrAt 12 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨final_qn m h.1 c, final_qp m h.1 c, final_kv m h.1 c, final_kp m h.1 c, h.2 c⟩)
    (θ_run_and (Cert.AttnIdeal.Body.run_main m ρ) (frame_of m ρ (dats m) (A_eq m) (Cert.AttnIdeal.Body.run_main m ρ)))

end

section
open Cert.AttnRefIdeal Cert.AttnRefIdeal.Value Cert.AttnRefIdeal.Read

/-- The reference's run, its results as the named stages. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v130) = val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v131) = val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v132) = val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v134) = val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => by
    obtain ⟨r0, r1, r2, r3, ra⟩ := h c
    exact ⟨r0.trans (val_main_v130_eq (StableHlo.launchContents m c)), r1.trans (val_main_v131_eq (StableHlo.launchContents m c)), r2.trans (val_main_v132_eq (StableHlo.launchContents m c)), r3.trans (val_main_v134_eq (StableHlo.launchContents m c)), ra⟩) (run (F := Ideal) m ρ)

end

set_option maxHeartbeats 2000000 in
/-- Under finite arguments the call's four results are the reference's. -/
theorem value : Cert.algebraic_AttnIdeal_AttnRefIdeal_pre_attn_finite := by
  intro m g m' g' hpre hargs
  refine ⟨fun c => (Cert.AttnIdeal.Body.dats m 0 c).arrAt 9 (Cert.AttnIdeal.cfgs 0).N, fun c => (Cert.AttnIdeal.Body.dats m 0 c).arrAt 10 (Cert.AttnIdeal.cfgs 0).N, fun c => (Cert.AttnIdeal.Body.dats m 0 c).arrAt 11 (Cert.AttnIdeal.cfgs 0).N, fun c => (Cert.AttnIdeal.Body.dats m 0 c).arrAt 12 (Cert.AttnIdeal.cfgs 0).N,
    kernel_run m g, ?_⟩
  refine (θ_run _ _ _).mono (fun r h c => ?_) (ref_run m' g')
  obtain ⟨r0, r1, r2, r3, ra⟩ := h c
  obtain ⟨b0, b1, b2, b3, b4, b5, b6⟩ := hargs c
  obtain ⟨e0, e1, e2, e3⟩ := finals m hpre c
  rw [b0, b1, b2, b3, b4, b5, b6] at r0 r1 r2 r3
  exact ⟨r0.trans e0, r1.trans e1, r2.trans e2, r3.trans e3, ra⟩

end Cert.AttnValue
end
-- ==== Proof.DownW.lean ====
module
public import proofs.«01_k».proof.Defs
public import proofs.«01_k».proof.Proof.Gen.DownWIdeal.Value
public import proofs.«01_k».proof.Proof.Gen.DownWRefIdeal.Run
public import proofs.«01_k».proof.Proof.Gen.DownWRefIdeal.Read
public import Idealize.ShloMosaic.Lib.Pipeline.ValueKit
public import Idealize.ShloMosaic.Lib.Claim
public import Idealize.ShloMosaic.Lib.Quiescent

/-! # The gradient of the down-projection's weight

Each grid point holds the whole token axis of 1408 hidden columns and 1024 model columns, so its block is the product's. -/

@[expose] public section
set_option maxRecDepth 16384
noncomputable section
namespace Cert.DownWClaim
open Idealize.ShloMosaic Idealize.ShloMosaic.TcCoe Idealize.SL.Sem

section
open Cert.DownWIdeal Cert.DownWIdeal.Gen

/-- The gradient of the weight: rows and incoming gradient contracted over the tokens. -/
def out (x : FVec Ideal S2048x5632 .bf16) (d : FVec Ideal S2048x2048 .bf16) : FVec Ideal S5632x2048 .bf16 :=
  fun i => ∑ k : Fin 2048, x (ix2 k (i 0)) * d (ix2 k (i 1))

theorem idx : ∀ t : Fin cfg0.N, win0_0.index t = ![0, t.val / 2] ∧ win0_1.index t = ![0, t.val % 2]
    ∧ win0_2.index t = ![t.val / 2, t.val % 2] ∧ t.val < 8 :=
  (by decide +kernel : ∀ t : Fin grid0.N, _)

theorem block (x0 : FVec Ideal S2048x1408 .bf16) (x1 : FVec Ideal S2048x1024 .bf16) (p : Fin 1408) (q : Fin 1024) :
    out0_2 (F := Ideal) x0 x1 (ix2 p q) = ∑ k : Fin 2048, x0 (ix2 k p) * x1 (ix2 k q) := by
  unfold out0_2
  canon_tiles y h
  idx_vars y
  obtain rfl : y0 = p := Fin.ext h0.symm
  obtain rfl : y1 = q := Fin.ext h1.symm
  pointwise [k0_pay1]

variable (m : (ℓ : Loc nD τ sig) → Buf (Elt Ideal) ℓ) (c : Dev nD) (t : Fin cfg0.N)

def row (t : Fin cfg0.N) (p : Fin 1408) : Fin 5632 := ⟨1408 * (t.val / 2) + p, by have := (idx t).2.2.2; omega⟩
def col (t : Fin cfg0.N) (q : Fin 1024) : Fin 2048 := ⟨1024 * (t.val % 2) + q, by omega⟩

theorem read0 (k : Fin 2048) (p : Fin 1408) : iblk m c 0 t (ix2 k p) = m ((c : Thread nD τ).loc main_arg0) (ix2 k (row t p)) := by
  blk_point [iblk, V, idx t, row]
theorem read1 (k : Fin 2048) (q : Fin 1024) : iblk m c 1 t (ix2 k q) = m ((c : Thread nD τ).loc main_arg2) (ix2 k (col t q)) := by
  blk_point [iblk, V, idx t, col]
theorem emb (p : Fin 1408) (q : Fin 1024) : ((cfg0.win 2).blk t).view.emb (ix2 p q) = ix2 (row t p) (col t q) := by
  blk_ext [idx t, row, col]

theorem final : (dats m 0 c).arrAt 2 (cfgs 0).N = out (m ((c : Thread nD τ).loc main_arg0)) (m ((c : Thread nD τ).loc main_arg2)) := by
  refine (dats m 0 c).arrAt_eq_of_covers 2 _ (by decide +kernel) fun t _ y => ?_
  idx_vars y
  refine Eq.trans ?_ (congrArg (out _ _) (emb t y0 y1)).symm
  blk_simp
  rw [after0_2, block]
  exact Fin.sum_fin_congr fun k => congrArg₂ _ (read0 m c t k y0) (read1 m c t k y1)

end

section
open Cert.DownWRefIdeal Cert.DownWRefIdeal.Value Cert.DownWRefIdeal.Read

/-- The reference runs, keeps its arguments, and has no semaphore to leave unsettled. -/
theorem ref_frame : Cert.quiescent_DownWRefIdeal := fun m ρ _ =>
  (θ_run _ _ _).mono (fun r h => And.intro (fun c => (h c).2) (sem_eq_zero_of_no_sems (by decide) r.2))
    (run (F := Ideal) m ρ)

theorem ref_out (x : FVec Ideal S2048x5632 .bf16) (d : FVec Ideal S2048x2048 .bf16) :
    val_main_v7 (F := Ideal) x d = out x d := by
  funext i
  idx_vars i
  pointwise [val_main_v7, val_main_v5, val_main_v4, val_main_v3, val_main_v0]
  unfold out
  exact Finset.sum_congr rfl fun k _ => mul_comm _ _

end

/-- The call's result is the reference's. -/
theorem value : Cert.algebraic_DownWIdeal_DownWRefIdeal := by
  intro m g m' g' _ hargs
  refine ⟨fun c => (Cert.DownWIdeal.Gen.dats m 0 c).arrAt 2 Cert.DownWIdeal.cfg0.N, Cert.DownWIdeal.Value.run_blocks m g, ?_⟩
  refine (θ_run _ _ _).mono (fun r h c => ?_) (Cert.DownWRefIdeal.Value.run (F := Ideal) m' g')
  obtain ⟨r0, ra⟩ := h c
  obtain ⟨a0, a1, a2⟩ := hargs c
  refine ⟨r0.trans ?_, ra⟩
  refine (Cert.DownWRefIdeal.Read.val_main_v7_eq _ _).trans ?_
  refine Eq.trans ?_ (final m c).symm
  refine (ref_out _ _).trans ?_
  exact congrArg₂ out a0 a2

end Cert.DownWClaim
end
-- ==== Proof.DownX.lean ====
module
public import proofs.«01_k».proof.Defs
public import proofs.«01_k».proof.Proof.Gen.DownXIdeal.Value
public import proofs.«01_k».proof.Proof.Gen.DownXRefIdeal.Run
public import proofs.«01_k».proof.Proof.Gen.DownXRefIdeal.Read
public import Idealize.ShloMosaic.Lib.Pipeline.ValueKit
public import Idealize.ShloMosaic.Lib.Claim
public import Idealize.ShloMosaic.Lib.Quiescent

/-! # The gradient of the down-projection's rows

Each grid point holds the whole model axis of 1024 tokens and 1408 hidden columns, so its block is the product's. -/

@[expose] public section
set_option maxRecDepth 16384
noncomputable section
namespace Cert.DownXClaim
open Idealize.ShloMosaic Idealize.ShloMosaic.TcCoe Idealize.SL.Sem

section
open Cert.DownXIdeal Cert.DownXIdeal.Gen

/-- The gradient of the rows: incoming gradient and weight contracted over the model columns. -/
def out (d : FVec Ideal S2048x2048 .bf16) (w : FVec Ideal S5632x2048 .bf16) : FVec Ideal S2048x5632 .bf16 :=
  fun i => ∑ k : Fin 2048, d (ix2 (i 0) k) * w (ix2 (i 1) k)

theorem idx : ∀ t : Fin cfg0.N, win0_0.index t = ![t.val / 4, 0] ∧ win0_1.index t = ![t.val % 4, 0]
    ∧ win0_2.index t = ![t.val / 4, t.val % 4] ∧ t.val < 8 :=
  (by decide +kernel : ∀ t : Fin grid0.N, _)

theorem block (x0 : FVec Ideal S1024x2048 .bf16) (x1 : FVec Ideal S1408x2048 .bf16) (p : Fin 1024) (q : Fin 1408) :
    out0_2 (F := Ideal) x0 x1 (ix2 p q) = ∑ k : Fin 2048, x0 (ix2 p k) * x1 (ix2 q k) := by
  unfold out0_2
  canon_tiles y h
  idx_vars y
  obtain rfl : y0 = p := Fin.ext h0.symm
  obtain rfl : y1 = q := Fin.ext h1.symm
  pointwise [k0_pay1]

variable (m : (ℓ : Loc nD τ sig) → Buf (Elt Ideal) ℓ) (c : Dev nD) (t : Fin cfg0.N)

def row (t : Fin cfg0.N) (p : Fin 1024) : Fin 2048 := ⟨1024 * (t.val / 4) + p, by have := (idx t).2.2.2; omega⟩
def col (t : Fin cfg0.N) (q : Fin 1408) : Fin 5632 := ⟨1408 * (t.val % 4) + q, by omega⟩

theorem read0 (p : Fin 1024) (k : Fin 2048) : iblk m c 0 t (ix2 p k) = m ((c : Thread nD τ).loc main_arg2) (ix2 (row t p) k) := by
  blk_point [iblk, V, idx t, row]
theorem read1 (q : Fin 1408) (k : Fin 2048) : iblk m c 1 t (ix2 q k) = m ((c : Thread nD τ).loc main_arg1) (ix2 (col t q) k) := by
  blk_point [iblk, V, idx t, col]
theorem emb (p : Fin 1024) (q : Fin 1408) : ((cfg0.win 2).blk t).view.emb (ix2 p q) = ix2 (row t p) (col t q) := by
  blk_ext [idx t, row, col]

theorem final : (dats m 0 c).arrAt 2 (cfgs 0).N = out (m ((c : Thread nD τ).loc main_arg2)) (m ((c : Thread nD τ).loc main_arg1)) := by
  refine (dats m 0 c).arrAt_eq_of_covers 2 _ (by decide +kernel) fun t _ y => ?_
  idx_vars y
  refine Eq.trans ?_ (congrArg (out _ _) (emb t y0 y1)).symm
  blk_simp
  rw [after0_2, block]
  exact Fin.sum_fin_congr fun k => congrArg₂ _ (read0 m c t y0 k) (read1 m c t y1 k)

end

section
open Cert.DownXRefIdeal Cert.DownXRefIdeal.Value Cert.DownXRefIdeal.Read

/-- The reference runs, keeps its arguments, and has no semaphore to leave unsettled. -/
theorem ref_frame : Cert.quiescent_DownXRefIdeal := fun m ρ _ =>
  (θ_run _ _ _).mono (fun r h => And.intro (fun c => (h c).2) (sem_eq_zero_of_no_sems (by decide) r.2))
    (run (F := Ideal) m ρ)

theorem ref_out (w : FVec Ideal S5632x2048 .bf16) (d : FVec Ideal S2048x2048 .bf16) :
    val_main_v7 (F := Ideal) w d = out d w := by
  funext i
  idx_vars i
  pointwise [val_main_v7, val_main_v6, val_main_v3, val_main_v1]
  rfl

end

/-- The call's result is the reference's. -/
theorem value : Cert.algebraic_DownXIdeal_DownXRefIdeal := by
  intro m g m' g' _ hargs
  refine ⟨fun c => (Cert.DownXIdeal.Gen.dats m 0 c).arrAt 2 Cert.DownXIdeal.cfg0.N, Cert.DownXIdeal.Value.run_blocks m g, ?_⟩
  refine (θ_run _ _ _).mono (fun r h c => ?_) (Cert.DownXRefIdeal.Value.run (F := Ideal) m' g')
  obtain ⟨r0, ra⟩ := h c
  obtain ⟨a0, a1, a2⟩ := hargs c
  refine ⟨r0.trans ?_, ra⟩
  refine (Cert.DownXRefIdeal.Read.val_main_v7_eq _ _).trans ?_
  refine Eq.trans ?_ (final m c).symm
  refine (ref_out _ _).trans ?_
  exact congrArg₂ out a2 a1

end Cert.DownXClaim
end
-- ==== Proof.UpW.lean ====
module
public import proofs.«01_k».proof.Defs
public import proofs.«01_k».proof.Proof.Gen.UpWIdeal.Value
public import proofs.«01_k».proof.Proof.Gen.UpWRefIdeal.Run
public import proofs.«01_k».proof.Proof.Gen.UpWRefIdeal.Read
public import Idealize.ShloMosaic.Lib.Pipeline.ValueKit
public import Idealize.ShloMosaic.Lib.Claim
public import Idealize.ShloMosaic.Lib.Quiescent

/-! # The gradient of the up-projection's weight

Each grid point holds the whole token axis of 1024 model columns and of one device's 1408 columns of the weight. The
incoming gradient comes as two halves of 5632 columns, four devices in each. -/

@[expose] public section
set_option maxRecDepth 16384
noncomputable section
namespace Cert.UpWClaim
open Idealize.ShloMosaic Idealize.ShloMosaic.TcCoe Idealize.SL.Sem

section
open Cert.UpWIdeal Cert.UpWIdeal.Gen

/-- Column `q` of device `s`. -/
def shard (s : Fin 8) (q : Fin 1408) : Fin 11264 := ⟨1408 * s.val + q.val, by omega⟩

/-- One device's columns of the gradient: rows and incoming gradient contracted over the tokens. -/
def outAt (x : FVec Ideal S2048x2048 .bf16) (d : FVec Ideal S2048x11264 .bf16) (s : Fin 8) (p : Fin 2048) (q : Fin 1408) : EReal :=
  ∑ k : Fin 2048, x (ix2 k p) * d (ix2 k (shard s q))
def out (x : FVec Ideal S2048x2048 .bf16) (d : FVec Ideal S2048x11264 .bf16) : FVec Ideal S8x2048x1408 .bf16 :=
  fun i => outAt x d (i 0) (i 1) (i 2)

theorem idx : ∀ t : Fin cfg0.N, win0_0.index t = ![0, t.val / 8] ∧ win0_1.index t = ![t.val % 8 / 4, 0, t.val % 8 % 4]
    ∧ win0_2.index t = ![t.val % 8, t.val / 8, 0] ∧ t.val < 16 :=
  (by decide +kernel : ∀ t : Fin grid0.N, _)

theorem block (x0 : FVec Ideal S2048x1024 .bf16) (x1 : FVec Ideal S1x2048x1408 .bf16) (s : Fin 1) (p : Fin 1024) (q : Fin 1408) :
    out0_2 (F := Ideal) x0 x1 (ix3 s p q) = ∑ k : Fin 2048, x0 (ix2 k p) * x1 (ix3 0 k q) := by
  unfold out0_2
  canon_tiles y h
  idx_vars y
  obtain rfl : y0 = 0 := Subsingleton.elim _ _
  obtain rfl : y1 = p := Fin.ext h1.symm
  obtain rfl : y2 = q := Fin.ext h2.symm
  pointwise [k0_pay1]

variable (m : (ℓ : Loc nD τ sig) → Buf (Elt Ideal) ℓ) (c : Dev nD) (t : Fin cfg0.N)

def dev (t : Fin cfg0.N) : Fin 8 := ⟨t.val % 8, by omega⟩
def half (t : Fin cfg0.N) : Fin 2 := ⟨t.val % 8 / 4, by omega⟩
def row (t : Fin cfg0.N) (p : Fin 1024) : Fin 2048 := ⟨1024 * (t.val / 8) + p, by have := (idx t).2.2.2; omega⟩
def col (t : Fin cfg0.N) (q : Fin 1408) : Fin 5632 := ⟨1408 * (t.val % 8 % 4) + q, by omega⟩

/-- What the launch finds in the stacked gradient. -/
theorem entry (b : Fin 2) (k : Fin 2048) (n : Fin 5632) : V m c main_v4 (ix3 b k n)
    = m ((c : Thread nD τ).loc main_arg2) (ix2 k ⟨5632 * b.val + n.val, by omega⟩) := by
  entry_read
  pointwise
  by_cases hb : b.val < 1
  · refine (dif_pos hb).trans ?_
    exact congrArg (fun n => m ((c : Thread nD τ).loc main_arg2) (ix2 k n)) (Fin.ext (by show n.val = 5632 * b.val + n.val; omega))
  · refine (dif_neg hb).trans ?_
    exact congrArg (fun n => m ((c : Thread nD τ).loc main_arg2) (ix2 k n)) (Fin.ext (by show 5632 + n.val = 5632 * b.val + n.val; omega))

theorem read0 (k : Fin 2048) (p : Fin 1024) : iblk m c 0 t (ix2 k p) = m ((c : Thread nD τ).loc main_arg0) (ix2 k (row t p)) := by
  blk_point [iblk, V, idx t, row]
theorem read1 (s : Fin 1) (k : Fin 2048) (q : Fin 1408) : iblk m c 1 t (ix3 s k q) = V m c main_v4 (ix3 (half t) k (col t q)) := by
  obtain rfl : s = 0 := Subsingleton.elim _ _
  blk_ext [iblk, idx t, half, col]
theorem emb (s : Fin 1) (p : Fin 1024) (q : Fin 1408) : ((cfg0.win 2).blk t).view.emb (ix3 s p q) = ix3 (dev t) (row t p) q := by
  obtain rfl : s = 0 := Subsingleton.elim _ _
  blk_ext [idx t, row, dev]

theorem final : (dats m 0 c).arrAt 2 (cfgs 0).N = out (m ((c : Thread nD τ).loc main_arg0)) (m ((c : Thread nD τ).loc main_arg2)) := by
  refine (dats m 0 c).arrAt_eq_of_covers 2 _ (by decide +kernel) fun t _ y => ?_
  idx_vars y
  refine Eq.trans ?_ (congrArg (out _ _) (emb t y0 y1 y2)).symm
  blk_simp
  rw [after0_2, block]
  show _ = outAt _ _ (dev t) (row t y1) y2
  unfold outAt
  refine Fin.sum_fin_congr fun k => congrArg₂ _ (read0 m c t k y1) ((read1 m c t 0 k y2).trans ((entry m c _ _ _).trans ?_))
  refine congrArg (fun n => m ((c : Thread nD τ).loc main_arg2) (ix2 k n)) (Fin.ext ?_)
  show 5632 * (t.val % 8 / 4) + (1408 * (t.val % 8 % 4) + y2.val) = 1408 * (t.val % 8) + y2.val
  omega

end

section
open Cert.UpWRefIdeal Cert.UpWRefIdeal.Value Cert.UpWRefIdeal.Read

/-- The reference runs, keeps its arguments, and has no semaphore to leave unsettled. -/
theorem ref_frame : Cert.quiescent_UpWRefIdeal := fun m ρ _ =>
  (θ_run _ _ _).mono (fun r h => And.intro (fun c => (h c).2) (sem_eq_zero_of_no_sems (by decide) r.2))
    (run (F := Ideal) m ρ)

theorem ref_out (x : FVec Ideal S2048x2048 .bf16) (d : FVec Ideal S2048x11264 .bf16) :
    val_main_v9 (F := Ideal) x d = out x d := by
  funext i
  idx_vars i
  show _ = outAt x d i0 i1 i2
  pointwise [val_main_v9, val_main_v8, val_main_v7, val_main_v5, val_main_v4, val_main_v3, val_main_v0]
  unfold outAt
  refine Finset.sum_congr rfl fun k _ => (mul_comm _ _).trans ?_
  exact congrArg (fun n => x (ix2 k i1) * d (ix2 k n)) (Fin.ext (congrArg (· + i2.val) (Nat.mul_comm _ _)))

end

/-- The call's result is the reference's. -/
theorem value : Cert.algebraic_UpWIdeal_UpWRefIdeal := by
  intro m g m' g' _ hargs
  refine ⟨fun c => (Cert.UpWIdeal.Gen.dats m 0 c).arrAt 2 Cert.UpWIdeal.cfg0.N, Cert.UpWIdeal.Value.run_blocks m g, ?_⟩
  refine (θ_run _ _ _).mono (fun r h c => ?_) (Cert.UpWRefIdeal.Value.run (F := Ideal) m' g')
  obtain ⟨r0, ra⟩ := h c
  obtain ⟨a0, a1, a2⟩ := hargs c
  refine ⟨r0.trans ?_, ra⟩
  refine (Cert.UpWRefIdeal.Read.val_main_v9_eq _ _).trans ?_
  refine Eq.trans ?_ (final m c).symm
  refine (ref_out _ _).trans ?_
  exact congrArg₂ out a0 a2

end Cert.UpWClaim
end
-- ==== Proof.UpX.lean ====
module
public import proofs.«01_k».proof.Defs
public import proofs.«01_k».proof.Proof.Gen.UpXIdeal.Value
public import proofs.«01_k».proof.Proof.Gen.UpXRefIdeal.Run
public import proofs.«01_k».proof.Proof.Gen.UpXRefIdeal.Read
public import Idealize.ShloMosaic.Lib.Pipeline.ValueKit
public import Idealize.ShloMosaic.Lib.Claim
public import Idealize.ShloMosaic.Lib.Quiescent

/-! # The gradient of the up-projection's rows

The 11264 columns are taken in four steps, each two devices' 1408, a scratch carrying the partial sums. The incoming
gradient comes as two halves, the weight as the devices' columns in pairs. -/

@[expose] public section
set_option maxRecDepth 16384
noncomputable section
namespace Cert.UpXClaim
open Idealize.ShloMosaic Idealize.ShloMosaic.TcCoe Idealize.SL.Sem

section
open Cert.UpXIdeal Cert.UpXIdeal.Gen

/-- The gradient: incoming gradient and weight contracted over the columns. -/
def outAt (w d : FVec Ideal S2048x11264 .bf16) (r n : Fin 2048) : EReal := ∑ l : Fin 11264, d (ix2 r l) * w (ix2 n l)
def out (w d : FVec Ideal S2048x11264 .bf16) : FVec Ideal S2048x2048 .bf16 := fun i => outAt w d (i 0) (i 1)

theorem idx : ∀ t : Fin cfg0.N, win0_0.index t = ![t.val % 4 / 2, t.val / 8, t.val % 2]
    ∧ win0_1.index t = ![t.val % 4, 0, t.val / 4 % 2, 0]
    ∧ win0_2.index t = ![t.val / 8, t.val / 4 % 2] ∧ t.val < 16 :=
  (by decide +kernel : ∀ t : Fin grid0.N, _)

/-- One step's share: the first device's columns and the second's. -/
def part (x0 : FVec Ideal S1x1024x2816 .bf16) (x1 : FVec Ideal S1x2x1024x1408 .bf16) (j : S1024x1024.Idx) : EReal :=
  ∑ s : Fin 2, ∑ k : Fin 1408, x0 (ix3 0 (j 0) ⟨1408 * s.val + k.val, by omega⟩) * x1 (ix4 0 s (j 1) k)

theorem pay1 (j : S1024x1024.Idx) : k0_pay1 (F := Ideal) j = 0 := by
  pointwise [k0_pay1]
/-- The payload over parts of the blocks: the halves of the gradient's columns, the two devices' columns of the weight. -/
theorem pay2 (acc : Vec Ideal S1024x1024 .f32) (x0 : FVec Ideal S1x1024x2816 .bf16) (x1 : FVec Ideal S1x2x1024x1408 .bf16)
    (a b : FVec Ideal S1x1024x1408 .bf16) (u v : FVec Ideal S1x1x1024x1408 .bf16)
    (ha : ∀ p k, a (ix3 0 p k) = x0 (ix3 0 p ⟨1408 * 0 + k.val, by omega⟩)) (hu : ∀ q k, u (ix4 0 0 q k) = x1 (ix4 0 0 q k))
    (hb : ∀ p k, b (ix3 0 p k) = x0 (ix3 0 p ⟨1408 * 1 + k.val, by omega⟩)) (hv : ∀ q k, v (ix4 0 0 q k) = x1 (ix4 0 1 q k))
    (j : S1024x1024.Idx) : k0_pay2 acc a u b v j = acc j + part x0 x1 j := by
  unfold part
  rw [Fin.sum_univ_two]
  idx_vars j
  refine Eq.trans ?_ (congrArg (acc _ + ·) (congrArg₂ _ (Fin.sum_fin_congr fun k => congrArg₂ _ (ha j0 k) (hu j1 k))
    (Fin.sum_fin_congr fun k => congrArg₂ _ (hb j0 k) (hv j1 k))))
  pointwise [k0_pay2]

/-! The four loads of a step. -/

theorem ld0 (x0 : FVec Ideal S1x1024x2816 .bf16) (p : Fin 1024) (k : Fin 1408) :
    View.ld (Val := Elt Ideal) (e' := .bf16) x0 (Rect.unit (s := S1x1024x2816) ![0, 0, 0] S1x1024x1408.size inb_S1x1024x2816_S1x1024x1408_0_0_0) (ix3 (0 : Fin 1) p k : S1x1024x1408.Idx) = x0 (ix3 0 p ⟨1408 * 0 + k.val, by omega⟩) :=
  congrArg x0 (by idx_ext)
theorem ld1 (x1 : FVec Ideal S1x2x1024x1408 .bf16) (q : Fin 1024) (k : Fin 1408) :
    View.ld (Val := Elt Ideal) (e' := .bf16) x1 (Rect.unit (s := S1x2x1024x1408) ![0, 0, 0, 0] S1x1x1024x1408.size inb_S1x2x1024x1408_S1x1x1024x1408_0_0_0_0) (ix4 (0 : Fin 1) (0 : Fin 1) q k : S1x1x1024x1408.Idx) = x1 (ix4 0 0 q k) :=
  congrArg x1 (by idx_ext)
theorem ld2 (x0 : FVec Ideal S1x1024x2816 .bf16) (p : Fin 1024) (k : Fin 1408) :
    View.ld (Val := Elt Ideal) (e' := .bf16) x0 (Rect.unit (s := S1x1024x2816) ![0, 0, 1408] S1x1024x1408.size inb_S1x1024x2816_S1x1024x1408_0_0_1408) (ix3 (0 : Fin 1) p k : S1x1024x1408.Idx) = x0 (ix3 0 p ⟨1408 * 1 + k.val, by omega⟩) :=
  congrArg x0 (by idx_ext)
theorem ld3 (x1 : FVec Ideal S1x2x1024x1408 .bf16) (q : Fin 1024) (k : Fin 1408) :
    View.ld (Val := Elt Ideal) (e' := .bf16) x1 (Rect.unit (s := S1x2x1024x1408) ![0, 1, 0, 0] S1x1x1024x1408.size inb_S1x2x1024x1408_S1x1x1024x1408_0_1_0_0) (ix4 (0 : Fin 1) (0 : Fin 1) q k : S1x1x1024x1408.Idx) = x1 (ix4 0 1 q k) :=
  congrArg x1 (by idx_ext)

theorem pay3 (a : Vec Ideal S1024x1024 .f32) (j : S1024x1024.Idx) : k0_pay3 a j = a j := by
  pointwise [k0_pay3]

variable (m : (ℓ : Loc nD τ sig) → Buf (Elt Ideal) ℓ) (c : Dev nD) (t : Fin cfg0.N)

/-- A block's first step. -/
theorem scratch_first (h : t.val % 4 = 0) (j : S1024x1024.Idx) :
    (outsAt0 m c t.val t.isLt).2 j = 0 + part (iblk m c 0 t) (iblk m c 1 t) j := by
  rw [outsAt0_A m c t h (by omega)]
  frame_out
  refine (pay2 _ (iblk m c 0 t) (iblk m c 1 t) _ _ _ _ ?_ ?_ ?_ ?_ j).trans ?_
  · intro p k; exact ld0 _ p k
  · intro q k; exact ld1 _ q k
  · intro p k; exact ld2 _ p k
  · intro q k; exact ld3 _ q k
  · rw [pay1]

/-- A later step. -/
theorem scratch_next (h : ¬t.val % 4 = 0) (j : S1024x1024.Idx) :
    (outsAt0 m c t.val t.isLt).2 j = (outsAt0 m c (t.val - 1) (Nat.lt_of_le_of_lt (Nat.sub_le _ _) t.isLt)).2 j
      + part (iblk m c 0 t) (iblk m c 1 t) j := by
  by_cases h' : t.val % 4 = 3
  · rw [outsAt0_C m c t h h']
    frame_out
    refine (pay2 _ (iblk m c 0 t) (iblk m c 1 t) _ _ _ _ ?_ ?_ ?_ ?_ j).trans ?_
    · intro p k; exact ld0 _ p k
    · intro q k; exact ld1 _ q k
    · intro p k; exact ld2 _ p k
    · intro q k; exact ld3 _ q k
    · exact congrArg (· + part (iblk m c 0 t) (iblk m c 1 t) j) (congrFun ((Memref.isWhole_whole cc0_scratch0).read_unread _) j)
  · rw [outsAt0_B m c t h h']
    frame_out
    refine (pay2 _ (iblk m c 0 t) (iblk m c 1 t) _ _ _ _ ?_ ?_ ?_ ?_ j).trans ?_
    · intro p k; exact ld0 _ p k
    · intro q k; exact ld1 _ q k
    · intro p k; exact ld2 _ p k
    · intro q k; exact ld3 _ q k
    · exact congrArg (· + part (iblk m c 0 t) (iblk m c 1 t) j) (congrFun ((Memref.isWhole_whole cc0_scratch0).read_unread _) j)

/-- The scratch after a block's last step. -/
theorem scratch (hf : (cfg0.win 2).flush t = true) (j : S1024x1024.Idx) : (outsAt0 m c t.val t.isLt).2 j
    = 0 + ∑ s : Fin 4, part (iblk m c 0 ⟨4 * (t.val / 4) + s.val, Pipeline.run_point_lt_of_flush t ((flush0_2 t).mp hf) s⟩)
      (iblk m c 1 ⟨4 * (t.val / 4) + s.val, Pipeline.run_point_lt_of_flush t ((flush0_2 t).mp hf) s⟩) j := by
  rw [Pipeline.eq_sum_fin_of_reset_step_apply_of_flush (fun n h => (outsAt0 m c n h).2) 4 (fun _ => 0) (fun t => part (iblk m c 0 t) (iblk m c 1 t))
    (fun t h j => scratch_first m c t h j) (fun t h j => scratch_next m c t h j) t ((flush0_2 t).mp hf) j]

/-- … is what the step writes out. -/
theorem flushed (hf : (cfg0.win 2).flush t = true) (j : S1024x1024.Idx) :
    (outsAt0 m c t.val t.isLt).1 j = (outsAt0 m c t.val t.isLt).2 j := by
  have h := (flush0_2 t).mp hf
  rw [outsAt0_C m c t (by omega) (by omega)]
  frame_out
  rw [pay3]

def row (t : Fin cfg0.N) (p : Fin 1024) : Fin 2048 := ⟨1024 * (t.val / 8) + p, by have := (idx t).2.2.2; omega⟩
def col (t : Fin cfg0.N) (q : Fin 1024) : Fin 2048 := ⟨1024 * (t.val / 4 % 2) + q, by omega⟩
def half (t : Fin cfg0.N) : Fin 2 := ⟨t.val % 4 / 2, by omega⟩
def step (t : Fin cfg0.N) : Fin 4 := ⟨t.val % 4, by omega⟩
def lane (t : Fin cfg0.N) (k : Fin 2816) : Fin 5632 := ⟨2816 * (t.val % 2) + k, by omega⟩

/-- What the launch finds in the stacked gradient. -/
theorem entry0 (b : Fin 2) (r : Fin 2048) (l : Fin 5632) : V m c main_v4 (ix3 b r l)
    = m ((c : Thread nD τ).loc main_arg2) (ix2 r ⟨5632 * b.val + l.val, by omega⟩) := by
  entry_read
  pointwise
  by_cases hb : b.val < 1
  · refine (dif_pos hb).trans ?_
    exact congrArg (fun n => m ((c : Thread nD τ).loc main_arg2) (ix2 r n)) (Fin.ext (by show l.val = 5632 * b.val + l.val; omega))
  · refine (dif_neg hb).trans ?_
    exact congrArg (fun n => m ((c : Thread nD τ).loc main_arg2) (ix2 r n)) (Fin.ext (by show 5632 + l.val = 5632 * b.val + l.val; omega))

/-- What the launch finds in the devices' columns of the weight. -/
theorem entry1 (u : Fin 4) (s : Fin 2) (n : Fin 2048) (k : Fin 1408) : V m c main_v7 (ix4 u s n k)
    = m ((c : Thread nD τ).loc main_arg1) (ix2 n ⟨2816 * u.val + (1408 * s.val + k.val), by omega⟩) := by
  entry_read
  pointwise
  exact congrArg (fun l => m ((c : Thread nD τ).loc main_arg1) (ix2 n l))
    (Fin.ext (show (u.val * 2 + s.val) * 1408 + k.val = 2816 * u.val + (1408 * s.val + k.val) by omega))

theorem read0 (p : Fin 1024) (k : Fin 2816) : iblk m c 0 t (ix3 0 p k) = V m c main_v4 (ix3 (half t) (row t p) (lane t k)) := by
  blk_ext [iblk, idx t, row, lane, half]
theorem read1 (s : Fin 2) (q : Fin 1024) (k : Fin 1408) : iblk m c 1 t (ix4 0 s q k) = V m c main_v7 (ix4 (step t) s (col t q) k) := by
  blk_ext [iblk, idx t, col, step]
theorem emb (p q : Fin 1024) : ((cfg0.win 2).blk t).view.emb (ix2 p q) = ix2 (row t p) (col t q) := by
  blk_ext [idx t, row, col]

/-- The four steps' columns of the two devices are all of them. -/
theorem sum_lanes (f : Fin 11264 → EReal) :
    ∑ u : Fin 4, ∑ s : Fin 2, ∑ k : Fin 1408, f ⟨2816 * u.val + (1408 * s.val + k.val), by omega⟩ = ∑ l : Fin 11264, f l := by
  rw [← Fin.sum_mul_add_fin 4 2816 f]
  refine Finset.sum_congr rfl fun u _ => ?_
  rw [← Fin.sum_mul_add_fin 2 1408 fun k : Fin 2816 => f ⟨u.val * 2816 + k.val, by omega⟩]
  exact Finset.sum_congr rfl fun s _ => Finset.sum_congr rfl fun k _ =>
    congrArg f (Fin.ext (show 2816 * u.val + (1408 * s.val + k.val) = u.val * 2816 + (s.val * 1408 + k.val) by omega))

theorem final : (dats m 0 c).arrAt 2 (cfgs 0).N = out (m ((c : Thread nD τ).loc main_arg1)) (m ((c : Thread nD τ).loc main_arg2)) := by
  refine (dats m 0 c).arrAt_eq_of_covers 2 _ (by decide +kernel) fun t hf y => ?_
  idx_vars y
  refine Eq.trans ?_ (congrArg (out _ _) (emb t y0 y1)).symm
  blk_simp
  rw [after0_2, flushed m c t hf, scratch m c t hf, zero_add]
  show _ = outAt _ _ (row t y0) (col t y1)
  unfold outAt
  rw [← sum_lanes]
  refine Fin.sum_fin_congr fun u => Fin.sum_fin_congr fun s => Fin.sum_fin_congr fun k => ?_
  have hs : 4 * (t.val / 4) + u.val < 16 := by have := (idx t).2.2.2; omega
  refine congrArg₂ _ ((read0 m c _ y0 _).trans ((entry0 m c _ _ _).trans ?_)) ((read1 m c _ s y1 k).trans ((entry1 m c _ _ _ _).trans ?_))
  · refine congrArg₂ (fun r l => m ((c : Thread nD τ).loc main_arg2) (ix2 r l)) (Fin.ext ?_) (Fin.ext ?_)
    · show 1024 * ((4 * (t.val / 4) + u.val) / 8) + y0.val = 1024 * (t.val / 8) + y0.val
      omega
    · show 5632 * ((4 * (t.val / 4) + u.val) % 4 / 2) + (2816 * ((4 * (t.val / 4) + u.val) % 2) + (1408 * s.val + k.val)) = 2816 * u.val + (1408 * s.val + k.val)
      omega
  · refine congrArg₂ (fun r l => m ((c : Thread nD τ).loc main_arg1) (ix2 r l)) (Fin.ext ?_) (Fin.ext ?_)
    · show 1024 * ((4 * (t.val / 4) + u.val) / 4 % 2) + y1.val = 1024 * (t.val / 4 % 2) + y1.val
      omega
    · show 2816 * ((4 * (t.val / 4) + u.val) % 4) + (1408 * s.val + k.val) = 2816 * u.val + (1408 * s.val + k.val)
      omega

end

section
open Cert.UpXRefIdeal Cert.UpXRefIdeal.Value Cert.UpXRefIdeal.Read

/-- The reference runs, keeps its arguments, and has no semaphore to leave unsettled. -/
theorem ref_frame : Cert.quiescent_UpXRefIdeal := fun m ρ _ =>
  (θ_run _ _ _).mono (fun r h => And.intro (fun c => (h c).2) (sem_eq_zero_of_no_sems (by decide) r.2))
    (run (F := Ideal) m ρ)

theorem ref_out (w d : FVec Ideal S2048x11264 .bf16) : val_main_v7 (F := Ideal) w d = out w d := by
  funext i
  idx_vars i
  show _ = outAt w d i0 i1
  pointwise [val_main_v7, val_main_v6, val_main_v3, val_main_v1]
  unfold outAt
  rfl

end

/-- The call's result is the reference's. -/
theorem value : Cert.algebraic_UpXIdeal_UpXRefIdeal := by
  intro m g m' g' _ hargs
  refine ⟨fun c => (Cert.UpXIdeal.Gen.dats m 0 c).arrAt 2 Cert.UpXIdeal.cfg0.N, Cert.UpXIdeal.Value.run_blocks m g, ?_⟩
  refine (θ_run _ _ _).mono (fun r h c => ?_) (Cert.UpXRefIdeal.Value.run (F := Ideal) m' g')
  obtain ⟨r0, ra⟩ := h c
  obtain ⟨a0, a1, a2⟩ := hargs c
  refine ⟨r0.trans ?_, ra⟩
  refine (Cert.UpXRefIdeal.Read.val_main_v7_eq _ _).trans ?_
  refine Eq.trans ?_ (final m c).symm
  refine (ref_out _ _).trans ?_
  exact congrArg₂ out a1 a2

end Cert.UpXClaim
end
-- ==== Proof.InCols.lean ====
module
public import Idealize.ShloMosaic.Lib.Pipeline.ValueKit

/-! # The combined projection's columns in the kernel's order

The kernel keeps the rotary key's 64 columns last and fills up with 192 zero columns. -/

@[expose] public section
noncomputable section
namespace Cert.InCols

/-- Entry `n` of a row in the kernel's order, from the row in the reference's. -/
def zcol (f : Fin 9024 → EReal) (n : Fin 9216) : EReal :=
  if h : n.val < 4864 then f ⟨n, by omega⟩
  else if h' : n.val < 8960 then f ⟨n + 64, by omega⟩
  else if h'' : n.val < 9024 then f ⟨n - 4096, by omega⟩
  else 0

/-- The same, each segment read from its own beginning. -/
theorem zcol_eq (f : Fin 9024 → EReal) (n : Fin 9216) : zcol f n
    = if h : n.val < 4864 then f ⟨n, by omega⟩
      else if h' : n.val - 4864 < 4096 then f ⟨4928 + (n - 4864), by omega⟩
      else if h'' : n.val - 4864 - 4096 < 64 then f ⟨4864 + (n - 4864 - 4096), by omega⟩
      else 0 := by
  unfold zcol
  by_cases h : n.val < 4864
  · rw [dif_pos h, dif_pos h]
  by_cases h' : n.val < 8960
  · rw [dif_neg h, dif_neg h, dif_pos h', dif_pos (by omega)]
    exact congrArg f (Fin.ext (show n.val + 64 = 4928 + (n.val - 4864) by omega))
  by_cases h'' : n.val < 9024
  · rw [dif_neg h, dif_neg h', dif_pos h'', dif_neg h, dif_neg (show ¬n.val - 4864 < 4096 by omega),
      dif_pos (show n.val - 4864 - 4096 < 64 by omega)]
    exact congrArg f (Fin.ext (show n.val - 4096 = 4864 + (n.val - 4864 - 4096) by omega))
  · rw [dif_neg h, dif_neg h', dif_neg h'', dif_neg h, dif_neg (show ¬n.val - 4864 < 4096 by omega),
      dif_neg (show ¬n.val - 4864 - 4096 < 64 by omega)]

theorem zcol_mul (f g : Fin 9024 → EReal) (n : Fin 9216) : zcol f n * zcol g n = zcol (fun k => f k * g k) n := by
  unfold zcol
  split_ifs <;> simp

theorem zcol_mul_const (f : Fin 9024 → EReal) (a : EReal) (n : Fin 9216) : zcol f n * a = zcol (fun k => f k * a) n := by
  unfold zcol
  split_ifs <;> simp

theorem zcol_const_mul (a : EReal) (f : Fin 9024 → EReal) (n : Fin 9216) : a * zcol f n = zcol (fun k => a * f k) n := by
  unfold zcol
  split_ifs <;> simp

theorem zcol_sum {n : ℕ} (f : Fin n → Fin 9024 → EReal) (l : Fin 9216) : ∑ k, zcol (f k) l = zcol (fun j => ∑ k, f k j) l := by
  unfold zcol
  split_ifs <;> simp

/-- The reordering keeps the sum. -/
theorem sum_zcol (f : Fin 9024 → EReal) : ∑ n, zcol f n = ∑ k, f k := by
  have e : ∑ n : Fin (4864 + 4096 + 64 + 192), zcol f n = ∑ k : Fin (4864 + 64 + 4096), f k := by
    rw [Fin.sum_univ_add, Fin.sum_univ_add, Fin.sum_univ_add, Fin.sum_univ_add, Fin.sum_univ_add]
    have h4 : ∀ i : Fin 192, zcol f (Fin.natAdd (4864 + 4096 + 64) i) = 0 := fun i => by
      unfold zcol
      rw [dif_neg, dif_neg, dif_neg] <;> (simp only [Fin.val_natAdd]; omega)
    have h1 : ∀ i : Fin 4864, zcol f (Fin.castAdd 192 (Fin.castAdd 64 (Fin.castAdd 4096 i))) = f (Fin.castAdd 4096 (Fin.castAdd 64 i)) := fun i => by
      unfold zcol
      rw [dif_pos (by simp only [Fin.val_castAdd]; omega)]
      exact congrArg f (Fin.ext rfl)
    have h2 : ∀ i : Fin 4096, zcol f (Fin.castAdd 192 (Fin.castAdd 64 (Fin.natAdd 4864 i))) = f (Fin.natAdd (4864 + 64) i) := fun i => by
      unfold zcol
      rw [dif_neg (by simp only [Fin.val_castAdd, Fin.val_natAdd]; omega), dif_pos (by simp only [Fin.val_castAdd, Fin.val_natAdd]; omega)]
      exact congrArg f (Fin.ext (by simp only [Fin.val_castAdd, Fin.val_natAdd]; omega))
    have h3 : ∀ i : Fin 64, zcol f (Fin.castAdd 192 (Fin.natAdd (4864 + 4096) i)) = f (Fin.castAdd 4096 (Fin.natAdd 4864 i)) := fun i => by
      unfold zcol
      rw [dif_neg (by simp only [Fin.val_castAdd, Fin.val_natAdd]; omega), dif_neg (by simp only [Fin.val_castAdd, Fin.val_natAdd]; omega),
        dif_pos (by simp only [Fin.val_castAdd, Fin.val_natAdd]; omega)]
      exact congrArg f (Fin.ext (by simp only [Fin.val_castAdd, Fin.val_natAdd]; omega))
    rw [Finset.sum_congr rfl fun i _ => h1 i, Finset.sum_congr rfl fun i _ => h2 i, Finset.sum_congr rfl fun i _ => h3 i,
      Finset.sum_congr rfl fun i _ => h4 i, Finset.sum_const_zero, add_zero]
    exact add_right_comm _ _ _
  exact e

end Cert.InCols
end
-- ==== Proof.InW.lean ====
module
public import proofs.«01_k».proof.Defs
public import proofs.«01_k».proof.Proof.Gen.InWIdeal.Value
public import proofs.«01_k».proof.Proof.Gen.InWRefIdeal.Run
public import proofs.«01_k».proof.Proof.Gen.InWRefIdeal.Read
public import proofs.«01_k».proof.Proof.InCols
public import Idealize.ShloMosaic.Lib.Pipeline.ValueKit
public import Idealize.ShloMosaic.Lib.Claim
public import Idealize.ShloMosaic.Lib.Quiescent

/-! # The gradient of the combined projection's weight

Each grid point holds the whole token axis of 1024 of the 9216 columns and of 1024 model columns. The 9024 columns of
the incoming gradient stand in the kernel's order (`InCols`), so the result's rows do. -/

@[expose] public section
set_option maxRecDepth 16384
noncomputable section
namespace Cert.InWClaim
open Idealize.ShloMosaic Idealize.ShloMosaic.TcCoe Idealize.SL.Sem
open Cert.InCols

section
open Cert.InWIdeal Cert.InWIdeal.Gen

/-- The gradient, its rows in the kernel's order: incoming gradient and rows contracted over the tokens. -/
def outAt (x : FVec Ideal S2048x2048 .bf16) (d : FVec Ideal S2048x9024 .bf16) (l : Fin 9216) (n : Fin 2048) : EReal :=
  zcol (fun j => ∑ k : Fin 2048, d (ix2 k j) * x (ix2 k n)) l
def out (x : FVec Ideal S2048x2048 .bf16) (d : FVec Ideal S2048x9024 .bf16) : FVec Ideal S9216x2048 .bf16 :=
  fun i => outAt x d (i 0) (i 1)

theorem idx : ∀ t : Fin cfg0.N, win0_0.index t = ![0, t.val / 2] ∧ win0_1.index t = ![0, t.val % 2]
    ∧ win0_2.index t = ![t.val / 2, t.val % 2] ∧ t.val < 18 :=
  (by decide +kernel : ∀ t : Fin grid0.N, _)

theorem block (x0 x1 : FVec Ideal S2048x1024 .bf16) (p q : Fin 1024) :
    out0_2 (F := Ideal) x0 x1 (ix2 p q) = ∑ k : Fin 2048, x0 (ix2 k p) * x1 (ix2 k q) := by
  unfold out0_2
  canon_tiles y h
  idx_vars y
  obtain rfl : y0 = p := Fin.ext h0.symm
  obtain rfl : y1 = q := Fin.ext h1.symm
  pointwise [k0_pay1]

variable (m : (ℓ : Loc nD τ sig) → Buf (Elt Ideal) ℓ) (c : Dev nD) (t : Fin cfg0.N)

def row (t : Fin cfg0.N) (p : Fin 1024) : Fin 9216 := ⟨1024 * (t.val / 2) + p, by have := (idx t).2.2.2; omega⟩
def col (t : Fin cfg0.N) (q : Fin 1024) : Fin 2048 := ⟨1024 * (t.val % 2) + q, by omega⟩

/-- A row's columns in the kernel's order, as the host lines put them. -/
def cols (a : FVec Ideal S2048x9024 .bf16) : FVec Ideal S2048x9216 .bf16 :=
  concatenate S2048x9216 1 [⟨S2048x4864, extractStridedSlice S2048x4864 ![0, 0] a slices_S2048x9024_S2048x4864_0_0⟩,
    ⟨S2048x4096, extractStridedSlice S2048x4096 ![0, 4928] a slices_S2048x9024_S2048x4096_0_4928⟩,
    ⟨S2048x64, extractStridedSlice S2048x64 ![0, 4864] a slices_S2048x9024_S2048x64_0_4864⟩,
    ⟨S2048x192, broadcastInDim S2048x192 ![] bcast_S_S2048x192 (constant S_ .bf16 0x0000#16 : FVec Ideal S_ .bf16)⟩]
    concatenates_S2048x4864_S2048x4096_S2048x64_S2048x192_S2048x9216_d1

theorem cols_apply (a : FVec Ideal S2048x9024 .bf16) (k : Fin 2048) (l : Fin 9216) : cols a (ix2 k l) = zcol (fun j => a (ix2 k j)) l := by
  unfold cols
  pointwise
  refine Eq.trans ?_ (zcol_eq _ _).symm
  with_reducible rfl

/-- What the launch finds in the reordered gradient. -/
theorem entry (k : Fin 2048) (l : Fin 9216) : V m c main_v4 (ix2 k l)
    = zcol (fun j => m ((c : Thread nD τ).loc main_arg2) (ix2 k j)) l :=
  (congrFun (show V m c main_v4 = cols (m ((c : Thread nD τ).loc main_arg2)) from rfl) _).trans (cols_apply _ k l)

theorem read0 (k : Fin 2048) (p : Fin 1024) : iblk m c 0 t (ix2 k p) = V m c main_v4 (ix2 k (row t p)) := by
  blk_ext [iblk, idx t, row]
theorem read1 (k : Fin 2048) (q : Fin 1024) : iblk m c 1 t (ix2 k q) = m ((c : Thread nD τ).loc main_arg0) (ix2 k (col t q)) := by
  blk_point [iblk, V, idx t, col]
theorem emb (p q : Fin 1024) : ((cfg0.win 2).blk t).view.emb (ix2 p q) = ix2 (row t p) (col t q) := by
  blk_ext [idx t, row, col]

theorem final : (dats m 0 c).arrAt 2 (cfgs 0).N = out (m ((c : Thread nD τ).loc main_arg0)) (m ((c : Thread nD τ).loc main_arg2)) := by
  refine (dats m 0 c).arrAt_eq_of_covers 2 _ (by decide +kernel) fun t _ y => ?_
  idx_vars y
  refine Eq.trans ?_ (congrArg (out _ _) (emb t y0 y1)).symm
  blk_simp
  rw [after0_2, block]
  show _ = outAt _ _ (row t y0) (col t y1)
  unfold outAt
  rw [← zcol_sum]
  refine Fin.sum_fin_congr fun k => ?_
  rw [← zcol_mul_const]
  exact congrArg₂ _ ((read0 m c t k y0).trans (entry m c k _)) (read1 m c t k y1)

end

section
open Cert.InWRefIdeal Cert.InWRefIdeal.Value Cert.InWRefIdeal.Read

/-- The reference runs, keeps its arguments, and has no semaphore to leave unsettled. -/
theorem ref_frame : Cert.quiescent_InWRefIdeal := fun m ρ _ =>
  (θ_run _ _ _).mono (fun r h => And.intro (fun c => (h c).2) (sem_eq_zero_of_no_sems (by decide) r.2))
    (run (F := Ideal) m ρ)

theorem ref_out (x : FVec Ideal S2048x2048 .bf16) (d : FVec Ideal S2048x9024 .bf16) :
    val_main_v13 (F := Ideal) x d = out x d := by
  funext i
  idx_vars i
  show _ = zcol (fun j => ∑ k : Fin 2048, d (ix2 k j) * x (ix2 k i1)) i0
  pointwise [val_main_v13, val_main_v12, val_main_v11, val_main_v10, val_main_v9, val_main_v8, val_main_v7, val_main_cst, val_main_v5, val_main_v4, val_main_v3, val_main_v0]
  refine Eq.trans ?_ (zcol_eq _ _).symm
  beta_reduce
  with_reducible rfl

end

/-- The call's result is the reference's. -/
theorem value : Cert.algebraic_InWIdeal_InWRefIdeal := by
  intro m g m' g' _ hargs
  refine ⟨fun c => (Cert.InWIdeal.Gen.dats m 0 c).arrAt 2 Cert.InWIdeal.cfg0.N, Cert.InWIdeal.Value.run_blocks m g, ?_⟩
  refine (θ_run _ _ _).mono (fun r h c => ?_) (Cert.InWRefIdeal.Value.run (F := Ideal) m' g')
  obtain ⟨r0, ra⟩ := h c
  obtain ⟨a0, a1, a2⟩ := hargs c
  refine ⟨r0.trans ?_, ra⟩
  refine (Cert.InWRefIdeal.Read.val_main_v13_eq _ _).trans ?_
  refine Eq.trans ?_ (final m c).symm
  refine (ref_out _ _).trans ?_
  exact congrArg₂ out a0 a2

end Cert.InWClaim
end
-- ==== Proof.InX.lean ====
module
public import proofs.«01_k».proof.Defs
public import proofs.«01_k».proof.Proof.Gen.InXIdeal.Value
public import proofs.«01_k».proof.Proof.Gen.InXRefIdeal.Run
public import proofs.«01_k».proof.Proof.Gen.InXRefIdeal.Read
public import proofs.«01_k».proof.Proof.InCols
public import Idealize.ShloMosaic.Lib.Pipeline.ValueKit
public import Idealize.ShloMosaic.Lib.Claim
public import Idealize.ShloMosaic.Lib.Quiescent

/-! # The gradient of the combined projection's rows

The 9216 columns are taken in four steps of 2304, a scratch carrying the partial sums. -/

@[expose] public section
set_option maxRecDepth 16384
noncomputable section
namespace Cert.InXClaim
open Idealize.ShloMosaic Idealize.ShloMosaic.TcCoe Idealize.SL.Sem
open Cert.InCols

section
open Cert.InXIdeal Cert.InXIdeal.Gen

/-- The gradient: incoming gradient and weight contracted over the columns. -/
def outAt (w d : FVec Ideal S2048x9024 .bf16) (r n : Fin 2048) : EReal := ∑ l : Fin 9024, d (ix2 r l) * w (ix2 n l)
def out (w d : FVec Ideal S2048x9024 .bf16) : FVec Ideal S2048x2048 .bf16 := fun i => outAt w d (i 0) (i 1)

theorem idx : ∀ t : Fin cfg0.N, win0_0.index t = ![t.val / 8, t.val % 4] ∧ win0_1.index t = ![t.val % 4, t.val / 4 % 2]
    ∧ win0_2.index t = ![t.val / 8, t.val / 4 % 2] ∧ t.val < 16 :=
  (by decide +kernel : ∀ t : Fin grid0.N, _)

/-- One step's share. -/
def part (x0 : FVec Ideal S1024x2304 .bf16) (x1 : FVec Ideal S2304x1024 .bf16) (j : S1024x1024.Idx) : EReal :=
  ∑ k : Fin 2304, x0 (ix2 (j 0) k) * x1 (ix2 k (j 1))

theorem pay1 (j : S1024x1024.Idx) : k0_pay1 (F := Ideal) j = 0 := by
  pointwise [k0_pay1]
theorem pay2 (acc : Vec Ideal S1024x1024 .f32) (x0 : FVec Ideal S1024x2304 .bf16) (x1 : FVec Ideal S2304x1024 .bf16) (j : S1024x1024.Idx) :
    k0_pay2 acc x0 x1 j = acc j + part x0 x1 j := by
  idx_vars j
  pointwise [k0_pay2, part]
theorem pay3 (a : Vec Ideal S1024x1024 .f32) (j : S1024x1024.Idx) : k0_pay3 a j = a j := by
  pointwise [k0_pay3]

variable (m : (ℓ : Loc nD τ sig) → Buf (Elt Ideal) ℓ) (c : Dev nD) (t : Fin cfg0.N)

/-- The scratch after a block's last step. -/
theorem scratch (hf : (cfg0.win 2).flush t = true) (j : S1024x1024.Idx) : (outsAt0 m c t.val t.isLt).2 j
    = 0 + ∑ s : Fin 4, part (iblk m c 0 ⟨4 * (t.val / 4) + s.val, Pipeline.run_point_lt_of_flush t ((flush0_2 t).mp hf) s⟩)
      (iblk m c 1 ⟨4 * (t.val / 4) + s.val, Pipeline.run_point_lt_of_flush t ((flush0_2 t).mp hf) s⟩) j := by
  rw [Pipeline.eq_sum_fin_of_reset_step_apply_of_flush (fun n h => (outsAt0 m c n h).2) 4 (fun _ => 0) (fun t => part (iblk m c 0 t) (iblk m c 1 t))
    (fun t h j => by
      beta_reduce
      rw [outsAt0_A m c t h (by omega)]
      frame_out
      rw [pay2, pay1])
    (fun t h j => by
      beta_reduce
      by_cases h' : t.val % 4 = 3
      · rw [outsAt0_C m c t h h']
        frame_out
        rw [pay2]
        exact congrArg (· + part (iblk m c 0 t) (iblk m c 1 t) j) (congrFun ((Memref.isWhole_whole cc0_scratch0).read_unread _) j)
      · rw [outsAt0_B m c t h h']
        frame_out
        rw [pay2]
        exact congrArg (· + part (iblk m c 0 t) (iblk m c 1 t) j) (congrFun ((Memref.isWhole_whole cc0_scratch0).read_unread _) j)) t ((flush0_2 t).mp hf) j]

/-- … is what the step writes out. -/
theorem flushed (hf : (cfg0.win 2).flush t = true) (j : S1024x1024.Idx) :
    (outsAt0 m c t.val t.isLt).1 j = (outsAt0 m c t.val t.isLt).2 j := by
  have h := (flush0_2 t).mp hf
  rw [outsAt0_C m c t (by omega) (by omega)]
  frame_out
  rw [pay3]

def row (t : Fin cfg0.N) (p : Fin 1024) : Fin 2048 := ⟨1024 * (t.val / 8) + p, by have := (idx t).2.2.2; omega⟩
def col (t : Fin cfg0.N) (q : Fin 1024) : Fin 2048 := ⟨1024 * (t.val / 4 % 2) + q, by omega⟩
def lane (t : Fin cfg0.N) (k : Fin 2304) : Fin 9216 := ⟨2304 * (t.val % 4) + k, by omega⟩

/-- A row's columns in the kernel's order, as the host lines put them. -/
def cols (a : FVec Ideal S2048x9024 .bf16) : FVec Ideal S2048x9216 .bf16 :=
  concatenate S2048x9216 1 [⟨S2048x4864, extractStridedSlice S2048x4864 ![0, 0] a slices_S2048x9024_S2048x4864_0_0⟩,
    ⟨S2048x4096, extractStridedSlice S2048x4096 ![0, 4928] a slices_S2048x9024_S2048x4096_0_4928⟩,
    ⟨S2048x64, extractStridedSlice S2048x64 ![0, 4864] a slices_S2048x9024_S2048x64_0_4864⟩,
    ⟨S2048x192, broadcastInDim S2048x192 ![] bcast_S_S2048x192 (constant S_ .bf16 0x0000#16 : FVec Ideal S_ .bf16)⟩]
    concatenates_S2048x4864_S2048x4096_S2048x64_S2048x192_S2048x9216_d1

theorem cols_apply (a : FVec Ideal S2048x9024 .bf16) (k : Fin 2048) (l : Fin 9216) : cols a (ix2 k l) = zcol (fun j => a (ix2 k j)) l := by
  unfold cols
  pointwise
  refine Eq.trans ?_ (zcol_eq _ _).symm
  with_reducible rfl

/-- What the launch finds in the reordered gradient. -/
theorem entry0 (r : Fin 2048) (l : Fin 9216) : V m c main_v4 (ix2 r l)
    = zcol (fun j => m ((c : Thread nD τ).loc main_arg2) (ix2 r j)) l :=
  (congrFun (show V m c main_v4 = cols (m ((c : Thread nD τ).loc main_arg2)) from rfl) _).trans (cols_apply _ r l)
/-- What the launch finds in the reordered weight, its columns now rows. -/
theorem entry1 (l : Fin 9216) (n : Fin 2048) : V m c main_v10 (ix2 l n)
    = zcol (fun j => m ((c : Thread nD τ).loc main_arg1) (ix2 n j)) l := by
  refine (congrFun (show V m c main_v10 = transpose S9216x2048 [1, 0] (cols (m ((c : Thread nD τ).loc main_arg1))) transposes_S2048x9216_S9216x2048_1_0 from rfl) _).trans ?_
  refine Eq.trans ?_ (cols_apply _ n l)
  pointwise

theorem read0 (p : Fin 1024) (k : Fin 2304) : iblk m c 0 t (ix2 p k) = V m c main_v4 (ix2 (row t p) (lane t k)) := by
  blk_ext [iblk, idx t, row, lane]
theorem read1 (k : Fin 2304) (q : Fin 1024) : iblk m c 1 t (ix2 k q) = V m c main_v10 (ix2 (lane t k) (col t q)) := by
  blk_ext [iblk, idx t, col, lane]
theorem emb (p q : Fin 1024) : ((cfg0.win 2).blk t).view.emb (ix2 p q) = ix2 (row t p) (col t q) := by
  blk_ext [idx t, row, col]

/-- The four steps' columns are all of them. -/
theorem sum_lanes (f : Fin 9216 → EReal) : ∑ s : Fin 4, ∑ k : Fin 2304, f ⟨2304 * s.val + k.val, by omega⟩ = ∑ l : Fin 9216, f l := by
  rw [← Fin.sum_mul_add_fin 4 2304 f]
  exact Finset.sum_congr rfl fun s _ => Finset.sum_congr rfl fun k _ => congrArg f (Fin.ext (congrArg (· + k.val) (Nat.mul_comm _ _)))

theorem final : (dats m 0 c).arrAt 2 (cfgs 0).N = out (m ((c : Thread nD τ).loc main_arg1)) (m ((c : Thread nD τ).loc main_arg2)) := by
  refine (dats m 0 c).arrAt_eq_of_covers 2 _ (by decide +kernel) fun t hf y => ?_
  idx_vars y
  refine Eq.trans ?_ (congrArg (out _ _) (emb t y0 y1)).symm
  blk_simp
  rw [after0_2, flushed m c t hf, scratch m c t hf, zero_add]
  show _ = outAt _ _ (row t y0) (col t y1)
  unfold outAt
  rw [← sum_zcol, ← sum_lanes]
  refine Fin.sum_fin_congr fun s => Fin.sum_fin_congr fun k => ?_
  rw [← zcol_mul]
  have hs : 4 * (t.val / 4) + s.val < 16 := by have := (idx t).2.2.2; omega
  refine congrArg₂ _ ((read0 m c _ y0 k).trans ((entry0 m c _ _).trans ?_)) ((read1 m c _ k y1).trans ((entry1 m c _ _).trans ?_))
  · refine congrArg₂ (fun r l => zcol (fun j => m ((c : Thread nD τ).loc main_arg2) (ix2 r j)) l) (Fin.ext ?_) (Fin.ext ?_)
    · show 1024 * ((4 * (t.val / 4) + s.val) / 8) + y0.val = 1024 * (t.val / 8) + y0.val
      omega
    · show 2304 * ((4 * (t.val / 4) + s.val) % 4) + k.val = 2304 * s.val + k.val
      omega
  · refine congrArg₂ (fun r l => zcol (fun j => m ((c : Thread nD τ).loc main_arg1) (ix2 r j)) l) (Fin.ext ?_) (Fin.ext ?_)
    · show 1024 * ((4 * (t.val / 4) + s.val) / 4 % 2) + y1.val = 1024 * (t.val / 4 % 2) + y1.val
      omega
    · show 2304 * ((4 * (t.val / 4) + s.val) % 4) + k.val = 2304 * s.val + k.val
      omega

end

section
open Cert.InXRefIdeal Cert.InXRefIdeal.Value Cert.InXRefIdeal.Read

/-- The reference runs, keeps its arguments, and has no semaphore to leave unsettled. -/
theorem ref_frame : Cert.quiescent_InXRefIdeal := fun m ρ _ =>
  (θ_run _ _ _).mono (fun r h => And.intro (fun c => (h c).2) (sem_eq_zero_of_no_sems (by decide) r.2))
    (run (F := Ideal) m ρ)

theorem ref_out (w d : FVec Ideal S2048x9024 .bf16) : val_main_v7 (F := Ideal) w d = out w d := by
  funext i
  idx_vars i
  show _ = outAt w d i0 i1
  pointwise [val_main_v7, val_main_v6, val_main_v3, val_main_v1]
  unfold outAt
  rfl

end

/-- The call's result is the reference's. -/
theorem value : Cert.algebraic_InXIdeal_InXRefIdeal := by
  intro m g m' g' _ hargs
  refine ⟨fun c => (Cert.InXIdeal.Gen.dats m 0 c).arrAt 2 Cert.InXIdeal.cfg0.N, Cert.InXIdeal.Value.run_blocks m g, ?_⟩
  refine (θ_run _ _ _).mono (fun r h c => ?_) (Cert.InXRefIdeal.Value.run (F := Ideal) m' g')
  obtain ⟨r0, ra⟩ := h c
  obtain ⟨a0, a1, a2⟩ := hargs c
  refine ⟨r0.trans ?_, ra⟩
  refine (Cert.InXRefIdeal.Read.val_main_v7_eq _ _).trans ?_
  refine Eq.trans ?_ (final m c).symm
  refine (ref_out _ _).trans ?_
  exact congrArg₂ out a1 a2

end Cert.InXClaim
end
-- ==== Proof.OutW.lean ====
module
public import proofs.«01_k».proof.Defs
public import proofs.«01_k».proof.Proof.Gen.OutWIdeal.Value
public import proofs.«01_k».proof.Proof.Gen.OutWRefIdeal.Run
public import proofs.«01_k».proof.Proof.Gen.OutWRefIdeal.Read
public import Idealize.ShloMosaic.Lib.Pipeline.ValueKit
public import Idealize.ShloMosaic.Lib.Claim
public import Idealize.ShloMosaic.Lib.Quiescent

/-! # The gradient of the output projection's weight

Each grid point holds the whole token axis of 1024 rows and 1024 columns of the weight, so its block is the product's. The two branch projections call the same kernel on arrays of the same shapes. -/

@[expose] public section
set_option maxRecDepth 16384
noncomputable section
namespace Cert.OutWClaim
open Idealize.ShloMosaic Idealize.ShloMosaic.TcCoe Idealize.SL.Sem

section
open Cert.OutWIdeal Cert.OutWIdeal.Gen

/-- The gradient of the weight: rows and incoming gradient contracted over the tokens. -/
def out (x : FVec Ideal S2048x2048 .bf16) (d : FVec Ideal S2048x2048 .bf16) : FVec Ideal S2048x2048 .bf16 :=
  fun i => ∑ k : Fin 2048, x (ix2 k (i 0)) * d (ix2 k (i 1))

theorem idx : ∀ t : Fin cfg0.N, win0_0.index t = ![0, t.val / 2] ∧ win0_1.index t = ![0, t.val % 2]
    ∧ win0_2.index t = ![t.val / 2, t.val % 2] ∧ t.val < 4 :=
  (by decide +kernel : ∀ t : Fin grid0.N, _)

theorem block (x0 : FVec Ideal S2048x1024 .bf16) (x1 : FVec Ideal S2048x1024 .bf16) (p : Fin 1024) (q : Fin 1024) :
    out0_2 (F := Ideal) x0 x1 (ix2 p q) = ∑ k : Fin 2048, x0 (ix2 k p) * x1 (ix2 k q) := by
  unfold out0_2
  canon_tiles y h
  idx_vars y
  obtain rfl : y0 = p := Fin.ext h0.symm
  obtain rfl : y1 = q := Fin.ext h1.symm
  pointwise [k0_pay1]

variable (m : (ℓ : Loc nD τ sig) → Buf (Elt Ideal) ℓ) (c : Dev nD) (t : Fin cfg0.N)

def row (t : Fin cfg0.N) (p : Fin 1024) : Fin 2048 := ⟨1024 * (t.val / 2) + p, by have := (idx t).2.2.2; omega⟩
def col (t : Fin cfg0.N) (q : Fin 1024) : Fin 2048 := ⟨1024 * (t.val % 2) + q, by omega⟩

theorem read0 (k : Fin 2048) (p : Fin 1024) : iblk m c 0 t (ix2 k p) = m ((c : Thread nD τ).loc main_arg0) (ix2 k (row t p)) := by
  blk_point [iblk, V, idx t, row]
theorem read1 (k : Fin 2048) (q : Fin 1024) : iblk m c 1 t (ix2 k q) = m ((c : Thread nD τ).loc main_arg2) (ix2 k (col t q)) := by
  blk_point [iblk, V, idx t, col]
theorem emb (p : Fin 1024) (q : Fin 1024) : ((cfg0.win 2).blk t).view.emb (ix2 p q) = ix2 (row t p) (col t q) := by
  blk_ext [idx t, row, col]

theorem final : (dats m 0 c).arrAt 2 (cfgs 0).N = out (m ((c : Thread nD τ).loc main_arg0)) (m ((c : Thread nD τ).loc main_arg2)) := by
  refine (dats m 0 c).arrAt_eq_of_covers 2 _ (by decide +kernel) fun t _ y => ?_
  idx_vars y
  refine Eq.trans ?_ (congrArg (out _ _) (emb t y0 y1)).symm
  blk_simp
  rw [after0_2, block]
  exact Fin.sum_fin_congr fun k => congrArg₂ _ (read0 m c t k y0) (read1 m c t k y1)

end

section
open Cert.OutWRefIdeal Cert.OutWRefIdeal.Value Cert.OutWRefIdeal.Read

/-- The reference runs, keeps its arguments, and has no semaphore to leave unsettled. -/
theorem ref_frame : Cert.quiescent_OutWRefIdeal := fun m ρ _ =>
  (θ_run _ _ _).mono (fun r h => And.intro (fun c => (h c).2) (sem_eq_zero_of_no_sems (by decide) r.2))
    (run (F := Ideal) m ρ)

theorem ref_out (x : FVec Ideal S2048x2048 .bf16) (d : FVec Ideal S2048x2048 .bf16) :
    val_main_v7 (F := Ideal) x d = out x d := by
  funext i
  idx_vars i
  pointwise [val_main_v7, val_main_v5, val_main_v4, val_main_v3, val_main_v0]
  unfold out
  exact Finset.sum_congr rfl fun k _ => mul_comm _ _

end

/-- The call's result is the reference's. -/
theorem value : Cert.algebraic_OutWIdeal_OutWRefIdeal := by
  intro m g m' g' _ hargs
  refine ⟨fun c => (Cert.OutWIdeal.Gen.dats m 0 c).arrAt 2 Cert.OutWIdeal.cfg0.N, Cert.OutWIdeal.Value.run_blocks m g, ?_⟩
  refine (θ_run _ _ _).mono (fun r h c => ?_) (Cert.OutWRefIdeal.Value.run (F := Ideal) m' g')
  obtain ⟨r0, ra⟩ := h c
  obtain ⟨a0, a1, a2⟩ := hargs c
  refine ⟨r0.trans ?_, ra⟩
  refine (Cert.OutWRefIdeal.Read.val_main_v7_eq _ _).trans ?_
  refine Eq.trans ?_ (final m c).symm
  refine (ref_out _ _).trans ?_
  exact congrArg₂ out a0 a2

end Cert.OutWClaim
end
-- ==== Proof.OutX.lean ====
module
public import proofs.«01_k».proof.Defs
public import proofs.«01_k».proof.Proof.Gen.OutXIdeal.Value
public import proofs.«01_k».proof.Proof.Gen.OutXRefIdeal.Run
public import proofs.«01_k».proof.Proof.Gen.OutXRefIdeal.Read
public import Idealize.ShloMosaic.Lib.Pipeline.ValueKit
public import Idealize.ShloMosaic.Lib.Claim
public import Idealize.ShloMosaic.Lib.Quiescent

/-! # The gradient of the output projection's rows

Each grid point holds the whole model axis of 1024 tokens and 1024 columns, so its block is the product's. The two branch projections call the same kernel on arrays of the same shapes. -/

@[expose] public section
set_option maxRecDepth 16384
noncomputable section
namespace Cert.OutXClaim
open Idealize.ShloMosaic Idealize.ShloMosaic.TcCoe Idealize.SL.Sem

section
open Cert.OutXIdeal Cert.OutXIdeal.Gen

/-- The gradient of the rows: incoming gradient and weight contracted over the model columns. -/
def out (d : FVec Ideal S2048x2048 .bf16) (w : FVec Ideal S2048x2048 .bf16) : FVec Ideal S2048x2048 .bf16 :=
  fun i => ∑ k : Fin 2048, d (ix2 (i 0) k) * w (ix2 (i 1) k)

theorem idx : ∀ t : Fin cfg0.N, win0_0.index t = ![t.val / 2, 0] ∧ win0_1.index t = ![t.val % 2, 0]
    ∧ win0_2.index t = ![t.val / 2, t.val % 2] ∧ t.val < 4 :=
  (by decide +kernel : ∀ t : Fin grid0.N, _)

theorem block (x0 : FVec Ideal S1024x2048 .bf16) (x1 : FVec Ideal S1024x2048 .bf16) (p : Fin 1024) (q : Fin 1024) :
    out0_2 (F := Ideal) x0 x1 (ix2 p q) = ∑ k : Fin 2048, x0 (ix2 p k) * x1 (ix2 q k) := by
  unfold out0_2
  canon_tiles y h
  idx_vars y
  obtain rfl : y0 = p := Fin.ext h0.symm
  obtain rfl : y1 = q := Fin.ext h1.symm
  pointwise [k0_pay1]

variable (m : (ℓ : Loc nD τ sig) → Buf (Elt Ideal) ℓ) (c : Dev nD) (t : Fin cfg0.N)

def row (t : Fin cfg0.N) (p : Fin 1024) : Fin 2048 := ⟨1024 * (t.val / 2) + p, by have := (idx t).2.2.2; omega⟩
def col (t : Fin cfg0.N) (q : Fin 1024) : Fin 2048 := ⟨1024 * (t.val % 2) + q, by omega⟩

theorem read0 (p : Fin 1024) (k : Fin 2048) : iblk m c 0 t (ix2 p k) = m ((c : Thread nD τ).loc main_arg2) (ix2 (row t p) k) := by
  blk_point [iblk, V, idx t, row]
theorem read1 (q : Fin 1024) (k : Fin 2048) : iblk m c 1 t (ix2 q k) = m ((c : Thread nD τ).loc main_arg1) (ix2 (col t q) k) := by
  blk_point [iblk, V, idx t, col]
theorem emb (p : Fin 1024) (q : Fin 1024) : ((cfg0.win 2).blk t).view.emb (ix2 p q) = ix2 (row t p) (col t q) := by
  blk_ext [idx t, row, col]

theorem final : (dats m 0 c).arrAt 2 (cfgs 0).N = out (m ((c : Thread nD τ).loc main_arg2)) (m ((c : Thread nD τ).loc main_arg1)) := by
  refine (dats m 0 c).arrAt_eq_of_covers 2 _ (by decide +kernel) fun t _ y => ?_
  idx_vars y
  refine Eq.trans ?_ (congrArg (out _ _) (emb t y0 y1)).symm
  blk_simp
  rw [after0_2, block]
  exact Fin.sum_fin_congr fun k => congrArg₂ _ (read0 m c t y0 k) (read1 m c t y1 k)

end

section
open Cert.OutXRefIdeal Cert.OutXRefIdeal.Value Cert.OutXRefIdeal.Read

/-- The reference runs, keeps its arguments, and has no semaphore to leave unsettled. -/
theorem ref_frame : Cert.quiescent_OutXRefIdeal := fun m ρ _ =>
  (θ_run _ _ _).mono (fun r h => And.intro (fun c => (h c).2) (sem_eq_zero_of_no_sems (by decide) r.2))
    (run (F := Ideal) m ρ)

theorem ref_out (w : FVec Ideal S2048x2048 .bf16) (d : FVec Ideal S2048x2048 .bf16) :
    val_main_v7 (F := Ideal) w d = out d w := by
  funext i
  idx_vars i
  pointwise [val_main_v7, val_main_v6, val_main_v3, val_main_v1]
  rfl

end

/-- The call's result is the reference's. -/
theorem value : Cert.algebraic_OutXIdeal_OutXRefIdeal := by
  intro m g m' g' _ hargs
  refine ⟨fun c => (Cert.OutXIdeal.Gen.dats m 0 c).arrAt 2 Cert.OutXIdeal.cfg0.N, Cert.OutXIdeal.Value.run_blocks m g, ?_⟩
  refine (θ_run _ _ _).mono (fun r h c => ?_) (Cert.OutXRefIdeal.Value.run (F := Ideal) m' g')
  obtain ⟨r0, ra⟩ := h c
  obtain ⟨a0, a1, a2⟩ := hargs c
  refine ⟨r0.trans ?_, ra⟩
  refine (Cert.OutXRefIdeal.Read.val_main_v7_eq _ _).trans ?_
  refine Eq.trans ?_ (final m c).symm
  refine (ref_out _ _).trans ?_
  exact congrArg₂ out a2 a1

end Cert.OutXClaim
end
-- ==== Proof.DownF.lean ====
module
public import proofs.«01_k».proof.Defs
public import proofs.«01_k».proof.Proof.Gen.DownFIdeal.Value
public import proofs.«01_k».proof.Proof.Gen.DownFRefIdeal.Run
public import proofs.«01_k».proof.Proof.Gen.DownFRefIdeal.Read
public import Idealize.ShloMosaic.Lib.Pipeline.ValueKit
public import Idealize.ShloMosaic.Lib.Claim
public import Idealize.ShloMosaic.Lib.Quiescent

/-! # The down-projection

The 5632 hidden columns are taken in two steps of 2816, a scratch carrying the partial sums. -/

@[expose] public section
set_option maxRecDepth 16384
noncomputable section
namespace Cert.DownFClaim
open Idealize.ShloMosaic Idealize.ShloMosaic.TcCoe Idealize.SL.Sem

section
open Cert.DownFIdeal Cert.DownFIdeal.Gen

/-- The product of rows and weight. -/
def outAt (x : FVec Ideal S2048x5632 .bf16) (w : FVec Ideal S5632x2048 .bf16) (r n : Fin 2048) : EReal :=
  ∑ l : Fin 5632, x (ix2 r l) * w (ix2 l n)
def out (x : FVec Ideal S2048x5632 .bf16) (w : FVec Ideal S5632x2048 .bf16) : FVec Ideal S2048x2048 .bf16 :=
  fun i => outAt x w (i 0) (i 1)

theorem idx : ∀ t : Fin cfg0.N, win0_0.index t = ![t.val / 4, t.val % 2] ∧ win0_1.index t = ![t.val % 2, t.val / 2 % 2]
    ∧ win0_2.index t = ![t.val / 4, t.val / 2 % 2] ∧ t.val < 8 :=
  (by decide +kernel : ∀ t : Fin grid0.N, _)

/-- One step's share. -/
def part (x0 : FVec Ideal S1024x2816 .bf16) (x1 : FVec Ideal S2816x1024 .bf16) (j : S1024x1024.Idx) : EReal :=
  ∑ k : Fin 2816, x0 (ix2 (j 0) k) * x1 (ix2 k (j 1))

theorem pay1 (j : S1024x1024.Idx) : k0_pay1 (F := Ideal) j = 0 := by
  pointwise [k0_pay1]
theorem pay2 (acc : Vec Ideal S1024x1024 .f32) (x0 : FVec Ideal S1024x2816 .bf16) (x1 : FVec Ideal S2816x1024 .bf16) (j : S1024x1024.Idx) :
    k0_pay2 acc x0 x1 j = acc j + part x0 x1 j := by
  idx_vars j
  pointwise [k0_pay2, part]
theorem pay3 (a : Vec Ideal S1024x1024 .f32) (j : S1024x1024.Idx) : k0_pay3 a j = a j := by
  pointwise [k0_pay3]

variable (m : (ℓ : Loc nD τ sig) → Buf (Elt Ideal) ℓ) (c : Dev nD) (t : Fin cfg0.N)

/-- The scratch after a block's last step. -/
theorem scratch (hf : (cfg0.win 2).flush t = true) (j : S1024x1024.Idx) : (outsAt0 m c t.val t.isLt).2 j
    = 0 + ∑ s : Fin 2, part (iblk m c 0 ⟨2 * (t.val / 2) + s.val, Pipeline.run_point_lt_of_flush t ((flush0_2 t).mp hf) s⟩)
      (iblk m c 1 ⟨2 * (t.val / 2) + s.val, Pipeline.run_point_lt_of_flush t ((flush0_2 t).mp hf) s⟩) j := by
  rw [Pipeline.eq_sum_fin_of_reset_step_apply_of_flush (fun n h => (outsAt0 m c n h).2) 2 (fun _ => 0) (fun t => part (iblk m c 0 t) (iblk m c 1 t))
    (fun t h j => by
      beta_reduce
      rw [outsAt0_A m c t h (by omega)]
      frame_out
      rw [pay2, pay1])
    (fun t h j => by
      beta_reduce
      rw [outsAt0_B m c t h (by omega)]
      frame_out
      rw [pay2]
      exact congrArg (· + part (iblk m c 0 t) (iblk m c 1 t) j) (congrFun ((Memref.isWhole_whole cc0_scratch0).read_unread _) j)) t ((flush0_2 t).mp hf) j]

/-- … is what the step writes out. -/
theorem flushed (hf : (cfg0.win 2).flush t = true) (j : S1024x1024.Idx) :
    (outsAt0 m c t.val t.isLt).1 j = (outsAt0 m c t.val t.isLt).2 j := by
  have h := (flush0_2 t).mp hf
  rw [outsAt0_B m c t (by omega) (by omega)]
  frame_out
  rw [pay3]

def row (t : Fin cfg0.N) (p : Fin 1024) : Fin 2048 := ⟨1024 * (t.val / 4) + p, by have := (idx t).2.2.2; omega⟩
def col (t : Fin cfg0.N) (q : Fin 1024) : Fin 2048 := ⟨1024 * (t.val / 2 % 2) + q, by omega⟩
def lane (t : Fin cfg0.N) (k : Fin 2816) : Fin 5632 := ⟨2816 * (t.val % 2) + k, by omega⟩

theorem read0 (p : Fin 1024) (k : Fin 2816) : iblk m c 0 t (ix2 p k) = m ((c : Thread nD τ).loc main_arg0) (ix2 (row t p) (lane t k)) := by
  blk_point [iblk, V, idx t, row, lane]
theorem read1 (k : Fin 2816) (q : Fin 1024) : iblk m c 1 t (ix2 k q) = m ((c : Thread nD τ).loc main_arg1) (ix2 (lane t k) (col t q)) := by
  blk_point [iblk, V, idx t, col, lane]
theorem emb (p q : Fin 1024) : ((cfg0.win 2).blk t).view.emb (ix2 p q) = ix2 (row t p) (col t q) := by
  blk_ext [idx t, row, col]

/-- The two steps' columns are all of them. -/
theorem sum_lanes (f : Fin 5632 → EReal) : ∑ s : Fin 2, ∑ k : Fin 2816, f ⟨2816 * s.val + k.val, by omega⟩ = ∑ l : Fin 5632, f l := by
  rw [← Fin.sum_mul_add_fin 2 2816 f]
  exact Finset.sum_congr rfl fun s _ => Finset.sum_congr rfl fun k _ => congrArg f (Fin.ext (congrArg (· + k.val) (Nat.mul_comm _ _)))

theorem final : (dats m 0 c).arrAt 2 (cfgs 0).N = out (m ((c : Thread nD τ).loc main_arg0)) (m ((c : Thread nD τ).loc main_arg1)) := by
  refine (dats m 0 c).arrAt_eq_of_covers 2 _ (by decide +kernel) fun t hf y => ?_
  idx_vars y
  refine Eq.trans ?_ (congrArg (out _ _) (emb t y0 y1)).symm
  blk_simp
  rw [after0_2, flushed m c t hf, scratch m c t hf, zero_add]
  show _ = outAt _ _ (row t y0) (col t y1)
  unfold outAt
  rw [← sum_lanes]
  refine Fin.sum_fin_congr fun s => Fin.sum_fin_congr fun k => ?_
  have hs : 2 * (t.val / 2) + s.val < 8 := by have := (idx t).2.2.2; omega
  refine congrArg₂ _ ((read0 m c _ y0 k).trans ?_) ((read1 m c _ k y1).trans ?_)
  · refine congrArg₂ (fun r l => m ((c : Thread nD τ).loc main_arg0) (ix2 r l)) (Fin.ext ?_) (Fin.ext ?_)
    · show 1024 * ((2 * (t.val / 2) + s.val) / 4) + y0.val = 1024 * (t.val / 4) + y0.val
      omega
    · show 2816 * ((2 * (t.val / 2) + s.val) % 2) + k.val = 2816 * s.val + k.val
      omega
  · refine congrArg₂ (fun r l => m ((c : Thread nD τ).loc main_arg1) (ix2 r l)) (Fin.ext ?_) (Fin.ext ?_)
    · show 2816 * ((2 * (t.val / 2) + s.val) % 2) + k.val = 2816 * s.val + k.val
      omega
    · show 1024 * ((2 * (t.val / 2) + s.val) / 2 % 2) + y1.val = 1024 * (t.val / 2 % 2) + y1.val
      omega

end

section
open Cert.DownFRefIdeal Cert.DownFRefIdeal.Value Cert.DownFRefIdeal.Read

/-- The reference runs, keeps its arguments, and has no semaphore to leave unsettled. -/
theorem ref_frame : Cert.quiescent_DownFRefIdeal := fun m ρ _ =>
  (θ_run _ _ _).mono (fun r h => And.intro (fun c => (h c).2) (sem_eq_zero_of_no_sems (by decide) r.2))
    (run (F := Ideal) m ρ)

theorem ref_out (x : FVec Ideal S2048x5632 .bf16) (w : FVec Ideal S5632x2048 .bf16) :
    val_main_v3 (F := Ideal) x w = out x w := by
  funext i
  idx_vars i
  show _ = outAt x w i0 i1
  pointwise [val_main_v3, val_main_v2, val_main_v1, val_main_v0]
  unfold outAt
  rfl

end

/-- The call's result is the reference's. -/
theorem value : Cert.algebraic_DownFIdeal_DownFRefIdeal := by
  intro m g m' g' _ hargs
  refine ⟨fun c => (Cert.DownFIdeal.Gen.dats m 0 c).arrAt 2 Cert.DownFIdeal.cfg0.N, Cert.DownFIdeal.Value.run_blocks m g, ?_⟩
  refine (θ_run _ _ _).mono (fun r h c => ?_) (Cert.DownFRefIdeal.Value.run (F := Ideal) m' g')
  obtain ⟨r0, ra⟩ := h c
  obtain ⟨a0, a1⟩ := hargs c
  refine ⟨r0.trans ?_, ra⟩
  refine (Cert.DownFRefIdeal.Read.val_main_v3_eq _ _).trans ?_
  refine Eq.trans ?_ (final m c).symm
  refine (ref_out _ _).trans ?_
  exact congrArg₂ out a0 a1

end Cert.DownFClaim
end
-- ==== Proof.UpF.lean ====
module
public import proofs.«01_k».proof.Defs
public import proofs.«01_k».proof.Proof.Gen.UpFIdeal.Value
public import proofs.«01_k».proof.Proof.Gen.UpFRefIdeal.Run
public import proofs.«01_k».proof.Proof.Gen.UpFRefIdeal.Read
public import Idealize.ShloMosaic.Lib.Pipeline.ValueKit
public import Idealize.ShloMosaic.Lib.Claim
public import Idealize.ShloMosaic.Lib.Quiescent

/-! # The up-projection

Each grid point holds the whole contraction of 1024 tokens and one device's 1408 columns, so its block is the product's. -/

@[expose] public section
set_option maxRecDepth 16384
noncomputable section
namespace Cert.UpFClaim
open Idealize.ShloMosaic Idealize.ShloMosaic.TcCoe Idealize.SL.Sem

section
open Cert.UpFIdeal Cert.UpFIdeal.Gen

/-- The product of rows and weight. -/
def out (x : FVec Ideal S2048x2048 .bf16) (w : FVec Ideal S2048x11264 .bf16) : FVec Ideal S2048x11264 .bf16 :=
  fun i => ∑ k : Fin 2048, x (ix2 (i 0) k) * w (ix2 k (i 1))

theorem idx : ∀ t : Fin cfg0.N, win0_0.index t = ![t.val / 8, 0] ∧ win0_1.index t = ![t.val % 8, 0, 0]
    ∧ win0_2.index t = ![t.val / 8, t.val % 8] ∧ t.val < 16 :=
  (by decide +kernel : ∀ t : Fin grid0.N, _)

theorem block (x0 : FVec Ideal S1024x2048 .bf16) (x1 : FVec Ideal S1x2048x1408 .bf16) (p : Fin 1024) (q : Fin 1408) :
    out0_2 (F := Ideal) x0 x1 (ix2 p q) = ∑ k : Fin 2048, x0 (ix2 p k) * x1 (ix3 0 k q) := by
  unfold out0_2
  canon_tiles y h
  idx_vars y
  obtain rfl : y0 = p := Fin.ext h0.symm
  obtain rfl : y1 = q := Fin.ext h1.symm
  pointwise [k0_pay1]

variable (m : (ℓ : Loc nD τ sig) → Buf (Elt Ideal) ℓ) (c : Dev nD) (t : Fin cfg0.N)

def dev (t : Fin cfg0.N) : Fin 8 := ⟨t.val % 8, by omega⟩
def row (t : Fin cfg0.N) (p : Fin 1024) : Fin 2048 := ⟨1024 * (t.val / 8) + p, by have := (idx t).2.2.2; omega⟩
def col (t : Fin cfg0.N) (q : Fin 1408) : Fin 11264 := ⟨1408 * (t.val % 8) + q, by omega⟩

/-- What the launch finds in the devices' columns of the weight. -/
theorem entry (s : Fin 8) (k : Fin 2048) (n : Fin 1408) : V m c main_v1 (ix3 s k n)
    = m ((c : Thread nD τ).loc main_arg1) (ix2 k ⟨1408 * s.val + n.val, by omega⟩) := by
  entry_read
  pointwise
  exact congrArg (fun l => m ((c : Thread nD τ).loc main_arg1) (ix2 k l)) (Fin.ext (congrArg (· + n.val) (Nat.mul_comm _ _)))

theorem read0 (p : Fin 1024) (k : Fin 2048) : iblk m c 0 t (ix2 p k) = m ((c : Thread nD τ).loc main_arg0) (ix2 (row t p) k) := by
  blk_point [iblk, V, idx t, row]
theorem read1 (k : Fin 2048) (q : Fin 1408) : iblk m c 1 t (ix3 0 k q) = V m c main_v1 (ix3 (dev t) k q) := by
  blk_ext [iblk, idx t, dev]
theorem emb (p : Fin 1024) (q : Fin 1408) : ((cfg0.win 2).blk t).view.emb (ix2 p q) = ix2 (row t p) (col t q) := by
  blk_ext [idx t, row, col]

theorem final : (dats m 0 c).arrAt 2 (cfgs 0).N = out (m ((c : Thread nD τ).loc main_arg0)) (m ((c : Thread nD τ).loc main_arg1)) := by
  refine (dats m 0 c).arrAt_eq_of_covers 2 _ (by decide +kernel) fun t _ y => ?_
  idx_vars y
  refine Eq.trans ?_ (congrArg (out _ _) (emb t y0 y1)).symm
  blk_simp
  rw [after0_2, block]
  exact Fin.sum_fin_congr fun k => congrArg₂ _ (read0 m c t y0 k) ((read1 m c t k y1).trans (entry m c _ _ _))

end

section
open Cert.UpFRefIdeal Cert.UpFRefIdeal.Value Cert.UpFRefIdeal.Read

/-- The reference runs, keeps its arguments, and has no semaphore to leave unsettled. -/
theorem ref_frame : Cert.quiescent_UpFRefIdeal := fun m ρ _ =>
  (θ_run _ _ _).mono (fun r h => And.intro (fun c => (h c).2) (sem_eq_zero_of_no_sems (by decide) r.2))
    (run (F := Ideal) m ρ)

theorem ref_out (x : FVec Ideal S2048x2048 .bf16) (w : FVec Ideal S2048x11264 .bf16) : val_main_v3 (F := Ideal) x w = out x w := by
  funext i
  idx_vars i
  pointwise [val_main_v3, val_main_v2, val_main_v1, val_main_v0]
  rfl

end

/-- The call's result is the reference's. -/
theorem value : Cert.algebraic_UpFIdeal_UpFRefIdeal := by
  intro m g m' g' _ hargs
  refine ⟨fun c => (Cert.UpFIdeal.Gen.dats m 0 c).arrAt 2 Cert.UpFIdeal.cfg0.N, Cert.UpFIdeal.Value.run_blocks m g, ?_⟩
  refine (θ_run _ _ _).mono (fun r h c => ?_) (Cert.UpFRefIdeal.Value.run (F := Ideal) m' g')
  obtain ⟨r0, ra⟩ := h c
  obtain ⟨a0, a1⟩ := hargs c
  refine ⟨r0.trans ?_, ra⟩
  refine (Cert.UpFRefIdeal.Read.val_main_v3_eq _ _).trans ?_
  refine Eq.trans ?_ (final m c).symm
  refine (ref_out _ _).trans ?_
  exact congrArg₂ out a0 a1

end Cert.UpFClaim
end
-- ==== Proof.InF.lean ====
module
public import proofs.«01_k».proof.Defs
public import proofs.«01_k».proof.Proof.Gen.InFIdeal.Value
public import proofs.«01_k».proof.Proof.Gen.InFRefIdeal.Run
public import proofs.«01_k».proof.Proof.Gen.InFRefIdeal.Read
public import proofs.«01_k».proof.Proof.InCols
public import Idealize.ShloMosaic.Lib.Pipeline.ValueKit
public import Idealize.ShloMosaic.Lib.Claim
public import Idealize.ShloMosaic.Lib.Quiescent

/-! # The combined projection

Each grid point holds the whole contraction of 1024 tokens and 1024 of the 9216 columns, which stand in the kernel's
order (`InCols`). -/

@[expose] public section
set_option maxRecDepth 16384
noncomputable section
namespace Cert.InFClaim
open Idealize.ShloMosaic Idealize.ShloMosaic.TcCoe Idealize.SL.Sem
open Cert.InCols

section
open Cert.InFIdeal Cert.InFIdeal.Gen

/-- The product of rows and weight, its columns in the kernel's order. -/
def outAt (x : FVec Ideal S2048x2048 .bf16) (w : FVec Ideal S2048x9024 .bf16) (r : Fin 2048) (l : Fin 9216) : EReal :=
  zcol (fun j => ∑ k : Fin 2048, x (ix2 r k) * w (ix2 k j)) l
def out (x : FVec Ideal S2048x2048 .bf16) (w : FVec Ideal S2048x9024 .bf16) : FVec Ideal S2048x9216 .bf16 :=
  fun i => outAt x w (i 0) (i 1)

theorem idx : ∀ t : Fin cfg0.N, win0_0.index t = ![t.val / 9, 0] ∧ win0_1.index t = ![t.val % 9, 0]
    ∧ win0_2.index t = ![t.val / 9, t.val % 9] ∧ t.val < 18 :=
  (by decide +kernel : ∀ t : Fin grid0.N, _)

theorem block (x0 x1 : FVec Ideal S1024x2048 .bf16) (p q : Fin 1024) :
    out0_2 (F := Ideal) x0 x1 (ix2 p q) = ∑ k : Fin 2048, x0 (ix2 p k) * x1 (ix2 q k) := by
  unfold out0_2
  canon_tiles y h
  idx_vars y
  obtain rfl : y0 = p := Fin.ext h0.symm
  obtain rfl : y1 = q := Fin.ext h1.symm
  pointwise [k0_pay1]

variable (m : (ℓ : Loc nD τ sig) → Buf (Elt Ideal) ℓ) (c : Dev nD) (t : Fin cfg0.N)

def row (t : Fin cfg0.N) (p : Fin 1024) : Fin 2048 := ⟨1024 * (t.val / 9) + p, by have := (idx t).2.2.2; omega⟩
def col (t : Fin cfg0.N) (q : Fin 1024) : Fin 9216 := ⟨1024 * (t.val % 9) + q, by omega⟩

/-- A row's columns in the kernel's order, as the host lines put them. -/
def cols (a : FVec Ideal S2048x9024 .bf16) : FVec Ideal S2048x9216 .bf16 :=
  concatenate S2048x9216 1 [⟨S2048x4864, extractStridedSlice S2048x4864 ![0, 0] a slices_S2048x9024_S2048x4864_0_0⟩,
    ⟨S2048x4096, extractStridedSlice S2048x4096 ![0, 4928] a slices_S2048x9024_S2048x4096_0_4928⟩,
    ⟨S2048x64, extractStridedSlice S2048x64 ![0, 4864] a slices_S2048x9024_S2048x64_0_4864⟩,
    ⟨S2048x192, broadcastInDim S2048x192 ![] bcast_S_S2048x192 (constant S_ .bf16 0x0000#16 : FVec Ideal S_ .bf16)⟩]
    concatenates_S2048x4864_S2048x4096_S2048x64_S2048x192_S2048x9216_d1

theorem cols_apply (a : FVec Ideal S2048x9024 .bf16) (k : Fin 2048) (l : Fin 9216) : cols a (ix2 k l) = zcol (fun j => a (ix2 k j)) l := by
  unfold cols
  pointwise
  refine Eq.trans ?_ (zcol_eq _ _).symm
  with_reducible rfl

/-- What the launch finds in the reordered weight, its columns now rows. -/
theorem entry (l : Fin 9216) (k : Fin 2048) : V m c main_v5 (ix2 l k)
    = zcol (fun j => m ((c : Thread nD τ).loc main_arg1) (ix2 k j)) l := by
  refine (congrFun (show V m c main_v5 = transpose S9216x2048 [1, 0] (cols (m ((c : Thread nD τ).loc main_arg1))) transposes_S2048x9216_S9216x2048_1_0 from rfl) _).trans ?_
  refine Eq.trans ?_ (cols_apply _ k l)
  pointwise

theorem read0 (p : Fin 1024) (k : Fin 2048) : iblk m c 0 t (ix2 p k) = m ((c : Thread nD τ).loc main_arg0) (ix2 (row t p) k) := by
  blk_point [iblk, V, idx t, row]
theorem read1 (q : Fin 1024) (k : Fin 2048) : iblk m c 1 t (ix2 q k) = V m c main_v5 (ix2 (col t q) k) := by
  blk_ext [iblk, idx t, col]
theorem emb (p q : Fin 1024) : ((cfg0.win 2).blk t).view.emb (ix2 p q) = ix2 (row t p) (col t q) := by
  blk_ext [idx t, row, col]

theorem final : (dats m 0 c).arrAt 2 (cfgs 0).N = out (m ((c : Thread nD τ).loc main_arg0)) (m ((c : Thread nD τ).loc main_arg1)) := by
  refine (dats m 0 c).arrAt_eq_of_covers 2 _ (by decide +kernel) fun t _ y => ?_
  idx_vars y
  refine Eq.trans ?_ (congrArg (out _ _) (emb t y0 y1)).symm
  blk_simp
  rw [after0_2, block]
  show _ = outAt _ _ (row t y0) (col t y1)
  unfold outAt
  rw [← zcol_sum]
  refine Fin.sum_fin_congr fun k => ?_
  rw [← zcol_const_mul]
  exact congrArg₂ _ (read0 m c t y0 k) ((read1 m c t y1 k).trans (entry m c _ k))

end

section
open Cert.InFRefIdeal Cert.InFRefIdeal.Value Cert.InFRefIdeal.Read

/-- The reference runs, keeps its arguments, and has no semaphore to leave unsettled. -/
theorem ref_frame : Cert.quiescent_InFRefIdeal := fun m ρ _ =>
  (θ_run _ _ _).mono (fun r h => And.intro (fun c => (h c).2) (sem_eq_zero_of_no_sems (by decide) r.2))
    (run (F := Ideal) m ρ)

theorem ref_out (x : FVec Ideal S2048x2048 .bf16) (w : FVec Ideal S2048x9024 .bf16) :
    val_main_v8 (F := Ideal) x w = out x w := by
  funext i
  idx_vars i
  show _ = zcol (fun j => ∑ k : Fin 2048, x (ix2 i0 k) * w (ix2 k j)) i1
  pointwise [val_main_v8, val_main_v7, val_main_v6, val_main_v5, val_main_v4, val_main_v3, val_main_cst, val_main_v2, val_main_v1, val_main_v0]
  refine Eq.trans ?_ (zcol_eq _ _).symm
  beta_reduce
  with_reducible rfl

end

/-- The call's result is the reference's. -/
theorem value : Cert.algebraic_InFIdeal_InFRefIdeal := by
  intro m g m' g' _ hargs
  refine ⟨fun c => (Cert.InFIdeal.Gen.dats m 0 c).arrAt 2 Cert.InFIdeal.cfg0.N, Cert.InFIdeal.Value.run_blocks m g, ?_⟩
  refine (θ_run _ _ _).mono (fun r h c => ?_) (Cert.InFRefIdeal.Value.run (F := Ideal) m' g')
  obtain ⟨r0, ra⟩ := h c
  obtain ⟨a0, a1⟩ := hargs c
  refine ⟨r0.trans ?_, ra⟩
  refine (Cert.InFRefIdeal.Read.val_main_v8_eq _ _).trans ?_
  refine Eq.trans ?_ (final m c).symm
  refine (ref_out _ _).trans ?_
  exact congrArg₂ out a0 a1

end Cert.InFClaim
end
-- ==== Proof.OutF.lean ====
module
public import proofs.«01_k».proof.Defs
public import proofs.«01_k».proof.Proof.Gen.OutFIdeal.Value
public import proofs.«01_k».proof.Proof.Gen.OutFRefIdeal.Run
public import proofs.«01_k».proof.Proof.Gen.OutFRefIdeal.Read
public import Idealize.ShloMosaic.Lib.Pipeline.ValueKit
public import Idealize.ShloMosaic.Lib.Claim
public import Idealize.ShloMosaic.Lib.Quiescent

/-! # The output projection

Each grid point holds the whole contraction of 1024 tokens and 1024 columns, so its block is the product's. The two branch
projections call the same kernel on arrays of the same shapes. -/

@[expose] public section
set_option maxRecDepth 16384
noncomputable section
namespace Cert.OutFClaim
open Idealize.ShloMosaic Idealize.ShloMosaic.TcCoe Idealize.SL.Sem

section
open Cert.OutFIdeal Cert.OutFIdeal.Gen

/-- The product of rows and weight. -/
def out (x w : FVec Ideal S2048x2048 .bf16) : FVec Ideal S2048x2048 .bf16 :=
  fun i => ∑ k : Fin 2048, x (ix2 (i 0) k) * w (ix2 k (i 1))

theorem idx : ∀ t : Fin cfg0.N, win0_0.index t = ![t.val / 2, 0] ∧ win0_1.index t = ![0, t.val % 2]
    ∧ win0_2.index t = ![t.val / 2, t.val % 2] ∧ t.val < 4 :=
  (by decide +kernel : ∀ t : Fin grid0.N, _)

theorem block (x0 : FVec Ideal S1024x2048 .bf16) (x1 : FVec Ideal S2048x1024 .bf16) (p : Fin 1024) (q : Fin 1024) :
    out0_2 (F := Ideal) x0 x1 (ix2 p q) = ∑ k : Fin 2048, x0 (ix2 p k) * x1 (ix2 k q) := by
  unfold out0_2
  canon_tiles y h
  idx_vars y
  obtain rfl : y0 = p := Fin.ext h0.symm
  obtain rfl : y1 = q := Fin.ext h1.symm
  pointwise [k0_pay1]

variable (m : (ℓ : Loc nD τ sig) → Buf (Elt Ideal) ℓ) (c : Dev nD) (t : Fin cfg0.N)

def row (t : Fin cfg0.N) (p : Fin 1024) : Fin 2048 := ⟨1024 * (t.val / 2) + p, by have := (idx t).2.2.2; omega⟩
def col (t : Fin cfg0.N) (q : Fin 1024) : Fin 2048 := ⟨1024 * (t.val % 2) + q, by omega⟩

theorem read0 (p : Fin 1024) (k : Fin 2048) : iblk m c 0 t (ix2 p k) = m ((c : Thread nD τ).loc main_arg0) (ix2 (row t p) k) := by
  blk_point [iblk, V, idx t, row]
theorem read1 (k : Fin 2048) (q : Fin 1024) : iblk m c 1 t (ix2 k q) = m ((c : Thread nD τ).loc main_arg1) (ix2 k (col t q)) := by
  blk_point [iblk, V, idx t, col]
theorem emb (p : Fin 1024) (q : Fin 1024) : ((cfg0.win 2).blk t).view.emb (ix2 p q) = ix2 (row t p) (col t q) := by
  blk_ext [idx t, row, col]

theorem final : (dats m 0 c).arrAt 2 (cfgs 0).N = out (m ((c : Thread nD τ).loc main_arg0)) (m ((c : Thread nD τ).loc main_arg1)) := by
  refine (dats m 0 c).arrAt_eq_of_covers 2 _ (by decide +kernel) fun t _ y => ?_
  idx_vars y
  refine Eq.trans ?_ (congrArg (out _ _) (emb t y0 y1)).symm
  blk_simp
  rw [after0_2, block]
  exact Fin.sum_fin_congr fun k => congrArg₂ _ (read0 m c t y0 k) (read1 m c t k y1)

end

section
open Cert.OutFRefIdeal Cert.OutFRefIdeal.Value Cert.OutFRefIdeal.Read

/-- The reference runs, keeps its arguments, and has no semaphore to leave unsettled. -/
theorem ref_frame : Cert.quiescent_OutFRefIdeal := fun m ρ _ =>
  (θ_run _ _ _).mono (fun r h => And.intro (fun c => (h c).2) (sem_eq_zero_of_no_sems (by decide) r.2))
    (run (F := Ideal) m ρ)

theorem ref_out (x w : FVec Ideal S2048x2048 .bf16) : val_main_v3 (F := Ideal) x w = out x w := by
  funext i
  idx_vars i
  pointwise [val_main_v3, val_main_v2, val_main_v1, val_main_v0]
  rfl

end

/-- The call's result is the reference's. -/
theorem value : Cert.algebraic_OutFIdeal_OutFRefIdeal := by
  intro m g m' g' _ hargs
  refine ⟨fun c => (Cert.OutFIdeal.Gen.dats m 0 c).arrAt 2 Cert.OutFIdeal.cfg0.N, Cert.OutFIdeal.Value.run_blocks m g, ?_⟩
  refine (θ_run _ _ _).mono (fun r h c => ?_) (Cert.OutFRefIdeal.Value.run (F := Ideal) m' g')
  obtain ⟨r0, ra⟩ := h c
  obtain ⟨a0, a1⟩ := hargs c
  refine ⟨r0.trans ?_, ra⟩
  refine (Cert.OutFRefIdeal.Read.val_main_v3_eq _ _).trans ?_
  refine Eq.trans ?_ (final m c).symm
  refine (ref_out _ _).trans ?_
  exact congrArg₂ out a0 a1

end Cert.OutFClaim
end
-- ==== Proof.lean ====
/- Every claim about the calls — the convolution's backward pass, the attention's, the projections' both ways —, put
   together from their own modules. -/
module

public import proofs.«01_k».proof.Defs
public import proofs.«01_k».proof.Proof.Gen.ConvIdeal.Value
public import proofs.«01_k».proof.Proof.Gen.ConvRefIdeal.Run
public import proofs.«01_k».proof.Proof.Gen.ConvRefIdeal.Read
public import proofs.«01_k».proof.Proof.ConvClaim
public import proofs.«01_k».proof.Proof.AttnClaim
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Pre_conv_finite
public import proofs.«01_k».proof.Proof.Gen.AttnIdeal.Frame
public import proofs.«01_k».proof.Proof.Gen.AttnIdeal.Loops
public import proofs.«01_k».proof.Proof.Gen.AttnRefIdeal.Run
public import proofs.«01_k».proof.Proof.Gen.AttnRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Loops
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnRefIdeal
public import proofs.«01_k».proof.Proof.AttnValue
public import proofs.«01_k».proof.Proof.DownW
public import proofs.«01_k».proof.Proof.DownX
public import proofs.«01_k».proof.Proof.UpW
public import proofs.«01_k».proof.Proof.UpX
public import proofs.«01_k».proof.Proof.InW
public import proofs.«01_k».proof.Proof.InX
public import proofs.«01_k».proof.Proof.OutW
public import proofs.«01_k».proof.Proof.OutX
public import proofs.«01_k».proof.Proof.DownF
public import proofs.«01_k».proof.Proof.UpF
public import proofs.«01_k».proof.Proof.InF
public import proofs.«01_k».proof.Proof.OutF
public import proofs.«01_k».proof.Proof.Gen.DownWIdeal.Value
public import proofs.«01_k».proof.Proof.Gen.DownWRefIdeal.Run
public import proofs.«01_k».proof.Proof.Gen.DownWRefIdeal.Read
public import proofs.«01_k».proof.Proof.Gen.DownW.Frame
public import proofs.«01_k».proof.Proof.Gen.DownXIdeal.Value
public import proofs.«01_k».proof.Proof.Gen.DownXRefIdeal.Run
public import proofs.«01_k».proof.Proof.Gen.DownXRefIdeal.Read
public import proofs.«01_k».proof.Proof.Gen.DownX.Frame
public import proofs.«01_k».proof.Proof.Gen.UpWIdeal.Value
public import proofs.«01_k».proof.Proof.Gen.UpWRefIdeal.Run
public import proofs.«01_k».proof.Proof.Gen.UpWRefIdeal.Read
public import proofs.«01_k».proof.Proof.Gen.UpW.Frame
public import proofs.«01_k».proof.Proof.Gen.UpXIdeal.Value
public import proofs.«01_k».proof.Proof.Gen.UpXRefIdeal.Run
public import proofs.«01_k».proof.Proof.Gen.UpXRefIdeal.Read
public import proofs.«01_k».proof.Proof.Gen.UpX.Frame
public import proofs.«01_k».proof.Proof.Gen.InWIdeal.Value
public import proofs.«01_k».proof.Proof.Gen.InWRefIdeal.Run
public import proofs.«01_k».proof.Proof.Gen.InWRefIdeal.Read
public import proofs.«01_k».proof.Proof.Gen.InW.Frame
public import proofs.«01_k».proof.Proof.Gen.InXIdeal.Value
public import proofs.«01_k».proof.Proof.Gen.InXRefIdeal.Run
public import proofs.«01_k».proof.Proof.Gen.InXRefIdeal.Read
public import proofs.«01_k».proof.Proof.Gen.InX.Frame
public import proofs.«01_k».proof.Proof.Gen.OutWIdeal.Value
public import proofs.«01_k».proof.Proof.Gen.OutWRefIdeal.Run
public import proofs.«01_k».proof.Proof.Gen.OutWRefIdeal.Read
public import proofs.«01_k».proof.Proof.Gen.OutW.Frame
public import proofs.«01_k».proof.Proof.Gen.OutXIdeal.Value
public import proofs.«01_k».proof.Proof.Gen.OutXRefIdeal.Run
public import proofs.«01_k».proof.Proof.Gen.OutXRefIdeal.Read
public import proofs.«01_k».proof.Proof.Gen.OutX.Frame
public import proofs.«01_k».proof.Proof.Gen.DownFIdeal.Value
public import proofs.«01_k».proof.Proof.Gen.DownFRefIdeal.Run
public import proofs.«01_k».proof.Proof.Gen.DownFRefIdeal.Read
public import proofs.«01_k».proof.Proof.Gen.DownF.Frame
public import proofs.«01_k».proof.Proof.Gen.UpFIdeal.Value
public import proofs.«01_k».proof.Proof.Gen.UpFRefIdeal.Run
public import proofs.«01_k».proof.Proof.Gen.UpFRefIdeal.Read
public import proofs.«01_k».proof.Proof.Gen.UpF.Frame
public import proofs.«01_k».proof.Proof.Gen.InFIdeal.Value
public import proofs.«01_k».proof.Proof.Gen.InFRefIdeal.Run
public import proofs.«01_k».proof.Proof.Gen.InFRefIdeal.Read
public import proofs.«01_k».proof.Proof.Gen.InF.Frame
public import proofs.«01_k».proof.Proof.Gen.OutFIdeal.Value
public import proofs.«01_k».proof.Proof.Gen.OutFRefIdeal.Run
public import proofs.«01_k».proof.Proof.Gen.OutFRefIdeal.Read
public import proofs.«01_k».proof.Proof.Gen.OutF.Frame
public import Idealize.ShloMosaic.Lib.Quiescent
public import Idealize.ShloMosaic.Adequacy
public import Idealize.ShloMosaic.Init

@[expose] public section

noncomputable section

namespace Cert.Proof

open Idealize.ShloMosaic Idealize.SL.Sem Cert.Conv

theorem claim : Cert.Claim := ⟨Cert.Conv.Gen.facts, Cert.ConvIdeal.Gen.facts, Cert.ConvRefIdeal.Gen.facts,
  Cert.Attn.Gen.facts, Cert.AttnIdeal.Gen.facts, Cert.AttnRefIdeal.Gen.facts,
  Cert.DownW.Gen.facts, Cert.DownWIdeal.Gen.facts, Cert.DownWRefIdeal.Gen.facts,
  Cert.DownX.Gen.facts, Cert.DownXIdeal.Gen.facts, Cert.DownXRefIdeal.Gen.facts,
  Cert.UpW.Gen.facts, Cert.UpWIdeal.Gen.facts, Cert.UpWRefIdeal.Gen.facts,
  Cert.UpX.Gen.facts, Cert.UpXIdeal.Gen.facts, Cert.UpXRefIdeal.Gen.facts,
  Cert.InW.Gen.facts, Cert.InWIdeal.Gen.facts, Cert.InWRefIdeal.Gen.facts,
  Cert.InX.Gen.facts, Cert.InXIdeal.Gen.facts, Cert.InXRefIdeal.Gen.facts,
  Cert.OutW.Gen.facts, Cert.OutWIdeal.Gen.facts, Cert.OutWRefIdeal.Gen.facts,
  Cert.OutX.Gen.facts, Cert.OutXIdeal.Gen.facts, Cert.OutXRefIdeal.Gen.facts,
  Cert.DownF.Gen.facts, Cert.DownFIdeal.Gen.facts, Cert.DownFRefIdeal.Gen.facts,
  Cert.UpF.Gen.facts, Cert.UpFIdeal.Gen.facts, Cert.UpFRefIdeal.Gen.facts,
  Cert.InF.Gen.facts, Cert.InFIdeal.Gen.facts, Cert.InFRefIdeal.Gen.facts,
  Cert.OutF.Gen.facts, Cert.OutFIdeal.Gen.facts, Cert.OutFRefIdeal.Gen.facts,
  Cert.Pre_conv_finite.Gen.facts, Cert.AttnValue.facts,
  fun m ρ _ => Cert.Conv.Gen.frame m ρ,
  fun m ρ _ => Cert.ConvIdeal.Gen.frame m ρ,
  fun m ρ _ => Cert.ConvIdeal.Gen.frame m ρ,
  fun m ρ _ => Cert.ConvClaim.ref_frame m ρ trivial,
  fun m ρ _ => Cert.ConvClaim.ref_frame m ρ trivial,
  Cert.AttnClaim.kernel_frame,
  Cert.AttnClaim.ideal_frame,
  fun m ρ _ => Cert.AttnClaim.ideal_frame m ρ trivial,
  Cert.AttnClaim.ref_frame,
  fun m ρ _ => Cert.AttnClaim.ref_frame m ρ trivial,
  fun m ρ _ => Cert.DownW.Gen.frame m ρ, fun m ρ _ => Cert.DownWIdeal.Gen.frame m ρ, Cert.DownWClaim.ref_frame,
  fun m ρ _ => Cert.DownX.Gen.frame m ρ, fun m ρ _ => Cert.DownXIdeal.Gen.frame m ρ, Cert.DownXClaim.ref_frame,
  fun m ρ _ => Cert.UpW.Gen.frame m ρ, fun m ρ _ => Cert.UpWIdeal.Gen.frame m ρ, Cert.UpWClaim.ref_frame,
  fun m ρ _ => Cert.UpX.Gen.frame m ρ, fun m ρ _ => Cert.UpXIdeal.Gen.frame m ρ, Cert.UpXClaim.ref_frame,
  fun m ρ _ => Cert.InW.Gen.frame m ρ, fun m ρ _ => Cert.InWIdeal.Gen.frame m ρ, Cert.InWClaim.ref_frame,
  fun m ρ _ => Cert.InX.Gen.frame m ρ, fun m ρ _ => Cert.InXIdeal.Gen.frame m ρ, Cert.InXClaim.ref_frame,
  fun m ρ _ => Cert.OutW.Gen.frame m ρ, fun m ρ _ => Cert.OutWIdeal.Gen.frame m ρ, Cert.OutWClaim.ref_frame,
  fun m ρ _ => Cert.OutX.Gen.frame m ρ, fun m ρ _ => Cert.OutXIdeal.Gen.frame m ρ, Cert.OutXClaim.ref_frame,
  fun m ρ _ => Cert.DownF.Gen.frame m ρ, fun m ρ _ => Cert.DownFIdeal.Gen.frame m ρ, Cert.DownFClaim.ref_frame,
  fun m ρ _ => Cert.UpF.Gen.frame m ρ, fun m ρ _ => Cert.UpFIdeal.Gen.frame m ρ, Cert.UpFClaim.ref_frame,
  fun m ρ _ => Cert.InF.Gen.frame m ρ, fun m ρ _ => Cert.InFIdeal.Gen.frame m ρ, Cert.InFClaim.ref_frame,
  fun m ρ _ => Cert.OutF.Gen.frame m ρ, fun m ρ _ => Cert.OutFIdeal.Gen.frame m ρ, Cert.OutFClaim.ref_frame,
  trivial,
  Cert.ConvClaim.value,
  Cert.AttnClaim.mask_named,
  Cert.AttnValue.value,
  trivial, Cert.DownWClaim.value,
  trivial, Cert.DownXClaim.value,
  trivial, Cert.UpWClaim.value,
  trivial, Cert.UpXClaim.value,
  trivial, Cert.InWClaim.value,
  trivial, Cert.InXClaim.value,
  trivial, Cert.OutWClaim.value,
  trivial, Cert.OutXClaim.value,
  trivial, Cert.DownFClaim.value,
  trivial, Cert.UpFClaim.value,
  trivial, Cert.InFClaim.value,
  trivial, Cert.OutFClaim.value⟩

end Cert.Proof

end
